-- ==== Defs.lean ====
def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1Ideal_scales_nonnegative [hPre_scales_nonnegative : Cert.Pre_scales_nonnegative.Facts] (m : (ℓ : Loc Cert.Ffn1Ideal.nD Cert.Ffn1Ideal.τ Cert.Ffn1Ideal.sig) → Buf (Elt Ideal) ℓ) : Prop :=
  ∀ c : Dev Cert.Ffn1Ideal.nD,
    (Cert.Pre_scales_nonnegative.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5))) = (fun _ => 1#1)

def Pre_Ref1Ideal (m : (ℓ : Loc Cert.Ref1Ideal.nD Cert.Ref1Ideal.τ Cert.Ref1Ideal.sig) → Buf (Elt Ideal) ℓ) : Prop :=
  True

def Pre_Ref1Ideal_scales_nonnegative [hPre_scales_nonnegative : Cert.Pre_scales_nonnegative.Facts] (m : (ℓ : Loc Cert.Ref1Ideal.nD Cert.Ref1Ideal.τ Cert.Ref1Ideal.sig) → Buf (Elt Ideal) ℓ) : Prop :=
  ∀ c : Dev Cert.Ref1Ideal.nD,
    (Cert.Pre_scales_nonnegative.fn (F := Ideal) (m ((c.tc : Thread Cert.Ref1Ideal.nD Cert.Ref1Ideal.τ).loc Cert.Ref1Ideal.main_arg0)) (m ((c.tc : Thread Cert.Ref1Ideal.nD Cert.Ref1Ideal.τ).loc Cert.Ref1Ideal.main_arg1)) (m ((c.tc : Thread Cert.Ref1Ideal.nD Cert.Ref1Ideal.τ).loc Cert.Ref1Ideal.main_arg2)) (m ((c.tc : Thread Cert.Ref1Ideal.nD Cert.Ref1Ideal.τ).loc Cert.Ref1Ideal.main_arg3)) (m ((c.tc : Thread Cert.Ref1Ideal.nD Cert.Ref1Ideal.τ).loc Cert.Ref1Ideal.main_arg4)) (m ((c.tc : Thread Cert.Ref1Ideal.nD Cert.Ref1Ideal.τ).loc Cert.Ref1Ideal.main_arg5))) = (fun _ => 1#1)

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ref2Ideal (m : (ℓ : Loc Cert.Ref2Ideal.nD Cert.Ref2Ideal.τ Cert.Ref2Ideal.sig) → Buf (Elt Ideal) ℓ) : Prop :=
  True

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1Ideal_pre_scales_nonnegative [hFfn1Ideal : Cert.Ffn1Ideal.Facts] [hPre_scales_nonnegative : Cert.Pre_scales_nonnegative.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal_scales_nonnegative m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ref1Ideal [hRef1Ideal : Cert.Ref1Ideal.Facts] : Prop :=
  ∀ (m : (ℓ : Loc Cert.Ref1Ideal.nD Cert.Ref1Ideal.τ Cert.Ref1Ideal.sig) → Buf (Elt Ideal) ℓ) (g : Dev Cert.Ref1Ideal.nD → PrngReg), Pre_Ref1Ideal m →
    θ_run (Cert.Ref1Ideal.defs (F := Ideal)) (onTc (τ := Cert.Ref1Ideal.τ) (Cert.Ref1Ideal.main (F := Ideal))) ⟨m, fun _ => 0, g⟩ (fun r => (∀ c : Dev Cert.Ref1Ideal.nD,
      r.2.mem ((c.tc : Thread Cert.Ref1Ideal.nD Cert.Ref1Ideal.τ).loc Cert.Ref1Ideal.main_arg0) = m ((c.tc : Thread Cert.Ref1Ideal.nD Cert.Ref1Ideal.τ).loc Cert.Ref1Ideal.main_arg0)
      ∧ r.2.mem ((c.tc : Thread Cert.Ref1Ideal.nD Cert.Ref1Ideal.τ).loc Cert.Ref1Ideal.main_arg1) = m ((c.tc : Thread Cert.Ref1Ideal.nD Cert.Ref1Ideal.τ).loc Cert.Ref1Ideal.main_arg1)
      ∧ r.2.mem ((c.tc : Thread Cert.Ref1Ideal.nD Cert.Ref1Ideal.τ).loc Cert.Ref1Ideal.main_arg2) = m ((c.tc : Thread Cert.Ref1Ideal.nD Cert.Ref1Ideal.τ).loc Cert.Ref1Ideal.main_arg2)
      ∧ r.2.mem ((c.tc : Thread Cert.Ref1Ideal.nD Cert.Ref1Ideal.τ).loc Cert.Ref1Ideal.main_arg3) = m ((c.tc : Thread Cert.Ref1Ideal.nD Cert.Ref1Ideal.τ).loc Cert.Ref1Ideal.main_arg3)
      ∧ r.2.mem ((c.tc : Thread Cert.Ref1Ideal.nD Cert.Ref1Ideal.τ).loc Cert.Ref1Ideal.main_arg4) = m ((c.tc : Thread Cert.Ref1Ideal.nD Cert.Ref1Ideal.τ).loc Cert.Ref1Ideal.main_arg4)
      ∧ r.2.mem ((c.tc : Thread Cert.Ref1Ideal.nD Cert.Ref1Ideal.τ).loc Cert.Ref1Ideal.main_arg5) = m ((c.tc : Thread Cert.Ref1Ideal.nD Cert.Ref1Ideal.τ).loc Cert.Ref1Ideal.main_arg5))
      ∧ r.2.sem = fun _ => 0)

def quiescent_Ref1Ideal_pre_scales_nonnegative [hRef1Ideal : Cert.Ref1Ideal.Facts] [hPre_scales_nonnegative : Cert.Pre_scales_nonnegative.Facts] : Prop :=
  ∀ (m : (ℓ : Loc Cert.Ref1Ideal.nD Cert.Ref1Ideal.τ Cert.Ref1Ideal.sig) → Buf (Elt Ideal) ℓ) (g : Dev Cert.Ref1Ideal.nD → PrngReg), Pre_Ref1Ideal_scales_nonnegative m →
    θ_run (Cert.Ref1Ideal.defs (F := Ideal)) (onTc (τ := Cert.Ref1Ideal.τ) (Cert.Ref1Ideal.main (F := Ideal))) ⟨m, fun _ => 0, g⟩ (fun r => (∀ c : Dev Cert.Ref1Ideal.nD,
      r.2.mem ((c.tc : Thread Cert.Ref1Ideal.nD Cert.Ref1Ideal.τ).loc Cert.Ref1Ideal.main_arg0) = m ((c.tc : Thread Cert.Ref1Ideal.nD Cert.Ref1Ideal.τ).loc Cert.Ref1Ideal.main_arg0)
      ∧ r.2.mem ((c.tc : Thread Cert.Ref1Ideal.nD Cert.Ref1Ideal.τ).loc Cert.Ref1Ideal.main_arg1) = m ((c.tc : Thread Cert.Ref1Ideal.nD Cert.Ref1Ideal.τ).loc Cert.Ref1Ideal.main_arg1)
      ∧ r.2.mem ((c.tc : Thread Cert.Ref1Ideal.nD Cert.Ref1Ideal.τ).loc Cert.Ref1Ideal.main_arg2) = m ((c.tc : Thread Cert.Ref1Ideal.nD Cert.Ref1Ideal.τ).loc Cert.Ref1Ideal.main_arg2)
      ∧ r.2.mem ((c.tc : Thread Cert.Ref1Ideal.nD Cert.Ref1Ideal.τ).loc Cert.Ref1Ideal.main_arg3) = m ((c.tc : Thread Cert.Ref1Ideal.nD Cert.Ref1Ideal.τ).loc Cert.Ref1Ideal.main_arg3)
      ∧ r.2.mem ((c.tc : Thread Cert.Ref1Ideal.nD Cert.Ref1Ideal.τ).loc Cert.Ref1Ideal.main_arg4) = m ((c.tc : Thread Cert.Ref1Ideal.nD Cert.Ref1Ideal.τ).loc Cert.Ref1Ideal.main_arg4)
      ∧ r.2.mem ((c.tc : Thread Cert.Ref1Ideal.nD Cert.Ref1Ideal.τ).loc Cert.Ref1Ideal.main_arg5) = m ((c.tc : Thread Cert.Ref1Ideal.nD Cert.Ref1Ideal.τ).loc Cert.Ref1Ideal.main_arg5))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6)
      ∧ r.2.mem ((c.tc : Thread Cert.Ffn2.nD Cert.Ffn2.τ).loc Cert.Ffn2.main_arg7) = m ((c.tc : Thread Cert.Ffn2.nD Cert.Ffn2.τ).loc Cert.Ffn2.main_arg7))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
      ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7))
      ∧ r.2.sem = fun _ => 0)

def quiescent_Ref2Ideal [hRef2Ideal : Cert.Ref2Ideal.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2)
      ∧ r.2.mem ((c.tc : Thread Cert.Ref2Ideal.nD Cert.Ref2Ideal.τ).loc Cert.Ref2Ideal.main_arg3) = m ((c.tc : Thread Cert.Ref2Ideal.nD Cert.Ref2Ideal.τ).loc Cert.Ref2Ideal.main_arg3)
      ∧ r.2.mem ((c.tc : Thread Cert.Ref2Ideal.nD Cert.Ref2Ideal.τ).loc Cert.Ref2Ideal.main_arg4) = m ((c.tc : Thread Cert.Ref2Ideal.nD Cert.Ref2Ideal.τ).loc Cert.Ref2Ideal.main_arg4)
      ∧ r.2.mem ((c.tc : Thread Cert.Ref2Ideal.nD Cert.Ref2Ideal.τ).loc Cert.Ref2Ideal.main_arg5) = m ((c.tc : Thread Cert.Ref2Ideal.nD Cert.Ref2Ideal.τ).loc Cert.Ref2Ideal.main_arg5)
      ∧ r.2.mem ((c.tc : Thread Cert.Ref2Ideal.nD Cert.Ref2Ideal.τ).loc Cert.Ref2Ideal.main_arg6) = m ((c.tc : Thread Cert.Ref2Ideal.nD Cert.Ref2Ideal.τ).loc Cert.Ref2Ideal.main_arg6)
      ∧ r.2.mem ((c.tc : Thread Cert.Ref2Ideal.nD Cert.Ref2Ideal.τ).loc Cert.Ref2Ideal.main_arg7) = m ((c.tc : Thread Cert.Ref2Ideal.nD Cert.Ref2Ideal.τ).loc Cert.Ref2Ideal.main_arg7))
      ∧ r.2.sem = fun _ => 0)

def preserves_Ffn1_Ffn1Ideal : Prop :=
  True

def algebraic_Ffn1Ideal_Ref1Ideal_pre_scales_nonnegative [hFfn1Ideal : Cert.Ffn1Ideal.Facts] [hRef1Ideal : Cert.Ref1Ideal.Facts] [hPre_scales_nonnegative : Cert.Pre_scales_nonnegative.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ref1Ideal.nD Cert.Ref1Ideal.τ Cert.Ref1Ideal.sig) → Buf (Elt Ideal) ℓ) (g' : Dev Cert.Ref1Ideal.nD → PrngReg), Pre_Ffn1Ideal_scales_nonnegative m →
    (∀ c : Dev Cert.Ffn1Ideal.nD,
      m' ((c.tc : Thread Cert.Ref1Ideal.nD Cert.Ref1Ideal.τ).loc Cert.Ref1Ideal.main_arg0) = m ((c.tc : Thread Cert.Ffn1Ideal.nD Cert.Ffn1Ideal.τ).loc Cert.Ffn1Ideal.main_arg0)
      ∧ m' ((c.tc : Thread Cert.Ref1Ideal.nD Cert.Ref1Ideal.τ).loc Cert.Ref1Ideal.main_arg1) = m ((c.tc : Thread Cert.Ffn1Ideal.nD Cert.Ffn1Ideal.τ).loc Cert.Ffn1Ideal.main_arg1)
      ∧ m' ((c.tc : Thread Cert.Ref1Ideal.nD Cert.Ref1Ideal.τ).loc Cert.Ref1Ideal.main_arg2) = m ((c.tc : Thread Cert.Ffn1Ideal.nD Cert.Ffn1Ideal.τ).loc Cert.Ffn1Ideal.main_arg2)
      ∧ m' ((c.tc : Thread Cert.Ref1Ideal.nD Cert.Ref1Ideal.τ).loc Cert.Ref1Ideal.main_arg3) = m ((c.tc : Thread Cert.Ffn1Ideal.nD Cert.Ffn1Ideal.τ).loc Cert.Ffn1Ideal.main_arg3)
      ∧ m' ((c.tc : Thread Cert.Ref1Ideal.nD Cert.Ref1Ideal.τ).loc Cert.Ref1Ideal.main_arg4) = m ((c.tc : Thread Cert.Ffn1Ideal.nD Cert.Ffn1Ideal.τ).loc Cert.Ffn1Ideal.main_arg4)
      ∧ m' ((c.tc : Thread Cert.Ref1Ideal.nD Cert.Ref1Ideal.τ).loc Cert.Ref1Ideal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v236)) (v1 : (c : Dev Cert.Ffn1Ideal.nD) → Buf (Elt Ideal) ((c.tc : Thread Cert.Ffn1Ideal.nD Cert.Ffn1Ideal.τ).loc Cert.Ffn1Ideal.main_arg5)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v236) = v0 c
          ∧ r.2.mem ((c.tc : Thread Cert.Ffn1Ideal.nD Cert.Ffn1Ideal.τ).loc Cert.Ffn1Ideal.main_arg5) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ref1Ideal.defs (F := Ideal)) (onTc (τ := Cert.Ref1Ideal.τ) (Cert.Ref1Ideal.main (F := Ideal))) ⟨m', fun _ => 0, g'⟩ (fun r => ∀ c : Dev Cert.Ref1Ideal.nD,
          r.2.mem ((c.tc : Thread Cert.Ref1Ideal.nD Cert.Ref1Ideal.τ).loc Cert.Ref1Ideal.main_v263) = v0 c
          ∧ r.2.mem ((c.tc : Thread Cert.Ref1Ideal.nD Cert.Ref1Ideal.τ).loc Cert.Ref1Ideal.main_arg5) = v1 c
          ∧ r.2.mem ((c.tc : Thread Cert.Ref1Ideal.nD Cert.Ref1Ideal.τ).loc Cert.Ref1Ideal.main_arg0) = m' ((c.tc : Thread Cert.Ref1Ideal.nD Cert.Ref1Ideal.τ).loc Cert.Ref1Ideal.main_arg0)
          ∧ r.2.mem ((c.tc : Thread Cert.Ref1Ideal.nD Cert.Ref1Ideal.τ).loc Cert.Ref1Ideal.main_arg1) = m' ((c.tc : Thread Cert.Ref1Ideal.nD Cert.Ref1Ideal.τ).loc Cert.Ref1Ideal.main_arg1)
          ∧ r.2.mem ((c.tc : Thread Cert.Ref1Ideal.nD Cert.Ref1Ideal.τ).loc Cert.Ref1Ideal.main_arg2) = m' ((c.tc : Thread Cert.Ref1Ideal.nD Cert.Ref1Ideal.τ).loc Cert.Ref1Ideal.main_arg2)
          ∧ r.2.mem ((c.tc : Thread Cert.Ref1Ideal.nD Cert.Ref1Ideal.τ).loc Cert.Ref1Ideal.main_arg3) = m' ((c.tc : Thread Cert.Ref1Ideal.nD Cert.Ref1Ideal.τ).loc Cert.Ref1Ideal.main_arg3)
          ∧ r.2.mem ((c.tc : Thread Cert.Ref1Ideal.nD Cert.Ref1Ideal.τ).loc Cert.Ref1Ideal.main_arg4) = m' ((c.tc : Thread Cert.Ref1Ideal.nD Cert.Ref1Ideal.τ).loc Cert.Ref1Ideal.main_arg4)
          ∧ r.2.mem ((c.tc : Thread Cert.Ref1Ideal.nD Cert.Ref1Ideal.τ).loc Cert.Ref1Ideal.main_arg5) = m' ((c.tc : Thread Cert.Ref1Ideal.nD Cert.Ref1Ideal.τ).loc Cert.Ref1Ideal.main_arg5))

def preserves_Ffn2_Ffn2Ideal : Prop :=
  True

def algebraic_Ffn2Ideal_Ref2Ideal [hFfn2Ideal : Cert.Ffn2Ideal.Facts] [hRef2Ideal : Cert.Ref2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ref2Ideal.nD Cert.Ref2Ideal.τ Cert.Ref2Ideal.sig) → Buf (Elt Ideal) ℓ) (g' : Dev Cert.Ref2Ideal.nD → PrngReg), Pre_Ffn2Ideal m →
    (∀ c : Dev Cert.Ffn2Ideal.nD,
      m' ((c.tc : Thread Cert.Ref2Ideal.nD Cert.Ref2Ideal.τ).loc Cert.Ref2Ideal.main_arg0) = m ((c.tc : Thread Cert.Ffn2Ideal.nD Cert.Ffn2Ideal.τ).loc Cert.Ffn2Ideal.main_arg0)
      ∧ m' ((c.tc : Thread Cert.Ref2Ideal.nD Cert.Ref2Ideal.τ).loc Cert.Ref2Ideal.main_arg1) = m ((c.tc : Thread Cert.Ffn2Ideal.nD Cert.Ffn2Ideal.τ).loc Cert.Ffn2Ideal.main_arg1)
      ∧ m' ((c.tc : Thread Cert.Ref2Ideal.nD Cert.Ref2Ideal.τ).loc Cert.Ref2Ideal.main_arg2) = m ((c.tc : Thread Cert.Ffn2Ideal.nD Cert.Ffn2Ideal.τ).loc Cert.Ffn2Ideal.main_arg2)
      ∧ m' ((c.tc : Thread Cert.Ref2Ideal.nD Cert.Ref2Ideal.τ).loc Cert.Ref2Ideal.main_arg3) = m ((c.tc : Thread Cert.Ffn2Ideal.nD Cert.Ffn2Ideal.τ).loc Cert.Ffn2Ideal.main_arg3)
      ∧ m' ((c.tc : Thread Cert.Ref2Ideal.nD Cert.Ref2Ideal.τ).loc Cert.Ref2Ideal.main_arg4) = m ((c.tc : Thread Cert.Ffn2Ideal.nD Cert.Ffn2Ideal.τ).loc Cert.Ffn2Ideal.main_arg4)
      ∧ m' ((c.tc : Thread Cert.Ref2Ideal.nD Cert.Ref2Ideal.τ).loc Cert.Ref2Ideal.main_arg5) = m ((c.tc : Thread Cert.Ffn2Ideal.nD Cert.Ffn2Ideal.τ).loc Cert.Ffn2Ideal.main_arg5)
      ∧ m' ((c.tc : Thread Cert.Ref2Ideal.nD Cert.Ref2Ideal.τ).loc Cert.Ref2Ideal.main_arg6) = m ((c.tc : Thread Cert.Ffn2Ideal.nD Cert.Ffn2Ideal.τ).loc Cert.Ffn2Ideal.main_arg6)
      ∧ m' ((c.tc : Thread Cert.Ref2Ideal.nD Cert.Ref2Ideal.τ).loc Cert.Ref2Ideal.main_arg7) = m ((c.tc : Thread Cert.Ffn2Ideal.nD Cert.Ffn2Ideal.τ).loc Cert.Ffn2Ideal.main_arg7)) →
    ∃ (v0 : (c : Dev Cert.Ffn2Ideal.nD) → Buf (Elt Ideal) ((c.tc : Thread Cert.Ffn2Ideal.nD Cert.Ffn2Ideal.τ).loc Cert.Ffn2Ideal.main_v122)) (v1 : (c : Dev Cert.Ffn2Ideal.nD) → Buf (Elt Ideal) ((c.tc : Thread Cert.Ffn2Ideal.nD Cert.Ffn2Ideal.τ).loc Cert.Ffn2Ideal.main_arg7)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v122) = v0 c
          ∧ r.2.mem ((c.tc : Thread Cert.Ffn2Ideal.nD Cert.Ffn2Ideal.τ).loc Cert.Ffn2Ideal.main_arg7) = v1 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
          ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7))
      ∧ θ_run (Cert.Ref2Ideal.defs (F := Ideal)) (onTc (τ := Cert.Ref2Ideal.τ) (Cert.Ref2Ideal.main (F := Ideal))) ⟨m', fun _ => 0, g'⟩ (fun r => ∀ c : Dev Cert.Ref2Ideal.nD,
          r.2.mem ((c.tc : Thread Cert.Ref2Ideal.nD Cert.Ref2Ideal.τ).loc Cert.Ref2Ideal.main_v141) = v0 c
          ∧ r.2.mem ((c.tc : Thread Cert.Ref2Ideal.nD Cert.Ref2Ideal.τ).loc Cert.Ref2Ideal.main_arg7) = v1 c
          ∧ r.2.mem ((c.tc : Thread Cert.Ref2Ideal.nD Cert.Ref2Ideal.τ).loc Cert.Ref2Ideal.main_arg0) = m' ((c.tc : Thread Cert.Ref2Ideal.nD Cert.Ref2Ideal.τ).loc Cert.Ref2Ideal.main_arg0)
          ∧ r.2.mem ((c.tc : Thread Cert.Ref2Ideal.nD Cert.Ref2Ideal.τ).loc Cert.Ref2Ideal.main_arg1) = m' ((c.tc : Thread Cert.Ref2Ideal.nD Cert.Ref2Ideal.τ).loc Cert.Ref2Ideal.main_arg1)
          ∧ r.2.mem ((c.tc : Thread Cert.Ref2Ideal.nD Cert.Ref2Ideal.τ).loc Cert.Ref2Ideal.main_arg2) = m' ((c.tc : Thread Cert.Ref2Ideal.nD Cert.Ref2Ideal.τ).loc Cert.Ref2Ideal.main_arg2)
          ∧ r.2.mem ((c.tc : Thread Cert.Ref2Ideal.nD Cert.Ref2Ideal.τ).loc Cert.Ref2Ideal.main_arg3) = m' ((c.tc : Thread Cert.Ref2Ideal.nD Cert.Ref2Ideal.τ).loc Cert.Ref2Ideal.main_arg3)
          ∧ r.2.mem ((c.tc : Thread Cert.Ref2Ideal.nD Cert.Ref2Ideal.τ).loc Cert.Ref2Ideal.main_arg4) = m' ((c.tc : Thread Cert.Ref2Ideal.nD Cert.Ref2Ideal.τ).loc Cert.Ref2Ideal.main_arg4)
          ∧ r.2.mem ((c.tc : Thread Cert.Ref2Ideal.nD Cert.Ref2Ideal.τ).loc Cert.Ref2Ideal.main_arg5) = m' ((c.tc : Thread Cert.Ref2Ideal.nD Cert.Ref2Ideal.τ).loc Cert.Ref2Ideal.main_arg5)
          ∧ r.2.mem ((c.tc : Thread Cert.Ref2Ideal.nD Cert.Ref2Ideal.τ).loc Cert.Ref2Ideal.main_arg6) = m' ((c.tc : Thread Cert.Ref2Ideal.nD Cert.Ref2Ideal.τ).loc Cert.Ref2Ideal.main_arg6)
          ∧ r.2.mem ((c.tc : Thread Cert.Ref2Ideal.nD Cert.Ref2Ideal.τ).loc Cert.Ref2Ideal.main_arg7) = m' ((c.tc : Thread Cert.Ref2Ideal.nD Cert.Ref2Ideal.τ).loc Cert.Ref2Ideal.main_arg7))

def Claim : Prop :=
  ∃ (hFfn1 : Cert.Ffn1.Facts) (hFfn1Ideal : Cert.Ffn1Ideal.Facts) (hRef1Ideal : Cert.Ref1Ideal.Facts) (hFfn2 : Cert.Ffn2.Facts) (hFfn2Ideal : Cert.Ffn2Ideal.Facts) (hRef2Ideal : Cert.Ref2Ideal.Facts) (hPre_scales_nonnegative : Cert.Pre_scales_nonnegative.Facts),
    quiescent_Ffn1 (hFfn1 := hFfn1)
    ∧ quiescent_Ffn1Ideal (hFfn1Ideal := hFfn1Ideal)
    ∧ quiescent_Ffn1Ideal_pre_scales_nonnegative (hFfn1Ideal := hFfn1Ideal) (hPre_scales_nonnegative := hPre_scales_nonnegative)
    ∧ quiescent_Ref1Ideal (hRef1Ideal := hRef1Ideal)
    ∧ quiescent_Ref1Ideal_pre_scales_nonnegative (hRef1Ideal := hRef1Ideal) (hPre_scales_nonnegative := hPre_scales_nonnegative)
    ∧ quiescent_Ffn2 (hFfn2 := hFfn2)
    ∧ quiescent_Ffn2Ideal (hFfn2Ideal := hFfn2Ideal)
    ∧ quiescent_Ref2Ideal (hRef2Ideal := hRef2Ideal)
    ∧ preserves_Ffn1_Ffn1Ideal
    ∧ algebraic_Ffn1Ideal_Ref1Ideal_pre_scales_nonnegative (hFfn1Ideal := hFfn1Ideal) (hRef1Ideal := hRef1Ideal) (hPre_scales_nonnegative := hPre_scales_nonnegative)
    ∧ preserves_Ffn2_Ffn2Ideal
    ∧ algebraic_Ffn2Ideal_Ref2Ideal (hFfn2Ideal := hFfn2Ideal) (hRef2Ideal := hRef2Ideal)
-- ==== Pre_scales_nonnegative.lean ====
abbrev S3x2048x7168 : Shape := ⟨3, ![3, 2048, 7168]⟩
abbrev S_ : Shape := ⟨0, ![]⟩
abbrev S7168x18432 : Shape := ⟨2, ![7168, 18432]⟩
abbrev S18432 : Shape := ⟨1, ![18432]⟩

class Facts : Prop where
  bcast_S_S18432 : S_.BroadcastsInDim S18432 (![] : Fin 0 → Fin S18432.rank)

variable [Facts]

def fn {F : FTy → Type} [FloatOps F] (main_arg0 : IVec S3x2048x7168 8) (main_arg1 : FVec F S_ .f32) (main_arg2 : IVec S7168x18432 8) (main_arg3 : FVec F S18432 .f32) (main_arg4 : IVec S18432 32) (main_arg5 : FVec F S_ .f32) : IVec S18432 1 :=
  let main_v0 : FVec F S18432 .f32 := broadcastInDim S18432 ![] bcast_S_S18432 main_arg1
  let main_v1 : FVec F S18432 .f32 := mulf main_v0 main_arg3
  let main_cst : FVec F S_ .f32 := constant S_ .f32 0x00000000#32
  let main_v2 : FVec F S18432 .f32 := broadcastInDim S18432 ![] bcast_S_S18432 main_cst
  let main_v3 : IVec S18432 1 := cmpf .oge main_v1 main_v2
  main_v3
-- ==== Ffn1.lean ====
abbrev S3x2048x7168 : Shape := ⟨3, ![3, 2048, 7168]⟩
abbrev S_ : Shape := ⟨0, ![]⟩
abbrev S7168x18432 : Shape := ⟨2, ![7168, 18432]⟩
abbrev S18432 : Shape := ⟨1, ![18432]⟩
abbrev S6144x7168 : Shape := ⟨2, ![6144, 7168]⟩
abbrev S254 : Shape := ⟨1, ![254]⟩
abbrev S18432x1 : Shape := ⟨2, ![18432, 1]⟩
abbrev S1x254 : Shape := ⟨2, ![1, 254]⟩
abbrev S18432x254 : Shape := ⟨2, ![18432, 254]⟩
abbrev S1x18432 : Shape := ⟨2, ![1, 18432]⟩
abbrev S16x18432 : Shape := ⟨2, ![16, 18432]⟩
abbrev S6144x18432 : Shape := ⟨2, ![6144, 18432]⟩
abbrev S1024x1024 : Shape := ⟨2, ![1024, 1024]⟩
abbrev S16x1024 : Shape := ⟨2, ![16, 1024]⟩
abbrev S1x1024 : Shape := ⟨2, ![1, 1024]⟩

abbrev nBuf : Space → Nat
  | .hbm => 426
  | .vmem => 9
  | .smem => 0
  | _ => 0

abbrev hbmTy0_0 (i : Nat) : BufTy := match i % 128 with
  | 0 => ⟨S3x2048x7168, .i8⟩
  | 1 => ⟨S_, .f32⟩
  | 2 => ⟨S7168x18432, .i8⟩
  | 3 => ⟨S18432, .f32⟩
  | 4 => ⟨S18432, .i32⟩
  | 5 => ⟨S_, .f32⟩
  | 6 => ⟨S6144x7168, .i8⟩
  | 7 => ⟨S18432, .f32⟩
  | 8 => ⟨S18432, .f32⟩
  | 9 => ⟨S_, .f32⟩
  | 10 => ⟨S18432, .f32⟩
  | 11 => ⟨S18432, .f32⟩
  | 12 => ⟨S18432, .f32⟩
  | 13 => ⟨S254, .i32⟩
  | 14 => ⟨S_, .i32⟩
  | 15 => ⟨S254, .i32⟩
  | 16 => ⟨S254, .i32⟩
  | 17 => ⟨S_, .i32⟩
  | 18 => ⟨S254, .i32⟩
  | 19 => ⟨S254, .i32⟩
  | 20 => ⟨S_, .i32⟩
  | 21 => ⟨S_, .i32⟩
  | 22 => ⟨S_, .i32⟩
  | 23 => ⟨S254, .i32⟩
  | 24 => ⟨S254, .i32⟩
  | 25 => ⟨S_, .i32⟩
  | 26 => ⟨S254, .i32⟩
  | 27 => ⟨S254, .i32⟩
  | 28 => ⟨S_, .i32⟩
  | 29 => ⟨S254, .i32⟩
  | 30 => ⟨S254, .i32⟩
  | 31 => ⟨S254, .f32⟩
  | 32 => ⟨S18432x1, .f32⟩
  | 33 => ⟨S1x254, .f32⟩
  | 34 => ⟨S18432x254, .f32⟩
  | 35 => ⟨S18432x254, .f32⟩
  | 36 => ⟨S18432x254, .i1⟩
  | 37 => ⟨S18432x254, .i32⟩
  | 38 => ⟨S_, .i32⟩
  | 39 => ⟨S18432, .i32⟩
  | 40 => ⟨S_, .i32⟩
  | 41 => ⟨S18432, .i32⟩
  | 42 => ⟨S18432, .i32⟩
  | 43 => ⟨S_, .f32⟩
  | 44 => ⟨S18432, .f32⟩
  | 45 => ⟨S18432, .i1⟩
  | 46 => ⟨S_, .f32⟩
  | 47 => ⟨S18432, .f32⟩
  | 48 => ⟨S18432, .i1⟩
  | 49 => ⟨S18432, .i1⟩
  | 50 => ⟨S_, .i32⟩
  | 51 => ⟨S_, .i32⟩
  | 52 => ⟨S18432, .i32⟩
  | 53 => ⟨S18432, .i32⟩
  | 54 => ⟨S18432, .i32⟩
  | 55 => ⟨S_, .i32⟩
  | 56 => ⟨S18432, .i32⟩
  | 57 => ⟨S18432, .i32⟩
  | 58 => ⟨S_, .i32⟩
  | 59 => ⟨S18432, .i32⟩
  | 60 => ⟨S18432, .i32⟩
  | 61 => ⟨S_, .i32⟩
  | 62 => ⟨S_, .i32⟩
  | 63 => ⟨S_, .i32⟩
  | 64 => ⟨S18432, .i32⟩
  | 65 => ⟨S18432, .i32⟩
  | 66 => ⟨S_, .i32⟩
  | 67 => ⟨S18432, .i32⟩
  | 68 => ⟨S18432, .i32⟩
  | 69 => ⟨S_, .i32⟩
  | 70 => ⟨S18432, .i32⟩
  | 71 => ⟨S18432, .i32⟩
  | 72 => ⟨S18432, .f32⟩
  | 73 => ⟨S18432, .f32⟩
  | 74 => ⟨S18432, .i32⟩
  | 75 => ⟨S_, .i32⟩
  | 76 => ⟨S18432, .i32⟩
  | 77 => ⟨S18432, .i32⟩
  | 78 => ⟨S_, .i32⟩
  | 79 => ⟨S_, .i32⟩
  | 80 => ⟨S_, .i32⟩
  | 81 => ⟨S18432, .i32⟩
  | 82 => ⟨S18432, .i32⟩
  | 83 => ⟨S_, .i32⟩
  | 84 => ⟨S18432, .i32⟩
  | 85 => ⟨S18432, .i32⟩
  | 86 => ⟨S_, .i32⟩
  | 87 => ⟨S18432, .i32⟩
  | 88 => ⟨S18432, .i32⟩
  | 89 => ⟨S18432, .f32⟩
  | 90 => ⟨S18432, .f32⟩
  | 91 => ⟨S_, .i32⟩
  | 92 => ⟨S18432, .i32⟩
  | 93 => ⟨S18432, .i32⟩
  | 94 => ⟨S_, .i32⟩
  | 95 => ⟨S18432, .i32⟩
  | 96 => ⟨S18432, .i32⟩
  | 97 => ⟨S_, .i32⟩
  | 98 => ⟨S18432, .i32⟩
  | 99 => ⟨S18432, .i32⟩
  | 100 => ⟨S_, .i32⟩
  | 101 => ⟨S_, .i32⟩
  | 102 => ⟨S_, .i32⟩
  | 103 => ⟨S18432, .i32⟩
  | 104 => ⟨S18432, .i32⟩
  | 105 => ⟨S_, .i32⟩
  | 106 => ⟨S18432, .i32⟩
  | 107 => ⟨S18432, .i32⟩
  | 108 => ⟨S_, .i32⟩
  | 109 => ⟨S18432, .i32⟩
  | 110 => ⟨S18432, .i32⟩
  | 111 => ⟨S18432, .f32⟩
  | 112 => ⟨S18432, .f32⟩
  | 113 => ⟨S18432, .i32⟩
  | 114 => ⟨S_, .i32⟩
  | 115 => ⟨S18432, .i32⟩
  | 116 => ⟨S18432, .i32⟩
  | 117 => ⟨S_, .i32⟩
  | 118 => ⟨S_, .i32⟩
  | 119 => ⟨S_, .i32⟩
  | 120 => ⟨S18432, .i32⟩
  | 121 => ⟨S18432, .i32⟩
  | 122 => ⟨S_, .i32⟩
  | 123 => ⟨S18432, .i32⟩
  | 124 => ⟨S18432, .i32⟩
  | 125 => ⟨S_, .i32⟩
  | 126 => ⟨S18432, .i32⟩
  | 127 => ⟨S18432, .i32⟩
  | _ => ⟨S3x2048x7168, .i8⟩

abbrev hbmTy0_1 (i : Nat) : BufTy := match i % 128 with
  | 0 => ⟨S18432, .f32⟩
  | 1 => ⟨S18432, .f32⟩
  | 2 => ⟨S_, .f32⟩
  | 3 => ⟨S18432, .f32⟩
  | 4 => ⟨S18432, .f32⟩
  | 5 => ⟨S18432, .f32⟩
  | 6 => ⟨S18432, .i32⟩
  | 7 => ⟨S18432, .f32⟩
  | 8 => ⟨S_, .f32⟩
  | 9 => ⟨S18432, .f32⟩
  | 10 => ⟨S18432, .f32⟩
  | 11 => ⟨S18432, .f32⟩
  | 12 => ⟨S18432, .i32⟩
  | 13 => ⟨S18432, .f32⟩
  | 14 => ⟨S_, .f32⟩
  | 15 => ⟨S18432, .f32⟩
  | 16 => ⟨S18432, .f32⟩
  | 17 => ⟨S18432, .f32⟩
  | 18 => ⟨S254, .i32⟩
  | 19 => ⟨S_, .i32⟩
  | 20 => ⟨S254, .i32⟩
  | 21 => ⟨S254, .i32⟩
  | 22 => ⟨S_, .i32⟩
  | 23 => ⟨S254, .i32⟩
  | 24 => ⟨S254, .i32⟩
  | 25 => ⟨S_, .i32⟩
  | 26 => ⟨S_, .i32⟩
  | 27 => ⟨S_, .i32⟩
  | 28 => ⟨S254, .i32⟩
  | 29 => ⟨S254, .i32⟩
  | 30 => ⟨S_, .i32⟩
  | 31 => ⟨S254, .i32⟩
  | 32 => ⟨S254, .i32⟩
  | 33 => ⟨S_, .i32⟩
  | 34 => ⟨S254, .i32⟩
  | 35 => ⟨S254, .i32⟩
  | 36 => ⟨S254, .f32⟩
  | 37 => ⟨S18432x1, .f32⟩
  | 38 => ⟨S1x254, .f32⟩
  | 39 => ⟨S18432x254, .f32⟩
  | 40 => ⟨S18432x254, .f32⟩
  | 41 => ⟨S18432x254, .i1⟩
  | 42 => ⟨S18432x254, .i32⟩
  | 43 => ⟨S_, .i32⟩
  | 44 => ⟨S18432, .i32⟩
  | 45 => ⟨S_, .i32⟩
  | 46 => ⟨S18432, .i32⟩
  | 47 => ⟨S18432, .i32⟩
  | 48 => ⟨S_, .f32⟩
  | 49 => ⟨S18432, .f32⟩
  | 50 => ⟨S18432, .i1⟩
  | 51 => ⟨S_, .f32⟩
  | 52 => ⟨S18432, .f32⟩
  | 53 => ⟨S18432, .i1⟩
  | 54 => ⟨S18432, .i1⟩
  | 55 => ⟨S_, .i32⟩
  | 56 => ⟨S_, .i32⟩
  | 57 => ⟨S18432, .i32⟩
  | 58 => ⟨S18432, .i32⟩
  | 59 => ⟨S18432, .i32⟩
  | 60 => ⟨S_, .i32⟩
  | 61 => ⟨S18432, .i32⟩
  | 62 => ⟨S18432, .i32⟩
  | 63 => ⟨S_, .i32⟩
  | 64 => ⟨S18432, .i32⟩
  | 65 => ⟨S18432, .i32⟩
  | 66 => ⟨S_, .i32⟩
  | 67 => ⟨S_, .i32⟩
  | 68 => ⟨S_, .i32⟩
  | 69 => ⟨S18432, .i32⟩
  | 70 => ⟨S18432, .i32⟩
  | 71 => ⟨S_, .i32⟩
  | 72 => ⟨S18432, .i32⟩
  | 73 => ⟨S18432, .i32⟩
  | 74 => ⟨S_, .i32⟩
  | 75 => ⟨S18432, .i32⟩
  | 76 => ⟨S18432, .i32⟩
  | 77 => ⟨S18432, .f32⟩
  | 78 => ⟨S18432, .f32⟩
  | 79 => ⟨S18432, .i32⟩
  | 80 => ⟨S_, .i32⟩
  | 81 => ⟨S18432, .i32⟩
  | 82 => ⟨S18432, .i32⟩
  | 83 => ⟨S_, .i32⟩
  | 84 => ⟨S_, .i32⟩
  | 85 => ⟨S_, .i32⟩
  | 86 => ⟨S18432, .i32⟩
  | 87 => ⟨S18432, .i32⟩
  | 88 => ⟨S_, .i32⟩
  | 89 => ⟨S18432, .i32⟩
  | 90 => ⟨S18432, .i32⟩
  | 91 => ⟨S_, .i32⟩
  | 92 => ⟨S18432, .i32⟩
  | 93 => ⟨S18432, .i32⟩
  | 94 => ⟨S18432, .f32⟩
  | 95 => ⟨S18432, .f32⟩
  | 96 => ⟨S_, .i32⟩
  | 97 => ⟨S18432, .i32⟩
  | 98 => ⟨S18432, .i32⟩
  | 99 => ⟨S_, .i32⟩
  | 100 => ⟨S18432, .i32⟩
  | 101 => ⟨S18432, .i32⟩
  | 102 => ⟨S_, .i32⟩
  | 103 => ⟨S18432, .i32⟩
  | 104 => ⟨S18432, .i32⟩
  | 105 => ⟨S_, .i32⟩
  | 106 => ⟨S_, .i32⟩
  | 107 => ⟨S_, .i32⟩
  | 108 => ⟨S18432, .i32⟩
  | 109 => ⟨S18432, .i32⟩
  | 110 => ⟨S_, .i32⟩
  | 111 => ⟨S18432, .i32⟩
  | 112 => ⟨S18432, .i32⟩
  | 113 => ⟨S_, .i32⟩
  | 114 => ⟨S18432, .i32⟩
  | 115 => ⟨S18432, .i32⟩
  | 116 => ⟨S18432, .f32⟩
  | 117 => ⟨S18432, .f32⟩
  | 118 => ⟨S18432, .i32⟩
  | 119 => ⟨S_, .i32⟩
  | 120 => ⟨S18432, .i32⟩
  | 121 => ⟨S18432, .i32⟩
  | 122 => ⟨S_, .i32⟩
  | 123 => ⟨S_, .i32⟩
  | 124 => ⟨S_, .i32⟩
  | 125 => ⟨S18432, .i32⟩
  | 126 => ⟨S18432, .i32⟩
  | 127 => ⟨S_, .i32⟩
  | _ => ⟨S3x2048x7168, .i8⟩

abbrev hbmTy0_2 (i : Nat) : BufTy := match i % 128 with
  | 0 => ⟨S18432, .i32⟩
  | 1 => ⟨S18432, .i32⟩
  | 2 => ⟨S_, .i32⟩
  | 3 => ⟨S18432, .i32⟩
  | 4 => ⟨S18432, .i32⟩
  | 5 => ⟨S18432, .f32⟩
  | 6 => ⟨S18432, .f32⟩
  | 7 => ⟨S_, .f32⟩
  | 8 => ⟨S18432, .f32⟩
  | 9 => ⟨S18432, .f32⟩
  | 10 => ⟨S18432, .f32⟩
  | 11 => ⟨S18432, .i32⟩
  | 12 => ⟨S18432, .f32⟩
  | 13 => ⟨S_, .f32⟩
  | 14 => ⟨S18432, .f32⟩
  | 15 => ⟨S18432, .f32⟩
  | 16 => ⟨S_, .i32⟩
  | 17 => ⟨S_, .i32⟩
  | 18 => ⟨S_, .i32⟩
  | 19 => ⟨S18432, .i32⟩
  | 20 => ⟨S18432, .i32⟩
  | 21 => ⟨S_, .i32⟩
  | 22 => ⟨S18432, .i32⟩
  | 23 => ⟨S18432, .i32⟩
  | 24 => ⟨S18432, .i32⟩
  | 25 => ⟨S_, .i32⟩
  | 26 => ⟨S_, .i32⟩
  | 27 => ⟨S_, .i32⟩
  | 28 => ⟨S18432, .i32⟩
  | 29 => ⟨S18432, .i32⟩
  | 30 => ⟨S_, .i32⟩
  | 31 => ⟨S18432, .i32⟩
  | 32 => ⟨S18432, .i32⟩
  | 33 => ⟨S_, .i32⟩
  | 34 => ⟨S18432, .i32⟩
  | 35 => ⟨S18432, .i1⟩
  | 36 => ⟨S_, .i32⟩
  | 37 => ⟨S18432, .i32⟩
  | 38 => ⟨S18432, .i1⟩
  | 39 => ⟨S18432, .i1⟩
  | 40 => ⟨S_, .i32⟩
  | 41 => ⟨S_, .i32⟩
  | 42 => ⟨S18432, .i32⟩
  | 43 => ⟨S18432, .i32⟩
  | 44 => ⟨S18432, .f32⟩
  | 45 => ⟨S18432, .f32⟩
  | 46 => ⟨S18432, .f32⟩
  | 47 => ⟨S254, .i32⟩
  | 48 => ⟨S_, .i32⟩
  | 49 => ⟨S254, .i32⟩
  | 50 => ⟨S254, .i32⟩
  | 51 => ⟨S_, .i32⟩
  | 52 => ⟨S254, .i32⟩
  | 53 => ⟨S254, .i32⟩
  | 54 => ⟨S_, .i32⟩
  | 55 => ⟨S_, .i32⟩
  | 56 => ⟨S_, .i32⟩
  | 57 => ⟨S254, .i32⟩
  | 58 => ⟨S254, .i32⟩
  | 59 => ⟨S_, .i32⟩
  | 60 => ⟨S254, .i32⟩
  | 61 => ⟨S254, .i32⟩
  | 62 => ⟨S_, .i32⟩
  | 63 => ⟨S254, .i32⟩
  | 64 => ⟨S254, .i32⟩
  | 65 => ⟨S254, .f32⟩
  | 66 => ⟨S18432x1, .f32⟩
  | 67 => ⟨S1x254, .f32⟩
  | 68 => ⟨S18432x254, .f32⟩
  | 69 => ⟨S18432x254, .f32⟩
  | 70 => ⟨S18432x254, .i1⟩
  | 71 => ⟨S18432x254, .i32⟩
  | 72 => ⟨S_, .i32⟩
  | 73 => ⟨S18432, .i32⟩
  | 74 => ⟨S_, .i32⟩
  | 75 => ⟨S18432, .i32⟩
  | 76 => ⟨S18432, .i32⟩
  | 77 => ⟨S_, .f32⟩
  | 78 => ⟨S18432, .f32⟩
  | 79 => ⟨S18432, .i1⟩
  | 80 => ⟨S_, .f32⟩
  | 81 => ⟨S18432, .f32⟩
  | 82 => ⟨S18432, .i1⟩
  | 83 => ⟨S18432, .i1⟩
  | 84 => ⟨S_, .i32⟩
  | 85 => ⟨S_, .i32⟩
  | 86 => ⟨S18432, .i32⟩
  | 87 => ⟨S18432, .i32⟩
  | 88 => ⟨S18432, .i32⟩
  | 89 => ⟨S_, .i32⟩
  | 90 => ⟨S18432, .i32⟩
  | 91 => ⟨S18432, .i32⟩
  | 92 => ⟨S_, .i32⟩
  | 93 => ⟨S18432, .i32⟩
  | 94 => ⟨S18432, .i32⟩
  | 95 => ⟨S_, .i32⟩
  | 96 => ⟨S_, .i32⟩
  | 97 => ⟨S_, .i32⟩
  | 98 => ⟨S18432, .i32⟩
  | 99 => ⟨S18432, .i32⟩
  | 100 => ⟨S_, .i32⟩
  | 101 => ⟨S18432, .i32⟩
  | 102 => ⟨S18432, .i32⟩
  | 103 => ⟨S_, .i32⟩
  | 104 => ⟨S18432, .i32⟩
  | 105 => ⟨S18432, .i32⟩
  | 106 => ⟨S18432, .f32⟩
  | 107 => ⟨S18432, .f32⟩
  | 108 => ⟨S18432, .i32⟩
  | 109 => ⟨S_, .i32⟩
  | 110 => ⟨S18432, .i32⟩
  | 111 => ⟨S18432, .i32⟩
  | 112 => ⟨S_, .i32⟩
  | 113 => ⟨S_, .i32⟩
  | 114 => ⟨S_, .i32⟩
  | 115 => ⟨S18432, .i32⟩
  | 116 => ⟨S18432, .i32⟩
  | 117 => ⟨S_, .i32⟩
  | 118 => ⟨S18432, .i32⟩
  | 119 => ⟨S18432, .i32⟩
  | 120 => ⟨S_, .i32⟩
  | 121 => ⟨S18432, .i32⟩
  | 122 => ⟨S18432, .i32⟩
  | 123 => ⟨S18432, .f32⟩
  | 124 => ⟨S18432, .f32⟩
  | 125 => ⟨S_, .f32⟩
  | 126 => ⟨S18432, .f32⟩
  | 127 => ⟨S18432, .f32⟩
  | _ => ⟨S3x2048x7168, .i8⟩

abbrev hbmTy0_3 (i : Nat) : BufTy := match i % 128 with
  | 0 => ⟨S18432, .f32⟩
  | 1 => ⟨S18432, .i32⟩
  | 2 => ⟨S_, .i32⟩
  | 3 => ⟨S18432, .i32⟩
  | 4 => ⟨S18432, .i32⟩
  | 5 => ⟨S_, .i32⟩
  | 6 => ⟨S18432, .i32⟩
  | 7 => ⟨S18432, .i32⟩
  | 8 => ⟨S_, .i32⟩
  | 9 => ⟨S18432, .i32⟩
  | 10 => ⟨S18432, .i32⟩
  | 11 => ⟨S_, .i32⟩
  | 12 => ⟨S18432, .i32⟩
  | 13 => ⟨S18432, .i1⟩
  | 14 => ⟨S_, .i32⟩
  | 15 => ⟨S18432, .i32⟩
  | 16 => ⟨S18432, .i1⟩
  | 17 => ⟨S18432, .i1⟩
  | 18 => ⟨S_, .i32⟩
  | 19 => ⟨S_, .i32⟩
  | 20 => ⟨S18432, .i32⟩
  | 21 => ⟨S18432, .i32⟩
  | 22 => ⟨S_, .i32⟩
  | 23 => ⟨S18432, .i32⟩
  | 24 => ⟨S1x18432, .i32⟩
  | 25 => ⟨S1x18432, .i32⟩
  | 26 => ⟨S1x18432, .i32⟩
  | 27 => ⟨S1x18432, .i32⟩
  | 28 => ⟨S1x18432, .i32⟩
  | 29 => ⟨S1x18432, .i32⟩
  | 30 => ⟨S1x18432, .i32⟩
  | 31 => ⟨S1x18432, .i32⟩
  | 32 => ⟨S1x18432, .i32⟩
  | 33 => ⟨S1x18432, .i32⟩
  | 34 => ⟨S1x18432, .i32⟩
  | 35 => ⟨S1x18432, .i32⟩
  | 36 => ⟨S1x18432, .i32⟩
  | 37 => ⟨S1x18432, .i32⟩
  | 38 => ⟨S1x18432, .i32⟩
  | 39 => ⟨S1x18432, .i32⟩
  | 40 => ⟨S16x18432, .i32⟩
  | 41 => ⟨S6144x18432, .i8⟩
  | _ => ⟨S3x2048x7168, .i8⟩

abbrev hbmTy (i : Nat) : BufTy := match i / 128 with
  | 0 => hbmTy0_0 i
  | 1 => hbmTy0_1 i
  | 2 => hbmTy0_2 i
  | 3 => hbmTy0_3 i
  | _ => ⟨S3x2048x7168, .i8⟩

abbrev bufTy : (tb : Table) → Fin (tcTables nBuf tb) → BufTy
  | .hbm, ⟨i, _⟩ => hbmTy i
  | .local _ .vmem, ⟨0, _⟩ => ⟨S1024x1024, .i8⟩
  | .local _ .vmem, ⟨1, _⟩ => ⟨S1024x1024, .i8⟩
  | .local _ .vmem, ⟨2, _⟩ => ⟨S1024x1024, .i8⟩
  | .local _ .vmem, ⟨3, _⟩ => ⟨S1024x1024, .i8⟩
  | .local _ .vmem, ⟨4, _⟩ => ⟨S16x1024, .i32⟩
  | .local _ .vmem, ⟨5, _⟩ => ⟨S16x1024, .i32⟩
  | .local _ .vmem, ⟨6, _⟩ => ⟨S1024x1024, .i8⟩
  | .local _ .vmem, ⟨7, _⟩ => ⟨S1024x1024, .i8⟩
  | .local _ .vmem, ⟨8, _⟩ => ⟨S1024x1024, .f32⟩
  | _, _ => ⟨S3x2048x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_call1_v0 : Ref sig .tc := ⟨.hbm, 51, rfl⟩
abbrev main_call1_v1 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_c_10 : Ref sig .tc := ⟨.hbm, 58, rfl⟩
abbrev main_v33 : Ref sig .tc := ⟨.hbm, 59, rfl⟩
abbrev main_v34 : Ref sig .tc := ⟨.hbm, 60, rfl⟩
abbrev main_c_11 : Ref sig .tc := ⟨.hbm, 61, rfl⟩
abbrev main_c_12 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v35 : Ref sig .tc := ⟨.hbm, 68, rfl⟩
abbrev main_c_13 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_c_14 : Ref sig .tc := ⟨.hbm, 75, rfl⟩
abbrev main_v41 : Ref sig .tc := ⟨.hbm, 76, rfl⟩
abbrev main_v42 : Ref sig .tc := ⟨.hbm, 77, rfl⟩
abbrev main_c_15 : Ref sig .tc := ⟨.hbm, 78, rfl⟩
abbrev main_c_16 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v43 : Ref sig .tc := ⟨.hbm, 85, rfl⟩
abbrev main_c_17 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_c_18 : Ref sig .tc := ⟨.hbm, 91, rfl⟩
abbrev main_v48 : Ref sig .tc := ⟨.hbm, 92, rfl⟩
abbrev main_v49 : Ref sig .tc := ⟨.hbm, 93, rfl⟩
abbrev main_c_19 : Ref sig .tc := ⟨.hbm, 94, rfl⟩
abbrev main_v50 : Ref sig .tc := ⟨.hbm, 95, rfl⟩
abbrev main_v51 : Ref sig .tc := ⟨.hbm, 96, rfl⟩
abbrev main_c_20 : Ref sig .tc := ⟨.hbm, 97, rfl⟩
abbrev main_v52 : Ref sig .tc := ⟨.hbm, 98, rfl⟩
abbrev main_v53 : Ref sig .tc := ⟨.hbm, 99, rfl⟩
abbrev main_c_21 : Ref sig .tc := ⟨.hbm, 100, rfl⟩
abbrev main_c_22 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_v54 : Ref sig .tc := ⟨.hbm, 107, rfl⟩
abbrev main_c_23 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_c_24 : Ref sig .tc := ⟨.hbm, 114, rfl⟩
abbrev main_v60 : Ref sig .tc := ⟨.hbm, 115, rfl⟩
abbrev main_v61 : Ref sig .tc := ⟨.hbm, 116, rfl⟩
abbrev main_c_25 : Ref sig .tc := ⟨.hbm, 117, rfl⟩
abbrev main_c_26 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_v62 : Ref sig .tc := ⟨.hbm, 124, rfl⟩
abbrev main_c_27 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_cst_28 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_cst_29 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_30 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_c_31 : Ref sig .tc := ⟨.hbm, 147, rfl⟩
abbrev main_v81 : Ref sig .tc := ⟨.hbm, 148, rfl⟩
abbrev main_v82 : Ref sig .tc := ⟨.hbm, 149, rfl⟩
abbrev main_c_32 : Ref sig .tc := ⟨.hbm, 150, rfl⟩
abbrev main_v83 : Ref sig .tc := ⟨.hbm, 151, rfl⟩
abbrev main_v84 : Ref sig .tc := ⟨.hbm, 152, rfl⟩
abbrev main_c_33 : Ref sig .tc := ⟨.hbm, 153, rfl⟩
abbrev main_c_34 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_v85 : Ref sig .tc := ⟨.hbm, 160, rfl⟩
abbrev main_c_35 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_c_36 : Ref sig .tc := ⟨.hbm, 171, rfl⟩
abbrev main_v95 : Ref sig .tc := ⟨.hbm, 172, rfl⟩
abbrev main_c_37 : Ref sig .tc := ⟨.hbm, 173, rfl⟩
abbrev main_v96 : Ref sig .tc := ⟨.hbm, 174, rfl⟩
abbrev main_v97 : Ref sig .tc := ⟨.hbm, 175, rfl⟩
abbrev main_cst_38 : Ref sig .tc := ⟨.hbm, 176, rfl⟩
abbrev main_v98 : Ref sig .tc := ⟨.hbm, 177, rfl⟩
abbrev main_v99 : Ref sig .tc := ⟨.hbm, 178, rfl⟩
abbrev main_cst_39 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_c_40 : Ref sig .tc := ⟨.hbm, 183, rfl⟩
abbrev main_call7_v0 : Ref sig .tc := ⟨.hbm, 184, rfl⟩
abbrev main_call7_v1 : Ref sig .tc := ⟨.hbm, 185, rfl⟩
abbrev main_v103 : Ref sig .tc := ⟨.hbm, 186, rfl⟩
abbrev main_v104 : Ref sig .tc := ⟨.hbm, 187, rfl⟩
abbrev main_c_41 : Ref sig .tc := ⟨.hbm, 188, rfl⟩
abbrev main_v105 : Ref sig .tc := ⟨.hbm, 189, rfl⟩
abbrev main_v106 : Ref sig .tc := ⟨.hbm, 190, rfl⟩
abbrev main_c_42 : Ref sig .tc := ⟨.hbm, 191, rfl⟩
abbrev main_v107 : Ref sig .tc := ⟨.hbm, 192, rfl⟩
abbrev main_v108 : Ref sig .tc := ⟨.hbm, 193, rfl⟩
abbrev main_c_43 : Ref sig .tc := ⟨.hbm, 194, rfl⟩
abbrev main_c_44 : Ref sig .tc := ⟨.hbm, 195, rfl⟩
abbrev main_call8_v0 : Ref sig .tc := ⟨.hbm, 196, rfl⟩
abbrev main_call8_v1 : Ref sig .tc := ⟨.hbm, 197, rfl⟩
abbrev main_call8_v2 : Ref sig .tc := ⟨.hbm, 198, rfl⟩
abbrev main_call8_v3 : Ref sig .tc := ⟨.hbm, 199, rfl⟩
abbrev main_call8_v4 : Ref sig .tc := ⟨.hbm, 200, rfl⟩
abbrev main_v109 : Ref sig .tc := ⟨.hbm, 201, rfl⟩
abbrev main_c_45 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_c_46 : Ref sig .tc := ⟨.hbm, 208, rfl⟩
abbrev main_v115 : Ref sig .tc := ⟨.hbm, 209, rfl⟩
abbrev main_v116 : Ref sig .tc := ⟨.hbm, 210, rfl⟩
abbrev main_c_47 : Ref sig .tc := ⟨.hbm, 211, rfl⟩
abbrev main_c_48 : Ref sig .tc := ⟨.hbm, 212, rfl⟩
abbrev main_call9_v0 : Ref sig .tc := ⟨.hbm, 213, rfl⟩
abbrev main_call9_v1 : Ref sig .tc := ⟨.hbm, 214, rfl⟩
abbrev main_call9_v2 : Ref sig .tc := ⟨.hbm, 215, rfl⟩
abbrev main_call9_v3 : Ref sig .tc := ⟨.hbm, 216, rfl⟩
abbrev main_call9_v4 : Ref sig .tc := ⟨.hbm, 217, rfl⟩
abbrev main_v117 : Ref sig .tc := ⟨.hbm, 218, rfl⟩
abbrev main_c_49 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_c_50 : Ref sig .tc := ⟨.hbm, 224, rfl⟩
abbrev main_v122 : Ref sig .tc := ⟨.hbm, 225, rfl⟩
abbrev main_v123 : Ref sig .tc := ⟨.hbm, 226, rfl⟩
abbrev main_c_51 : Ref sig .tc := ⟨.hbm, 227, rfl⟩
abbrev main_v124 : Ref sig .tc := ⟨.hbm, 228, rfl⟩
abbrev main_v125 : Ref sig .tc := ⟨.hbm, 229, rfl⟩
abbrev main_c_52 : Ref sig .tc := ⟨.hbm, 230, rfl⟩
abbrev main_v126 : Ref sig .tc := ⟨.hbm, 231, rfl⟩
abbrev main_v127 : Ref sig .tc := ⟨.hbm, 232, rfl⟩
abbrev main_c_53 : Ref sig .tc := ⟨.hbm, 233, rfl⟩
abbrev main_c_54 : Ref sig .tc := ⟨.hbm, 234, rfl⟩
abbrev main_call10_v0 : Ref sig .tc := ⟨.hbm, 235, rfl⟩
abbrev main_call10_v1 : Ref sig .tc := ⟨.hbm, 236, rfl⟩
abbrev main_call10_v2 : Ref sig .tc := ⟨.hbm, 237, rfl⟩
abbrev main_call10_v3 : Ref sig .tc := ⟨.hbm, 238, rfl⟩
abbrev main_call10_v4 : Ref sig .tc := ⟨.hbm, 239, rfl⟩
abbrev main_v128 : Ref sig .tc := ⟨.hbm, 240, rfl⟩
abbrev main_c_55 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_c_56 : Ref sig .tc := ⟨.hbm, 247, rfl⟩
abbrev main_v134 : Ref sig .tc := ⟨.hbm, 248, rfl⟩
abbrev main_v135 : Ref sig .tc := ⟨.hbm, 249, rfl⟩
abbrev main_c_57 : Ref sig .tc := ⟨.hbm, 250, rfl⟩
abbrev main_c_58 : Ref sig .tc := ⟨.hbm, 251, rfl⟩
abbrev main_call11_v0 : Ref sig .tc := ⟨.hbm, 252, rfl⟩
abbrev main_call11_v1 : Ref sig .tc := ⟨.hbm, 253, rfl⟩
abbrev main_call11_v2 : Ref sig .tc := ⟨.hbm, 254, rfl⟩
abbrev main_call11_v3 : Ref sig .tc := ⟨.hbm, 255, rfl⟩
abbrev main_call11_v4 : Ref sig .tc := ⟨.hbm, 256, rfl⟩
abbrev main_v136 : Ref sig .tc := ⟨.hbm, 257, rfl⟩
abbrev main_c_59 : Ref sig .tc := ⟨.hbm, 258, rfl⟩
abbrev main_v137 : Ref sig .tc := ⟨.hbm, 259, rfl⟩
abbrev main_v138 : Ref sig .tc := ⟨.hbm, 260, rfl⟩
abbrev main_v139 : Ref sig .tc := ⟨.hbm, 261, rfl⟩
abbrev main_v140 : Ref sig .tc := ⟨.hbm, 262, rfl⟩
abbrev main_cst_60 : Ref sig .tc := ⟨.hbm, 263, rfl⟩
abbrev main_v141 : Ref sig .tc := ⟨.hbm, 264, rfl⟩
abbrev main_v142 : Ref sig .tc := ⟨.hbm, 265, rfl⟩
abbrev main_v143 : Ref sig .tc := ⟨.hbm, 266, rfl⟩
abbrev main_v144 : Ref sig .tc := ⟨.hbm, 267, rfl⟩
abbrev main_v145 : Ref sig .tc := ⟨.hbm, 268, rfl⟩
abbrev main_cst_61 : Ref sig .tc := ⟨.hbm, 269, rfl⟩
abbrev main_v146 : Ref sig .tc := ⟨.hbm, 270, rfl⟩
abbrev main_v147 : Ref sig .tc := ⟨.hbm, 271, rfl⟩
abbrev main_c_62 : Ref sig .tc := ⟨.hbm, 272, rfl⟩
abbrev main_c_63 : Ref sig .tc := ⟨.hbm, 273, rfl⟩
abbrev main_call12_v0 : Ref sig .tc := ⟨.hbm, 274, rfl⟩
abbrev main_call12_v1 : Ref sig .tc := ⟨.hbm, 275, rfl⟩
abbrev main_call12_v2 : Ref sig .tc := ⟨.hbm, 276, rfl⟩
abbrev main_call12_v3 : Ref sig .tc := ⟨.hbm, 277, rfl⟩
abbrev main_call12_v4 : Ref sig .tc := ⟨.hbm, 278, rfl⟩
abbrev main_v148 : Ref sig .tc := ⟨.hbm, 279, rfl⟩
abbrev main_v149 : Ref sig .tc := ⟨.hbm, 280, rfl⟩
abbrev main_c_64 : Ref sig .tc := ⟨.hbm, 281, rfl⟩
abbrev main_c_65 : Ref sig .tc := ⟨.hbm, 282, rfl⟩
abbrev main_call13_v0 : Ref sig .tc := ⟨.hbm, 283, rfl⟩
abbrev main_call13_v1 : Ref sig .tc := ⟨.hbm, 284, rfl⟩
abbrev main_call13_v2 : Ref sig .tc := ⟨.hbm, 285, rfl⟩
abbrev main_call13_v3 : Ref sig .tc := ⟨.hbm, 286, rfl⟩
abbrev main_call13_v4 : Ref sig .tc := ⟨.hbm, 287, rfl⟩
abbrev main_v150 : Ref sig .tc := ⟨.hbm, 288, rfl⟩
abbrev main_c_66 : Ref sig .tc := ⟨.hbm, 289, rfl⟩
abbrev main_v151 : Ref sig .tc := ⟨.hbm, 290, rfl⟩
abbrev main_v152 : Ref sig .tc := ⟨.hbm, 291, rfl⟩
abbrev main_c_67 : Ref sig .tc := ⟨.hbm, 292, rfl⟩
abbrev main_v153 : Ref sig .tc := ⟨.hbm, 293, rfl⟩
abbrev main_v154 : Ref sig .tc := ⟨.hbm, 294, rfl⟩
abbrev main_v155 : Ref sig .tc := ⟨.hbm, 295, rfl⟩
abbrev main_c_68 : Ref sig .tc := ⟨.hbm, 296, rfl⟩
abbrev main_call14_v0 : Ref sig .tc := ⟨.hbm, 297, rfl⟩
abbrev main_call14_v1 : Ref sig .tc := ⟨.hbm, 298, rfl⟩
abbrev main_v156 : Ref sig .tc := ⟨.hbm, 299, rfl⟩
abbrev main_v157 : Ref sig .tc := ⟨.hbm, 300, rfl⟩
abbrev main_v158 : Ref sig .tc := ⟨.hbm, 301, rfl⟩
abbrev main_v159 : Ref sig .tc := ⟨.hbm, 302, rfl⟩
abbrev main_v160 : Ref sig .tc := ⟨.hbm, 303, rfl⟩
abbrev main_c_69 : Ref sig .tc := ⟨.hbm, 304, rfl⟩
abbrev main_v161 : Ref sig .tc := ⟨.hbm, 305, rfl⟩
abbrev main_v162 : Ref sig .tc := ⟨.hbm, 306, rfl⟩
abbrev main_c_70 : Ref sig .tc := ⟨.hbm, 307, rfl⟩
abbrev main_v163 : Ref sig .tc := ⟨.hbm, 308, rfl⟩
abbrev main_v164 : Ref sig .tc := ⟨.hbm, 309, rfl⟩
abbrev main_c_71 : Ref sig .tc := ⟨.hbm, 310, rfl⟩
abbrev main_c_72 : Ref sig .tc := ⟨.hbm, 311, rfl⟩
abbrev main_call15_v0 : Ref sig .tc := ⟨.hbm, 312, rfl⟩
abbrev main_call15_v1 : Ref sig .tc := ⟨.hbm, 313, rfl⟩
abbrev main_call15_v2 : Ref sig .tc := ⟨.hbm, 314, rfl⟩
abbrev main_call15_v3 : Ref sig .tc := ⟨.hbm, 315, rfl⟩
abbrev main_call15_v4 : Ref sig .tc := ⟨.hbm, 316, rfl⟩
abbrev main_v165 : Ref sig .tc := ⟨.hbm, 317, rfl⟩
abbrev main_c_73 : Ref sig .tc := ⟨.hbm, 318, rfl⟩
abbrev main_v166 : Ref sig .tc := ⟨.hbm, 319, rfl⟩
abbrev main_v167 : Ref sig .tc := ⟨.hbm, 320, rfl⟩
abbrev main_v168 : Ref sig .tc := ⟨.hbm, 321, rfl⟩
abbrev main_v169 : Ref sig .tc := ⟨.hbm, 322, rfl⟩
abbrev main_v170 : Ref sig .tc := ⟨.hbm, 323, rfl⟩
abbrev main_v171 : Ref sig .tc := ⟨.hbm, 324, rfl⟩
abbrev main_v172 : Ref sig .tc := ⟨.hbm, 325, rfl⟩
abbrev main_v173 : Ref sig .tc := ⟨.hbm, 326, rfl⟩
abbrev main_v174 : Ref sig .tc := ⟨.hbm, 327, rfl⟩
abbrev main_c_74 : Ref sig .tc := ⟨.hbm, 328, rfl⟩
abbrev main_v175 : Ref sig .tc := ⟨.hbm, 329, rfl⟩
abbrev main_c_75 : Ref sig .tc := ⟨.hbm, 330, rfl⟩
abbrev main_v176 : Ref sig .tc := ⟨.hbm, 331, rfl⟩
abbrev main_v177 : Ref sig .tc := ⟨.hbm, 332, rfl⟩
abbrev main_cst_76 : Ref sig .tc := ⟨.hbm, 333, rfl⟩
abbrev main_v178 : Ref sig .tc := ⟨.hbm, 334, rfl⟩
abbrev main_v179 : Ref sig .tc := ⟨.hbm, 335, rfl⟩
abbrev main_cst_77 : Ref sig .tc := ⟨.hbm, 336, rfl⟩
abbrev main_v180 : Ref sig .tc := ⟨.hbm, 337, rfl⟩
abbrev main_v181 : Ref sig .tc := ⟨.hbm, 338, rfl⟩
abbrev main_v182 : Ref sig .tc := ⟨.hbm, 339, rfl⟩
abbrev main_c_78 : Ref sig .tc := ⟨.hbm, 340, rfl⟩
abbrev main_call16_v0 : Ref sig .tc := ⟨.hbm, 341, rfl⟩
abbrev main_call16_v1 : Ref sig .tc := ⟨.hbm, 342, rfl⟩
abbrev main_v183 : Ref sig .tc := ⟨.hbm, 343, rfl⟩
abbrev main_v184 : Ref sig .tc := ⟨.hbm, 344, rfl⟩
abbrev main_c_79 : Ref sig .tc := ⟨.hbm, 345, rfl⟩
abbrev main_v185 : Ref sig .tc := ⟨.hbm, 346, rfl⟩
abbrev main_v186 : Ref sig .tc := ⟨.hbm, 347, rfl⟩
abbrev main_c_80 : Ref sig .tc := ⟨.hbm, 348, rfl⟩
abbrev main_v187 : Ref sig .tc := ⟨.hbm, 349, rfl⟩
abbrev main_v188 : Ref sig .tc := ⟨.hbm, 350, rfl⟩
abbrev main_c_81 : Ref sig .tc := ⟨.hbm, 351, rfl⟩
abbrev main_c_82 : Ref sig .tc := ⟨.hbm, 352, rfl⟩
abbrev main_call17_v0 : Ref sig .tc := ⟨.hbm, 353, rfl⟩
abbrev main_call17_v1 : Ref sig .tc := ⟨.hbm, 354, rfl⟩
abbrev main_call17_v2 : Ref sig .tc := ⟨.hbm, 355, rfl⟩
abbrev main_call17_v3 : Ref sig .tc := ⟨.hbm, 356, rfl⟩
abbrev main_call17_v4 : Ref sig .tc := ⟨.hbm, 357, rfl⟩
abbrev main_v189 : Ref sig .tc := ⟨.hbm, 358, rfl⟩
abbrev main_c_83 : Ref sig .tc := ⟨.hbm, 359, rfl⟩
abbrev main_v190 : Ref sig .tc := ⟨.hbm, 360, rfl⟩
abbrev main_v191 : Ref sig .tc := ⟨.hbm, 361, rfl⟩
abbrev main_v192 : Ref sig .tc := ⟨.hbm, 362, rfl⟩
abbrev main_v193 : Ref sig .tc := ⟨.hbm, 363, rfl⟩
abbrev main_v194 : Ref sig .tc := ⟨.hbm, 364, rfl⟩
abbrev main_c_84 : Ref sig .tc := ⟨.hbm, 365, rfl⟩
abbrev main_v195 : Ref sig .tc := ⟨.hbm, 366, rfl⟩
abbrev main_v196 : Ref sig .tc := ⟨.hbm, 367, rfl⟩
abbrev main_c_85 : Ref sig .tc := ⟨.hbm, 368, rfl⟩
abbrev main_c_86 : Ref sig .tc := ⟨.hbm, 369, rfl⟩
abbrev main_call18_v0 : Ref sig .tc := ⟨.hbm, 370, rfl⟩
abbrev main_call18_v1 : Ref sig .tc := ⟨.hbm, 371, rfl⟩
abbrev main_call18_v2 : Ref sig .tc := ⟨.hbm, 372, rfl⟩
abbrev main_call18_v3 : Ref sig .tc := ⟨.hbm, 373, rfl⟩
abbrev main_call18_v4 : Ref sig .tc := ⟨.hbm, 374, rfl⟩
abbrev main_v197 : Ref sig .tc := ⟨.hbm, 375, rfl⟩
abbrev main_c_87 : Ref sig .tc := ⟨.hbm, 376, rfl⟩
abbrev main_v198 : Ref sig .tc := ⟨.hbm, 377, rfl⟩
abbrev main_v199 : Ref sig .tc := ⟨.hbm, 378, rfl⟩
abbrev main_v200 : Ref sig .tc := ⟨.hbm, 379, rfl⟩
abbrev main_v201 : Ref sig .tc := ⟨.hbm, 380, rfl⟩
abbrev main_cst_88 : Ref sig .tc := ⟨.hbm, 381, rfl⟩
abbrev main_v202 : Ref sig .tc := ⟨.hbm, 382, rfl⟩
abbrev main_v203 : Ref sig .tc := ⟨.hbm, 383, rfl⟩
abbrev main_v204 : Ref sig .tc := ⟨.hbm, 384, rfl⟩
abbrev main_v205 : Ref sig .tc := ⟨.hbm, 385, rfl⟩
abbrev main_c_89 : Ref sig .tc := ⟨.hbm, 386, rfl⟩
abbrev main_v206 : Ref sig .tc := ⟨.hbm, 387, rfl⟩
abbrev main_v207 : Ref sig .tc := ⟨.hbm, 388, rfl⟩
abbrev main_c_90 : Ref sig .tc := ⟨.hbm, 389, rfl⟩
abbrev main_v208 : Ref sig .tc := ⟨.hbm, 390, rfl⟩
abbrev main_v209 : Ref sig .tc := ⟨.hbm, 391, rfl⟩
abbrev main_c_91 : Ref sig .tc := ⟨.hbm, 392, rfl⟩
abbrev main_v210 : Ref sig .tc := ⟨.hbm, 393, rfl⟩
abbrev main_v211 : Ref sig .tc := ⟨.hbm, 394, rfl⟩
abbrev main_c_92 : Ref sig .tc := ⟨.hbm, 395, rfl⟩
abbrev main_v212 : Ref sig .tc := ⟨.hbm, 396, rfl⟩
abbrev main_v213 : Ref sig .tc := ⟨.hbm, 397, rfl⟩
abbrev main_c_93 : Ref sig .tc := ⟨.hbm, 398, rfl⟩
abbrev main_v214 : Ref sig .tc := ⟨.hbm, 399, rfl⟩
abbrev main_v215 : Ref sig .tc := ⟨.hbm, 400, rfl⟩
abbrev main_v216 : Ref sig .tc := ⟨.hbm, 401, rfl⟩
abbrev main_c_94 : Ref sig .tc := ⟨.hbm, 402, rfl⟩
abbrev main_call20_v0 : Ref sig .tc := ⟨.hbm, 403, rfl⟩
abbrev main_call20_v1 : Ref sig .tc := ⟨.hbm, 404, rfl⟩
abbrev main_v217 : Ref sig .tc := ⟨.hbm, 405, rfl⟩
abbrev main_c_95 : Ref sig .tc := ⟨.hbm, 406, rfl⟩
abbrev main_v218 : Ref sig .tc := ⟨.hbm, 407, rfl⟩
abbrev main_v219 : Ref sig .tc := ⟨.hbm, 408, rfl⟩
abbrev main_v220 : Ref sig .tc := ⟨.hbm, 409, rfl⟩
abbrev main_v221 : Ref sig .tc := ⟨.hbm, 410, rfl⟩
abbrev main_v222 : Ref sig .tc := ⟨.hbm, 411, rfl⟩
abbrev main_v223 : Ref sig .tc := ⟨.hbm, 412, rfl⟩
abbrev main_v224 : Ref sig .tc := ⟨.hbm, 413, rfl⟩
abbrev main_v225 : Ref sig .tc := ⟨.hbm, 414, rfl⟩
abbrev main_v226 : Ref sig .tc := ⟨.hbm, 415, rfl⟩
abbrev main_v227 : Ref sig .tc := ⟨.hbm, 416, rfl⟩
abbrev main_v228 : Ref sig .tc := ⟨.hbm, 417, rfl⟩
abbrev main_v229 : Ref sig .tc := ⟨.hbm, 418, rfl⟩
abbrev main_v230 : Ref sig .tc := ⟨.hbm, 419, rfl⟩
abbrev main_v231 : Ref sig .tc := ⟨.hbm, 420, rfl⟩
abbrev main_v232 : Ref sig .tc := ⟨.hbm, 421, rfl⟩
abbrev main_v233 : Ref sig .tc := ⟨.hbm, 422, rfl⟩
abbrev main_v234 : Ref sig .tc := ⟨.hbm, 423, rfl⟩
abbrev main_v235 : Ref sig .tc := ⟨.hbm, 424, rfl⟩
abbrev main_v236 : Ref sig .tc := ⟨.hbm, 425, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 18, 7], ![false, false, false]⟩

def k0_cond2 (i : grid0.Coords) : BitVec 1 :=
  let arg2 : BitVec 32 := BitVec.ofNat 32 (i 2).val
  let c6_i32 : BitVec 32 := 6#32
  let v14 : BitVec 1 := Scalar.cmpi .eq arg2 c6_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ref1Ideal.lean ====
abbrev S3x2048x7168 : Shape := ⟨3, ![3, 2048, 7168]⟩
abbrev S_ : Shape := ⟨0, ![]⟩
abbrev S7168x18432 : Shape := ⟨2, ![7168, 18432]⟩
abbrev S18432 : Shape := ⟨1, ![18432]⟩
abbrev S6144x7168 : Shape := ⟨2, ![6144, 7168]⟩
abbrev S6144x18432 : Shape := ⟨2, ![6144, 18432]⟩
abbrev S1x18432 : Shape := ⟨2, ![1, 18432]⟩
abbrev S254 : Shape := ⟨1, ![254]⟩
abbrev S18432x1 : Shape := ⟨2, ![18432, 1]⟩
abbrev S1x254 : Shape := ⟨2, ![1, 254]⟩
abbrev S18432x254 : Shape := ⟨2, ![18432, 254]⟩

abbrev nBuf : Space → Nat
  | .hbm => 443
  | .vmem => 0
  | .smem => 0
  | _ => 0

abbrev hbmTy0_0 (i : Nat) : BufTy := match i % 128 with
  | 0 => ⟨S3x2048x7168, .i8⟩
  | 1 => ⟨S_, .f32⟩
  | 2 => ⟨S7168x18432, .i8⟩
  | 3 => ⟨S18432, .f32⟩
  | 4 => ⟨S18432, .i32⟩
  | 5 => ⟨S_, .f32⟩
  | 6 => ⟨S6144x7168, .i8⟩
  | 7 => ⟨S18432, .f32⟩
  | 8 => ⟨S18432, .f32⟩
  | 9 => ⟨S6144x7168, .i32⟩
  | 10 => ⟨S6144x7168, .bf16⟩
  | 11 => ⟨S7168x18432, .i32⟩
  | 12 => ⟨S7168x18432, .bf16⟩
  | 13 => ⟨S6144x18432, .f32⟩
  | 14 => ⟨S6144x18432, .i32⟩
  | 15 => ⟨S1x18432, .i32⟩
  | 16 => ⟨S6144x18432, .i32⟩
  | 17 => ⟨S6144x18432, .i32⟩
  | 18 => ⟨S_, .f32⟩
  | 19 => ⟨S18432, .f32⟩
  | 20 => ⟨S18432, .f32⟩
  | 21 => ⟨S18432, .f32⟩
  | 22 => ⟨S254, .i32⟩
  | 23 => ⟨S_, .i32⟩
  | 24 => ⟨S254, .i32⟩
  | 25 => ⟨S254, .i32⟩
  | 26 => ⟨S_, .i32⟩
  | 27 => ⟨S254, .i32⟩
  | 28 => ⟨S254, .i32⟩
  | 29 => ⟨S_, .i32⟩
  | 30 => ⟨S_, .i32⟩
  | 31 => ⟨S_, .i32⟩
  | 32 => ⟨S254, .i32⟩
  | 33 => ⟨S254, .i32⟩
  | 34 => ⟨S_, .i32⟩
  | 35 => ⟨S254, .i32⟩
  | 36 => ⟨S254, .i32⟩
  | 37 => ⟨S_, .i32⟩
  | 38 => ⟨S254, .i32⟩
  | 39 => ⟨S254, .i32⟩
  | 40 => ⟨S254, .f32⟩
  | 41 => ⟨S18432x1, .f32⟩
  | 42 => ⟨S1x254, .f32⟩
  | 43 => ⟨S18432x254, .f32⟩
  | 44 => ⟨S18432x254, .f32⟩
  | 45 => ⟨S18432x254, .i1⟩
  | 46 => ⟨S18432x254, .i32⟩
  | 47 => ⟨S_, .i32⟩
  | 48 => ⟨S18432, .i32⟩
  | 49 => ⟨S_, .i32⟩
  | 50 => ⟨S18432, .i32⟩
  | 51 => ⟨S18432, .i32⟩
  | 52 => ⟨S_, .f32⟩
  | 53 => ⟨S18432, .f32⟩
  | 54 => ⟨S18432, .i1⟩
  | 55 => ⟨S_, .f32⟩
  | 56 => ⟨S18432, .f32⟩
  | 57 => ⟨S18432, .i1⟩
  | 58 => ⟨S18432, .i1⟩
  | 59 => ⟨S_, .i32⟩
  | 60 => ⟨S_, .i32⟩
  | 61 => ⟨S18432, .i32⟩
  | 62 => ⟨S18432, .i32⟩
  | 63 => ⟨S18432, .i32⟩
  | 64 => ⟨S_, .i32⟩
  | 65 => ⟨S18432, .i32⟩
  | 66 => ⟨S18432, .i32⟩
  | 67 => ⟨S_, .i32⟩
  | 68 => ⟨S18432, .i32⟩
  | 69 => ⟨S18432, .i32⟩
  | 70 => ⟨S_, .i32⟩
  | 71 => ⟨S_, .i32⟩
  | 72 => ⟨S_, .i32⟩
  | 73 => ⟨S18432, .i32⟩
  | 74 => ⟨S18432, .i32⟩
  | 75 => ⟨S_, .i32⟩
  | 76 => ⟨S18432, .i32⟩
  | 77 => ⟨S18432, .i32⟩
  | 78 => ⟨S_, .i32⟩
  | 79 => ⟨S18432, .i32⟩
  | 80 => ⟨S18432, .i32⟩
  | 81 => ⟨S18432, .f32⟩
  | 82 => ⟨S18432, .f32⟩
  | 83 => ⟨S18432, .i32⟩
  | 84 => ⟨S_, .i32⟩
  | 85 => ⟨S18432, .i32⟩
  | 86 => ⟨S18432, .i32⟩
  | 87 => ⟨S_, .i32⟩
  | 88 => ⟨S_, .i32⟩
  | 89 => ⟨S_, .i32⟩
  | 90 => ⟨S18432, .i32⟩
  | 91 => ⟨S18432, .i32⟩
  | 92 => ⟨S_, .i32⟩
  | 93 => ⟨S18432, .i32⟩
  | 94 => ⟨S18432, .i32⟩
  | 95 => ⟨S_, .i32⟩
  | 96 => ⟨S18432, .i32⟩
  | 97 => ⟨S18432, .i32⟩
  | 98 => ⟨S18432, .f32⟩
  | 99 => ⟨S18432, .f32⟩
  | 100 => ⟨S_, .i32⟩
  | 101 => ⟨S18432, .i32⟩
  | 102 => ⟨S18432, .i32⟩
  | 103 => ⟨S_, .i32⟩
  | 104 => ⟨S18432, .i32⟩
  | 105 => ⟨S18432, .i32⟩
  | 106 => ⟨S_, .i32⟩
  | 107 => ⟨S18432, .i32⟩
  | 108 => ⟨S18432, .i32⟩
  | 109 => ⟨S_, .i32⟩
  | 110 => ⟨S_, .i32⟩
  | 111 => ⟨S_, .i32⟩
  | 112 => ⟨S18432, .i32⟩
  | 113 => ⟨S18432, .i32⟩
  | 114 => ⟨S_, .i32⟩
  | 115 => ⟨S18432, .i32⟩
  | 116 => ⟨S18432, .i32⟩
  | 117 => ⟨S_, .i32⟩
  | 118 => ⟨S18432, .i32⟩
  | 119 => ⟨S18432, .i32⟩
  | 120 => ⟨S18432, .f32⟩
  | 121 => ⟨S18432, .f32⟩
  | 122 => ⟨S18432, .i32⟩
  | 123 => ⟨S_, .i32⟩
  | 124 => ⟨S18432, .i32⟩
  | 125 => ⟨S18432, .i32⟩
  | 126 => ⟨S_, .i32⟩
  | 127 => ⟨S_, .i32⟩
  | _ => ⟨S3x2048x7168, .i8⟩

abbrev hbmTy0_1 (i : Nat) : BufTy := match i % 128 with
  | 0 => ⟨S_, .i32⟩
  | 1 => ⟨S18432, .i32⟩
  | 2 => ⟨S18432, .i32⟩
  | 3 => ⟨S_, .i32⟩
  | 4 => ⟨S18432, .i32⟩
  | 5 => ⟨S18432, .i32⟩
  | 6 => ⟨S_, .i32⟩
  | 7 => ⟨S18432, .i32⟩
  | 8 => ⟨S18432, .i32⟩
  | 9 => ⟨S18432, .f32⟩
  | 10 => ⟨S18432, .f32⟩
  | 11 => ⟨S_, .f32⟩
  | 12 => ⟨S18432, .f32⟩
  | 13 => ⟨S18432, .f32⟩
  | 14 => ⟨S18432, .f32⟩
  | 15 => ⟨S18432, .i32⟩
  | 16 => ⟨S18432, .f32⟩
  | 17 => ⟨S_, .f32⟩
  | 18 => ⟨S18432, .f32⟩
  | 19 => ⟨S18432, .f32⟩
  | 20 => ⟨S18432, .f32⟩
  | 21 => ⟨S18432, .i32⟩
  | 22 => ⟨S18432, .f32⟩
  | 23 => ⟨S_, .f32⟩
  | 24 => ⟨S18432, .f32⟩
  | 25 => ⟨S18432, .f32⟩
  | 26 => ⟨S18432, .f32⟩
  | 27 => ⟨S254, .i32⟩
  | 28 => ⟨S_, .i32⟩
  | 29 => ⟨S254, .i32⟩
  | 30 => ⟨S254, .i32⟩
  | 31 => ⟨S_, .i32⟩
  | 32 => ⟨S254, .i32⟩
  | 33 => ⟨S254, .i32⟩
  | 34 => ⟨S_, .i32⟩
  | 35 => ⟨S_, .i32⟩
  | 36 => ⟨S_, .i32⟩
  | 37 => ⟨S254, .i32⟩
  | 38 => ⟨S254, .i32⟩
  | 39 => ⟨S_, .i32⟩
  | 40 => ⟨S254, .i32⟩
  | 41 => ⟨S254, .i32⟩
  | 42 => ⟨S_, .i32⟩
  | 43 => ⟨S254, .i32⟩
  | 44 => ⟨S254, .i32⟩
  | 45 => ⟨S254, .f32⟩
  | 46 => ⟨S18432x1, .f32⟩
  | 47 => ⟨S1x254, .f32⟩
  | 48 => ⟨S18432x254, .f32⟩
  | 49 => ⟨S18432x254, .f32⟩
  | 50 => ⟨S18432x254, .i1⟩
  | 51 => ⟨S18432x254, .i32⟩
  | 52 => ⟨S_, .i32⟩
  | 53 => ⟨S18432, .i32⟩
  | 54 => ⟨S_, .i32⟩
  | 55 => ⟨S18432, .i32⟩
  | 56 => ⟨S18432, .i32⟩
  | 57 => ⟨S_, .f32⟩
  | 58 => ⟨S18432, .f32⟩
  | 59 => ⟨S18432, .i1⟩
  | 60 => ⟨S_, .f32⟩
  | 61 => ⟨S18432, .f32⟩
  | 62 => ⟨S18432, .i1⟩
  | 63 => ⟨S18432, .i1⟩
  | 64 => ⟨S_, .i32⟩
  | 65 => ⟨S_, .i32⟩
  | 66 => ⟨S18432, .i32⟩
  | 67 => ⟨S18432, .i32⟩
  | 68 => ⟨S18432, .i32⟩
  | 69 => ⟨S_, .i32⟩
  | 70 => ⟨S18432, .i32⟩
  | 71 => ⟨S18432, .i32⟩
  | 72 => ⟨S_, .i32⟩
  | 73 => ⟨S18432, .i32⟩
  | 74 => ⟨S18432, .i32⟩
  | 75 => ⟨S_, .i32⟩
  | 76 => ⟨S_, .i32⟩
  | 77 => ⟨S_, .i32⟩
  | 78 => ⟨S18432, .i32⟩
  | 79 => ⟨S18432, .i32⟩
  | 80 => ⟨S_, .i32⟩
  | 81 => ⟨S18432, .i32⟩
  | 82 => ⟨S18432, .i32⟩
  | 83 => ⟨S_, .i32⟩
  | 84 => ⟨S18432, .i32⟩
  | 85 => ⟨S18432, .i32⟩
  | 86 => ⟨S18432, .f32⟩
  | 87 => ⟨S18432, .f32⟩
  | 88 => ⟨S18432, .i32⟩
  | 89 => ⟨S_, .i32⟩
  | 90 => ⟨S18432, .i32⟩
  | 91 => ⟨S18432, .i32⟩
  | 92 => ⟨S_, .i32⟩
  | 93 => ⟨S_, .i32⟩
  | 94 => ⟨S_, .i32⟩
  | 95 => ⟨S18432, .i32⟩
  | 96 => ⟨S18432, .i32⟩
  | 97 => ⟨S_, .i32⟩
  | 98 => ⟨S18432, .i32⟩
  | 99 => ⟨S18432, .i32⟩
  | 100 => ⟨S_, .i32⟩
  | 101 => ⟨S18432, .i32⟩
  | 102 => ⟨S18432, .i32⟩
  | 103 => ⟨S18432, .f32⟩
  | 104 => ⟨S18432, .f32⟩
  | 105 => ⟨S_, .i32⟩
  | 106 => ⟨S18432, .i32⟩
  | 107 => ⟨S18432, .i32⟩
  | 108 => ⟨S_, .i32⟩
  | 109 => ⟨S18432, .i32⟩
  | 110 => ⟨S18432, .i32⟩
  | 111 => ⟨S_, .i32⟩
  | 112 => ⟨S18432, .i32⟩
  | 113 => ⟨S18432, .i32⟩
  | 114 => ⟨S_, .i32⟩
  | 115 => ⟨S_, .i32⟩
  | 116 => ⟨S_, .i32⟩
  | 117 => ⟨S18432, .i32⟩
  | 118 => ⟨S18432, .i32⟩
  | 119 => ⟨S_, .i32⟩
  | 120 => ⟨S18432, .i32⟩
  | 121 => ⟨S18432, .i32⟩
  | 122 => ⟨S_, .i32⟩
  | 123 => ⟨S18432, .i32⟩
  | 124 => ⟨S18432, .i32⟩
  | 125 => ⟨S18432, .f32⟩
  | 126 => ⟨S18432, .f32⟩
  | 127 => ⟨S18432, .i32⟩
  | _ => ⟨S3x2048x7168, .i8⟩

abbrev hbmTy0_2 (i : Nat) : BufTy := match i % 128 with
  | 0 => ⟨S_, .i32⟩
  | 1 => ⟨S18432, .i32⟩
  | 2 => ⟨S18432, .i32⟩
  | 3 => ⟨S_, .i32⟩
  | 4 => ⟨S_, .i32⟩
  | 5 => ⟨S_, .i32⟩
  | 6 => ⟨S18432, .i32⟩
  | 7 => ⟨S18432, .i32⟩
  | 8 => ⟨S_, .i32⟩
  | 9 => ⟨S18432, .i32⟩
  | 10 => ⟨S18432, .i32⟩
  | 11 => ⟨S_, .i32⟩
  | 12 => ⟨S18432, .i32⟩
  | 13 => ⟨S18432, .i32⟩
  | 14 => ⟨S18432, .f32⟩
  | 15 => ⟨S18432, .f32⟩
  | 16 => ⟨S_, .f32⟩
  | 17 => ⟨S18432, .f32⟩
  | 18 => ⟨S18432, .f32⟩
  | 19 => ⟨S18432, .f32⟩
  | 20 => ⟨S18432, .i32⟩
  | 21 => ⟨S18432, .f32⟩
  | 22 => ⟨S_, .f32⟩
  | 23 => ⟨S18432, .f32⟩
  | 24 => ⟨S18432, .f32⟩
  | 25 => ⟨S6144x18432, .i32⟩
  | 26 => ⟨S_, .i32⟩
  | 27 => ⟨S18432, .i32⟩
  | 28 => ⟨S18432, .i1⟩
  | 29 => ⟨S_, .i32⟩
  | 30 => ⟨S18432, .i32⟩
  | 31 => ⟨S18432, .i32⟩
  | 32 => ⟨S1x18432, .i32⟩
  | 33 => ⟨S6144x18432, .i32⟩
  | 34 => ⟨S6144x18432, .i32⟩
  | 35 => ⟨S18432, .i32⟩
  | 36 => ⟨S_, .i32⟩
  | 37 => ⟨S18432, .i32⟩
  | 38 => ⟨S18432, .i32⟩
  | 39 => ⟨S1x18432, .i32⟩
  | 40 => ⟨S6144x18432, .i32⟩
  | 41 => ⟨S6144x18432, .i32⟩
  | 42 => ⟨S6144x18432, .i1⟩
  | 43 => ⟨S6144x18432, .i32⟩
  | 44 => ⟨S18432, .i32⟩
  | 45 => ⟨S1x18432, .i32⟩
  | 46 => ⟨S6144x18432, .i32⟩
  | 47 => ⟨S6144x18432, .i32⟩
  | 48 => ⟨S1x18432, .i32⟩
  | 49 => ⟨S6144x18432, .i32⟩
  | 50 => ⟨S6144x18432, .i32⟩
  | 51 => ⟨S6144x18432, .i32⟩
  | 52 => ⟨S1x18432, .i32⟩
  | 53 => ⟨S6144x18432, .i32⟩
  | 54 => ⟨S6144x18432, .i32⟩
  | 55 => ⟨S6144x18432, .i32⟩
  | 56 => ⟨S6144x18432, .i32⟩
  | 57 => ⟨S1x18432, .i32⟩
  | 58 => ⟨S6144x18432, .i32⟩
  | 59 => ⟨S6144x18432, .i32⟩
  | 60 => ⟨S1x18432, .i32⟩
  | 61 => ⟨S6144x18432, .i32⟩
  | 62 => ⟨S6144x18432, .i32⟩
  | 63 => ⟨S6144x18432, .i32⟩
  | 64 => ⟨S18432, .f32⟩
  | 65 => ⟨S18432, .f32⟩
  | 66 => ⟨S18432, .f32⟩
  | 67 => ⟨S254, .i32⟩
  | 68 => ⟨S_, .i32⟩
  | 69 => ⟨S254, .i32⟩
  | 70 => ⟨S254, .i32⟩
  | 71 => ⟨S_, .i32⟩
  | 72 => ⟨S254, .i32⟩
  | 73 => ⟨S254, .i32⟩
  | 74 => ⟨S_, .i32⟩
  | 75 => ⟨S_, .i32⟩
  | 76 => ⟨S_, .i32⟩
  | 77 => ⟨S254, .i32⟩
  | 78 => ⟨S254, .i32⟩
  | 79 => ⟨S_, .i32⟩
  | 80 => ⟨S254, .i32⟩
  | 81 => ⟨S254, .i32⟩
  | 82 => ⟨S_, .i32⟩
  | 83 => ⟨S254, .i32⟩
  | 84 => ⟨S254, .i32⟩
  | 85 => ⟨S254, .f32⟩
  | 86 => ⟨S18432x1, .f32⟩
  | 87 => ⟨S1x254, .f32⟩
  | 88 => ⟨S18432x254, .f32⟩
  | 89 => ⟨S18432x254, .f32⟩
  | 90 => ⟨S18432x254, .i1⟩
  | 91 => ⟨S18432x254, .i32⟩
  | 92 => ⟨S_, .i32⟩
  | 93 => ⟨S18432, .i32⟩
  | 94 => ⟨S_, .i32⟩
  | 95 => ⟨S18432, .i32⟩
  | 96 => ⟨S18432, .i32⟩
  | 97 => ⟨S_, .f32⟩
  | 98 => ⟨S18432, .f32⟩
  | 99 => ⟨S18432, .i1⟩
  | 100 => ⟨S_, .f32⟩
  | 101 => ⟨S18432, .f32⟩
  | 102 => ⟨S18432, .i1⟩
  | 103 => ⟨S18432, .i1⟩
  | 104 => ⟨S_, .i32⟩
  | 105 => ⟨S_, .i32⟩
  | 106 => ⟨S18432, .i32⟩
  | 107 => ⟨S18432, .i32⟩
  | 108 => ⟨S18432, .i32⟩
  | 109 => ⟨S_, .i32⟩
  | 110 => ⟨S18432, .i32⟩
  | 111 => ⟨S18432, .i32⟩
  | 112 => ⟨S_, .i32⟩
  | 113 => ⟨S18432, .i32⟩
  | 114 => ⟨S18432, .i32⟩
  | 115 => ⟨S_, .i32⟩
  | 116 => ⟨S_, .i32⟩
  | 117 => ⟨S_, .i32⟩
  | 118 => ⟨S18432, .i32⟩
  | 119 => ⟨S18432, .i32⟩
  | 120 => ⟨S_, .i32⟩
  | 121 => ⟨S18432, .i32⟩
  | 122 => ⟨S18432, .i32⟩
  | 123 => ⟨S_, .i32⟩
  | 124 => ⟨S18432, .i32⟩
  | 125 => ⟨S18432, .i32⟩
  | 126 => ⟨S18432, .f32⟩
  | 127 => ⟨S18432, .f32⟩
  | _ => ⟨S3x2048x7168, .i8⟩

abbrev hbmTy0_3 (i : Nat) : BufTy := match i % 128 with
  | 0 => ⟨S18432, .i32⟩
  | 1 => ⟨S_, .i32⟩
  | 2 => ⟨S18432, .i32⟩
  | 3 => ⟨S18432, .i32⟩
  | 4 => ⟨S_, .i32⟩
  | 5 => ⟨S_, .i32⟩
  | 6 => ⟨S_, .i32⟩
  | 7 => ⟨S18432, .i32⟩
  | 8 => ⟨S18432, .i32⟩
  | 9 => ⟨S_, .i32⟩
  | 10 => ⟨S18432, .i32⟩
  | 11 => ⟨S18432, .i32⟩
  | 12 => ⟨S_, .i32⟩
  | 13 => ⟨S18432, .i32⟩
  | 14 => ⟨S18432, .i32⟩
  | 15 => ⟨S18432, .f32⟩
  | 16 => ⟨S18432, .f32⟩
  | 17 => ⟨S_, .f32⟩
  | 18 => ⟨S18432, .f32⟩
  | 19 => ⟨S18432, .f32⟩
  | 20 => ⟨S18432, .f32⟩
  | 21 => ⟨S18432, .i32⟩
  | 22 => ⟨S_, .i32⟩
  | 23 => ⟨S18432, .i32⟩
  | 24 => ⟨S18432, .i32⟩
  | 25 => ⟨S_, .i32⟩
  | 26 => ⟨S_, .i32⟩
  | 27 => ⟨S_, .i32⟩
  | 28 => ⟨S_, .i32⟩
  | 29 => ⟨S_, .i32⟩
  | 30 => ⟨S6144x18432, .i32⟩
  | 31 => ⟨S6144x18432, .i32⟩
  | 32 => ⟨S_, .i32⟩
  | 33 => ⟨S6144x18432, .i32⟩
  | 34 => ⟨S6144x18432, .i32⟩
  | 35 => ⟨S1x18432, .i32⟩
  | 36 => ⟨S6144x18432, .i32⟩
  | 37 => ⟨S6144x18432, .i32⟩
  | 38 => ⟨S_, .i32⟩
  | 39 => ⟨S18432, .i32⟩
  | 40 => ⟨S18432, .i32⟩
  | 41 => ⟨S_, .i32⟩
  | 42 => ⟨S18432, .i32⟩
  | 43 => ⟨S18432, .i32⟩
  | 44 => ⟨S1x18432, .i32⟩
  | 45 => ⟨S6144x18432, .i32⟩
  | 46 => ⟨S6144x18432, .i32⟩
  | 47 => ⟨S1x18432, .i32⟩
  | 48 => ⟨S6144x18432, .i32⟩
  | 49 => ⟨S6144x18432, .i32⟩
  | 50 => ⟨S_, .i32⟩
  | 51 => ⟨S_, .i32⟩
  | 52 => ⟨S_, .i32⟩
  | 53 => ⟨S6144x18432, .i32⟩
  | 54 => ⟨S6144x18432, .i32⟩
  | 55 => ⟨S_, .i32⟩
  | 56 => ⟨S6144x18432, .i32⟩
  | 57 => ⟨S6144x18432, .i32⟩
  | 58 => ⟨S6144x18432, .i8⟩
  | _ => ⟨S3x2048x7168, .i8⟩

abbrev hbmTy (i : Nat) : BufTy := match i / 128 with
  | 0 => hbmTy0_0 i
  | 1 => hbmTy0_1 i
  | 2 => hbmTy0_2 i
  | 3 => hbmTy0_3 i
  | _ => ⟨S3x2048x7168, .i8⟩

abbrev bufTy : (tb : Table) → Fin (tcTables nBuf tb) → BufTy
  | .hbm, ⟨i, _⟩ => hbmTy i
  | _, _ => ⟨S3x2048x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_call1_v0 : Ref sig .tc := ⟨.hbm, 60, rfl⟩
abbrev main_call1_v1 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_c_12 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v44 : Ref sig .tc := ⟨.hbm, 77, rfl⟩
abbrev main_c_13 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_14 : Ref sig .tc := ⟨.hbm, 84, rfl⟩
abbrev main_v50 : Ref sig .tc := ⟨.hbm, 85, rfl⟩
abbrev main_v51 : Ref sig .tc := ⟨.hbm, 86, rfl⟩
abbrev main_c_15 : Ref sig .tc := ⟨.hbm, 87, rfl⟩
abbrev main_c_16 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v52 : Ref sig .tc := ⟨.hbm, 94, rfl⟩
abbrev main_c_17 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_18 : Ref sig .tc := ⟨.hbm, 100, rfl⟩
abbrev main_v57 : Ref sig .tc := ⟨.hbm, 101, rfl⟩
abbrev main_v58 : Ref sig .tc := ⟨.hbm, 102, rfl⟩
abbrev main_c_19 : Ref sig .tc := ⟨.hbm, 103, rfl⟩
abbrev main_v59 : Ref sig .tc := ⟨.hbm, 104, rfl⟩
abbrev main_v60 : Ref sig .tc := ⟨.hbm, 105, rfl⟩
abbrev main_c_20 : Ref sig .tc := ⟨.hbm, 106, rfl⟩
abbrev main_v61 : Ref sig .tc := ⟨.hbm, 107, rfl⟩
abbrev main_v62 : Ref sig .tc := ⟨.hbm, 108, rfl⟩
abbrev main_c_21 : Ref sig .tc := ⟨.hbm, 109, rfl⟩
abbrev main_c_22 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_v63 : Ref sig .tc := ⟨.hbm, 116, rfl⟩
abbrev main_c_23 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_c_24 : Ref sig .tc := ⟨.hbm, 123, rfl⟩
abbrev main_v69 : Ref sig .tc := ⟨.hbm, 124, rfl⟩
abbrev main_v70 : Ref sig .tc := ⟨.hbm, 125, rfl⟩
abbrev main_c_25 : Ref sig .tc := ⟨.hbm, 126, rfl⟩
abbrev main_c_26 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_v71 : Ref sig .tc := ⟨.hbm, 133, rfl⟩
abbrev main_c_27 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_28 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_cst_29 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_cst_30 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_c_31 : Ref sig .tc := ⟨.hbm, 156, rfl⟩
abbrev main_v90 : Ref sig .tc := ⟨.hbm, 157, rfl⟩
abbrev main_v91 : Ref sig .tc := ⟨.hbm, 158, rfl⟩
abbrev main_c_32 : Ref sig .tc := ⟨.hbm, 159, rfl⟩
abbrev main_v92 : Ref sig .tc := ⟨.hbm, 160, rfl⟩
abbrev main_v93 : Ref sig .tc := ⟨.hbm, 161, rfl⟩
abbrev main_c_33 : Ref sig .tc := ⟨.hbm, 162, rfl⟩
abbrev main_c_34 : Ref sig .tc := ⟨.hbm, 163, rfl⟩
abbrev main_call6_v0 : Ref sig .tc := ⟨.hbm, 164, rfl⟩
abbrev main_call6_v1 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_v94 : Ref sig .tc := ⟨.hbm, 169, rfl⟩
abbrev main_c_35 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_c_36 : Ref sig .tc := ⟨.hbm, 180, rfl⟩
abbrev main_v104 : Ref sig .tc := ⟨.hbm, 181, rfl⟩
abbrev main_c_37 : Ref sig .tc := ⟨.hbm, 182, rfl⟩
abbrev main_v105 : Ref sig .tc := ⟨.hbm, 183, rfl⟩
abbrev main_v106 : Ref sig .tc := ⟨.hbm, 184, rfl⟩
abbrev main_cst_38 : Ref sig .tc := ⟨.hbm, 185, rfl⟩
abbrev main_v107 : Ref sig .tc := ⟨.hbm, 186, rfl⟩
abbrev main_v108 : Ref sig .tc := ⟨.hbm, 187, rfl⟩
abbrev main_cst_39 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_c_40 : Ref sig .tc := ⟨.hbm, 192, rfl⟩
abbrev main_call7_v0 : Ref sig .tc := ⟨.hbm, 193, rfl⟩
abbrev main_call7_v1 : Ref sig .tc := ⟨.hbm, 194, rfl⟩
abbrev main_v112 : Ref sig .tc := ⟨.hbm, 195, rfl⟩
abbrev main_v113 : Ref sig .tc := ⟨.hbm, 196, rfl⟩
abbrev main_c_41 : Ref sig .tc := ⟨.hbm, 197, rfl⟩
abbrev main_v114 : Ref sig .tc := ⟨.hbm, 198, rfl⟩
abbrev main_v115 : Ref sig .tc := ⟨.hbm, 199, rfl⟩
abbrev main_c_42 : Ref sig .tc := ⟨.hbm, 200, rfl⟩
abbrev main_v116 : Ref sig .tc := ⟨.hbm, 201, rfl⟩
abbrev main_v117 : Ref sig .tc := ⟨.hbm, 202, rfl⟩
abbrev main_c_43 : Ref sig .tc := ⟨.hbm, 203, rfl⟩
abbrev main_c_44 : Ref sig .tc := ⟨.hbm, 204, rfl⟩
abbrev main_call8_v0 : Ref sig .tc := ⟨.hbm, 205, rfl⟩
abbrev main_call8_v1 : Ref sig .tc := ⟨.hbm, 206, rfl⟩
abbrev main_call8_v2 : Ref sig .tc := ⟨.hbm, 207, rfl⟩
abbrev main_call8_v3 : Ref sig .tc := ⟨.hbm, 208, rfl⟩
abbrev main_call8_v4 : Ref sig .tc := ⟨.hbm, 209, rfl⟩
abbrev main_v118 : Ref sig .tc := ⟨.hbm, 210, rfl⟩
abbrev main_c_45 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_c_46 : Ref sig .tc := ⟨.hbm, 217, rfl⟩
abbrev main_v124 : Ref sig .tc := ⟨.hbm, 218, rfl⟩
abbrev main_v125 : Ref sig .tc := ⟨.hbm, 219, rfl⟩
abbrev main_c_47 : Ref sig .tc := ⟨.hbm, 220, rfl⟩
abbrev main_c_48 : Ref sig .tc := ⟨.hbm, 221, rfl⟩
abbrev main_call9_v0 : Ref sig .tc := ⟨.hbm, 222, rfl⟩
abbrev main_call9_v1 : Ref sig .tc := ⟨.hbm, 223, rfl⟩
abbrev main_call9_v2 : Ref sig .tc := ⟨.hbm, 224, rfl⟩
abbrev main_call9_v3 : Ref sig .tc := ⟨.hbm, 225, rfl⟩
abbrev main_call9_v4 : Ref sig .tc := ⟨.hbm, 226, rfl⟩
abbrev main_v126 : Ref sig .tc := ⟨.hbm, 227, rfl⟩
abbrev main_c_49 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_c_50 : Ref sig .tc := ⟨.hbm, 233, rfl⟩
abbrev main_v131 : Ref sig .tc := ⟨.hbm, 234, rfl⟩
abbrev main_v132 : Ref sig .tc := ⟨.hbm, 235, rfl⟩
abbrev main_c_51 : Ref sig .tc := ⟨.hbm, 236, rfl⟩
abbrev main_v133 : Ref sig .tc := ⟨.hbm, 237, rfl⟩
abbrev main_v134 : Ref sig .tc := ⟨.hbm, 238, rfl⟩
abbrev main_c_52 : Ref sig .tc := ⟨.hbm, 239, rfl⟩
abbrev main_v135 : Ref sig .tc := ⟨.hbm, 240, rfl⟩
abbrev main_v136 : Ref sig .tc := ⟨.hbm, 241, rfl⟩
abbrev main_c_53 : Ref sig .tc := ⟨.hbm, 242, rfl⟩
abbrev main_c_54 : Ref sig .tc := ⟨.hbm, 243, rfl⟩
abbrev main_call10_v0 : Ref sig .tc := ⟨.hbm, 244, rfl⟩
abbrev main_call10_v1 : Ref sig .tc := ⟨.hbm, 245, rfl⟩
abbrev main_call10_v2 : Ref sig .tc := ⟨.hbm, 246, rfl⟩
abbrev main_call10_v3 : Ref sig .tc := ⟨.hbm, 247, rfl⟩
abbrev main_call10_v4 : Ref sig .tc := ⟨.hbm, 248, rfl⟩
abbrev main_v137 : Ref sig .tc := ⟨.hbm, 249, rfl⟩
abbrev main_c_55 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_c_56 : Ref sig .tc := ⟨.hbm, 256, rfl⟩
abbrev main_v143 : Ref sig .tc := ⟨.hbm, 257, rfl⟩
abbrev main_v144 : Ref sig .tc := ⟨.hbm, 258, rfl⟩
abbrev main_c_57 : Ref sig .tc := ⟨.hbm, 259, rfl⟩
abbrev main_c_58 : Ref sig .tc := ⟨.hbm, 260, rfl⟩
abbrev main_call11_v0 : Ref sig .tc := ⟨.hbm, 261, rfl⟩
abbrev main_call11_v1 : Ref sig .tc := ⟨.hbm, 262, rfl⟩
abbrev main_call11_v2 : Ref sig .tc := ⟨.hbm, 263, rfl⟩
abbrev main_call11_v3 : Ref sig .tc := ⟨.hbm, 264, rfl⟩
abbrev main_call11_v4 : Ref sig .tc := ⟨.hbm, 265, rfl⟩
abbrev main_v145 : Ref sig .tc := ⟨.hbm, 266, rfl⟩
abbrev main_c_59 : Ref sig .tc := ⟨.hbm, 267, rfl⟩
abbrev main_v146 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_cst_60 : Ref sig .tc := ⟨.hbm, 272, rfl⟩
abbrev main_v150 : Ref sig .tc := ⟨.hbm, 273, rfl⟩
abbrev main_v151 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_cst_61 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_c_62 : Ref sig .tc := ⟨.hbm, 282, rfl⟩
abbrev main_v158 : Ref sig .tc := ⟨.hbm, 283, rfl⟩
abbrev main_v159 : Ref sig .tc := ⟨.hbm, 284, rfl⟩
abbrev main_c_63 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_c_64 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_v169 : Ref sig .tc := ⟨.hbm, 296, rfl⟩
abbrev main_v170 : Ref sig .tc := ⟨.hbm, 297, rfl⟩
abbrev main_call12_v0 : Ref sig .tc := ⟨.hbm, 298, rfl⟩
abbrev main_v171 : Ref sig .tc := ⟨.hbm, 299, rfl⟩
abbrev main_v172 : Ref sig .tc := ⟨.hbm, 300, rfl⟩
abbrev main_v173 : Ref sig .tc := ⟨.hbm, 301, rfl⟩
abbrev main_v174 : Ref sig .tc := ⟨.hbm, 302, rfl⟩
abbrev main_v175 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_c_65 : Ref sig .tc := ⟨.hbm, 324, rfl⟩
abbrev main_v196 : Ref sig .tc := ⟨.hbm, 325, rfl⟩
abbrev main_v197 : Ref sig .tc := ⟨.hbm, 326, rfl⟩
abbrev main_c_66 : Ref sig .tc := ⟨.hbm, 327, rfl⟩
abbrev main_v198 : Ref sig .tc := ⟨.hbm, 328, rfl⟩
abbrev main_v199 : Ref sig .tc := ⟨.hbm, 329, rfl⟩
abbrev main_c_67 : Ref sig .tc := ⟨.hbm, 330, rfl⟩
abbrev main_c_68 : Ref sig .tc := ⟨.hbm, 331, rfl⟩
abbrev main_call13_v0 : Ref sig .tc := ⟨.hbm, 332, rfl⟩
abbrev main_call13_v1 : Ref sig .tc := ⟨.hbm, 333, rfl⟩
abbrev main_call13_v2 : Ref sig .tc := ⟨.hbm, 334, rfl⟩
abbrev main_call13_v3 : Ref sig .tc := ⟨.hbm, 335, rfl⟩
abbrev main_call13_v4 : Ref sig .tc := ⟨.hbm, 336, rfl⟩
abbrev main_v200 : Ref sig .tc := ⟨.hbm, 337, rfl⟩
abbrev main_c_69 : Ref sig .tc := ⟨.hbm, 338, rfl⟩
abbrev main_v201 : Ref sig .tc := ⟨.hbm, 339, rfl⟩
abbrev main_v202 : Ref sig .tc := ⟨.hbm, 340, rfl⟩
abbrev main_v203 : Ref sig .tc := ⟨.hbm, 341, rfl⟩
abbrev main_v204 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_c_70 : Ref sig .tc := ⟨.hbm, 348, rfl⟩
abbrev main_v210 : Ref sig .tc := ⟨.hbm, 349, rfl⟩
abbrev main_c_71 : Ref sig .tc := ⟨.hbm, 350, rfl⟩
abbrev main_v211 : Ref sig .tc := ⟨.hbm, 351, rfl⟩
abbrev main_v212 : Ref sig .tc := ⟨.hbm, 352, rfl⟩
abbrev main_cst_72 : Ref sig .tc := ⟨.hbm, 353, rfl⟩
abbrev main_v213 : Ref sig .tc := ⟨.hbm, 354, rfl⟩
abbrev main_v214 : Ref sig .tc := ⟨.hbm, 355, rfl⟩
abbrev main_cst_73 : Ref sig .tc := ⟨.hbm, 356, rfl⟩
abbrev main_v215 : Ref sig .tc := ⟨.hbm, 357, rfl⟩
abbrev main_v216 : Ref sig .tc := ⟨.hbm, 358, rfl⟩
abbrev main_v217 : Ref sig .tc := ⟨.hbm, 359, rfl⟩
abbrev main_c_74 : Ref sig .tc := ⟨.hbm, 360, rfl⟩
abbrev main_call14_v0 : Ref sig .tc := ⟨.hbm, 361, rfl⟩
abbrev main_call14_v1 : Ref sig .tc := ⟨.hbm, 362, rfl⟩
abbrev main_v218 : Ref sig .tc := ⟨.hbm, 363, rfl⟩
abbrev main_v219 : Ref sig .tc := ⟨.hbm, 364, rfl⟩
abbrev main_c_75 : Ref sig .tc := ⟨.hbm, 365, rfl⟩
abbrev main_v220 : Ref sig .tc := ⟨.hbm, 366, rfl⟩
abbrev main_v221 : Ref sig .tc := ⟨.hbm, 367, rfl⟩
abbrev main_c_76 : Ref sig .tc := ⟨.hbm, 368, rfl⟩
abbrev main_v222 : Ref sig .tc := ⟨.hbm, 369, rfl⟩
abbrev main_v223 : Ref sig .tc := ⟨.hbm, 370, rfl⟩
abbrev main_c_77 : Ref sig .tc := ⟨.hbm, 371, rfl⟩
abbrev main_c_78 : Ref sig .tc := ⟨.hbm, 372, rfl⟩
abbrev main_call15_v0 : Ref sig .tc := ⟨.hbm, 373, rfl⟩
abbrev main_call15_v1 : Ref sig .tc := ⟨.hbm, 374, rfl⟩
abbrev main_call15_v2 : Ref sig .tc := ⟨.hbm, 375, rfl⟩
abbrev main_call15_v3 : Ref sig .tc := ⟨.hbm, 376, rfl⟩
abbrev main_call15_v4 : Ref sig .tc := ⟨.hbm, 377, rfl⟩
abbrev main_v224 : Ref sig .tc := ⟨.hbm, 378, rfl⟩
abbrev main_c_79 : Ref sig .tc := ⟨.hbm, 379, rfl⟩
abbrev main_v225 : Ref sig .tc := ⟨.hbm, 380, rfl⟩
abbrev main_v226 : Ref sig .tc := ⟨.hbm, 381, rfl⟩
abbrev main_v227 : Ref sig .tc := ⟨.hbm, 382, rfl⟩
abbrev main_v228 : Ref sig .tc := ⟨.hbm, 383, rfl⟩
abbrev main_v229 : Ref sig .tc := ⟨.hbm, 384, rfl⟩
abbrev main_c_80 : Ref sig .tc := ⟨.hbm, 385, rfl⟩
abbrev main_v230 : Ref sig .tc := ⟨.hbm, 386, rfl⟩
abbrev main_v231 : Ref sig .tc := ⟨.hbm, 387, rfl⟩
abbrev main_c_81 : Ref sig .tc := ⟨.hbm, 388, rfl⟩
abbrev main_c_82 : Ref sig .tc := ⟨.hbm, 389, rfl⟩
abbrev main_call16_v0 : Ref sig .tc := ⟨.hbm, 390, rfl⟩
abbrev main_call16_v1 : Ref sig .tc := ⟨.hbm, 391, rfl⟩
abbrev main_call16_v2 : Ref sig .tc := ⟨.hbm, 392, rfl⟩
abbrev main_call16_v3 : Ref sig .tc := ⟨.hbm, 393, rfl⟩
abbrev main_call16_v4 : Ref sig .tc := ⟨.hbm, 394, rfl⟩
abbrev main_v232 : Ref sig .tc := ⟨.hbm, 395, rfl⟩
abbrev main_c_83 : Ref sig .tc := ⟨.hbm, 396, rfl⟩
abbrev main_v233 : Ref sig .tc := ⟨.hbm, 397, rfl⟩
abbrev main_v234 : Ref sig .tc := ⟨.hbm, 398, rfl⟩
abbrev main_v235 : Ref sig .tc := ⟨.hbm, 399, rfl⟩
abbrev main_v236 : Ref sig .tc := ⟨.hbm, 400, rfl⟩
abbrev main_cst_84 : Ref sig .tc := ⟨.hbm, 401, rfl⟩
abbrev main_v237 : Ref sig .tc := ⟨.hbm, 402, rfl⟩
abbrev main_v238 : Ref sig .tc := ⟨.hbm, 403, rfl⟩
abbrev main_v239 : Ref sig .tc := ⟨.hbm, 404, rfl⟩
abbrev main_v240 : Ref sig .tc := ⟨.hbm, 405, rfl⟩
abbrev main_c_85 : Ref sig .tc := ⟨.hbm, 406, rfl⟩
abbrev main_v241 : Ref sig .tc := ⟨.hbm, 407, rfl⟩
abbrev main_v242 : Ref sig .tc := ⟨.hbm, 408, rfl⟩
abbrev main_c_86 : Ref sig .tc := ⟨.hbm, 409, rfl⟩
abbrev main_c_87 : Ref sig .tc := ⟨.hbm, 410, rfl⟩
abbrev main_v243 : Ref sig .tc := ⟨.hbm, 411, rfl⟩
abbrev main_c_88 : Ref sig .tc := ⟨.hbm, 412, rfl⟩
abbrev main_v244 : Ref sig .tc := ⟨.hbm, 413, rfl⟩
abbrev main_v245 : Ref sig .tc := ⟨.hbm, 414, rfl⟩
abbrev main_v246 : Ref sig .tc := ⟨.hbm, 415, rfl⟩
abbrev main_c_89 : Ref sig .tc := ⟨.hbm, 416, rfl⟩
abbrev main_v247 : Ref sig .tc := ⟨.hbm, 417, rfl⟩
abbrev main_v248 : Ref sig .tc := ⟨.hbm, 418, rfl⟩
abbrev main_v249 : Ref sig .tc := ⟨.hbm, 419, rfl⟩
abbrev main_v250 : Ref sig .tc := ⟨.hbm, 420, rfl⟩
abbrev main_v251 : Ref sig .tc := ⟨.hbm, 421, rfl⟩
abbrev main_c_90 : Ref sig .tc := ⟨.hbm, 422, rfl⟩
abbrev main_v252 : Ref sig .tc := ⟨.hbm, 423, rfl⟩
abbrev main_v253 : Ref sig .tc := ⟨.hbm, 424, rfl⟩
abbrev main_c_91 : Ref sig .tc := ⟨.hbm, 425, rfl⟩
abbrev main_v254 : Ref sig .tc := ⟨.hbm, 426, rfl⟩
abbrev main_v255 : Ref sig .tc := ⟨.hbm, 427, rfl⟩
abbrev main_v256 : Ref sig .tc := ⟨.hbm, 428, rfl⟩
abbrev main_v257 : Ref sig .tc := ⟨.hbm, 429, rfl⟩
abbrev main_v258 : Ref sig .tc := ⟨.hbm, 430, rfl⟩
abbrev main_v259 : Ref sig .tc := ⟨.hbm, 431, rfl⟩
abbrev main_v260 : Ref sig .tc := ⟨.hbm, 432, rfl⟩
abbrev main_v261 : Ref sig .tc := ⟨.hbm, 433, rfl⟩
abbrev main_c_92 : Ref sig .tc := ⟨.hbm, 434, rfl⟩
abbrev main_c_93 : Ref sig .tc := ⟨.hbm, 435, rfl⟩
abbrev main_call18_v0 : Ref sig .tc := ⟨.hbm, 436, rfl⟩
abbrev main_call18_v1 : Ref sig .tc := ⟨.hbm, 437, rfl⟩
abbrev main_call18_v2 : Ref sig .tc := ⟨.hbm, 438, rfl⟩
abbrev main_call18_v3 : Ref sig .tc := ⟨.hbm, 439, rfl⟩
abbrev main_call18_v4 : Ref sig .tc := ⟨.hbm, 440, rfl⟩
abbrev main_v262 : Ref sig .tc := ⟨.hbm, 441, rfl⟩
abbrev main_v263 : Ref sig .tc := ⟨.hbm, 442, rfl⟩

abbrev nD : Nat := 1
abbrev τ : Topo := Topo.v7x

variable {F : FTy → Type} [FloatOps F]
-- ==== Ffn2.lean ====
abbrev S3x2048x7168 : Shape := ⟨3, ![3, 2048, 7168]⟩
abbrev S_ : Shape := ⟨0, ![]⟩
abbrev S6144x18432 : Shape := ⟨2, ![6144, 18432]⟩
abbrev S18432x7168 : Shape := ⟨2, ![18432, 7168]⟩
abbrev S7168 : Shape := ⟨1, ![7168]⟩
abbrev S6144x7168 : Shape := ⟨2, ![6144, 7168]⟩
abbrev S254 : Shape := ⟨1, ![254]⟩
abbrev S7168x1 : Shape := ⟨2, ![7168, 1]⟩
abbrev S1x254 : Shape := ⟨2, ![1, 254]⟩
abbrev S7168x254 : Shape := ⟨2, ![7168, 254]⟩
abbrev S1x7168 : Shape := ⟨2, ![1, 7168]⟩
abbrev S8x7168 : Shape := ⟨2, ![8, 7168]⟩
abbrev S1 : Shape := ⟨1, ![1]⟩
abbrev S3 : Shape := ⟨1, ![3]⟩
abbrev S1024x1024 : Shape := ⟨2, ![1024, 1024]⟩
abbrev S8x1024 : Shape := ⟨2, ![8, 1024]⟩
abbrev S1x1024 : Shape := ⟨2, ![1, 1024]⟩

abbrev nBuf : Space → Nat
  | .hbm => 216
  | .vmem => 11
  | .smem => 1
  | _ => 0

abbrev hbmTy0_0 (i : Nat) : BufTy := match i % 128 with
  | 0 => ⟨S3x2048x7168, .i8⟩
  | 1 => ⟨S_, .f32⟩
  | 2 => ⟨S6144x18432, .i8⟩
  | 3 => ⟨S_, .f32⟩
  | 4 => ⟨S18432x7168, .i8⟩
  | 5 => ⟨S7168, .f32⟩
  | 6 => ⟨S7168, .i32⟩
  | 7 => ⟨S_, .f32⟩
  | 8 => ⟨S6144x7168, .i8⟩
  | 9 => ⟨S7168, .f32⟩
  | 10 => ⟨S7168, .f32⟩
  | 11 => ⟨S7168, .f32⟩
  | 12 => ⟨S7168, .f32⟩
  | 13 => ⟨S7168, .f32⟩
  | 14 => ⟨S254, .i32⟩
  | 15 => ⟨S_, .i32⟩
  | 16 => ⟨S254, .i32⟩
  | 17 => ⟨S254, .i32⟩
  | 18 => ⟨S_, .i32⟩
  | 19 => ⟨S254, .i32⟩
  | 20 => ⟨S254, .i32⟩
  | 21 => ⟨S_, .i32⟩
  | 22 => ⟨S_, .i32⟩
  | 23 => ⟨S_, .i32⟩
  | 24 => ⟨S254, .i32⟩
  | 25 => ⟨S254, .i32⟩
  | 26 => ⟨S_, .i32⟩
  | 27 => ⟨S254, .i32⟩
  | 28 => ⟨S254, .i32⟩
  | 29 => ⟨S_, .i32⟩
  | 30 => ⟨S254, .i32⟩
  | 31 => ⟨S254, .i32⟩
  | 32 => ⟨S254, .f32⟩
  | 33 => ⟨S7168x1, .f32⟩
  | 34 => ⟨S1x254, .f32⟩
  | 35 => ⟨S7168x254, .f32⟩
  | 36 => ⟨S7168x254, .f32⟩
  | 37 => ⟨S7168x254, .i1⟩
  | 38 => ⟨S7168x254, .i32⟩
  | 39 => ⟨S_, .i32⟩
  | 40 => ⟨S7168, .i32⟩
  | 41 => ⟨S_, .i32⟩
  | 42 => ⟨S7168, .i32⟩
  | 43 => ⟨S7168, .i32⟩
  | 44 => ⟨S_, .f32⟩
  | 45 => ⟨S7168, .f32⟩
  | 46 => ⟨S7168, .i1⟩
  | 47 => ⟨S_, .f32⟩
  | 48 => ⟨S7168, .f32⟩
  | 49 => ⟨S7168, .i1⟩
  | 50 => ⟨S7168, .i1⟩
  | 51 => ⟨S_, .i32⟩
  | 52 => ⟨S_, .i32⟩
  | 53 => ⟨S7168, .i32⟩
  | 54 => ⟨S7168, .i32⟩
  | 55 => ⟨S7168, .i32⟩
  | 56 => ⟨S_, .i32⟩
  | 57 => ⟨S7168, .i32⟩
  | 58 => ⟨S7168, .i32⟩
  | 59 => ⟨S_, .i32⟩
  | 60 => ⟨S7168, .i32⟩
  | 61 => ⟨S7168, .i32⟩
  | 62 => ⟨S_, .i32⟩
  | 63 => ⟨S_, .i32⟩
  | 64 => ⟨S_, .i32⟩
  | 65 => ⟨S7168, .i32⟩
  | 66 => ⟨S7168, .i32⟩
  | 67 => ⟨S_, .i32⟩
  | 68 => ⟨S7168, .i32⟩
  | 69 => ⟨S7168, .i32⟩
  | 70 => ⟨S_, .i32⟩
  | 71 => ⟨S7168, .i32⟩
  | 72 => ⟨S7168, .i32⟩
  | 73 => ⟨S7168, .f32⟩
  | 74 => ⟨S7168, .f32⟩
  | 75 => ⟨S7168, .i32⟩
  | 76 => ⟨S_, .i32⟩
  | 77 => ⟨S7168, .i32⟩
  | 78 => ⟨S7168, .i32⟩
  | 79 => ⟨S_, .i32⟩
  | 80 => ⟨S_, .i32⟩
  | 81 => ⟨S_, .i32⟩
  | 82 => ⟨S7168, .i32⟩
  | 83 => ⟨S7168, .i32⟩
  | 84 => ⟨S_, .i32⟩
  | 85 => ⟨S7168, .i32⟩
  | 86 => ⟨S7168, .i32⟩
  | 87 => ⟨S_, .i32⟩
  | 88 => ⟨S7168, .i32⟩
  | 89 => ⟨S7168, .i32⟩
  | 90 => ⟨S7168, .f32⟩
  | 91 => ⟨S7168, .f32⟩
  | 92 => ⟨S_, .f32⟩
  | 93 => ⟨S7168, .f32⟩
  | 94 => ⟨S7168, .f32⟩
  | 95 => ⟨S7168, .f32⟩
  | 96 => ⟨S7168, .i32⟩
  | 97 => ⟨S_, .i32⟩
  | 98 => ⟨S7168, .i32⟩
  | 99 => ⟨S7168, .i32⟩
  | 100 => ⟨S_, .i32⟩
  | 101 => ⟨S7168, .i32⟩
  | 102 => ⟨S7168, .i32⟩
  | 103 => ⟨S_, .i32⟩
  | 104 => ⟨S7168, .i32⟩
  | 105 => ⟨S7168, .i32⟩
  | 106 => ⟨S_, .i32⟩
  | 107 => ⟨S7168, .i32⟩
  | 108 => ⟨S7168, .i1⟩
  | 109 => ⟨S_, .i32⟩
  | 110 => ⟨S7168, .i32⟩
  | 111 => ⟨S7168, .i1⟩
  | 112 => ⟨S7168, .i1⟩
  | 113 => ⟨S_, .i32⟩
  | 114 => ⟨S_, .i32⟩
  | 115 => ⟨S7168, .i32⟩
  | 116 => ⟨S7168, .i32⟩
  | 117 => ⟨S_, .i32⟩
  | 118 => ⟨S7168, .i32⟩
  | 119 => ⟨S1x7168, .i32⟩
  | 120 => ⟨S1x7168, .i32⟩
  | 121 => ⟨S1x7168, .i32⟩
  | 122 => ⟨S1x7168, .i32⟩
  | 123 => ⟨S1x7168, .i32⟩
  | 124 => ⟨S1x7168, .i32⟩
  | 125 => ⟨S1x7168, .i32⟩
  | 126 => ⟨S1x7168, .i32⟩
  | 127 => ⟨S8x7168, .i32⟩
  | _ => ⟨S3x2048x7168, .i8⟩

abbrev hbmTy0_1 (i : Nat) : BufTy := match i % 128 with
  | 0 => ⟨S_, .f32⟩
  | 1 => ⟨S_, .f32⟩
  | 2 => ⟨S254, .i32⟩
  | 3 => ⟨S_, .i32⟩
  | 4 => ⟨S254, .i32⟩
  | 5 => ⟨S254, .i32⟩
  | 6 => ⟨S_, .i32⟩
  | 7 => ⟨S254, .i32⟩
  | 8 => ⟨S254, .i32⟩
  | 9 => ⟨S_, .i32⟩
  | 10 => ⟨S_, .i32⟩
  | 11 => ⟨S_, .i32⟩
  | 12 => ⟨S254, .i32⟩
  | 13 => ⟨S254, .i32⟩
  | 14 => ⟨S_, .i32⟩
  | 15 => ⟨S254, .i32⟩
  | 16 => ⟨S254, .i32⟩
  | 17 => ⟨S_, .i32⟩
  | 18 => ⟨S254, .i32⟩
  | 19 => ⟨S254, .i32⟩
  | 20 => ⟨S254, .f32⟩
  | 21 => ⟨S1, .f32⟩
  | 22 => ⟨S254, .f32⟩
  | 23 => ⟨S254, .i1⟩
  | 24 => ⟨S254, .i32⟩
  | 25 => ⟨S_, .i32⟩
  | 26 => ⟨S_, .i32⟩
  | 27 => ⟨S_, .i32⟩
  | 28 => ⟨S_, .i32⟩
  | 29 => ⟨S_, .f32⟩
  | 30 => ⟨S_, .i1⟩
  | 31 => ⟨S_, .f32⟩
  | 32 => ⟨S_, .i1⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .f32⟩
  | 51 => ⟨S_, .f32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .f32⟩
  | 64 => ⟨S_, .f32⟩
  | 65 => ⟨S_, .f32⟩
  | 66 => ⟨S_, .f32⟩
  | 67 => ⟨S_, .f32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i1⟩
  | 79 => ⟨S_, .i1⟩
  | 80 => ⟨S_, .i32⟩
  | 81 => ⟨S_, .i32⟩
  | 82 => ⟨S_, .i32⟩
  | 83 => ⟨S1, .i32⟩
  | 84 => ⟨S1, .i32⟩
  | 85 => ⟨S1, .i32⟩
  | 86 => ⟨S3, .i32⟩
  | 87 => ⟨S6144x7168, .i8⟩
  | _ => ⟨S3x2048x7168, .i8⟩

abbrev hbmTy (i : Nat) : BufTy := match i / 128 with
  | 0 => hbmTy0_0 i
  | 1 => hbmTy0_1 i
  | _ => ⟨S3x2048x7168, .i8⟩

abbrev bufTy : (tb : Table) → Fin (tcTables nBuf tb) → BufTy
  | .hbm, ⟨i, _⟩ => hbmTy i
  | .local _ .vmem, ⟨0, _⟩ => ⟨S1024x1024, .i8⟩
  | .local _ .vmem, ⟨1, _⟩ => ⟨S1024x1024, .i8⟩
  | .local _ .vmem, ⟨2, _⟩ => ⟨S1024x1024, .i8⟩
  | .local _ .vmem, ⟨3, _⟩ => ⟨S1024x1024, .i8⟩
  | .local _ .vmem, ⟨4, _⟩ => ⟨S8x1024, .i32⟩
  | .local _ .vmem, ⟨5, _⟩ => ⟨S8x1024, .i32⟩
  | .local _ .vmem, ⟨6, _⟩ => ⟨S1024x1024, .i8⟩
  | .local _ .vmem, ⟨7, _⟩ => ⟨S1024x1024, .i8⟩
  | .local _ .vmem, ⟨8, _⟩ => ⟨S1024x1024, .i8⟩
  | .local _ .vmem, ⟨9, _⟩ => ⟨S1024x1024, .i8⟩
  | .local _ .vmem, ⟨10, _⟩ => ⟨S1024x1024, .f32⟩
  | .local _ .smem, ⟨0, _⟩ => ⟨S3, .i32⟩
  | _, _ => ⟨S3x2048x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_call1_v0 : Ref sig .tc := ⟨.hbm, 52, rfl⟩
abbrev main_call1_v1 : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_c_9 : Ref sig .tc := ⟨.hbm, 59, rfl⟩
abbrev main_v33 : Ref sig .tc := ⟨.hbm, 60, rfl⟩
abbrev main_v34 : Ref sig .tc := ⟨.hbm, 61, rfl⟩
abbrev main_c_10 : Ref sig .tc := ⟨.hbm, 62, rfl⟩
abbrev main_c_11 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v35 : Ref sig .tc := ⟨.hbm, 69, rfl⟩
abbrev main_c_12 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_13 : Ref sig .tc := ⟨.hbm, 76, rfl⟩
abbrev main_v41 : Ref sig .tc := ⟨.hbm, 77, rfl⟩
abbrev main_v42 : Ref sig .tc := ⟨.hbm, 78, rfl⟩
abbrev main_c_14 : Ref sig .tc := ⟨.hbm, 79, rfl⟩
abbrev main_c_15 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v43 : Ref sig .tc := ⟨.hbm, 86, rfl⟩
abbrev main_c_16 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_17 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_18 : Ref sig .tc := ⟨.hbm, 97, rfl⟩
abbrev main_v52 : Ref sig .tc := ⟨.hbm, 98, rfl⟩
abbrev main_v53 : Ref sig .tc := ⟨.hbm, 99, rfl⟩
abbrev main_c_19 : Ref sig .tc := ⟨.hbm, 100, rfl⟩
abbrev main_v54 : Ref sig .tc := ⟨.hbm, 101, rfl⟩
abbrev main_v55 : Ref sig .tc := ⟨.hbm, 102, rfl⟩
abbrev main_c_20 : Ref sig .tc := ⟨.hbm, 103, rfl⟩
abbrev main_v56 : Ref sig .tc := ⟨.hbm, 104, rfl⟩
abbrev main_v57 : Ref sig .tc := ⟨.hbm, 105, rfl⟩
abbrev main_c_21 : Ref sig .tc := ⟨.hbm, 106, rfl⟩
abbrev main_v58 : Ref sig .tc := ⟨.hbm, 107, rfl⟩
abbrev main_v59 : Ref sig .tc := ⟨.hbm, 108, rfl⟩
abbrev main_c_22 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_c_23 : Ref sig .tc := ⟨.hbm, 113, rfl⟩
abbrev main_call5_v0 : Ref sig .tc := ⟨.hbm, 114, rfl⟩
abbrev main_call5_v1 : Ref sig .tc := ⟨.hbm, 115, rfl⟩
abbrev main_v63 : Ref sig .tc := ⟨.hbm, 116, rfl⟩
abbrev main_c_24 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_25 : Ref sig .tc := ⟨.hbm, 131, rfl⟩
abbrev main_v77 : Ref sig .tc := ⟨.hbm, 132, rfl⟩
abbrev main_v78 : Ref sig .tc := ⟨.hbm, 133, rfl⟩
abbrev main_c_26 : Ref sig .tc := ⟨.hbm, 134, rfl⟩
abbrev main_v79 : Ref sig .tc := ⟨.hbm, 135, rfl⟩
abbrev main_v80 : Ref sig .tc := ⟨.hbm, 136, rfl⟩
abbrev main_c_27 : Ref sig .tc := ⟨.hbm, 137, rfl⟩
abbrev main_c_28 : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_v81 : Ref sig .tc := ⟨.hbm, 144, rfl⟩
abbrev main_c_29 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_c_30 : Ref sig .tc := ⟨.hbm, 153, rfl⟩
abbrev main_v89 : Ref sig .tc := ⟨.hbm, 154, rfl⟩
abbrev main_c_31 : Ref sig .tc := ⟨.hbm, 155, rfl⟩
abbrev main_v90 : Ref sig .tc := ⟨.hbm, 156, rfl⟩
abbrev main_cst_32 : Ref sig .tc := ⟨.hbm, 157, rfl⟩
abbrev main_v91 : Ref sig .tc := ⟨.hbm, 158, rfl⟩
abbrev main_cst_33 : Ref sig .tc := ⟨.hbm, 159, rfl⟩
abbrev main_v92 : Ref sig .tc := ⟨.hbm, 160, rfl⟩
abbrev main_v93 : Ref sig .tc := ⟨.hbm, 161, rfl⟩
abbrev main_c_34 : Ref sig .tc := ⟨.hbm, 162, rfl⟩
abbrev main_call7_v0 : Ref sig .tc := ⟨.hbm, 163, rfl⟩
abbrev main_v94 : Ref sig .tc := ⟨.hbm, 164, rfl⟩
abbrev main_v95 : Ref sig .tc := ⟨.hbm, 165, rfl⟩
abbrev main_c_35 : Ref sig .tc := ⟨.hbm, 166, rfl⟩
abbrev main_v96 : Ref sig .tc := ⟨.hbm, 167, rfl⟩
abbrev main_c_36 : Ref sig .tc := ⟨.hbm, 168, rfl⟩
abbrev main_v97 : Ref sig .tc := ⟨.hbm, 169, rfl⟩
abbrev main_c_37 : Ref sig .tc := ⟨.hbm, 170, rfl⟩
abbrev main_c_38 : Ref sig .tc := ⟨.hbm, 171, rfl⟩
abbrev main_call8_v0 : Ref sig .tc := ⟨.hbm, 172, rfl⟩
abbrev main_call8_v1 : Ref sig .tc := ⟨.hbm, 173, rfl⟩
abbrev main_call8_v2 : Ref sig .tc := ⟨.hbm, 174, rfl⟩
abbrev main_v98 : Ref sig .tc := ⟨.hbm, 175, rfl⟩
abbrev main_c_39 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_c_40 : Ref sig .tc := ⟨.hbm, 181, rfl⟩
abbrev main_v103 : Ref sig .tc := ⟨.hbm, 182, rfl⟩
abbrev main_c_41 : Ref sig .tc := ⟨.hbm, 183, rfl⟩
abbrev main_c_42 : Ref sig .tc := ⟨.hbm, 184, rfl⟩
abbrev main_call9_v0 : Ref sig .tc := ⟨.hbm, 185, rfl⟩
abbrev main_call9_v1 : Ref sig .tc := ⟨.hbm, 186, rfl⟩
abbrev main_call9_v2 : Ref sig .tc := ⟨.hbm, 187, rfl⟩
abbrev main_v104 : Ref sig .tc := ⟨.hbm, 188, rfl⟩
abbrev main_c_43 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_cst_44 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_c_45 : Ref sig .tc := ⟨.hbm, 197, rfl⟩
abbrev main_v111 : Ref sig .tc := ⟨.hbm, 198, rfl⟩
abbrev main_c_46 : Ref sig .tc := ⟨.hbm, 199, rfl⟩
abbrev main_v112 : Ref sig .tc := ⟨.hbm, 200, rfl⟩
abbrev main_c_47 : Ref sig .tc := ⟨.hbm, 201, rfl⟩
abbrev main_v113 : Ref sig .tc := ⟨.hbm, 202, rfl⟩
abbrev main_c_48 : Ref sig .tc := ⟨.hbm, 203, rfl⟩
abbrev main_v114 : Ref sig .tc := ⟨.hbm, 204, rfl⟩
abbrev main_c_49 : Ref sig .tc := ⟨.hbm, 205, rfl⟩
abbrev main_v115 : Ref sig .tc := ⟨.hbm, 206, rfl⟩
abbrev main_v116 : Ref sig .tc := ⟨.hbm, 207, rfl⟩
abbrev main_c_50 : Ref sig .tc := ⟨.hbm, 208, rfl⟩
abbrev main_call11_v0 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![6, 7, 18], ![false, false, false]⟩

def k0_cond2 (i : grid0.Coords) : BitVec 1 :=
  let arg2 : BitVec 32 := BitVec.ofNat 32 (i 2).val
  let c17_i32 : BitVec 32 := 17#32
  let v13 : BitVec 1 := Scalar.cmpi .eq arg2 c17_i32
  let v14 : BitVec 32 := Scalar.extui v13
  let c0_i32_8 : BitVec 32 := 0#32
  let v15 : BitVec 1 := Scalar.cmpi .ne v14 c0_i32_8
  v15

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Ref2Ideal.lean ====
abbrev S3x2048x7168 : Shape := ⟨3, ![3, 2048, 7168]⟩
abbrev S_ : Shape := ⟨0, ![]⟩
abbrev S6144x18432 : Shape := ⟨2, ![6144, 18432]⟩
abbrev S18432x7168 : Shape := ⟨2, ![18432, 7168]⟩
abbrev S7168 : Shape := ⟨1, ![7168]⟩
abbrev S6144x7168 : Shape := ⟨2, ![6144, 7168]⟩
abbrev S1x7168 : Shape := ⟨2, ![1, 7168]⟩
abbrev S254 : Shape := ⟨1, ![254]⟩
abbrev S7168x1 : Shape := ⟨2, ![7168, 1]⟩
abbrev S1x254 : Shape := ⟨2, ![1, 254]⟩
abbrev S7168x254 : Shape := ⟨2, ![7168, 254]⟩
abbrev S1 : Shape := ⟨1, ![1]⟩

abbrev nBuf : Space → Nat
  | .hbm => 254
  | .vmem => 0
  | .smem => 0
  | _ => 0

abbrev hbmTy0_0 (i : Nat) : BufTy := match i % 128 with
  | 0 => ⟨S3x2048x7168, .i8⟩
  | 1 => ⟨S_, .f32⟩
  | 2 => ⟨S6144x18432, .i8⟩
  | 3 => ⟨S_, .f32⟩
  | 4 => ⟨S18432x7168, .i8⟩
  | 5 => ⟨S7168, .f32⟩
  | 6 => ⟨S7168, .i32⟩
  | 7 => ⟨S_, .f32⟩
  | 8 => ⟨S6144x7168, .i8⟩
  | 9 => ⟨S6144x18432, .i32⟩
  | 10 => ⟨S6144x18432, .bf16⟩
  | 11 => ⟨S18432x7168, .i32⟩
  | 12 => ⟨S18432x7168, .bf16⟩
  | 13 => ⟨S6144x7168, .f32⟩
  | 14 => ⟨S6144x7168, .i32⟩
  | 15 => ⟨S1x7168, .i32⟩
  | 16 => ⟨S6144x7168, .i32⟩
  | 17 => ⟨S6144x7168, .i32⟩
  | 18 => ⟨S7168, .f32⟩
  | 19 => ⟨S7168, .f32⟩
  | 20 => ⟨S7168, .f32⟩
  | 21 => ⟨S7168, .f32⟩
  | 22 => ⟨S7168, .f32⟩
  | 23 => ⟨S254, .i32⟩
  | 24 => ⟨S_, .i32⟩
  | 25 => ⟨S254, .i32⟩
  | 26 => ⟨S254, .i32⟩
  | 27 => ⟨S_, .i32⟩
  | 28 => ⟨S254, .i32⟩
  | 29 => ⟨S254, .i32⟩
  | 30 => ⟨S_, .i32⟩
  | 31 => ⟨S_, .i32⟩
  | 32 => ⟨S_, .i32⟩
  | 33 => ⟨S254, .i32⟩
  | 34 => ⟨S254, .i32⟩
  | 35 => ⟨S_, .i32⟩
  | 36 => ⟨S254, .i32⟩
  | 37 => ⟨S254, .i32⟩
  | 38 => ⟨S_, .i32⟩
  | 39 => ⟨S254, .i32⟩
  | 40 => ⟨S254, .i32⟩
  | 41 => ⟨S254, .f32⟩
  | 42 => ⟨S7168x1, .f32⟩
  | 43 => ⟨S1x254, .f32⟩
  | 44 => ⟨S7168x254, .f32⟩
  | 45 => ⟨S7168x254, .f32⟩
  | 46 => ⟨S7168x254, .i1⟩
  | 47 => ⟨S7168x254, .i32⟩
  | 48 => ⟨S_, .i32⟩
  | 49 => ⟨S7168, .i32⟩
  | 50 => ⟨S_, .i32⟩
  | 51 => ⟨S7168, .i32⟩
  | 52 => ⟨S7168, .i32⟩
  | 53 => ⟨S_, .f32⟩
  | 54 => ⟨S7168, .f32⟩
  | 55 => ⟨S7168, .i1⟩
  | 56 => ⟨S_, .f32⟩
  | 57 => ⟨S7168, .f32⟩
  | 58 => ⟨S7168, .i1⟩
  | 59 => ⟨S7168, .i1⟩
  | 60 => ⟨S_, .i32⟩
  | 61 => ⟨S_, .i32⟩
  | 62 => ⟨S7168, .i32⟩
  | 63 => ⟨S7168, .i32⟩
  | 64 => ⟨S7168, .i32⟩
  | 65 => ⟨S_, .i32⟩
  | 66 => ⟨S7168, .i32⟩
  | 67 => ⟨S7168, .i32⟩
  | 68 => ⟨S_, .i32⟩
  | 69 => ⟨S7168, .i32⟩
  | 70 => ⟨S7168, .i32⟩
  | 71 => ⟨S_, .i32⟩
  | 72 => ⟨S_, .i32⟩
  | 73 => ⟨S_, .i32⟩
  | 74 => ⟨S7168, .i32⟩
  | 75 => ⟨S7168, .i32⟩
  | 76 => ⟨S_, .i32⟩
  | 77 => ⟨S7168, .i32⟩
  | 78 => ⟨S7168, .i32⟩
  | 79 => ⟨S_, .i32⟩
  | 80 => ⟨S7168, .i32⟩
  | 81 => ⟨S7168, .i32⟩
  | 82 => ⟨S7168, .f32⟩
  | 83 => ⟨S7168, .f32⟩
  | 84 => ⟨S7168, .i32⟩
  | 85 => ⟨S_, .i32⟩
  | 86 => ⟨S7168, .i32⟩
  | 87 => ⟨S7168, .i32⟩
  | 88 => ⟨S_, .i32⟩
  | 89 => ⟨S_, .i32⟩
  | 90 => ⟨S_, .i32⟩
  | 91 => ⟨S7168, .i32⟩
  | 92 => ⟨S7168, .i32⟩
  | 93 => ⟨S_, .i32⟩
  | 94 => ⟨S7168, .i32⟩
  | 95 => ⟨S7168, .i32⟩
  | 96 => ⟨S_, .i32⟩
  | 97 => ⟨S7168, .i32⟩
  | 98 => ⟨S7168, .i32⟩
  | 99 => ⟨S7168, .f32⟩
  | 100 => ⟨S7168, .f32⟩
  | 101 => ⟨S_, .f32⟩
  | 102 => ⟨S7168, .f32⟩
  | 103 => ⟨S7168, .f32⟩
  | 104 => ⟨S7168, .f32⟩
  | 105 => ⟨S7168, .i32⟩
  | 106 => ⟨S_, .i32⟩
  | 107 => ⟨S7168, .i32⟩
  | 108 => ⟨S7168, .i32⟩
  | 109 => ⟨S_, .i32⟩
  | 110 => ⟨S_, .i32⟩
  | 111 => ⟨S_, .i32⟩
  | 112 => ⟨S_, .i32⟩
  | 113 => ⟨S_, .i32⟩
  | 114 => ⟨S6144x7168, .i32⟩
  | 115 => ⟨S6144x7168, .i32⟩
  | 116 => ⟨S_, .i32⟩
  | 117 => ⟨S6144x7168, .i32⟩
  | 118 => ⟨S6144x7168, .i32⟩
  | 119 => ⟨S1x7168, .i32⟩
  | 120 => ⟨S6144x7168, .i32⟩
  | 121 => ⟨S6144x7168, .i32⟩
  | 122 => ⟨S_, .i32⟩
  | 123 => ⟨S7168, .i32⟩
  | 124 => ⟨S7168, .i32⟩
  | 125 => ⟨S_, .i32⟩
  | 126 => ⟨S7168, .i32⟩
  | 127 => ⟨S7168, .i32⟩
  | _ => ⟨S3x2048x7168, .i8⟩

abbrev hbmTy0_1 (i : Nat) : BufTy := match i % 128 with
  | 0 => ⟨S1x7168, .i32⟩
  | 1 => ⟨S6144x7168, .i32⟩
  | 2 => ⟨S6144x7168, .i32⟩
  | 3 => ⟨S1x7168, .i32⟩
  | 4 => ⟨S6144x7168, .i32⟩
  | 5 => ⟨S6144x7168, .i32⟩
  | 6 => ⟨S_, .i32⟩
  | 7 => ⟨S_, .i32⟩
  | 8 => ⟨S_, .i32⟩
  | 9 => ⟨S6144x7168, .i32⟩
  | 10 => ⟨S6144x7168, .i32⟩
  | 11 => ⟨S_, .i32⟩
  | 12 => ⟨S6144x7168, .i32⟩
  | 13 => ⟨S6144x7168, .i32⟩
  | 14 => ⟨S6144x7168, .i8⟩
  | 15 => ⟨S6144x7168, .i32⟩
  | 16 => ⟨S_, .f32⟩
  | 17 => ⟨S_, .f32⟩
  | 18 => ⟨S254, .i32⟩
  | 19 => ⟨S_, .i32⟩
  | 20 => ⟨S254, .i32⟩
  | 21 => ⟨S254, .i32⟩
  | 22 => ⟨S_, .i32⟩
  | 23 => ⟨S254, .i32⟩
  | 24 => ⟨S254, .i32⟩
  | 25 => ⟨S_, .i32⟩
  | 26 => ⟨S_, .i32⟩
  | 27 => ⟨S_, .i32⟩
  | 28 => ⟨S254, .i32⟩
  | 29 => ⟨S254, .i32⟩
  | 30 => ⟨S_, .i32⟩
  | 31 => ⟨S254, .i32⟩
  | 32 => ⟨S254, .i32⟩
  | 33 => ⟨S_, .i32⟩
  | 34 => ⟨S254, .i32⟩
  | 35 => ⟨S254, .i32⟩
  | 36 => ⟨S254, .f32⟩
  | 37 => ⟨S1, .f32⟩
  | 38 => ⟨S254, .f32⟩
  | 39 => ⟨S254, .i1⟩
  | 40 => ⟨S254, .i32⟩
  | 41 => ⟨S_, .i32⟩
  | 42 => ⟨S_, .i32⟩
  | 43 => ⟨S_, .i32⟩
  | 44 => ⟨S_, .i32⟩
  | 45 => ⟨S_, .f32⟩
  | 46 => ⟨S_, .i1⟩
  | 47 => ⟨S_, .f32⟩
  | 48 => ⟨S_, .i1⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .f32⟩
  | 67 => ⟨S_, .f32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .f32⟩
  | 80 => ⟨S_, .f32⟩
  | 81 => ⟨S_, .f32⟩
  | 82 => ⟨S_, .f32⟩
  | 83 => ⟨S_, .f32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S6144x7168, .i32⟩
  | 93 => ⟨S6144x7168, .i32⟩
  | 94 => ⟨S_, .i32⟩
  | 95 => ⟨S6144x7168, .i32⟩
  | 96 => ⟨S6144x7168, .i32⟩
  | 97 => ⟨S6144x7168, .i32⟩
  | 98 => ⟨S6144x7168, .i32⟩
  | 99 => ⟨S_, .i32⟩
  | 100 => ⟨S_, .i32⟩
  | 101 => ⟨S_, .i32⟩
  | 102 => ⟨S_, .i32⟩
  | 103 => ⟨S6144x7168, .i32⟩
  | 104 => ⟨S6144x7168, .i32⟩
  | 105 => ⟨S6144x7168, .i32⟩
  | 106 => ⟨S6144x7168, .i32⟩
  | 107 => ⟨S_, .i32⟩
  | 108 => ⟨S_, .i32⟩
  | 109 => ⟨S_, .i32⟩
  | 110 => ⟨S6144x7168, .i32⟩
  | 111 => ⟨S6144x7168, .i32⟩
  | 112 => ⟨S_, .i32⟩
  | 113 => ⟨S6144x7168, .i32⟩
  | 114 => ⟨S6144x7168, .i32⟩
  | 115 => ⟨S6144x7168, .i8⟩
  | 116 => ⟨S6144x7168, .i32⟩
  | 117 => ⟨S_, .i32⟩
  | 118 => ⟨S_, .i32⟩
  | 119 => ⟨S_, .i32⟩
  | 120 => ⟨S6144x7168, .i32⟩
  | 121 => ⟨S6144x7168, .i32⟩
  | 122 => ⟨S_, .i32⟩
  | 123 => ⟨S6144x7168, .i32⟩
  | 124 => ⟨S6144x7168, .i32⟩
  | 125 => ⟨S6144x7168, .i8⟩
  | _ => ⟨S3x2048x7168, .i8⟩

abbrev hbmTy (i : Nat) : BufTy := match i / 128 with
  | 0 => hbmTy0_0 i
  | 1 => hbmTy0_1 i
  | _ => ⟨S3x2048x7168, .i8⟩

abbrev bufTy : (tb : Table) → Fin (tcTables nBuf tb) → BufTy
  | .hbm, ⟨i, _⟩ => hbmTy i
  | _, _ => ⟨S3x2048x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_call1_v0 : Ref sig .tc := ⟨.hbm, 61, rfl⟩
abbrev main_call1_v1 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_c_11 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v44 : Ref sig .tc := ⟨.hbm, 78, rfl⟩
abbrev main_c_12 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_13 : Ref sig .tc := ⟨.hbm, 85, rfl⟩
abbrev main_v50 : Ref sig .tc := ⟨.hbm, 86, rfl⟩
abbrev main_v51 : Ref sig .tc := ⟨.hbm, 87, rfl⟩
abbrev main_c_14 : Ref sig .tc := ⟨.hbm, 88, rfl⟩
abbrev main_c_15 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v52 : Ref sig .tc := ⟨.hbm, 95, rfl⟩
abbrev main_c_16 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_17 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_18 : Ref sig .tc := ⟨.hbm, 106, rfl⟩
abbrev main_v61 : Ref sig .tc := ⟨.hbm, 107, rfl⟩
abbrev main_v62 : Ref sig .tc := ⟨.hbm, 108, rfl⟩
abbrev main_c_19 : Ref sig .tc := ⟨.hbm, 109, rfl⟩
abbrev main_c_20 : Ref sig .tc := ⟨.hbm, 110, rfl⟩
abbrev main_v63 : Ref sig .tc := ⟨.hbm, 111, rfl⟩
abbrev main_c_21 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_c_22 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_23 : Ref sig .tc := ⟨.hbm, 122, rfl⟩
abbrev main_v72 : Ref sig .tc := ⟨.hbm, 123, rfl⟩
abbrev main_v73 : Ref sig .tc := ⟨.hbm, 124, rfl⟩
abbrev main_c_24 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_25 : Ref sig .tc := ⟨.hbm, 134, rfl⟩
abbrev main_c_26 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_c_27 : Ref sig .tc := ⟨.hbm, 147, rfl⟩
abbrev main_v88 : Ref sig .tc := ⟨.hbm, 148, rfl⟩
abbrev main_v89 : Ref sig .tc := ⟨.hbm, 149, rfl⟩
abbrev main_c_28 : Ref sig .tc := ⟨.hbm, 150, rfl⟩
abbrev main_v90 : Ref sig .tc := ⟨.hbm, 151, rfl⟩
abbrev main_v91 : Ref sig .tc := ⟨.hbm, 152, rfl⟩
abbrev main_c_29 : Ref sig .tc := ⟨.hbm, 153, rfl⟩
abbrev main_c_30 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_v92 : Ref sig .tc := ⟨.hbm, 160, rfl⟩
abbrev main_c_31 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_c_32 : Ref sig .tc := ⟨.hbm, 169, rfl⟩
abbrev main_v100 : Ref sig .tc := ⟨.hbm, 170, rfl⟩
abbrev main_c_33 : Ref sig .tc := ⟨.hbm, 171, rfl⟩
abbrev main_v101 : Ref sig .tc := ⟨.hbm, 172, rfl⟩
abbrev main_cst_34 : Ref sig .tc := ⟨.hbm, 173, rfl⟩
abbrev main_v102 : Ref sig .tc := ⟨.hbm, 174, rfl⟩
abbrev main_cst_35 : Ref sig .tc := ⟨.hbm, 175, rfl⟩
abbrev main_v103 : Ref sig .tc := ⟨.hbm, 176, rfl⟩
abbrev main_v104 : Ref sig .tc := ⟨.hbm, 177, rfl⟩
abbrev main_c_36 : Ref sig .tc := ⟨.hbm, 178, rfl⟩
abbrev main_call7_v0 : Ref sig .tc := ⟨.hbm, 179, rfl⟩
abbrev main_v105 : Ref sig .tc := ⟨.hbm, 180, rfl⟩
abbrev main_v106 : Ref sig .tc := ⟨.hbm, 181, rfl⟩
abbrev main_c_37 : Ref sig .tc := ⟨.hbm, 182, rfl⟩
abbrev main_v107 : Ref sig .tc := ⟨.hbm, 183, rfl⟩
abbrev main_c_38 : Ref sig .tc := ⟨.hbm, 184, rfl⟩
abbrev main_v108 : Ref sig .tc := ⟨.hbm, 185, rfl⟩
abbrev main_c_39 : Ref sig .tc := ⟨.hbm, 186, rfl⟩
abbrev main_c_40 : Ref sig .tc := ⟨.hbm, 187, rfl⟩
abbrev main_call8_v0 : Ref sig .tc := ⟨.hbm, 188, rfl⟩
abbrev main_call8_v1 : Ref sig .tc := ⟨.hbm, 189, rfl⟩
abbrev main_call8_v2 : Ref sig .tc := ⟨.hbm, 190, rfl⟩
abbrev main_v109 : Ref sig .tc := ⟨.hbm, 191, rfl⟩
abbrev main_c_41 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_c_42 : Ref sig .tc := ⟨.hbm, 197, rfl⟩
abbrev main_v114 : Ref sig .tc := ⟨.hbm, 198, rfl⟩
abbrev main_c_43 : Ref sig .tc := ⟨.hbm, 199, rfl⟩
abbrev main_c_44 : Ref sig .tc := ⟨.hbm, 200, rfl⟩
abbrev main_call9_v0 : Ref sig .tc := ⟨.hbm, 201, rfl⟩
abbrev main_call9_v1 : Ref sig .tc := ⟨.hbm, 202, rfl⟩
abbrev main_call9_v2 : Ref sig .tc := ⟨.hbm, 203, rfl⟩
abbrev main_v115 : Ref sig .tc := ⟨.hbm, 204, rfl⟩
abbrev main_c_45 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_cst_46 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_c_47 : Ref sig .tc := ⟨.hbm, 213, rfl⟩
abbrev main_v122 : Ref sig .tc := ⟨.hbm, 214, rfl⟩
abbrev main_c_48 : Ref sig .tc := ⟨.hbm, 215, rfl⟩
abbrev main_c_49 : Ref sig .tc := ⟨.hbm, 216, rfl⟩
abbrev main_v123 : Ref sig .tc := ⟨.hbm, 217, rfl⟩
abbrev main_c_50 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_c_51 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_c_52 : Ref sig .tc := ⟨.hbm, 227, rfl⟩
abbrev main_v131 : Ref sig .tc := ⟨.hbm, 228, rfl⟩
abbrev main_c_53 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_c_54 : Ref sig .tc := ⟨.hbm, 235, rfl⟩
abbrev main_c_55 : Ref sig .tc := ⟨.hbm, 236, rfl⟩
abbrev main_call11_v0 : Ref sig .tc := ⟨.hbm, 237, rfl⟩
abbrev main_call11_v1 : Ref sig .tc := ⟨.hbm, 238, rfl⟩
abbrev main_call11_v2 : Ref sig .tc := ⟨.hbm, 239, rfl⟩
abbrev main_call11_v3 : Ref sig .tc := ⟨.hbm, 240, rfl⟩
abbrev main_call11_v4 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_c_56 : Ref sig .tc := ⟨.hbm, 245, rfl⟩
abbrev main_c_57 : Ref sig .tc := ⟨.hbm, 246, rfl⟩
abbrev main_call12_v0 : Ref sig .tc := ⟨.hbm, 247, rfl⟩
abbrev main_call12_v1 : Ref sig .tc := ⟨.hbm, 248, rfl⟩
abbrev main_call12_v2 : Ref sig .tc := ⟨.hbm, 249, rfl⟩
abbrev main_call12_v3 : Ref sig .tc := ⟨.hbm, 250, rfl⟩
abbrev main_call12_v4 : Ref sig .tc := ⟨.hbm, 251, rfl⟩
abbrev main_v140 : Ref sig .tc := ⟨.hbm, 252, rfl⟩
abbrev main_v141 : Ref sig .tc := ⟨.hbm, 253, rfl⟩

abbrev nD : Nat := 1
abbrev τ : Topo := Topo.v7x

variable {F : FTy → Type} [FloatOps F]
-- ==== Proof.Host1a.lean ====
/- The host operations before the call of `Ffn1Ideal`, read: the first half of the operations. -/
module

public import proofs.«01_k».proof.Proof.Gen.Ffn1Ideal.Frame.Runs
public import proofs.«01_k».proof.Proof.Gen.Ref1Ideal.Read

@[expose] public section

noncomputable section

namespace Cert.Ffn1Ideal.HostVals

open Cert.Ffn1Ideal Cert.Ffn1Ideal.Gen Idealize.ShloMosaic Idealize.ShloMosaic.TcCoe Idealize.SL.Sem Idealize.ShloMosaic.StableHlo

variable {F : FTy → Type} [FloatOps F]

/-- The buffer `main_c_63` as a function of the arguments. -/
def kv_main_c_63 : (⟨S_, .i32⟩ : BufTy).Contents (Elt F) :=
  constantI S_ 32 31#32

/-- The buffer `main_call12_v2` as a function of the arguments. -/
def kv_main_call12_v2 (x1 : (⟨S_, .f32⟩ : BufTy).Contents (Elt F)) (x3 : (⟨S18432, .f32⟩ : BufTy).Contents (Elt F)) : (⟨S18432, .i32⟩ : BufTy).Contents (Elt F) :=
  maxsi (Cert.Ref1Ideal.Read.val_main_call1_v1 (F := F)) (Cert.Ref1Ideal.Read.val_main_v58 (F := F) x1 x3)

/-- The buffer `main_call12_v3` as a function of the arguments. -/
def kv_main_call12_v3 : (⟨S_, .i32⟩ : BufTy).Contents (Elt F) :=
  id (kv_main_c_63 (F := F))

/-- The buffer `main_call12_v4` as a function of the arguments. -/
def kv_main_call12_v4 : (⟨S18432, .i32⟩ : BufTy).Contents (Elt F) :=
  (broadcastInDim S18432 ![] bcast_S_S18432) (kv_main_call12_v3 (F := F))

/-- The buffer `main_v148` as a function of the arguments. -/
def kv_main_v148 (x1 : (⟨S_, .f32⟩ : BufTy).Contents (Elt F)) (x3 : (⟨S18432, .f32⟩ : BufTy).Contents (Elt F)) : (⟨S18432, .i32⟩ : BufTy).Contents (Elt F) :=
  minsi (kv_main_call12_v4 (F := F)) (kv_main_call12_v2 (F := F) x1 x3)

/-- The buffer `main_c_65` as a function of the arguments. -/
def kv_main_c_65 : (⟨S_, .i32⟩ : BufTy).Contents (Elt F) :=
  constantI S_ 32 31#32

/-- The buffer `main_call13_v2` as a function of the arguments. -/
def kv_main_call13_v2 (x1 : (⟨S_, .f32⟩ : BufTy).Contents (Elt F)) (x3 : (⟨S18432, .f32⟩ : BufTy).Contents (Elt F)) : (⟨S18432, .i32⟩ : BufTy).Contents (Elt F) :=
  maxsi (Cert.Ref1Ideal.Read.val_main_call1_v1 (F := F)) (Cert.Ref1Ideal.Read.val_main_v165 (F := F) x1 x3)

/-- The buffer `main_call13_v3` as a function of the arguments. -/
def kv_main_call13_v3 : (⟨S_, .i32⟩ : BufTy).Contents (Elt F) :=
  id (kv_main_c_65 (F := F))

/-- The buffer `main_call13_v4` as a function of the arguments. -/
def kv_main_call13_v4 : (⟨S18432, .i32⟩ : BufTy).Contents (Elt F) :=
  (broadcastInDim S18432 ![] bcast_S_S18432) (kv_main_call13_v3 (F := F))

/-- The buffer `main_v150` as a function of the arguments. -/
def kv_main_v150 (x1 : (⟨S_, .f32⟩ : BufTy).Contents (Elt F)) (x3 : (⟨S18432, .f32⟩ : BufTy).Contents (Elt F)) : (⟨S18432, .i32⟩ : BufTy).Contents (Elt F) :=
  minsi (kv_main_call13_v4 (F := F)) (kv_main_call13_v2 (F := F) x1 x3)

/-- The buffer `main_v152` as a function of the arguments. -/
def kv_main_v152 (x1 : (⟨S_, .f32⟩ : BufTy).Contents (Elt F)) (x3 : (⟨S18432, .f32⟩ : BufTy).Contents (Elt F)) : (⟨S18432, .i1⟩ : BufTy).Contents (Elt F) :=
  (cmpi .slt) (Cert.Ref1Ideal.Read.val_main_v132 (F := F) x1 x3) (Cert.Ref1Ideal.Read.val_main_v158 (F := F))

/-- The buffer `main_c_67` as a function of the arguments. -/
def kv_main_c_67 : (⟨S_, .i32⟩ : BufTy).Contents (Elt F) :=
  constantI S_ 32 31#32

/-- The buffer `main_v153` as a function of the arguments. -/
def kv_main_v153 : (⟨S18432, .i32⟩ : BufTy).Contents (Elt F) :=
  (broadcastInDim S18432 ![] bcast_S_S18432) (kv_main_c_67 (F := F))

/-- The buffer `main_v154` as a function of the arguments. -/
def kv_main_v154 (x1 : (⟨S_, .f32⟩ : BufTy).Contents (Elt F)) (x3 : (⟨S18432, .f32⟩ : BufTy).Contents (Elt F)) : (⟨S18432, .i1⟩ : BufTy).Contents (Elt F) :=
  (cmpi .sgt) (Cert.Ref1Ideal.Read.val_main_v132 (F := F) x1 x3) (kv_main_v153 (F := F))

/-- The buffer `main_v155` as a function of the arguments. -/
def kv_main_v155 (x1 : (⟨S_, .f32⟩ : BufTy).Contents (Elt F)) (x3 : (⟨S18432, .f32⟩ : BufTy).Contents (Elt F)) : (⟨S18432, .i1⟩ : BufTy).Contents (Elt F) :=
  ori (kv_main_v152 (F := F) x1 x3) (kv_main_v154 (F := F) x1 x3)

/-- The buffer `main_c_68` as a function of the arguments. -/
def kv_main_c_68 : (⟨S_, .i32⟩ : BufTy).Contents (Elt F) :=
  constantI S_ 32 31#32

/-- The buffer `main_call14_v0` as a function of the arguments. -/
def kv_main_call14_v0 : (⟨S_, .i32⟩ : BufTy).Contents (Elt F) :=
  id (kv_main_c_68 (F := F))

/-- The buffer `main_call14_v1` as a function of the arguments. -/
def kv_main_call14_v1 : (⟨S18432, .i32⟩ : BufTy).Contents (Elt F) :=
  (broadcastInDim S18432 ![] bcast_S_S18432) (kv_main_call14_v0 (F := F))

/-- The buffer `main_v156` as a function of the arguments. -/
def kv_main_v156 (x1 : (⟨S_, .f32⟩ : BufTy).Contents (Elt F)) (x3 : (⟨S18432, .f32⟩ : BufTy).Contents (Elt F)) : (⟨S18432, .i32⟩ : BufTy).Contents (Elt F) :=
  select (kv_main_v155 (F := F) x1 x3) (kv_main_call14_v1 (F := F)) (Cert.Ref1Ideal.Read.val_main_v132 (F := F) x1 x3)

/-- The buffer `main_v213` as a function of the arguments. -/
def kv_main_v213 (x1 : (⟨S_, .f32⟩ : BufTy).Contents (Elt F)) (x3 : (⟨S18432, .f32⟩ : BufTy).Contents (Elt F)) (x5 : (⟨S_, .f32⟩ : BufTy).Contents (Elt F)) : (⟨S18432, .i1⟩ : BufTy).Contents (Elt F) :=
  (cmpi .slt) (Cert.Ref1Ideal.Read.val_main_v242 (F := F) x1 x3 x5) (Cert.Ref1Ideal.Read.val_main_v158 (F := F))

/-- The buffer `main_c_93` as a function of the arguments. -/
def kv_main_c_93 : (⟨S_, .i32⟩ : BufTy).Contents (Elt F) :=
  constantI S_ 32 31#32

/-- The buffer `main_v214` as a function of the arguments. -/
def kv_main_v214 : (⟨S18432, .i32⟩ : BufTy).Contents (Elt F) :=
  (broadcastInDim S18432 ![] bcast_S_S18432) (kv_main_c_93 (F := F))

/-- The buffer `main_v215` as a function of the arguments. -/
def kv_main_v215 (x1 : (⟨S_, .f32⟩ : BufTy).Contents (Elt F)) (x3 : (⟨S18432, .f32⟩ : BufTy).Contents (Elt F)) (x5 : (⟨S_, .f32⟩ : BufTy).Contents (Elt F)) : (⟨S18432, .i1⟩ : BufTy).Contents (Elt F) :=
  (cmpi .sgt) (Cert.Ref1Ideal.Read.val_main_v242 (F := F) x1 x3 x5) (kv_main_v214 (F := F))

/-- The buffer `main_v216` as a function of the arguments. -/
def kv_main_v216 (x1 : (⟨S_, .f32⟩ : BufTy).Contents (Elt F)) (x3 : (⟨S18432, .f32⟩ : BufTy).Contents (Elt F)) (x5 : (⟨S_, .f32⟩ : BufTy).Contents (Elt F)) : (⟨S18432, .i1⟩ : BufTy).Contents (Elt F) :=
  ori (kv_main_v213 (F := F) x1 x3 x5) (kv_main_v215 (F := F) x1 x3 x5)

/-- The buffer `main_c_94` as a function of the arguments. -/
def kv_main_c_94 : (⟨S_, .i32⟩ : BufTy).Contents (Elt F) :=
  constantI S_ 32 31#32

/-- The buffer `main_call20_v0` as a function of the arguments. -/
def kv_main_call20_v0 : (⟨S_, .i32⟩ : BufTy).Contents (Elt F) :=
  id (kv_main_c_94 (F := F))

/-- The buffer `main_call20_v1` as a function of the arguments. -/
def kv_main_call20_v1 : (⟨S18432, .i32⟩ : BufTy).Contents (Elt F) :=
  (broadcastInDim S18432 ![] bcast_S_S18432) (kv_main_call20_v0 (F := F))

/-- The buffer `main_v217` as a function of the arguments. -/
def kv_main_v217 (x1 : (⟨S_, .f32⟩ : BufTy).Contents (Elt F)) (x3 : (⟨S18432, .f32⟩ : BufTy).Contents (Elt F)) (x5 : (⟨S_, .f32⟩ : BufTy).Contents (Elt F)) : (⟨S18432, .i32⟩ : BufTy).Contents (Elt F) :=
  select (kv_main_v216 (F := F) x1 x3 x5) (kv_main_call20_v1 (F := F)) (Cert.Ref1Ideal.Read.val_main_v242 (F := F) x1 x3 x5)

/-- The buffer `main_v220` as a function of the arguments. -/
def kv_main_v220 (x1 : (⟨S_, .f32⟩ : BufTy).Contents (Elt F)) (x3 : (⟨S18432, .f32⟩ : BufTy).Contents (Elt F)) : (⟨S1x18432, .i32⟩ : BufTy).Contents (Elt F) :=
  (broadcastInDim S1x18432 ![1] bcast_S18432_S1x18432_1) (kv_main_v148 (F := F) x1 x3)

/-- The buffer `main_v221` as a function of the arguments. -/
def kv_main_v221 (x1 : (⟨S_, .f32⟩ : BufTy).Contents (Elt F)) (x3 : (⟨S18432, .f32⟩ : BufTy).Contents (Elt F)) : (⟨S1x18432, .i32⟩ : BufTy).Contents (Elt F) :=
  (broadcastInDim S1x18432 ![1] bcast_S18432_S1x18432_1) (kv_main_v150 (F := F) x1 x3)

/-- The buffer `main_v224` as a function of the arguments. -/
def kv_main_v224 (x1 : (⟨S_, .f32⟩ : BufTy).Contents (Elt F)) (x3 : (⟨S18432, .f32⟩ : BufTy).Contents (Elt F)) : (⟨S1x18432, .i32⟩ : BufTy).Contents (Elt F) :=
  (broadcastInDim S1x18432 ![1] bcast_S18432_S1x18432_1) (kv_main_v156 (F := F) x1 x3)

/-- The buffer `main_v228` as a function of the arguments. -/
def kv_main_v228 (x1 : (⟨S_, .f32⟩ : BufTy).Contents (Elt F)) (x3 : (⟨S18432, .f32⟩ : BufTy).Contents (Elt F)) (x5 : (⟨S_, .f32⟩ : BufTy).Contents (Elt F)) : (⟨S1x18432, .i32⟩ : BufTy).Contents (Elt F) :=
  (broadcastInDim S1x18432 ![1] bcast_S18432_S1x18432_1) (kv_main_v217 (F := F) x1 x3 x5)

/-- The buffer `main_v229` as a function of the arguments. -/
def kv_main_v229 : (⟨S1x18432, .i32⟩ : BufTy).Contents (Elt F) :=
  (broadcastInDim S1x18432 ![1] bcast_S18432_S1x18432_1) (Cert.Ref1Ideal.Read.val_main_v158 (F := F))

/-- The buffer `main_v230` as a function of the arguments. -/
def kv_main_v230 : (⟨S1x18432, .i32⟩ : BufTy).Contents (Elt F) :=
  (broadcastInDim S1x18432 ![1] bcast_S18432_S1x18432_1) (Cert.Ref1Ideal.Read.val_main_v158 (F := F))

/-- The buffer `main_v231` as a function of the arguments. -/
def kv_main_v231 : (⟨S1x18432, .i32⟩ : BufTy).Contents (Elt F) :=
  (broadcastInDim S1x18432 ![1] bcast_S18432_S1x18432_1) (Cert.Ref1Ideal.Read.val_main_v158 (F := F))

/-- The buffer `main_v232` as a function of the arguments. -/
def kv_main_v232 : (⟨S1x18432, .i32⟩ : BufTy).Contents (Elt F) :=
  (broadcastInDim S1x18432 ![1] bcast_S18432_S1x18432_1) (Cert.Ref1Ideal.Read.val_main_v158 (F := F))

/-- The buffer `main_v233` as a function of the arguments. -/
def kv_main_v233 : (⟨S1x18432, .i32⟩ : BufTy).Contents (Elt F) :=
  (broadcastInDim S1x18432 ![1] bcast_S18432_S1x18432_1) (Cert.Ref1Ideal.Read.val_main_v158 (F := F))

/-- The buffer `main_v234` as a function of the arguments. -/
def kv_main_v234 : (⟨S1x18432, .i32⟩ : BufTy).Contents (Elt F) :=
  (broadcastInDim S1x18432 ![1] bcast_S18432_S1x18432_1) (Cert.Ref1Ideal.Read.val_main_v158 (F := F))

/-- The rows of `main_v235`, one under the other. -/
def kst_main_v235 (u0 : (⟨S1x18432, .i32⟩ : BufTy).Contents (Elt F)) (u1 : (⟨S1x18432, .i32⟩ : BufTy).Contents (Elt F)) (u2 : (⟨S1x18432, .i32⟩ : BufTy).Contents (Elt F)) (u3 : (⟨S1x18432, .i32⟩ : BufTy).Contents (Elt F)) (u4 : (⟨S1x18432, .i32⟩ : BufTy).Contents (Elt F)) (u5 : (⟨S1x18432, .i32⟩ : BufTy).Contents (Elt F)) (u6 : (⟨S1x18432, .i32⟩ : BufTy).Contents (Elt F)) (u7 : (⟨S1x18432, .i32⟩ : BufTy).Contents (Elt F)) (u8 : (⟨S1x18432, .i32⟩ : BufTy).Contents (Elt F)) (u9 : (⟨S1x18432, .i32⟩ : BufTy).Contents (Elt F)) (u10 : (⟨S1x18432, .i32⟩ : BufTy).Contents (Elt F)) (u11 : (⟨S1x18432, .i32⟩ : BufTy).Contents (Elt F)) (u12 : (⟨S1x18432, .i32⟩ : BufTy).Contents (Elt F)) (u13 : (⟨S1x18432, .i32⟩ : BufTy).Contents (Elt F)) (u14 : (⟨S1x18432, .i32⟩ : BufTy).Contents (Elt F)) (u15 : (⟨S1x18432, .i32⟩ : BufTy).Contents (Elt F)) : (⟨S16x18432, .i32⟩ : BufTy).Contents (Elt F) :=
  concatenate S16x18432 0 [⟨S1x18432, u0⟩, ⟨S1x18432, u1⟩, ⟨S1x18432, u2⟩, ⟨S1x18432, u3⟩, ⟨S1x18432, u4⟩, ⟨S1x18432, u5⟩, ⟨S1x18432, u6⟩, ⟨S1x18432, u7⟩, ⟨S1x18432, u8⟩, ⟨S1x18432, u9⟩, ⟨S1x18432, u10⟩, ⟨S1x18432, u11⟩, ⟨S1x18432, u12⟩, ⟨S1x18432, u13⟩, ⟨S1x18432, u14⟩, ⟨S1x18432, u15⟩] concatenates_S1x18432_S1x18432_S1x18432_S1x18432_S1x18432_S1x18432_S1x18432_S1x18432_S1x18432_S1x18432_S1x18432_S1x18432_S1x18432_S1x18432_S1x18432_S1x18432_S16x18432_d0

/-- The buffer `main_v235` as a function of the arguments. -/
def kv_main_v235 (x1 : (⟨S_, .f32⟩ : BufTy).Contents (Elt F)) (x3 : (⟨S18432, .f32⟩ : BufTy).Contents (Elt F)) (x4 : (⟨S18432, .i32⟩ : BufTy).Contents (Elt F)) (x5 : (⟨S_, .f32⟩ : BufTy).Contents (Elt F)) : (⟨S16x18432, .i32⟩ : BufTy).Contents (Elt F) :=
  kst_main_v235 (F := F) (Cert.Ref1Ideal.Read.val_main_v9 (F := F) x4) (kv_main_v220 (F := F) x1 x3) (kv_main_v221 (F := F) x1 x3) (Cert.Ref1Ideal.Read.val_main_v176 (F := F) x1 x3) (Cert.Ref1Ideal.Read.val_main_v180 (F := F) x1 x3) (kv_main_v224 (F := F) x1 x3) (Cert.Ref1Ideal.Read.val_main_v188 (F := F) x1 x3) (Cert.Ref1Ideal.Read.val_main_v249 (F := F) x1 x3 x5) (Cert.Ref1Ideal.Read.val_main_v256 (F := F) x1 x3 x5) (kv_main_v228 (F := F) x1 x3 x5) (kv_main_v229 (F := F)) (kv_main_v230 (F := F)) (kv_main_v231 (F := F)) (kv_main_v232 (F := F)) (kv_main_v233 (F := F)) (kv_main_v234 (F := F))

/-- The contents of the buffers after the host operations up to `hostOps0`. -/
def W0 (V0 : Valuation τ sig (Elt F)) : Valuation τ sig (Elt F) := after hostOps0 V0

/-- The buffers `hostOps0` writes. -/
abbrev W0_W : List (Ref sig .tc) := [main_v0, main_v1, main_v2, main_cst, main_v3, main_v4, main_v5, main_v6, main_c, main_v7, main_v8, main_c_0, main_v9, main_v10, main_c_1, main_c_2]

theorem W0_writes : (hostOps0 : List (HloOp τ sig (Elt F))).Forall fun op => op.writes ⊆ ((W0_W).map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W0_keep (V0 : Valuation τ sig (Elt F)) (r : Ref sig .tc) (h : r ∉ W0_W) :
    W0 V0 (Proc.devRef .tc r) = V0 (Proc.devRef .tc r) :=
  after_of_writes_sub hostOps0 _ W0_writes h

theorem W0_main_arg4 (V0 : Valuation τ sig (Elt F)) : W0 V0 (no_index (Proc.devRef .tc main_arg4)) = V0 (Proc.devRef .tc main_arg4) :=
  W0_keep V0 main_arg4 (by decide)

theorem W0_main_arg5 (V0 : Valuation τ sig (Elt F)) : W0 V0 (no_index (Proc.devRef .tc main_arg5)) = V0 (Proc.devRef .tc main_arg5) :=
  W0_keep V0 main_arg5 (by decide)

set_option maxRecDepth 8192 in
set_option maxHeartbeats 1200000 in
theorem W0_main_v0 (V0 : Valuation τ sig (Elt F)) : W0 V0 (no_index (Proc.devRef .tc main_v0)) = (Cert.Ref1Ideal.Read.val_main_v0 (F := F) (V0 (Proc.devRef .tc main_arg0))) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_v2 (V0 : Valuation τ sig (Elt F)) : W0 V0 (no_index (Proc.devRef .tc main_v2)) = (Cert.Ref1Ideal.Read.val_main_v2 (F := F) (V0 (Proc.devRef .tc main_arg1)) (V0 (Proc.devRef .tc main_arg3))) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_v4 (V0 : Valuation τ sig (Elt F)) : W0 V0 (no_index (Proc.devRef .tc main_v4)) = (Cert.Ref1Ideal.Read.val_main_v13 (F := F) (V0 (Proc.devRef .tc main_arg1)) (V0 (Proc.devRef .tc main_arg3))) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_v5 (V0 : Valuation τ sig (Elt F)) : W0 V0 (no_index (Proc.devRef .tc main_v5)) = (Cert.Ref1Ideal.Read.val_main_v14 (F := F) (V0 (Proc.devRef .tc main_arg1)) (V0 (Proc.devRef .tc main_arg3))) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_v10 (V0 : Valuation τ sig (Elt F)) : W0 V0 (no_index (Proc.devRef .tc main_v10)) = (Cert.Ref1Ideal.Read.val_main_v19 (F := F)) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_c_1 (V0 : Valuation τ sig (Elt F)) : W0 V0 (no_index (Proc.devRef .tc main_c_1)) = (Cert.Ref1Ideal.Read.val_main_c_1 (F := F)) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_c_2 (V0 : Valuation τ sig (Elt F)) : W0 V0 (no_index (Proc.devRef .tc main_c_2)) = (Cert.Ref1Ideal.Read.val_main_c_2 (F := F)) := by
  unfold W0
  simp only [hostOps0, TRef.nullary, TRef.ternary, TRef.binary, TRef.unary, TRef.toBuf, TRef.ofBuf, cast_eq]
  after_results_simp
  all_goals rfl

/-- The contents of the buffers after the host operations up to `hostOps0_1`. -/
def W1 (V0 : Valuation τ sig (Elt F)) : Valuation τ sig (Elt F) := after hostOps0_1 (W0 V0)

/-- The buffers `hostOps0_1` writes. -/
abbrev W1_W : List (Ref sig .tc) := [main_call0_v0, main_call0_v1, main_call0_v2, main_call0_v3, main_call0_v4, main_v11]

theorem W1_writes : (hostOps0_1 : List (HloOp τ sig (Elt F))).Forall fun op => op.writes ⊆ ((W1_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W1_keep (V0 : Valuation τ sig (Elt F)) (r : Ref sig .tc) (h : r ∉ W1_W) :
    W1 V0 (Proc.devRef .tc r) = (W0 V0) (Proc.devRef .tc r) :=
  after_of_writes_sub hostOps0_1 _ W1_writes h

theorem W1_main_arg4 (V0 : Valuation τ sig (Elt F)) : W1 V0 (no_index (Proc.devRef .tc main_arg4)) = V0 (Proc.devRef .tc main_arg4) :=
  (W1_keep V0 main_arg4 (by decide)).trans (W0_main_arg4 V0)

theorem W1_main_arg5 (V0 : Valuation τ sig (Elt F)) : W1 V0 (no_index (Proc.devRef .tc main_arg5)) = V0 (Proc.devRef .tc main_arg5) :=
  (W1_keep V0 main_arg5 (by decide)).trans (W0_main_arg5 V0)

theorem W1_main_v0 (V0 : Valuation τ sig (Elt F)) : W1 V0 (no_index (Proc.devRef .tc main_v0)) = (Cert.Ref1Ideal.Read.val_main_v0 (F := F) (V0 (Proc.devRef .tc main_arg0))) :=
  (W1_keep V0 main_v0 (by decide)).trans (W0_main_v0 V0)

theorem W1_main_v2 (V0 : Valuation τ sig (Elt F)) : W1 V0 (no_index (Proc.devRef .tc main_v2)) = (Cert.Ref1Ideal.Read.val_main_v2 (F := F) (V0 (Proc.devRef .tc main_arg1)) (V0 (Proc.devRef .tc main_arg3))) :=
  (W1_keep V0 main_v2 (by decide)).trans (W0_main_v2 V0)

theorem W1_main_v4 (V0 : Valuation τ sig (Elt F)) : W1 V0 (no_index (Proc.devRef .tc main_v4)) = (Cert.Ref1Ideal.Read.val_main_v13 (F := F) (V0 (Proc.devRef .tc main_arg1)) (V0 (Proc.devRef .tc main_arg3))) :=
  (W1_keep V0 main_v4 (by decide)).trans (W0_main_v4 V0)

theorem W1_main_v5 (V0 : Valuation τ sig (Elt F)) : W1 V0 (no_index (Proc.devRef .tc main_v5)) = (Cert.Ref1Ideal.Read.val_main_v14 (F := F) (V0 (Proc.devRef .tc main_arg1)) (V0 (Proc.devRef .tc main_arg3))) :=
  (W1_keep V0 main_v5 (by decide)).trans (W0_main_v5 V0)

set_option maxRecDepth 8192 in
set_option maxHeartbeats 1200000 in
theorem W1_main_v11 (V0 : Valuation τ sig (Elt F)) : W1 V0 (no_index (Proc.devRef .tc main_v11)) = (Cert.Ref1Ideal.Read.val_main_v20 (F := F)) := by
  unfold W1
  simp only [hostOps0_1, TRef.nullary, TRef.ternary, TRef.binary, TRef.unary, TRef.toBuf, TRef.ofBuf, cast_eq]
  after_results_simp
  simp only [W0_main_c_1, W0_main_c_2, W0_main_v10] <;> rfl

/-- The contents of the buffers after the host operations up to `hostOps0_2`. -/
def W2 (V0 : Valuation τ sig (Elt F)) : Valuation τ sig (Elt F) := after hostOps0_2 (W1 V0)

/-- The buffers `hostOps0_2` writes. -/
abbrev W2_W : List (Ref sig .tc) := [main_c_3, main_v12, main_v13, main_v14, main_v15, main_v16, main_v17, main_v18, main_v19, main_v20, main_c_4, main_v21, main_c_5, main_v22, main_v23, main_cst_6, main_v24, main_v25, main_cst_7, main_v26, main_v27, main_v28, main_c_8]

theorem W2_writes : (hostOps0_2 : List (HloOp τ sig (Elt F))).Forall fun op => op.writes ⊆ ((W2_W).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W2_keep (V0 : Valuation τ sig (Elt F)) (r : Ref sig .tc) (h : r ∉ W2_W) :
    W2 V0 (Proc.devRef .tc r) = (W1 V0) (Proc.devRef .tc r) :=
  after_of_writes_sub hostOps0_2 _ W2_writes h

theorem W2_main_arg4 (V0 : Valuation τ sig (Elt F)) : W2 V0 (no_index (Proc.devRef .tc main_arg4)) = V0 (Proc.devRef .tc main_arg4) :=
  (W2_keep V0 main_arg4 (by decide)).trans (W1_main_arg4 V0)

theorem W2_main_arg5 (V0 : Valuation τ sig (Elt F)) : W2 V0 (no_index (Proc.devRef .tc main_arg5)) = V0 (Proc.devRef .tc main_arg5) :=
  (W2_keep V0 main_arg5 (by decide)).trans (W1_main_arg5 V0)

theorem W2_main_v0 (V0 : Valuation τ sig (Elt F)) : W2 V0 (no_index (Proc.devRef .tc main_v0)) = (Cert.Ref1Ideal.Read.val_main_v0 (F := F) (V0 (Proc.devRef .tc main_arg0))) :=
  (W2_keep V0 main_v0 (by decide)).trans (W1_main_v0 V0)

theorem W2_main_v2 (V0 : Valuation τ sig (Elt F)) : W2 V0 (no_index (Proc.devRef .tc main_v2)) = (Cert.Ref1Ideal.Read.val_main_v2 (F := F) (V0 (Proc.devRef .tc main_arg1)) (V0 (Proc.devRef .tc main_arg3))) :=
  (W2_keep V0 main_v2 (by decide)).trans (W1_main_v2 V0)

theorem W2_main_v4 (V0 : Valuation τ sig (Elt F)) : W2 V0 (no_index (Proc.devRef .tc main_v4)) = (Cert.Ref1Ideal.Read.val_main_v13 (F := F) (V0 (Proc.devRef .tc main_arg1)) (V0 (Proc.devRef .tc main_arg3))) :=
  (W2_keep V0 main_v4 (by decide)).trans (W1_main_v4 V0)

set_option maxRecDepth 8192 in
set_option maxHeartbeats 1200000 in
theorem W2_main_v23 (V0 : Valuation τ sig (Elt F)) : W2 V0 (no_index (Proc.devRef .tc main_v23)) = (Cert.Ref1Ideal.Read.val_main_v32 (F := F) (V0 (Proc.devRef .tc main_arg1)) (V0 (Proc.devRef .tc main_arg3))) := by
  unfold W2
  simp only [hostOps0_2, TRef.nullary, TRef.ternary, TRef.binary, TRef.unary, TRef.toBuf, TRef.ofBuf, cast_eq]
  after_results_simp
  simp only [W1_main_v11, W1_main_v5] <;> rfl

set_option maxRecDepth 8192 in
set_option maxHeartbeats 1200000 in
theorem W2_main_v28 (V0 : Valuation τ sig (Elt F)) : W2 V0 (no_index (Proc.devRef .tc main_v28)) = (Cert.Ref1Ideal.Read.val_main_v37 (F := F) (V0 (Proc.devRef .tc main_arg1)) (V0 (Proc.devRef .tc main_arg3))) := by
  unfold W2
  simp only [hostOps0_2, TRef.nullary, TRef.ternary, TRef.binary, TRef.unary, TRef.toBuf, TRef.ofBuf, cast_eq]
  after_results_simp
  simp only [W1_main_v5] <;> rfl

set_option maxRecDepth 8192 in
set_option maxHeartbeats 1200000 in
theorem W2_main_c_8 (V0 : Valuation τ sig (Elt F)) : W2 V0 (no_index (Proc.devRef .tc main_c_8)) = (Cert.Ref1Ideal.Read.val_main_c_1 (F := F)) := by
  unfold W2
  simp only [hostOps0_2, TRef.nullary, TRef.ternary, TRef.binary, TRef.unary, TRef.toBuf, TRef.ofBuf, cast_eq]
  after_results_simp
  all_goals rfl

/-- The contents of the buffers after the host operations up to `hostOps0_3`. -/
def W3 (V0 : Valuation τ sig (Elt F)) : Valuation τ sig (Elt F) := after hostOps0_3 (W2 V0)

/-- The buffers `hostOps0_3` writes. -/
abbrev W3_W : List (Ref sig .tc) := [main_call1_v0, main_call1_v1, main_v29]

theorem W3_writes : (hostOps0_3 : List (HloOp τ sig (Elt F))).Forall fun op => op.writes ⊆ ((W3_W).map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W3_keep (V0 : Valuation τ sig (Elt F)) (r : Ref sig .tc) (h : r ∉ W3_W) :
    W3 V0 (Proc.devRef .tc r) = (W2 V0) (Proc.devRef .tc r) :=
  after_of_writes_sub hostOps0_3 _ W3_writes h

theorem W3_main_arg4 (V0 : Valuation τ sig (Elt F)) : W3 V0 (no_index (Proc.devRef .tc main_arg4)) = V0 (Proc.devRef .tc main_arg4) :=
  (W3_keep V0 main_arg4 (by decide)).trans (W2_main_arg4 V0)

theorem W3_main_arg5 (V0 : Valuation τ sig (Elt F)) : W3 V0 (no_index (Proc.devRef .tc main_arg5)) = V0 (Proc.devRef .tc main_arg5) :=
  (W3_keep V0 main_arg5 (by decide)).trans (W2_main_arg5 V0)

theorem W3_main_v0 (V0 : Valuation τ sig (Elt F)) : W3 V0 (no_index (Proc.devRef .tc main_v0)) = (Cert.Ref1Ideal.Read.val_main_v0 (F := F) (V0 (Proc.devRef .tc main_arg0))) :=
  (W3_keep V0 main_v0 (by decide)).trans (W2_main_v0 V0)

theorem W3_main_v2 (V0 : Valuation τ sig (Elt F)) : W3 V0 (no_index (Proc.devRef .tc main_v2)) = (Cert.Ref1Ideal.Read.val_main_v2 (F := F) (V0 (Proc.devRef .tc main_arg1)) (V0 (Proc.devRef .tc main_arg3))) :=
  (W3_keep V0 main_v2 (by decide)).trans (W2_main_v2 V0)

theorem W3_main_v4 (V0 : Valuation τ sig (Elt F)) : W3 V0 (no_index (Proc.devRef .tc main_v4)) = (Cert.Ref1Ideal.Read.val_main_v13 (F := F) (V0 (Proc.devRef .tc main_arg1)) (V0 (Proc.devRef .tc main_arg3))) :=
  (W3_keep V0 main_v4 (by decide)).trans (W2_main_v4 V0)

set_option maxRecDepth 8192 in
set_option maxHeartbeats 1200000 in
theorem W3_main_v29 (V0 : Valuation τ sig (Elt F)) : W3 V0 (no_index (Proc.devRef .tc main_v29)) = (Cert.Ref1Ideal.Read.val_main_v38 (F := F) (V0 (Proc.devRef .tc main_arg1)) (V0 (Proc.devRef .tc main_arg3))) := by
  unfold W3
  simp only [hostOps0_3, TRef.nullary, TRef.ternary, TRef.binary, TRef.unary, TRef.toBuf, TRef.ofBuf, cast_eq]
  after_results_simp
  simp only [W2_main_c_8, W2_main_v23, W2_main_v28] <;> rfl

/-- The contents of the buffers after the host operations up to `hostOps0_4`. -/
def W4 (V0 : Valuation τ sig (Elt F)) : Valuation τ sig (Elt F) := after hostOps0_4 (W3 V0)

/-- The buffers `hostOps0_4` writes. -/
abbrev W4_W : List (Ref sig .tc) := [main_v30, main_c_9, main_v31, main_v32, main_c_10, main_v33, main_v34, main_c_11, main_c_12]

theorem W4_writes : (hostOps0_4 : List (HloOp τ sig (Elt F))).Forall fun op => op.writes ⊆ ((W4_W).map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W4_keep (V0 : Valuation τ sig (Elt F)) (r : Ref sig .tc) (h : r ∉ W4_W) :
    W4 V0 (Proc.devRef .tc r) = (W3 V0) (Proc.devRef .tc r) :=
  after_of_writes_sub hostOps0_4 _ W4_writes h

theorem W4_main_arg4 (V0 : Valuation τ sig (Elt F)) : W4 V0 (no_index (Proc.devRef .tc main_arg4)) = V0 (Proc.devRef .tc main_arg4) :=
  (W4_keep V0 main_arg4 (by decide)).trans (W3_main_arg4 V0)

theorem W4_main_arg5 (V0 : Valuation τ sig (Elt F)) : W4 V0 (no_index (Proc.devRef .tc main_arg5)) = V0 (Proc.devRef .tc main_arg5) :=
  (W4_keep V0 main_arg5 (by decide)).trans (W3_main_arg5 V0)

theorem W4_main_v0 (V0 : Valuation τ sig (Elt F)) : W4 V0 (no_index (Proc.devRef .tc main_v0)) = (Cert.Ref1Ideal.Read.val_main_v0 (F := F) (V0 (Proc.devRef .tc main_arg0))) :=
  (W4_keep V0 main_v0 (by decide)).trans (W3_main_v0 V0)

theorem W4_main_v2 (V0 : Valuation τ sig (Elt F)) : W4 V0 (no_index (Proc.devRef .tc main_v2)) = (Cert.Ref1Ideal.Read.val_main_v2 (F := F) (V0 (Proc.devRef .tc main_arg1)) (V0 (Proc.devRef .tc main_arg3))) :=
  (W4_keep V0 main_v2 (by decide)).trans (W3_main_v2 V0)

theorem W4_main_v4 (V0 : Valuation τ sig (Elt F)) : W4 V0 (no_index (Proc.devRef .tc main_v4)) = (Cert.Ref1Ideal.Read.val_main_v13 (F := F) (V0 (Proc.devRef .tc main_arg1)) (V0 (Proc.devRef .tc main_arg3))) :=
  (W4_keep V0 main_v4 (by decide)).trans (W3_main_v4 V0)

theorem W4_main_v29 (V0 : Valuation τ sig (Elt F)) : W4 V0 (no_index (Proc.devRef .tc main_v29)) = (Cert.Ref1Ideal.Read.val_main_v38 (F := F) (V0 (Proc.devRef .tc main_arg1)) (V0 (Proc.devRef .tc main_arg3))) :=
  (W4_keep V0 main_v29 (by decide)).trans (W3_main_v29 V0)

/-- The contents of the buffers after the host operations up to `hostOps0_5`. -/
def W5 (V0 : Valuation τ sig (Elt F)) : Valuation τ sig (Elt F) := after hostOps0_5 (W4 V0)

/-- The buffers `hostOps0_5` writes. -/
abbrev W5_W : List (Ref sig .tc) := [main_call2_v0, main_call2_v1, main_call2_v2, main_call2_v3, main_call2_v4, main_v35]

theorem W5_writes : (hostOps0_5 : List (HloOp τ sig (Elt F))).Forall fun op => op.writes ⊆ ((W5_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W5_keep (V0 : Valuation τ sig (Elt F)) (r : Ref sig .tc) (h : r ∉ W5_W) :
    W5 V0 (Proc.devRef .tc r) = (W4 V0) (Proc.devRef .tc r) :=
  after_of_writes_sub hostOps0_5 _ W5_writes h

theorem W5_main_arg4 (V0 : Valuation τ sig (Elt F)) : W5 V0 (no_index (Proc.devRef .tc main_arg4)) = V0 (Proc.devRef .tc main_arg4) :=
  (W5_keep V0 main_arg4 (by decide)).trans (W4_main_arg4 V0)

theorem W5_main_arg5 (V0 : Valuation τ sig (Elt F)) : W5 V0 (no_index (Proc.devRef .tc main_arg5)) = V0 (Proc.devRef .tc main_arg5) :=
  (W5_keep V0 main_arg5 (by decide)).trans (W4_main_arg5 V0)

theorem W5_main_v0 (V0 : Valuation τ sig (Elt F)) : W5 V0 (no_index (Proc.devRef .tc main_v0)) = (Cert.Ref1Ideal.Read.val_main_v0 (F := F) (V0 (Proc.devRef .tc main_arg0))) :=
  (W5_keep V0 main_v0 (by decide)).trans (W4_main_v0 V0)

theorem W5_main_v2 (V0 : Valuation τ sig (Elt F)) : W5 V0 (no_index (Proc.devRef .tc main_v2)) = (Cert.Ref1Ideal.Read.val_main_v2 (F := F) (V0 (Proc.devRef .tc main_arg1)) (V0 (Proc.devRef .tc main_arg3))) :=
  (W5_keep V0 main_v2 (by decide)).trans (W4_main_v2 V0)

theorem W5_main_v4 (V0 : Valuation τ sig (Elt F)) : W5 V0 (no_index (Proc.devRef .tc main_v4)) = (Cert.Ref1Ideal.Read.val_main_v13 (F := F) (V0 (Proc.devRef .tc main_arg1)) (V0 (Proc.devRef .tc main_arg3))) :=
  (W5_keep V0 main_v4 (by decide)).trans (W4_main_v4 V0)

theorem W5_main_v29 (V0 : Valuation τ sig (Elt F)) : W5 V0 (no_index (Proc.devRef .tc main_v29)) = (Cert.Ref1Ideal.Read.val_main_v38 (F := F) (V0 (Proc.devRef .tc main_arg1)) (V0 (Proc.devRef .tc main_arg3))) :=
  (W5_keep V0 main_v29 (by decide)).trans (W4_main_v29 V0)

/-- The contents of the buffers after the host operations up to `hostOps0_6`. -/
def W6 (V0 : Valuation τ sig (Elt F)) : Valuation τ sig (Elt F) := after hostOps0_6 (W5 V0)

/-- The buffers `hostOps0_6` writes. -/
abbrev W6_W : List (Ref sig .tc) := [main_c_13, main_v36, main_v37, main_v38, main_v39, main_v40, main_c_14, main_v41, main_v42, main_c_15, main_c_16]

theorem W6_writes : (hostOps0_6 : List (HloOp τ sig (Elt F))).Forall fun op => op.writes ⊆ ((W6_W).map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W6_keep (V0 : Valuation τ sig (Elt F)) (r : Ref sig .tc) (h : r ∉ W6_W) :
    W6 V0 (Proc.devRef .tc r) = (W5 V0) (Proc.devRef .tc r) :=
  after_of_writes_sub hostOps0_6 _ W6_writes h

theorem W6_main_arg4 (V0 : Valuation τ sig (Elt F)) : W6 V0 (no_index (Proc.devRef .tc main_arg4)) = V0 (Proc.devRef .tc main_arg4) :=
  (W6_keep V0 main_arg4 (by decide)).trans (W5_main_arg4 V0)

theorem W6_main_arg5 (V0 : Valuation τ sig (Elt F)) : W6 V0 (no_index (Proc.devRef .tc main_arg5)) = V0 (Proc.devRef .tc main_arg5) :=
  (W6_keep V0 main_arg5 (by decide)).trans (W5_main_arg5 V0)

theorem W6_main_v0 (V0 : Valuation τ sig (Elt F)) : W6 V0 (no_index (Proc.devRef .tc main_v0)) = (Cert.Ref1Ideal.Read.val_main_v0 (F := F) (V0 (Proc.devRef .tc main_arg0))) :=
  (W6_keep V0 main_v0 (by decide)).trans (W5_main_v0 V0)

theorem W6_main_v2 (V0 : Valuation τ sig (Elt F)) : W6 V0 (no_index (Proc.devRef .tc main_v2)) = (Cert.Ref1Ideal.Read.val_main_v2 (F := F) (V0 (Proc.devRef .tc main_arg1)) (V0 (Proc.devRef .tc main_arg3))) :=
  (W6_keep V0 main_v2 (by decide)).trans (W5_main_v2 V0)

theorem W6_main_v4 (V0 : Valuation τ sig (Elt F)) : W6 V0 (no_index (Proc.devRef .tc main_v4)) = (Cert.Ref1Ideal.Read.val_main_v13 (F := F) (V0 (Proc.devRef .tc main_arg1)) (V0 (Proc.devRef .tc main_arg3))) :=
  (W6_keep V0 main_v4 (by decide)).trans (W5_main_v4 V0)

theorem W6_main_v29 (V0 : Valuation τ sig (Elt F)) : W6 V0 (no_index (Proc.devRef .tc main_v29)) = (Cert.Ref1Ideal.Read.val_main_v38 (F := F) (V0 (Proc.devRef .tc main_arg1)) (V0 (Proc.devRef .tc main_arg3))) :=
  (W6_keep V0 main_v29 (by decide)).trans (W5_main_v29 V0)

/-- The contents of the buffers after the host operations up to `hostOps0_7`. -/
def W7 (V0 : Valuation τ sig (Elt F)) : Valuation τ sig (Elt F) := after hostOps0_7 (W6 V0)

/-- The buffers `hostOps0_7` writes. -/
abbrev W7_W : List (Ref sig .tc) := [main_call3_v0, main_call3_v1, main_call3_v2, main_call3_v3, main_call3_v4, main_v43]

theorem W7_writes : (hostOps0_7 : List (HloOp τ sig (Elt F))).Forall fun op => op.writes ⊆ ((W7_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W7_keep (V0 : Valuation τ sig (Elt F)) (r : Ref sig .tc) (h : r ∉ W7_W) :
    W7 V0 (Proc.devRef .tc r) = (W6 V0) (Proc.devRef .tc r) :=
  after_of_writes_sub hostOps0_7 _ W7_writes h

theorem W7_main_arg4 (V0 : Valuation τ sig (Elt F)) : W7 V0 (no_index (Proc.devRef .tc main_arg4)) = V0 (Proc.devRef .tc main_arg4) :=
  (W7_keep V0 main_arg4 (by decide)).trans (W6_main_arg4 V0)

theorem W7_main_arg5 (V0 : Valuation τ sig (Elt F)) : W7 V0 (no_index (Proc.devRef .tc main_arg5)) = V0 (Proc.devRef .tc main_arg5) :=
  (W7_keep V0 main_arg5 (by decide)).trans (W6_main_arg5 V0)

theorem W7_main_v0 (V0 : Valuation τ sig (Elt F)) : W7 V0 (no_index (Proc.devRef .tc main_v0)) = (Cert.Ref1Ideal.Read.val_main_v0 (F := F) (V0 (Proc.devRef .tc main_arg0))) :=
  (W7_keep V0 main_v0 (by decide)).trans (W6_main_v0 V0)

theorem W7_main_v2 (V0 : Valuation τ sig (Elt F)) : W7 V0 (no_index (Proc.devRef .tc main_v2)) = (Cert.Ref1Ideal.Read.val_main_v2 (F := F) (V0 (Proc.devRef .tc main_arg1)) (V0 (Proc.devRef .tc main_arg3))) :=
  (W7_keep V0 main_v2 (by decide)).trans (W6_main_v2 V0)

theorem W7_main_v4 (V0 : Valuation τ sig (Elt F)) : W7 V0 (no_index (Proc.devRef .tc main_v4)) = (Cert.Ref1Ideal.Read.val_main_v13 (F := F) (V0 (Proc.devRef .tc main_arg1)) (V0 (Proc.devRef .tc main_arg3))) :=
  (W7_keep V0 main_v4 (by decide)).trans (W6_main_v4 V0)

theorem W7_main_v29 (V0 : Valuation τ sig (Elt F)) : W7 V0 (no_index (Proc.devRef .tc main_v29)) = (Cert.Ref1Ideal.Read.val_main_v38 (F := F) (V0 (Proc.devRef .tc main_arg1)) (V0 (Proc.devRef .tc main_arg3))) :=
  (W7_keep V0 main_v29 (by decide)).trans (W6_main_v29 V0)

/-- The contents of the buffers after the host operations up to `hostOps0_8`. -/
def W8 (V0 : Valuation τ sig (Elt F)) : Valuation τ sig (Elt F) := after hostOps0_8 (W7 V0)

/-- The buffers `hostOps0_8` writes. -/
abbrev W8_W : List (Ref sig .tc) := [main_c_17, main_v44, main_v45, main_v46, main_v47, main_c_18, main_v48, main_v49, main_c_19, main_v50, main_v51, main_c_20, main_v52, main_v53, main_c_21, main_c_22]

theorem W8_writes : (hostOps0_8 : List (HloOp τ sig (Elt F))).Forall fun op => op.writes ⊆ ((W8_W).map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W8_keep (V0 : Valuation τ sig (Elt F)) (r : Ref sig .tc) (h : r ∉ W8_W) :
    W8 V0 (Proc.devRef .tc r) = (W7 V0) (Proc.devRef .tc r) :=
  after_of_writes_sub hostOps0_8 _ W8_writes h

theorem W8_main_arg4 (V0 : Valuation τ sig (Elt F)) : W8 V0 (no_index (Proc.devRef .tc main_arg4)) = V0 (Proc.devRef .tc main_arg4) :=
  (W8_keep V0 main_arg4 (by decide)).trans (W7_main_arg4 V0)

theorem W8_main_arg5 (V0 : Valuation τ sig (Elt F)) : W8 V0 (no_index (Proc.devRef .tc main_arg5)) = V0 (Proc.devRef .tc main_arg5) :=
  (W8_keep V0 main_arg5 (by decide)).trans (W7_main_arg5 V0)

theorem W8_main_v0 (V0 : Valuation τ sig (Elt F)) : W8 V0 (no_index (Proc.devRef .tc main_v0)) = (Cert.Ref1Ideal.Read.val_main_v0 (F := F) (V0 (Proc.devRef .tc main_arg0))) :=
  (W8_keep V0 main_v0 (by decide)).trans (W7_main_v0 V0)

theorem W8_main_v2 (V0 : Valuation τ sig (Elt F)) : W8 V0 (no_index (Proc.devRef .tc main_v2)) = (Cert.Ref1Ideal.Read.val_main_v2 (F := F) (V0 (Proc.devRef .tc main_arg1)) (V0 (Proc.devRef .tc main_arg3))) :=
  (W8_keep V0 main_v2 (by decide)).trans (W7_main_v2 V0)

theorem W8_main_v4 (V0 : Valuation τ sig (Elt F)) : W8 V0 (no_index (Proc.devRef .tc main_v4)) = (Cert.Ref1Ideal.Read.val_main_v13 (F := F) (V0 (Proc.devRef .tc main_arg1)) (V0 (Proc.devRef .tc main_arg3))) :=
  (W8_keep V0 main_v4 (by decide)).trans (W7_main_v4 V0)

set_option maxRecDepth 8192 in
set_option maxHeartbeats 1200000 in
theorem W8_main_v49 (V0 : Valuation τ sig (Elt F)) : W8 V0 (no_index (Proc.devRef .tc main_v49)) = (Cert.Ref1Ideal.Read.val_main_v58 (F := F) (V0 (Proc.devRef .tc main_arg1)) (V0 (Proc.devRef .tc main_arg3))) := by
  unfold W8
  simp only [hostOps0_8, TRef.nullary, TRef.ternary, TRef.binary, TRef.unary, TRef.toBuf, TRef.ofBuf, cast_eq]
  after_results_simp
  simp only [W7_main_v29] <;> rfl

set_option maxRecDepth 8192 in
set_option maxHeartbeats 1200000 in
theorem W8_main_v51 (V0 : Valuation τ sig (Elt F)) : W8 V0 (no_index (Proc.devRef .tc main_v51)) = (Cert.Ref1Ideal.Read.val_main_v60 (F := F) (V0 (Proc.devRef .tc main_arg1)) (V0 (Proc.devRef .tc main_arg3))) := by
  unfold W8
  simp only [hostOps0_8, TRef.nullary, TRef.ternary, TRef.binary, TRef.unary, TRef.toBuf, TRef.ofBuf, cast_eq]
  after_results_simp
  simp only [W7_main_v29] <;> rfl

set_option maxRecDepth 8192 in
set_option maxHeartbeats 1200000 in
theorem W8_main_v53 (V0 : Valuation τ sig (Elt F)) : W8 V0 (no_index (Proc.devRef .tc main_v53)) = (Cert.Ref1Ideal.Read.val_main_v62 (F := F) (V0 (Proc.devRef .tc main_arg1)) (V0 (Proc.devRef .tc main_arg3))) := by
  unfold W8
  simp only [hostOps0_8, TRef.nullary, TRef.ternary, TRef.binary, TRef.unary, TRef.toBuf, TRef.ofBuf, cast_eq]
  after_results_simp
  simp only [W7_main_v29] <;> rfl

set_option maxRecDepth 8192 in
set_option maxHeartbeats 1200000 in
theorem W8_main_c_21 (V0 : Valuation τ sig (Elt F)) : W8 V0 (no_index (Proc.devRef .tc main_c_21)) = (Cert.Ref1Ideal.Read.val_main_c_1 (F := F)) := by
  unfold W8
  simp only [hostOps0_8, TRef.nullary, TRef.ternary, TRef.binary, TRef.unary, TRef.toBuf, TRef.ofBuf, cast_eq]
  after_results_simp
  all_goals rfl

set_option maxRecDepth 8192 in
set_option maxHeartbeats 1200000 in
theorem W8_main_c_22 (V0 : Valuation τ sig (Elt F)) : W8 V0 (no_index (Proc.devRef .tc main_c_22)) = (Cert.Ref1Ideal.Read.val_main_c_2 (F := F)) := by
  unfold W8
  simp only [hostOps0_8, TRef.nullary, TRef.ternary, TRef.binary, TRef.unary, TRef.toBuf, TRef.ofBuf, cast_eq]
  after_results_simp
  all_goals rfl

/-- The contents of the buffers after the host operations up to `hostOps0_9`. -/
def W9 (V0 : Valuation τ sig (Elt F)) : Valuation τ sig (Elt F) := after hostOps0_9 (W8 V0)

/-- The buffers `hostOps0_9` writes. -/
abbrev W9_W : List (Ref sig .tc) := [main_call4_v0, main_call4_v1, main_call4_v2, main_call4_v3, main_call4_v4, main_v54]

theorem W9_writes : (hostOps0_9 : List (HloOp τ sig (Elt F))).Forall fun op => op.writes ⊆ ((W9_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W9_keep (V0 : Valuation τ sig (Elt F)) (r : Ref sig .tc) (h : r ∉ W9_W) :
    W9 V0 (Proc.devRef .tc r) = (W8 V0) (Proc.devRef .tc r) :=
  after_of_writes_sub hostOps0_9 _ W9_writes h

theorem W9_main_arg4 (V0 : Valuation τ sig (Elt F)) : W9 V0 (no_index (Proc.devRef .tc main_arg4)) = V0 (Proc.devRef .tc main_arg4) :=
  (W9_keep V0 main_arg4 (by decide)).trans (W8_main_arg4 V0)

theorem W9_main_arg5 (V0 : Valuation τ sig (Elt F)) : W9 V0 (no_index (Proc.devRef .tc main_arg5)) = V0 (Proc.devRef .tc main_arg5) :=
  (W9_keep V0 main_arg5 (by decide)).trans (W8_main_arg5 V0)

theorem W9_main_v0 (V0 : Valuation τ sig (Elt F)) : W9 V0 (no_index (Proc.devRef .tc main_v0)) = (Cert.Ref1Ideal.Read.val_main_v0 (F := F) (V0 (Proc.devRef .tc main_arg0))) :=
  (W9_keep V0 main_v0 (by decide)).trans (W8_main_v0 V0)

theorem W9_main_v2 (V0 : Valuation τ sig (Elt F)) : W9 V0 (no_index (Proc.devRef .tc main_v2)) = (Cert.Ref1Ideal.Read.val_main_v2 (F := F) (V0 (Proc.devRef .tc main_arg1)) (V0 (Proc.devRef .tc main_arg3))) :=
  (W9_keep V0 main_v2 (by decide)).trans (W8_main_v2 V0)

theorem W9_main_v4 (V0 : Valuation τ sig (Elt F)) : W9 V0 (no_index (Proc.devRef .tc main_v4)) = (Cert.Ref1Ideal.Read.val_main_v13 (F := F) (V0 (Proc.devRef .tc main_arg1)) (V0 (Proc.devRef .tc main_arg3))) :=
  (W9_keep V0 main_v4 (by decide)).trans (W8_main_v4 V0)

theorem W9_main_v49 (V0 : Valuation τ sig (Elt F)) : W9 V0 (no_index (Proc.devRef .tc main_v49)) = (Cert.Ref1Ideal.Read.val_main_v58 (F := F) (V0 (Proc.devRef .tc main_arg1)) (V0 (Proc.devRef .tc main_arg3))) :=
  (W9_keep V0 main_v49 (by decide)).trans (W8_main_v49 V0)

theorem W9_main_v51 (V0 : Valuation τ sig (Elt F)) : W9 V0 (no_index (Proc.devRef .tc main_v51)) = (Cert.Ref1Ideal.Read.val_main_v60 (F := F) (V0 (Proc.devRef .tc main_arg1)) (V0 (Proc.devRef .tc main_arg3))) :=
  (W9_keep V0 main_v51 (by decide)).trans (W8_main_v51 V0)

set_option maxRecDepth 8192 in
set_option maxHeartbeats 1200000 in
theorem W9_main_v54 (V0 : Valuation τ sig (Elt F)) : W9 V0 (no_index (Proc.devRef .tc main_v54)) = (Cert.Ref1Ideal.Read.val_main_v63 (F := F) (V0 (Proc.devRef .tc main_arg1)) (V0 (Proc.devRef .tc main_arg3))) := by
  unfold W9
  simp only [hostOps0_9, TRef.nullary, TRef.ternary, TRef.binary, TRef.unary, TRef.toBuf, TRef.ofBuf, cast_eq]
  after_results_simp
  simp only [W8_main_c_21, W8_main_c_22, W8_main_v53] <;> rfl

/-- The contents of the buffers after the host operations up to `hostOps0_10`. -/
def W10 (V0 : Valuation τ sig (Elt F)) : Valuation τ sig (Elt F) := after hostOps0_10 (W9 V0)

/-- The buffers `hostOps0_10` writes. -/
abbrev W10_W : List (Ref sig .tc) := [main_c_23, main_v55, main_v56, main_v57, main_v58, main_v59, main_c_24, main_v60, main_v61, main_c_25, main_c_26]

theorem W10_writes : (hostOps0_10 : List (HloOp τ sig (Elt F))).Forall fun op => op.writes ⊆ ((W10_W).map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W10_keep (V0 : Valuation τ sig (Elt F)) (r : Ref sig .tc) (h : r ∉ W10_W) :
    W10 V0 (Proc.devRef .tc r) = (W9 V0) (Proc.devRef .tc r) :=
  after_of_writes_sub hostOps0_10 _ W10_writes h

theorem W10_main_arg4 (V0 : Valuation τ sig (Elt F)) : W10 V0 (no_index (Proc.devRef .tc main_arg4)) = V0 (Proc.devRef .tc main_arg4) :=
  (W10_keep V0 main_arg4 (by decide)).trans (W9_main_arg4 V0)

theorem W10_main_arg5 (V0 : Valuation τ sig (Elt F)) : W10 V0 (no_index (Proc.devRef .tc main_arg5)) = V0 (Proc.devRef .tc main_arg5) :=
  (W10_keep V0 main_arg5 (by decide)).trans (W9_main_arg5 V0)

theorem W10_main_v0 (V0 : Valuation τ sig (Elt F)) : W10 V0 (no_index (Proc.devRef .tc main_v0)) = (Cert.Ref1Ideal.Read.val_main_v0 (F := F) (V0 (Proc.devRef .tc main_arg0))) :=
  (W10_keep V0 main_v0 (by decide)).trans (W9_main_v0 V0)

theorem W10_main_v2 (V0 : Valuation τ sig (Elt F)) : W10 V0 (no_index (Proc.devRef .tc main_v2)) = (Cert.Ref1Ideal.Read.val_main_v2 (F := F) (V0 (Proc.devRef .tc main_arg1)) (V0 (Proc.devRef .tc main_arg3))) :=
  (W10_keep V0 main_v2 (by decide)).trans (W9_main_v2 V0)

theorem W10_main_v49 (V0 : Valuation τ sig (Elt F)) : W10 V0 (no_index (Proc.devRef .tc main_v49)) = (Cert.Ref1Ideal.Read.val_main_v58 (F := F) (V0 (Proc.devRef .tc main_arg1)) (V0 (Proc.devRef .tc main_arg3))) :=
  (W10_keep V0 main_v49 (by decide)).trans (W9_main_v49 V0)

set_option maxRecDepth 8192 in
set_option maxHeartbeats 1200000 in
theorem W10_main_v58 (V0 : Valuation τ sig (Elt F)) : W10 V0 (no_index (Proc.devRef .tc main_v58)) = (Cert.Ref1Ideal.Read.val_main_v67 (F := F) (V0 (Proc.devRef .tc main_arg1)) (V0 (Proc.devRef .tc main_arg3))) := by
  unfold W10
  simp only [hostOps0_10, TRef.nullary, TRef.ternary, TRef.binary, TRef.unary, TRef.toBuf, TRef.ofBuf, cast_eq]
  after_results_simp
  simp only [W9_main_v4, W9_main_v54] <;> rfl

set_option maxRecDepth 8192 in
set_option maxHeartbeats 1200000 in
theorem W10_main_v61 (V0 : Valuation τ sig (Elt F)) : W10 V0 (no_index (Proc.devRef .tc main_v61)) = (Cert.Ref1Ideal.Read.val_main_v70 (F := F) (V0 (Proc.devRef .tc main_arg1)) (V0 (Proc.devRef .tc main_arg3))) := by
  unfold W10
  simp only [hostOps0_10, TRef.nullary, TRef.ternary, TRef.binary, TRef.unary, TRef.toBuf, TRef.ofBuf, cast_eq]
  after_results_simp
  simp only [W9_main_v49, W9_main_v51] <;> rfl

set_option maxRecDepth 8192 in
set_option maxHeartbeats 1200000 in
theorem W10_main_c_25 (V0 : Valuation τ sig (Elt F)) : W10 V0 (no_index (Proc.devRef .tc main_c_25)) = (Cert.Ref1Ideal.Read.val_main_c_1 (F := F)) := by
  unfold W10
  simp only [hostOps0_10, TRef.nullary, TRef.ternary, TRef.binary, TRef.unary, TRef.toBuf, TRef.ofBuf, cast_eq]
  after_results_simp
  all_goals rfl

set_option maxRecDepth 8192 in
set_option maxHeartbeats 1200000 in
theorem W10_main_c_26 (V0 : Valuation τ sig (Elt F)) : W10 V0 (no_index (Proc.devRef .tc main_c_26)) = (Cert.Ref1Ideal.Read.val_main_c_2 (F := F)) := by
  unfold W10
  simp only [hostOps0_10, TRef.nullary, TRef.ternary, TRef.binary, TRef.unary, TRef.toBuf, TRef.ofBuf, cast_eq]
  after_results_simp
  all_goals rfl

/-- The contents of the buffers after the host operations up to `hostOps0_11`. -/
def W11 (V0 : Valuation τ sig (Elt F)) : Valuation τ sig (Elt F) := after hostOps0_11 (W10 V0)

/-- The buffers `hostOps0_11` writes. -/
abbrev W11_W : List (Ref sig .tc) := [main_call5_v0, main_call5_v1, main_call5_v2, main_call5_v3, main_call5_v4, main_v62]

theorem W11_writes : (hostOps0_11 : List (HloOp τ sig (Elt F))).Forall fun op => op.writes ⊆ ((W11_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W11_keep (V0 : Valuation τ sig (Elt F)) (r : Ref sig .tc) (h : r ∉ W11_W) :
    W11 V0 (Proc.devRef .tc r) = (W10 V0) (Proc.devRef .tc r) :=
  after_of_writes_sub hostOps0_11 _ W11_writes h

theorem W11_main_arg4 (V0 : Valuation τ sig (Elt F)) : W11 V0 (no_index (Proc.devRef .tc main_arg4)) = V0 (Proc.devRef .tc main_arg4) :=
  (W11_keep V0 main_arg4 (by decide)).trans (W10_main_arg4 V0)

theorem W11_main_arg5 (V0 : Valuation τ sig (Elt F)) : W11 V0 (no_index (Proc.devRef .tc main_arg5)) = V0 (Proc.devRef .tc main_arg5) :=
  (W11_keep V0 main_arg5 (by decide)).trans (W10_main_arg5 V0)

theorem W11_main_v0 (V0 : Valuation τ sig (Elt F)) : W11 V0 (no_index (Proc.devRef .tc main_v0)) = (Cert.Ref1Ideal.Read.val_main_v0 (F := F) (V0 (Proc.devRef .tc main_arg0))) :=
  (W11_keep V0 main_v0 (by decide)).trans (W10_main_v0 V0)

theorem W11_main_v2 (V0 : Valuation τ sig (Elt F)) : W11 V0 (no_index (Proc.devRef .tc main_v2)) = (Cert.Ref1Ideal.Read.val_main_v2 (F := F) (V0 (Proc.devRef .tc main_arg1)) (V0 (Proc.devRef .tc main_arg3))) :=
  (W11_keep V0 main_v2 (by decide)).trans (W10_main_v2 V0)

theorem W11_main_v49 (V0 : Valuation τ sig (Elt F)) : W11 V0 (no_index (Proc.devRef .tc main_v49)) = (Cert.Ref1Ideal.Read.val_main_v58 (F := F) (V0 (Proc.devRef .tc main_arg1)) (V0 (Proc.devRef .tc main_arg3))) :=
  (W11_keep V0 main_v49 (by decide)).trans (W10_main_v49 V0)

theorem W11_main_v58 (V0 : Valuation τ sig (Elt F)) : W11 V0 (no_index (Proc.devRef .tc main_v58)) = (Cert.Ref1Ideal.Read.val_main_v67 (F := F) (V0 (Proc.devRef .tc main_arg1)) (V0 (Proc.devRef .tc main_arg3))) :=
  (W11_keep V0 main_v58 (by decide)).trans (W10_main_v58 V0)

set_option maxRecDepth 8192 in
set_option maxHeartbeats 1200000 in
theorem W11_main_v62 (V0 : Valuation τ sig (Elt F)) : W11 V0 (no_index (Proc.devRef .tc main_v62)) = (Cert.Ref1Ideal.Read.val_main_v71 (F := F) (V0 (Proc.devRef .tc main_arg1)) (V0 (Proc.devRef .tc main_arg3))) := by
  unfold W11
  simp only [hostOps0_11, TRef.nullary, TRef.ternary, TRef.binary, TRef.unary, TRef.toBuf, TRef.ofBuf, cast_eq]
  after_results_simp
  simp only [W10_main_c_25, W10_main_c_26, W10_main_v61] <;> rfl

/-- The contents of the buffers after the host operations up to `hostOps0_12`. -/
def W12 (V0 : Valuation τ sig (Elt F)) : Valuation τ sig (Elt F) := after hostOps0_12 (W11 V0)

/-- The buffers `hostOps0_12` writes. -/
abbrev W12_W : List (Ref sig .tc) := [main_c_27, main_v63, main_v64, main_v65, main_v66, main_cst_28, main_v67, main_v68, main_v69, main_v70, main_v71, main_cst_29, main_v72, main_v73, main_v74, main_v75, main_v76, main_cst_30, main_v77, main_v78, main_v79, main_v80, main_c_31, main_v81, main_v82, main_c_32, main_v83, main_v84, main_c_33, main_c_34]

theorem W12_writes : (hostOps0_12 : List (HloOp τ sig (Elt F))).Forall fun op => op.writes ⊆ ((W12_W).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W12_keep (V0 : Valuation τ sig (Elt F)) (r : Ref sig .tc) (h : r ∉ W12_W) :
    W12 V0 (Proc.devRef .tc r) = (W11 V0) (Proc.devRef .tc r) :=
  after_of_writes_sub hostOps0_12 _ W12_writes h

theorem W12_main_arg4 (V0 : Valuation τ sig (Elt F)) : W12 V0 (no_index (Proc.devRef .tc main_arg4)) = V0 (Proc.devRef .tc main_arg4) :=
  (W12_keep V0 main_arg4 (by decide)).trans (W11_main_arg4 V0)

theorem W12_main_arg5 (V0 : Valuation τ sig (Elt F)) : W12 V0 (no_index (Proc.devRef .tc main_arg5)) = V0 (Proc.devRef .tc main_arg5) :=
  (W12_keep V0 main_arg5 (by decide)).trans (W11_main_arg5 V0)

theorem W12_main_v0 (V0 : Valuation τ sig (Elt F)) : W12 V0 (no_index (Proc.devRef .tc main_v0)) = (Cert.Ref1Ideal.Read.val_main_v0 (F := F) (V0 (Proc.devRef .tc main_arg0))) :=
  (W12_keep V0 main_v0 (by decide)).trans (W11_main_v0 V0)

theorem W12_main_v2 (V0 : Valuation τ sig (Elt F)) : W12 V0 (no_index (Proc.devRef .tc main_v2)) = (Cert.Ref1Ideal.Read.val_main_v2 (F := F) (V0 (Proc.devRef .tc main_arg1)) (V0 (Proc.devRef .tc main_arg3))) :=
  (W12_keep V0 main_v2 (by decide)).trans (W11_main_v2 V0)

theorem W12_main_v49 (V0 : Valuation τ sig (Elt F)) : W12 V0 (no_index (Proc.devRef .tc main_v49)) = (Cert.Ref1Ideal.Read.val_main_v58 (F := F) (V0 (Proc.devRef .tc main_arg1)) (V0 (Proc.devRef .tc main_arg3))) :=
  (W12_keep V0 main_v49 (by decide)).trans (W11_main_v49 V0)

set_option maxRecDepth 8192 in
set_option maxHeartbeats 1200000 in
theorem W12_main_v70 (V0 : Valuation τ sig (Elt F)) : W12 V0 (no_index (Proc.devRef .tc main_v70)) = (Cert.Ref1Ideal.Read.val_main_v79 (F := F) (V0 (Proc.devRef .tc main_arg1)) (V0 (Proc.devRef .tc main_arg3))) := by
  unfold W12
  simp only [hostOps0_12, TRef.nullary, TRef.ternary, TRef.binary, TRef.unary, TRef.toBuf, TRef.ofBuf, cast_eq]
  after_results_simp
  simp only [W11_main_v58, W11_main_v62] <;> rfl

set_option maxRecDepth 8192 in
set_option maxHeartbeats 1200000 in
theorem W12_main_v75 (V0 : Valuation τ sig (Elt F)) : W12 V0 (no_index (Proc.devRef .tc main_v75)) = (Cert.Ref1Ideal.Read.val_main_v84 (F := F) (V0 (Proc.devRef .tc main_arg1)) (V0 (Proc.devRef .tc main_arg3))) := by
  unfold W12
  simp only [hostOps0_12, TRef.nullary, TRef.ternary, TRef.binary, TRef.unary, TRef.toBuf, TRef.ofBuf, cast_eq]
  after_results_simp
  simp only [W11_main_v58, W11_main_v62] <;> rfl

set_option maxRecDepth 8192 in
set_option maxHeartbeats 1200000 in
theorem W12_main_v78 (V0 : Valuation τ sig (Elt F)) : W12 V0 (no_index (Proc.devRef .tc main_v78)) = (Cert.Ref1Ideal.Read.val_main_v87 (F := F) (V0 (Proc.devRef .tc main_arg1)) (V0 (Proc.devRef .tc main_arg3))) := by
  unfold W12
  simp only [hostOps0_12, TRef.nullary, TRef.ternary, TRef.binary, TRef.unary, TRef.toBuf, TRef.ofBuf, cast_eq]
  after_results_simp
  simp only [W11_main_v58, W11_main_v62] <;> rfl

set_option maxRecDepth 8192 in
set_option maxHeartbeats 1200000 in
theorem W12_main_v79 (V0 : Valuation τ sig (Elt F)) : W12 V0 (no_index (Proc.devRef .tc main_v79)) = (Cert.Ref1Ideal.Read.val_main_v88 (F := F) (V0 (Proc.devRef .tc main_arg1)) (V0 (Proc.devRef .tc main_arg3))) := by
  unfold W12
  simp only [hostOps0_12, TRef.nullary, TRef.ternary, TRef.binary, TRef.unary, TRef.toBuf, TRef.ofBuf, cast_eq]
  after_results_simp
  simp only [W11_main_v58, W11_main_v62] <;> rfl

set_option maxRecDepth 8192 in
set_option maxHeartbeats 1200000 in
theorem W12_main_v84 (V0 : Valuation τ sig (Elt F)) : W12 V0 (no_index (Proc.devRef .tc main_v84)) = (Cert.Ref1Ideal.Read.val_main_v19 (F := F)) := by
  unfold W12
  simp only [hostOps0_12, TRef.nullary, TRef.ternary, TRef.binary, TRef.unary, TRef.toBuf, TRef.ofBuf, cast_eq]
  after_results_simp
  all_goals rfl

set_option maxRecDepth 8192 in
set_option maxHeartbeats 1200000 in
theorem W12_main_c_33 (V0 : Valuation τ sig (Elt F)) : W12 V0 (no_index (Proc.devRef .tc main_c_33)) = (Cert.Ref1Ideal.Read.val_main_c_1 (F := F)) := by
  unfold W12
  simp only [hostOps0_12, TRef.nullary, TRef.ternary, TRef.binary, TRef.unary, TRef.toBuf, TRef.ofBuf, cast_eq]
  after_results_simp
  all_goals rfl

set_option maxRecDepth 8192 in
set_option maxHeartbeats 1200000 in
theorem W12_main_c_34 (V0 : Valuation τ sig (Elt F)) : W12 V0 (no_index (Proc.devRef .tc main_c_34)) = (Cert.Ref1Ideal.Read.val_main_c_2 (F := F)) := by
  unfold W12
  simp only [hostOps0_12, TRef.nullary, TRef.ternary, TRef.binary, TRef.unary, TRef.toBuf, TRef.ofBuf, cast_eq]
  after_results_simp
  all_goals rfl

/-- The contents of the buffers after the host operations up to `hostOps0_13`. -/
def W13 (V0 : Valuation τ sig (Elt F)) : Valuation τ sig (Elt F) := after hostOps0_13 (W12 V0)

/-- The buffers `hostOps0_13` writes. -/
abbrev W13_W : List (Ref sig .tc) := [main_call6_v0, main_call6_v1, main_call6_v2, main_call6_v3, main_call6_v4, main_v85]

theorem W13_writes : (hostOps0_13 : List (HloOp τ sig (Elt F))).Forall fun op => op.writes ⊆ ((W13_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W13_keep (V0 : Valuation τ sig (Elt F)) (r : Ref sig .tc) (h : r ∉ W13_W) :
    W13 V0 (Proc.devRef .tc r) = (W12 V0) (Proc.devRef .tc r) :=
  after_of_writes_sub hostOps0_13 _ W13_writes h

theorem W13_main_arg4 (V0 : Valuation τ sig (Elt F)) : W13 V0 (no_index (Proc.devRef .tc main_arg4)) = V0 (Proc.devRef .tc main_arg4) :=
  (W13_keep V0 main_arg4 (by decide)).trans (W12_main_arg4 V0)

theorem W13_main_arg5 (V0 : Valuation τ sig (Elt F)) : W13 V0 (no_index (Proc.devRef .tc main_arg5)) = V0 (Proc.devRef .tc main_arg5) :=
  (W13_keep V0 main_arg5 (by decide)).trans (W12_main_arg5 V0)

theorem W13_main_v0 (V0 : Valuation τ sig (Elt F)) : W13 V0 (no_index (Proc.devRef .tc main_v0)) = (Cert.Ref1Ideal.Read.val_main_v0 (F := F) (V0 (Proc.devRef .tc main_arg0))) :=
  (W13_keep V0 main_v0 (by decide)).trans (W12_main_v0 V0)

theorem W13_main_v2 (V0 : Valuation τ sig (Elt F)) : W13 V0 (no_index (Proc.devRef .tc main_v2)) = (Cert.Ref1Ideal.Read.val_main_v2 (F := F) (V0 (Proc.devRef .tc main_arg1)) (V0 (Proc.devRef .tc main_arg3))) :=
  (W13_keep V0 main_v2 (by decide)).trans (W12_main_v2 V0)

theorem W13_main_v49 (V0 : Valuation τ sig (Elt F)) : W13 V0 (no_index (Proc.devRef .tc main_v49)) = (Cert.Ref1Ideal.Read.val_main_v58 (F := F) (V0 (Proc.devRef .tc main_arg1)) (V0 (Proc.devRef .tc main_arg3))) :=
  (W13_keep V0 main_v49 (by decide)).trans (W12_main_v49 V0)

theorem W13_main_v70 (V0 : Valuation τ sig (Elt F)) : W13 V0 (no_index (Proc.devRef .tc main_v70)) = (Cert.Ref1Ideal.Read.val_main_v79 (F := F) (V0 (Proc.devRef .tc main_arg1)) (V0 (Proc.devRef .tc main_arg3))) :=
  (W13_keep V0 main_v70 (by decide)).trans (W12_main_v70 V0)

theorem W13_main_v75 (V0 : Valuation τ sig (Elt F)) : W13 V0 (no_index (Proc.devRef .tc main_v75)) = (Cert.Ref1Ideal.Read.val_main_v84 (F := F) (V0 (Proc.devRef .tc main_arg1)) (V0 (Proc.devRef .tc main_arg3))) :=
  (W13_keep V0 main_v75 (by decide)).trans (W12_main_v75 V0)

theorem W13_main_v78 (V0 : Valuation τ sig (Elt F)) : W13 V0 (no_index (Proc.devRef .tc main_v78)) = (Cert.Ref1Ideal.Read.val_main_v87 (F := F) (V0 (Proc.devRef .tc main_arg1)) (V0 (Proc.devRef .tc main_arg3))) :=
  (W13_keep V0 main_v78 (by decide)).trans (W12_main_v78 V0)

theorem W13_main_v79 (V0 : Valuation τ sig (Elt F)) : W13 V0 (no_index (Proc.devRef .tc main_v79)) = (Cert.Ref1Ideal.Read.val_main_v88 (F := F) (V0 (Proc.devRef .tc main_arg1)) (V0 (Proc.devRef .tc main_arg3))) :=
  (W13_keep V0 main_v79 (by decide)).trans (W12_main_v79 V0)

set_option maxRecDepth 8192 in
set_option maxHeartbeats 1200000 in
theorem W13_main_v85 (V0 : Valuation τ sig (Elt F)) : W13 V0 (no_index (Proc.devRef .tc main_v85)) = (Cert.Ref1Ideal.Read.val_main_v20 (F := F)) := by
  unfold W13
  simp only [hostOps0_13, TRef.nullary, TRef.ternary, TRef.binary, TRef.unary, TRef.toBuf, TRef.ofBuf, cast_eq]
  after_results_simp
  simp only [W12_main_c_33, W12_main_c_34, W12_main_v84] <;> rfl

/-- The contents of the buffers after the host operations up to `hostOps0_14`. -/
def W14 (V0 : Valuation τ sig (Elt F)) : Valuation τ sig (Elt F) := after hostOps0_14 (W13 V0)

/-- The buffers `hostOps0_14` writes. -/
abbrev W14_W : List (Ref sig .tc) := [main_c_35, main_v86, main_v87, main_v88, main_v89, main_v90, main_v91, main_v92, main_v93, main_v94, main_c_36, main_v95, main_c_37, main_v96, main_v97, main_cst_38, main_v98, main_v99, main_cst_39, main_v100, main_v101, main_v102, main_c_40]

theorem W14_writes : (hostOps0_14 : List (HloOp τ sig (Elt F))).Forall fun op => op.writes ⊆ ((W14_W).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W14_keep (V0 : Valuation τ sig (Elt F)) (r : Ref sig .tc) (h : r ∉ W14_W) :
    W14 V0 (Proc.devRef .tc r) = (W13 V0) (Proc.devRef .tc r) :=
  after_of_writes_sub hostOps0_14 _ W14_writes h

theorem W14_main_arg4 (V0 : Valuation τ sig (Elt F)) : W14 V0 (no_index (Proc.devRef .tc main_arg4)) = V0 (Proc.devRef .tc main_arg4) :=
  (W14_keep V0 main_arg4 (by decide)).trans (W13_main_arg4 V0)

theorem W14_main_arg5 (V0 : Valuation τ sig (Elt F)) : W14 V0 (no_index (Proc.devRef .tc main_arg5)) = V0 (Proc.devRef .tc main_arg5) :=
  (W14_keep V0 main_arg5 (by decide)).trans (W13_main_arg5 V0)

theorem W14_main_v0 (V0 : Valuation τ sig (Elt F)) : W14 V0 (no_index (Proc.devRef .tc main_v0)) = (Cert.Ref1Ideal.Read.val_main_v0 (F := F) (V0 (Proc.devRef .tc main_arg0))) :=
  (W14_keep V0 main_v0 (by decide)).trans (W13_main_v0 V0)

theorem W14_main_v2 (V0 : Valuation τ sig (Elt F)) : W14 V0 (no_index (Proc.devRef .tc main_v2)) = (Cert.Ref1Ideal.Read.val_main_v2 (F := F) (V0 (Proc.devRef .tc main_arg1)) (V0 (Proc.devRef .tc main_arg3))) :=
  (W14_keep V0 main_v2 (by decide)).trans (W13_main_v2 V0)

theorem W14_main_v49 (V0 : Valuation τ sig (Elt F)) : W14 V0 (no_index (Proc.devRef .tc main_v49)) = (Cert.Ref1Ideal.Read.val_main_v58 (F := F) (V0 (Proc.devRef .tc main_arg1)) (V0 (Proc.devRef .tc main_arg3))) :=
  (W14_keep V0 main_v49 (by decide)).trans (W13_main_v49 V0)

theorem W14_main_v70 (V0 : Valuation τ sig (Elt F)) : W14 V0 (no_index (Proc.devRef .tc main_v70)) = (Cert.Ref1Ideal.Read.val_main_v79 (F := F) (V0 (Proc.devRef .tc main_arg1)) (V0 (Proc.devRef .tc main_arg3))) :=
  (W14_keep V0 main_v70 (by decide)).trans (W13_main_v70 V0)

theorem W14_main_v75 (V0 : Valuation τ sig (Elt F)) : W14 V0 (no_index (Proc.devRef .tc main_v75)) = (Cert.Ref1Ideal.Read.val_main_v84 (F := F) (V0 (Proc.devRef .tc main_arg1)) (V0 (Proc.devRef .tc main_arg3))) :=
  (W14_keep V0 main_v75 (by decide)).trans (W13_main_v75 V0)

theorem W14_main_v78 (V0 : Valuation τ sig (Elt F)) : W14 V0 (no_index (Proc.devRef .tc main_v78)) = (Cert.Ref1Ideal.Read.val_main_v87 (F := F) (V0 (Proc.devRef .tc main_arg1)) (V0 (Proc.devRef .tc main_arg3))) :=
  (W14_keep V0 main_v78 (by decide)).trans (W13_main_v78 V0)

set_option maxRecDepth 8192 in
set_option maxHeartbeats 1200000 in
theorem W14_main_v97 (V0 : Valuation τ sig (Elt F)) : W14 V0 (no_index (Proc.devRef .tc main_v97)) = (Cert.Ref1Ideal.Read.val_main_v106 (F := F) (V0 (Proc.devRef .tc main_arg1)) (V0 (Proc.devRef .tc main_arg3))) := by
  unfold W14
  simp only [hostOps0_14, TRef.nullary, TRef.ternary, TRef.binary, TRef.unary, TRef.toBuf, TRef.ofBuf, cast_eq]
  after_results_simp
  simp only [W13_main_v79, W13_main_v85] <;> rfl

set_option maxRecDepth 8192 in
set_option maxHeartbeats 1200000 in
theorem W14_main_v102 (V0 : Valuation τ sig (Elt F)) : W14 V0 (no_index (Proc.devRef .tc main_v102)) = (Cert.Ref1Ideal.Read.val_main_v111 (F := F) (V0 (Proc.devRef .tc main_arg1)) (V0 (Proc.devRef .tc main_arg3))) := by
  unfold W14
  simp only [hostOps0_14, TRef.nullary, TRef.ternary, TRef.binary, TRef.unary, TRef.toBuf, TRef.ofBuf, cast_eq]
  after_results_simp
  simp only [W13_main_v79] <;> rfl

set_option maxRecDepth 8192 in
set_option maxHeartbeats 1200000 in
theorem W14_main_c_40 (V0 : Valuation τ sig (Elt F)) : W14 V0 (no_index (Proc.devRef .tc main_c_40)) = (Cert.Ref1Ideal.Read.val_main_c_1 (F := F)) := by
  unfold W14
  simp only [hostOps0_14, TRef.nullary, TRef.ternary, TRef.binary, TRef.unary, TRef.toBuf, TRef.ofBuf, cast_eq]
  after_results_simp
  all_goals rfl

/-- The contents of the buffers after the host operations up to `hostOps0_15`. -/
def W15 (V0 : Valuation τ sig (Elt F)) : Valuation τ sig (Elt F) := after hostOps0_15 (W14 V0)

/-- The buffers `hostOps0_15` writes. -/
abbrev W15_W : List (Ref sig .tc) := [main_call7_v0, main_call7_v1, main_v103]

theorem W15_writes : (hostOps0_15 : List (HloOp τ sig (Elt F))).Forall fun op => op.writes ⊆ ((W15_W).map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W15_keep (V0 : Valuation τ sig (Elt F)) (r : Ref sig .tc) (h : r ∉ W15_W) :
    W15 V0 (Proc.devRef .tc r) = (W14 V0) (Proc.devRef .tc r) :=
  after_of_writes_sub hostOps0_15 _ W15_writes h

theorem W15_main_arg4 (V0 : Valuation τ sig (Elt F)) : W15 V0 (no_index (Proc.devRef .tc main_arg4)) = V0 (Proc.devRef .tc main_arg4) :=
  (W15_keep V0 main_arg4 (by decide)).trans (W14_main_arg4 V0)

theorem W15_main_arg5 (V0 : Valuation τ sig (Elt F)) : W15 V0 (no_index (Proc.devRef .tc main_arg5)) = V0 (Proc.devRef .tc main_arg5) :=
  (W15_keep V0 main_arg5 (by decide)).trans (W14_main_arg5 V0)

theorem W15_main_v0 (V0 : Valuation τ sig (Elt F)) : W15 V0 (no_index (Proc.devRef .tc main_v0)) = (Cert.Ref1Ideal.Read.val_main_v0 (F := F) (V0 (Proc.devRef .tc main_arg0))) :=
  (W15_keep V0 main_v0 (by decide)).trans (W14_main_v0 V0)

theorem W15_main_v2 (V0 : Valuation τ sig (Elt F)) : W15 V0 (no_index (Proc.devRef .tc main_v2)) = (Cert.Ref1Ideal.Read.val_main_v2 (F := F) (V0 (Proc.devRef .tc main_arg1)) (V0 (Proc.devRef .tc main_arg3))) :=
  (W15_keep V0 main_v2 (by decide)).trans (W14_main_v2 V0)

theorem W15_main_v49 (V0 : Valuation τ sig (Elt F)) : W15 V0 (no_index (Proc.devRef .tc main_v49)) = (Cert.Ref1Ideal.Read.val_main_v58 (F := F) (V0 (Proc.devRef .tc main_arg1)) (V0 (Proc.devRef .tc main_arg3))) :=
  (W15_keep V0 main_v49 (by decide)).trans (W14_main_v49 V0)

theorem W15_main_v70 (V0 : Valuation τ sig (Elt F)) : W15 V0 (no_index (Proc.devRef .tc main_v70)) = (Cert.Ref1Ideal.Read.val_main_v79 (F := F) (V0 (Proc.devRef .tc main_arg1)) (V0 (Proc.devRef .tc main_arg3))) :=
  (W15_keep V0 main_v70 (by decide)).trans (W14_main_v70 V0)

theorem W15_main_v75 (V0 : Valuation τ sig (Elt F)) : W15 V0 (no_index (Proc.devRef .tc main_v75)) = (Cert.Ref1Ideal.Read.val_main_v84 (F := F) (V0 (Proc.devRef .tc main_arg1)) (V0 (Proc.devRef .tc main_arg3))) :=
  (W15_keep V0 main_v75 (by decide)).trans (W14_main_v75 V0)

theorem W15_main_v78 (V0 : Valuation τ sig (Elt F)) : W15 V0 (no_index (Proc.devRef .tc main_v78)) = (Cert.Ref1Ideal.Read.val_main_v87 (F := F) (V0 (Proc.devRef .tc main_arg1)) (V0 (Proc.devRef .tc main_arg3))) :=
  (W15_keep V0 main_v78 (by decide)).trans (W14_main_v78 V0)

set_option maxRecDepth 8192 in
set_option maxHeartbeats 1200000 in
theorem W15_main_v103 (V0 : Valuation τ sig (Elt F)) : W15 V0 (no_index (Proc.devRef .tc main_v103)) = (Cert.Ref1Ideal.Read.val_main_v112 (F := F) (V0 (Proc.devRef .tc main_arg1)) (V0 (Proc.devRef .tc main_arg3))) := by
  unfold W15
  simp only [hostOps0_15, TRef.nullary, TRef.ternary, TRef.binary, TRef.unary, TRef.toBuf, TRef.ofBuf, cast_eq]
  after_results_simp
  simp only [W14_main_c_40, W14_main_v102, W14_main_v97] <;> rfl

/-- The contents of the buffers after the host operations up to `hostOps0_16`. -/
def W16 (V0 : Valuation τ sig (Elt F)) : Valuation τ sig (Elt F) := after hostOps0_16 (W15 V0)

/-- The buffers `hostOps0_16` writes. -/
abbrev W16_W : List (Ref sig .tc) := [main_v104, main_c_41, main_v105, main_v106, main_c_42, main_v107, main_v108, main_c_43, main_c_44]

theorem W16_writes : (hostOps0_16 : List (HloOp τ sig (Elt F))).Forall fun op => op.writes ⊆ ((W16_W).map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W16_keep (V0 : Valuation τ sig (Elt F)) (r : Ref sig .tc) (h : r ∉ W16_W) :
    W16 V0 (Proc.devRef .tc r) = (W15 V0) (Proc.devRef .tc r) :=
  after_of_writes_sub hostOps0_16 _ W16_writes h

theorem W16_main_arg4 (V0 : Valuation τ sig (Elt F)) : W16 V0 (no_index (Proc.devRef .tc main_arg4)) = V0 (Proc.devRef .tc main_arg4) :=
  (W16_keep V0 main_arg4 (by decide)).trans (W15_main_arg4 V0)

theorem W16_main_arg5 (V0 : Valuation τ sig (Elt F)) : W16 V0 (no_index (Proc.devRef .tc main_arg5)) = V0 (Proc.devRef .tc main_arg5) :=
  (W16_keep V0 main_arg5 (by decide)).trans (W15_main_arg5 V0)

theorem W16_main_v0 (V0 : Valuation τ sig (Elt F)) : W16 V0 (no_index (Proc.devRef .tc main_v0)) = (Cert.Ref1Ideal.Read.val_main_v0 (F := F) (V0 (Proc.devRef .tc main_arg0))) :=
  (W16_keep V0 main_v0 (by decide)).trans (W15_main_v0 V0)

theorem W16_main_v2 (V0 : Valuation τ sig (Elt F)) : W16 V0 (no_index (Proc.devRef .tc main_v2)) = (Cert.Ref1Ideal.Read.val_main_v2 (F := F) (V0 (Proc.devRef .tc main_arg1)) (V0 (Proc.devRef .tc main_arg3))) :=
  (W16_keep V0 main_v2 (by decide)).trans (W15_main_v2 V0)

theorem W16_main_v49 (V0 : Valuation τ sig (Elt F)) : W16 V0 (no_index (Proc.devRef .tc main_v49)) = (Cert.Ref1Ideal.Read.val_main_v58 (F := F) (V0 (Proc.devRef .tc main_arg1)) (V0 (Proc.devRef .tc main_arg3))) :=
  (W16_keep V0 main_v49 (by decide)).trans (W15_main_v49 V0)

theorem W16_main_v70 (V0 : Valuation τ sig (Elt F)) : W16 V0 (no_index (Proc.devRef .tc main_v70)) = (Cert.Ref1Ideal.Read.val_main_v79 (F := F) (V0 (Proc.devRef .tc main_arg1)) (V0 (Proc.devRef .tc main_arg3))) :=
  (W16_keep V0 main_v70 (by decide)).trans (W15_main_v70 V0)

theorem W16_main_v75 (V0 : Valuation τ sig (Elt F)) : W16 V0 (no_index (Proc.devRef .tc main_v75)) = (Cert.Ref1Ideal.Read.val_main_v84 (F := F) (V0 (Proc.devRef .tc main_arg1)) (V0 (Proc.devRef .tc main_arg3))) :=
  (W16_keep V0 main_v75 (by decide)).trans (W15_main_v75 V0)

theorem W16_main_v78 (V0 : Valuation τ sig (Elt F)) : W16 V0 (no_index (Proc.devRef .tc main_v78)) = (Cert.Ref1Ideal.Read.val_main_v87 (F := F) (V0 (Proc.devRef .tc main_arg1)) (V0 (Proc.devRef .tc main_arg3))) :=
  (W16_keep V0 main_v78 (by decide)).trans (W15_main_v78 V0)

theorem W16_main_v103 (V0 : Valuation τ sig (Elt F)) : W16 V0 (no_index (Proc.devRef .tc main_v103)) = (Cert.Ref1Ideal.Read.val_main_v112 (F := F) (V0 (Proc.devRef .tc main_arg1)) (V0 (Proc.devRef .tc main_arg3))) :=
  (W16_keep V0 main_v103 (by decide)).trans (W15_main_v103 V0)

/-- The contents of the buffers after the host operations up to `hostOps0_17`. -/
def W17 (V0 : Valuation τ sig (Elt F)) : Valuation τ sig (Elt F) := after hostOps0_17 (W16 V0)

/-- The buffers `hostOps0_17` writes. -/
abbrev W17_W : List (Ref sig .tc) := [main_call8_v0, main_call8_v1, main_call8_v2, main_call8_v3, main_call8_v4, main_v109]

theorem W17_writes : (hostOps0_17 : List (HloOp τ sig (Elt F))).Forall fun op => op.writes ⊆ ((W17_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W17_keep (V0 : Valuation τ sig (Elt F)) (r : Ref sig .tc) (h : r ∉ W17_W) :
    W17 V0 (Proc.devRef .tc r) = (W16 V0) (Proc.devRef .tc r) :=
  after_of_writes_sub hostOps0_17 _ W17_writes h

theorem W17_main_arg4 (V0 : Valuation τ sig (Elt F)) : W17 V0 (no_index (Proc.devRef .tc main_arg4)) = V0 (Proc.devRef .tc main_arg4) :=
  (W17_keep V0 main_arg4 (by decide)).trans (W16_main_arg4 V0)

theorem W17_main_arg5 (V0 : Valuation τ sig (Elt F)) : W17 V0 (no_index (Proc.devRef .tc main_arg5)) = V0 (Proc.devRef .tc main_arg5) :=
  (W17_keep V0 main_arg5 (by decide)).trans (W16_main_arg5 V0)

theorem W17_main_v0 (V0 : Valuation τ sig (Elt F)) : W17 V0 (no_index (Proc.devRef .tc main_v0)) = (Cert.Ref1Ideal.Read.val_main_v0 (F := F) (V0 (Proc.devRef .tc main_arg0))) :=
  (W17_keep V0 main_v0 (by decide)).trans (W16_main_v0 V0)

theorem W17_main_v2 (V0 : Valuation τ sig (Elt F)) : W17 V0 (no_index (Proc.devRef .tc main_v2)) = (Cert.Ref1Ideal.Read.val_main_v2 (F := F) (V0 (Proc.devRef .tc main_arg1)) (V0 (Proc.devRef .tc main_arg3))) :=
  (W17_keep V0 main_v2 (by decide)).trans (W16_main_v2 V0)

theorem W17_main_v49 (V0 : Valuation τ sig (Elt F)) : W17 V0 (no_index (Proc.devRef .tc main_v49)) = (Cert.Ref1Ideal.Read.val_main_v58 (F := F) (V0 (Proc.devRef .tc main_arg1)) (V0 (Proc.devRef .tc main_arg3))) :=
  (W17_keep V0 main_v49 (by decide)).trans (W16_main_v49 V0)

theorem W17_main_v70 (V0 : Valuation τ sig (Elt F)) : W17 V0 (no_index (Proc.devRef .tc main_v70)) = (Cert.Ref1Ideal.Read.val_main_v79 (F := F) (V0 (Proc.devRef .tc main_arg1)) (V0 (Proc.devRef .tc main_arg3))) :=
  (W17_keep V0 main_v70 (by decide)).trans (W16_main_v70 V0)

theorem W17_main_v75 (V0 : Valuation τ sig (Elt F)) : W17 V0 (no_index (Proc.devRef .tc main_v75)) = (Cert.Ref1Ideal.Read.val_main_v84 (F := F) (V0 (Proc.devRef .tc main_arg1)) (V0 (Proc.devRef .tc main_arg3))) :=
  (W17_keep V0 main_v75 (by decide)).trans (W16_main_v75 V0)

theorem W17_main_v78 (V0 : Valuation τ sig (Elt F)) : W17 V0 (no_index (Proc.devRef .tc main_v78)) = (Cert.Ref1Ideal.Read.val_main_v87 (F := F) (V0 (Proc.devRef .tc main_arg1)) (V0 (Proc.devRef .tc main_arg3))) :=
  (W17_keep V0 main_v78 (by decide)).trans (W16_main_v78 V0)

theorem W17_main_v103 (V0 : Valuation τ sig (Elt F)) : W17 V0 (no_index (Proc.devRef .tc main_v103)) = (Cert.Ref1Ideal.Read.val_main_v112 (F := F) (V0 (Proc.devRef .tc main_arg1)) (V0 (Proc.devRef .tc main_arg3))) :=
  (W17_keep V0 main_v103 (by decide)).trans (W16_main_v103 V0)

/-- The contents of the buffers after the host operations up to `hostOps0_18`. -/
def W18 (V0 : Valuation τ sig (Elt F)) : Valuation τ sig (Elt F) := after hostOps0_18 (W17 V0)

/-- The buffers `hostOps0_18` writes. -/
abbrev W18_W : List (Ref sig .tc) := [main_c_45, main_v110, main_v111, main_v112, main_v113, main_v114, main_c_46, main_v115, main_v116, main_c_47, main_c_48]

theorem W18_writes : (hostOps0_18 : List (HloOp τ sig (Elt F))).Forall fun op => op.writes ⊆ ((W18_W).map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W18_keep (V0 : Valuation τ sig (Elt F)) (r : Ref sig .tc) (h : r ∉ W18_W) :
    W18 V0 (Proc.devRef .tc r) = (W17 V0) (Proc.devRef .tc r) :=
  after_of_writes_sub hostOps0_18 _ W18_writes h

theorem W18_main_arg4 (V0 : Valuation τ sig (Elt F)) : W18 V0 (no_index (Proc.devRef .tc main_arg4)) = V0 (Proc.devRef .tc main_arg4) :=
  (W18_keep V0 main_arg4 (by decide)).trans (W17_main_arg4 V0)

theorem W18_main_arg5 (V0 : Valuation τ sig (Elt F)) : W18 V0 (no_index (Proc.devRef .tc main_arg5)) = V0 (Proc.devRef .tc main_arg5) :=
  (W18_keep V0 main_arg5 (by decide)).trans (W17_main_arg5 V0)

theorem W18_main_v0 (V0 : Valuation τ sig (Elt F)) : W18 V0 (no_index (Proc.devRef .tc main_v0)) = (Cert.Ref1Ideal.Read.val_main_v0 (F := F) (V0 (Proc.devRef .tc main_arg0))) :=
  (W18_keep V0 main_v0 (by decide)).trans (W17_main_v0 V0)

theorem W18_main_v2 (V0 : Valuation τ sig (Elt F)) : W18 V0 (no_index (Proc.devRef .tc main_v2)) = (Cert.Ref1Ideal.Read.val_main_v2 (F := F) (V0 (Proc.devRef .tc main_arg1)) (V0 (Proc.devRef .tc main_arg3))) :=
  (W18_keep V0 main_v2 (by decide)).trans (W17_main_v2 V0)

theorem W18_main_v49 (V0 : Valuation τ sig (Elt F)) : W18 V0 (no_index (Proc.devRef .tc main_v49)) = (Cert.Ref1Ideal.Read.val_main_v58 (F := F) (V0 (Proc.devRef .tc main_arg1)) (V0 (Proc.devRef .tc main_arg3))) :=
  (W18_keep V0 main_v49 (by decide)).trans (W17_main_v49 V0)

theorem W18_main_v70 (V0 : Valuation τ sig (Elt F)) : W18 V0 (no_index (Proc.devRef .tc main_v70)) = (Cert.Ref1Ideal.Read.val_main_v79 (F := F) (V0 (Proc.devRef .tc main_arg1)) (V0 (Proc.devRef .tc main_arg3))) :=
  (W18_keep V0 main_v70 (by decide)).trans (W17_main_v70 V0)

theorem W18_main_v75 (V0 : Valuation τ sig (Elt F)) : W18 V0 (no_index (Proc.devRef .tc main_v75)) = (Cert.Ref1Ideal.Read.val_main_v84 (F := F) (V0 (Proc.devRef .tc main_arg1)) (V0 (Proc.devRef .tc main_arg3))) :=
  (W18_keep V0 main_v75 (by decide)).trans (W17_main_v75 V0)

theorem W18_main_v78 (V0 : Valuation τ sig (Elt F)) : W18 V0 (no_index (Proc.devRef .tc main_v78)) = (Cert.Ref1Ideal.Read.val_main_v87 (F := F) (V0 (Proc.devRef .tc main_arg1)) (V0 (Proc.devRef .tc main_arg3))) :=
  (W18_keep V0 main_v78 (by decide)).trans (W17_main_v78 V0)

theorem W18_main_v103 (V0 : Valuation τ sig (Elt F)) : W18 V0 (no_index (Proc.devRef .tc main_v103)) = (Cert.Ref1Ideal.Read.val_main_v112 (F := F) (V0 (Proc.devRef .tc main_arg1)) (V0 (Proc.devRef .tc main_arg3))) :=
  (W18_keep V0 main_v103 (by decide)).trans (W17_main_v103 V0)

/-- The contents of the buffers after the host operations up to `hostOps0_19`. -/
def W19 (V0 : Valuation τ sig (Elt F)) : Valuation τ sig (Elt F) := after hostOps0_19 (W18 V0)

/-- The buffers `hostOps0_19` writes. -/
abbrev W19_W : List (Ref sig .tc) := [main_call9_v0, main_call9_v1, main_call9_v2, main_call9_v3, main_call9_v4, main_v117]

theorem W19_writes : (hostOps0_19 : List (HloOp τ sig (Elt F))).Forall fun op => op.writes ⊆ ((W19_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W19_keep (V0 : Valuation τ sig (Elt F)) (r : Ref sig .tc) (h : r ∉ W19_W) :
    W19 V0 (Proc.devRef .tc r) = (W18 V0) (Proc.devRef .tc r) :=
  after_of_writes_sub hostOps0_19 _ W19_writes h

theorem W19_main_arg4 (V0 : Valuation τ sig (Elt F)) : W19 V0 (no_index (Proc.devRef .tc main_arg4)) = V0 (Proc.devRef .tc main_arg4) :=
  (W19_keep V0 main_arg4 (by decide)).trans (W18_main_arg4 V0)

theorem W19_main_arg5 (V0 : Valuation τ sig (Elt F)) : W19 V0 (no_index (Proc.devRef .tc main_arg5)) = V0 (Proc.devRef .tc main_arg5) :=
  (W19_keep V0 main_arg5 (by decide)).trans (W18_main_arg5 V0)

theorem W19_main_v0 (V0 : Valuation τ sig (Elt F)) : W19 V0 (no_index (Proc.devRef .tc main_v0)) = (Cert.Ref1Ideal.Read.val_main_v0 (F := F) (V0 (Proc.devRef .tc main_arg0))) :=
  (W19_keep V0 main_v0 (by decide)).trans (W18_main_v0 V0)

theorem W19_main_v2 (V0 : Valuation τ sig (Elt F)) : W19 V0 (no_index (Proc.devRef .tc main_v2)) = (Cert.Ref1Ideal.Read.val_main_v2 (F := F) (V0 (Proc.devRef .tc main_arg1)) (V0 (Proc.devRef .tc main_arg3))) :=
  (W19_keep V0 main_v2 (by decide)).trans (W18_main_v2 V0)

theorem W19_main_v49 (V0 : Valuation τ sig (Elt F)) : W19 V0 (no_index (Proc.devRef .tc main_v49)) = (Cert.Ref1Ideal.Read.val_main_v58 (F := F) (V0 (Proc.devRef .tc main_arg1)) (V0 (Proc.devRef .tc main_arg3))) :=
  (W19_keep V0 main_v49 (by decide)).trans (W18_main_v49 V0)

theorem W19_main_v70 (V0 : Valuation τ sig (Elt F)) : W19 V0 (no_index (Proc.devRef .tc main_v70)) = (Cert.Ref1Ideal.Read.val_main_v79 (F := F) (V0 (Proc.devRef .tc main_arg1)) (V0 (Proc.devRef .tc main_arg3))) :=
  (W19_keep V0 main_v70 (by decide)).trans (W18_main_v70 V0)

theorem W19_main_v75 (V0 : Valuation τ sig (Elt F)) : W19 V0 (no_index (Proc.devRef .tc main_v75)) = (Cert.Ref1Ideal.Read.val_main_v84 (F := F) (V0 (Proc.devRef .tc main_arg1)) (V0 (Proc.devRef .tc main_arg3))) :=
  (W19_keep V0 main_v75 (by decide)).trans (W18_main_v75 V0)

theorem W19_main_v78 (V0 : Valuation τ sig (Elt F)) : W19 V0 (no_index (Proc.devRef .tc main_v78)) = (Cert.Ref1Ideal.Read.val_main_v87 (F := F) (V0 (Proc.devRef .tc main_arg1)) (V0 (Proc.devRef .tc main_arg3))) :=
  (W19_keep V0 main_v78 (by decide)).trans (W18_main_v78 V0)

theorem W19_main_v103 (V0 : Valuation τ sig (Elt F)) : W19 V0 (no_index (Proc.devRef .tc main_v103)) = (Cert.Ref1Ideal.Read.val_main_v112 (F := F) (V0 (Proc.devRef .tc main_arg1)) (V0 (Proc.devRef .tc main_arg3))) :=
  (W19_keep V0 main_v103 (by decide)).trans (W18_main_v103 V0)

/-- The contents of the buffers after the host operations up to `hostOps0_20`. -/
def W20 (V0 : Valuation τ sig (Elt F)) : Valuation τ sig (Elt F) := after hostOps0_20 (W19 V0)

/-- The buffers `hostOps0_20` writes. -/
abbrev W20_W : List (Ref sig .tc) := [main_c_49, main_v118, main_v119, main_v120, main_v121, main_c_50, main_v122, main_v123, main_c_51, main_v124, main_v125, main_c_52, main_v126, main_v127, main_c_53, main_c_54]

theorem W20_writes : (hostOps0_20 : List (HloOp τ sig (Elt F))).Forall fun op => op.writes ⊆ ((W20_W).map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W20_keep (V0 : Valuation τ sig (Elt F)) (r : Ref sig .tc) (h : r ∉ W20_W) :
    W20 V0 (Proc.devRef .tc r) = (W19 V0) (Proc.devRef .tc r) :=
  after_of_writes_sub hostOps0_20 _ W20_writes h

theorem W20_main_arg4 (V0 : Valuation τ sig (Elt F)) : W20 V0 (no_index (Proc.devRef .tc main_arg4)) = V0 (Proc.devRef .tc main_arg4) :=
  (W20_keep V0 main_arg4 (by decide)).trans (W19_main_arg4 V0)

theorem W20_main_arg5 (V0 : Valuation τ sig (Elt F)) : W20 V0 (no_index (Proc.devRef .tc main_arg5)) = V0 (Proc.devRef .tc main_arg5) :=
  (W20_keep V0 main_arg5 (by decide)).trans (W19_main_arg5 V0)

theorem W20_main_v0 (V0 : Valuation τ sig (Elt F)) : W20 V0 (no_index (Proc.devRef .tc main_v0)) = (Cert.Ref1Ideal.Read.val_main_v0 (F := F) (V0 (Proc.devRef .tc main_arg0))) :=
  (W20_keep V0 main_v0 (by decide)).trans (W19_main_v0 V0)

theorem W20_main_v2 (V0 : Valuation τ sig (Elt F)) : W20 V0 (no_index (Proc.devRef .tc main_v2)) = (Cert.Ref1Ideal.Read.val_main_v2 (F := F) (V0 (Proc.devRef .tc main_arg1)) (V0 (Proc.devRef .tc main_arg3))) :=
  (W20_keep V0 main_v2 (by decide)).trans (W19_main_v2 V0)

theorem W20_main_v49 (V0 : Valuation τ sig (Elt F)) : W20 V0 (no_index (Proc.devRef .tc main_v49)) = (Cert.Ref1Ideal.Read.val_main_v58 (F := F) (V0 (Proc.devRef .tc main_arg1)) (V0 (Proc.devRef .tc main_arg3))) :=
  (W20_keep V0 main_v49 (by decide)).trans (W19_main_v49 V0)

theorem W20_main_v70 (V0 : Valuation τ sig (Elt F)) : W20 V0 (no_index (Proc.devRef .tc main_v70)) = (Cert.Ref1Ideal.Read.val_main_v79 (F := F) (V0 (Proc.devRef .tc main_arg1)) (V0 (Proc.devRef .tc main_arg3))) :=
  (W20_keep V0 main_v70 (by decide)).trans (W19_main_v70 V0)

theorem W20_main_v75 (V0 : Valuation τ sig (Elt F)) : W20 V0 (no_index (Proc.devRef .tc main_v75)) = (Cert.Ref1Ideal.Read.val_main_v84 (F := F) (V0 (Proc.devRef .tc main_arg1)) (V0 (Proc.devRef .tc main_arg3))) :=
  (W20_keep V0 main_v75 (by decide)).trans (W19_main_v75 V0)

theorem W20_main_v78 (V0 : Valuation τ sig (Elt F)) : W20 V0 (no_index (Proc.devRef .tc main_v78)) = (Cert.Ref1Ideal.Read.val_main_v87 (F := F) (V0 (Proc.devRef .tc main_arg1)) (V0 (Proc.devRef .tc main_arg3))) :=
  (W20_keep V0 main_v78 (by decide)).trans (W19_main_v78 V0)

set_option maxRecDepth 8192 in
set_option maxHeartbeats 1200000 in
theorem W20_main_v123 (V0 : Valuation τ sig (Elt F)) : W20 V0 (no_index (Proc.devRef .tc main_v123)) = (Cert.Ref1Ideal.Read.val_main_v132 (F := F) (V0 (Proc.devRef .tc main_arg1)) (V0 (Proc.devRef .tc main_arg3))) := by
  unfold W20
  simp only [hostOps0_20, TRef.nullary, TRef.ternary, TRef.binary, TRef.unary, TRef.toBuf, TRef.ofBuf, cast_eq]
  after_results_simp
  simp only [W19_main_v103] <;> rfl

set_option maxRecDepth 8192 in
set_option maxHeartbeats 1200000 in
theorem W20_main_v125 (V0 : Valuation τ sig (Elt F)) : W20 V0 (no_index (Proc.devRef .tc main_v125)) = (Cert.Ref1Ideal.Read.val_main_v134 (F := F) (V0 (Proc.devRef .tc main_arg1)) (V0 (Proc.devRef .tc main_arg3))) := by
  unfold W20
  simp only [hostOps0_20, TRef.nullary, TRef.ternary, TRef.binary, TRef.unary, TRef.toBuf, TRef.ofBuf, cast_eq]
  after_results_simp
  simp only [W19_main_v103] <;> rfl

set_option maxRecDepth 8192 in
set_option maxHeartbeats 1200000 in
theorem W20_main_v127 (V0 : Valuation τ sig (Elt F)) : W20 V0 (no_index (Proc.devRef .tc main_v127)) = (Cert.Ref1Ideal.Read.val_main_v136 (F := F) (V0 (Proc.devRef .tc main_arg1)) (V0 (Proc.devRef .tc main_arg3))) := by
  unfold W20
  simp only [hostOps0_20, TRef.nullary, TRef.ternary, TRef.binary, TRef.unary, TRef.toBuf, TRef.ofBuf, cast_eq]
  after_results_simp
  simp only [W19_main_v103] <;> rfl

set_option maxRecDepth 8192 in
set_option maxHeartbeats 1200000 in
theorem W20_main_c_53 (V0 : Valuation τ sig (Elt F)) : W20 V0 (no_index (Proc.devRef .tc main_c_53)) = (Cert.Ref1Ideal.Read.val_main_c_1 (F := F)) := by
  unfold W20
  simp only [hostOps0_20, TRef.nullary, TRef.ternary, TRef.binary, TRef.unary, TRef.toBuf, TRef.ofBuf, cast_eq]
  after_results_simp
  all_goals rfl

set_option maxRecDepth 8192 in
set_option maxHeartbeats 1200000 in
theorem W20_main_c_54 (V0 : Valuation τ sig (Elt F)) : W20 V0 (no_index (Proc.devRef .tc main_c_54)) = (Cert.Ref1Ideal.Read.val_main_c_2 (F := F)) := by
  unfold W20
  simp only [hostOps0_20, TRef.nullary, TRef.ternary, TRef.binary, TRef.unary, TRef.toBuf, TRef.ofBuf, cast_eq]
  after_results_simp
  all_goals rfl

end Cert.Ffn1Ideal.HostVals

end

end
-- ==== Proof.Host1.lean ====
/- The host operations before the call of `Ffn1Ideal`, read: each buffer the call takes, as a function of the arguments. -/
module

public import proofs.«01_k».proof.Proof.Host1a

@[expose] public section

noncomputable section

namespace Cert.Ffn1Ideal.HostVals

open Cert.Ffn1Ideal Cert.Ffn1Ideal.Gen Idealize.ShloMosaic Idealize.ShloMosaic.TcCoe Idealize.SL.Sem Idealize.ShloMosaic.StableHlo

variable {F : FTy → Type} [FloatOps F]

/-- The contents of the buffers after the host operations up to `hostOps0_21`. -/
def W21 (V0 : Valuation τ sig (Elt F)) : Valuation τ sig (Elt F) := after hostOps0_21 (W20 V0)

/-- The buffers `hostOps0_21` writes. -/
abbrev W21_W : List (Ref sig .tc) := [main_call10_v0, main_call10_v1, main_call10_v2, main_call10_v3, main_call10_v4, main_v128]

theorem W21_writes : (hostOps0_21 : List (HloOp τ sig (Elt F))).Forall fun op => op.writes ⊆ ((W21_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W21_keep (V0 : Valuation τ sig (Elt F)) (r : Ref sig .tc) (h : r ∉ W21_W) :
    W21 V0 (Proc.devRef .tc r) = (W20 V0) (Proc.devRef .tc r) :=
  after_of_writes_sub hostOps0_21 _ W21_writes h

theorem W21_main_arg4 (V0 : Valuation τ sig (Elt F)) : W21 V0 (no_index (Proc.devRef .tc main_arg4)) = V0 (Proc.devRef .tc main_arg4) :=
  (W21_keep V0 main_arg4 (by decide)).trans (W20_main_arg4 V0)

theorem W21_main_arg5 (V0 : Valuation τ sig (Elt F)) : W21 V0 (no_index (Proc.devRef .tc main_arg5)) = V0 (Proc.devRef .tc main_arg5) :=
  (W21_keep V0 main_arg5 (by decide)).trans (W20_main_arg5 V0)

theorem W21_main_v0 (V0 : Valuation τ sig (Elt F)) : W21 V0 (no_index (Proc.devRef .tc main_v0)) = (Cert.Ref1Ideal.Read.val_main_v0 (F := F) (V0 (Proc.devRef .tc main_arg0))) :=
  (W21_keep V0 main_v0 (by decide)).trans (W20_main_v0 V0)

theorem W21_main_v2 (V0 : Valuation τ sig (Elt F)) : W21 V0 (no_index (Proc.devRef .tc main_v2)) = (Cert.Ref1Ideal.Read.val_main_v2 (F := F) (V0 (Proc.devRef .tc main_arg1)) (V0 (Proc.devRef .tc main_arg3))) :=
  (W21_keep V0 main_v2 (by decide)).trans (W20_main_v2 V0)

theorem W21_main_v49 (V0 : Valuation τ sig (Elt F)) : W21 V0 (no_index (Proc.devRef .tc main_v49)) = (Cert.Ref1Ideal.Read.val_main_v58 (F := F) (V0 (Proc.devRef .tc main_arg1)) (V0 (Proc.devRef .tc main_arg3))) :=
  (W21_keep V0 main_v49 (by decide)).trans (W20_main_v49 V0)

theorem W21_main_v70 (V0 : Valuation τ sig (Elt F)) : W21 V0 (no_index (Proc.devRef .tc main_v70)) = (Cert.Ref1Ideal.Read.val_main_v79 (F := F) (V0 (Proc.devRef .tc main_arg1)) (V0 (Proc.devRef .tc main_arg3))) :=
  (W21_keep V0 main_v70 (by decide)).trans (W20_main_v70 V0)

theorem W21_main_v75 (V0 : Valuation τ sig (Elt F)) : W21 V0 (no_index (Proc.devRef .tc main_v75)) = (Cert.Ref1Ideal.Read.val_main_v84 (F := F) (V0 (Proc.devRef .tc main_arg1)) (V0 (Proc.devRef .tc main_arg3))) :=
  (W21_keep V0 main_v75 (by decide)).trans (W20_main_v75 V0)

theorem W21_main_v78 (V0 : Valuation τ sig (Elt F)) : W21 V0 (no_index (Proc.devRef .tc main_v78)) = (Cert.Ref1Ideal.Read.val_main_v87 (F := F) (V0 (Proc.devRef .tc main_arg1)) (V0 (Proc.devRef .tc main_arg3))) :=
  (W21_keep V0 main_v78 (by decide)).trans (W20_main_v78 V0)

theorem W21_main_v123 (V0 : Valuation τ sig (Elt F)) : W21 V0 (no_index (Proc.devRef .tc main_v123)) = (Cert.Ref1Ideal.Read.val_main_v132 (F := F) (V0 (Proc.devRef .tc main_arg1)) (V0 (Proc.devRef .tc main_arg3))) :=
  (W21_keep V0 main_v123 (by decide)).trans (W20_main_v123 V0)

theorem W21_main_v125 (V0 : Valuation τ sig (Elt F)) : W21 V0 (no_index (Proc.devRef .tc main_v125)) = (Cert.Ref1Ideal.Read.val_main_v134 (F := F) (V0 (Proc.devRef .tc main_arg1)) (V0 (Proc.devRef .tc main_arg3))) :=
  (W21_keep V0 main_v125 (by decide)).trans (W20_main_v125 V0)

set_option maxRecDepth 8192 in
set_option maxHeartbeats 1200000 in
theorem W21_main_v128 (V0 : Valuation τ sig (Elt F)) : W21 V0 (no_index (Proc.devRef .tc main_v128)) = (Cert.Ref1Ideal.Read.val_main_v137 (F := F) (V0 (Proc.devRef .tc main_arg1)) (V0 (Proc.devRef .tc main_arg3))) := by
  unfold W21
  simp only [hostOps0_21, TRef.nullary, TRef.ternary, TRef.binary, TRef.unary, TRef.toBuf, TRef.ofBuf, cast_eq]
  after_results_simp
  simp only [W20_main_c_53, W20_main_c_54, W20_main_v127] <;> rfl

/-- The contents of the buffers after the host operations up to `hostOps0_22`. -/
def W22 (V0 : Valuation τ sig (Elt F)) : Valuation τ sig (Elt F) := after hostOps0_22 (W21 V0)

/-- The buffers `hostOps0_22` writes. -/
abbrev W22_W : List (Ref sig .tc) := [main_c_55, main_v129, main_v130, main_v131, main_v132, main_v133, main_c_56, main_v134, main_v135, main_c_57, main_c_58]

theorem W22_writes : (hostOps0_22 : List (HloOp τ sig (Elt F))).Forall fun op => op.writes ⊆ ((W22_W).map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W22_keep (V0 : Valuation τ sig (Elt F)) (r : Ref sig .tc) (h : r ∉ W22_W) :
    W22 V0 (Proc.devRef .tc r) = (W21 V0) (Proc.devRef .tc r) :=
  after_of_writes_sub hostOps0_22 _ W22_writes h

theorem W22_main_arg4 (V0 : Valuation τ sig (Elt F)) : W22 V0 (no_index (Proc.devRef .tc main_arg4)) = V0 (Proc.devRef .tc main_arg4) :=
  (W22_keep V0 main_arg4 (by decide)).trans (W21_main_arg4 V0)

theorem W22_main_arg5 (V0 : Valuation τ sig (Elt F)) : W22 V0 (no_index (Proc.devRef .tc main_arg5)) = V0 (Proc.devRef .tc main_arg5) :=
  (W22_keep V0 main_arg5 (by decide)).trans (W21_main_arg5 V0)

theorem W22_main_v0 (V0 : Valuation τ sig (Elt F)) : W22 V0 (no_index (Proc.devRef .tc main_v0)) = (Cert.Ref1Ideal.Read.val_main_v0 (F := F) (V0 (Proc.devRef .tc main_arg0))) :=
  (W22_keep V0 main_v0 (by decide)).trans (W21_main_v0 V0)

theorem W22_main_v2 (V0 : Valuation τ sig (Elt F)) : W22 V0 (no_index (Proc.devRef .tc main_v2)) = (Cert.Ref1Ideal.Read.val_main_v2 (F := F) (V0 (Proc.devRef .tc main_arg1)) (V0 (Proc.devRef .tc main_arg3))) :=
  (W22_keep V0 main_v2 (by decide)).trans (W21_main_v2 V0)

theorem W22_main_v49 (V0 : Valuation τ sig (Elt F)) : W22 V0 (no_index (Proc.devRef .tc main_v49)) = (Cert.Ref1Ideal.Read.val_main_v58 (F := F) (V0 (Proc.devRef .tc main_arg1)) (V0 (Proc.devRef .tc main_arg3))) :=
  (W22_keep V0 main_v49 (by decide)).trans (W21_main_v49 V0)

theorem W22_main_v70 (V0 : Valuation τ sig (Elt F)) : W22 V0 (no_index (Proc.devRef .tc main_v70)) = (Cert.Ref1Ideal.Read.val_main_v79 (F := F) (V0 (Proc.devRef .tc main_arg1)) (V0 (Proc.devRef .tc main_arg3))) :=
  (W22_keep V0 main_v70 (by decide)).trans (W21_main_v70 V0)

theorem W22_main_v75 (V0 : Valuation τ sig (Elt F)) : W22 V0 (no_index (Proc.devRef .tc main_v75)) = (Cert.Ref1Ideal.Read.val_main_v84 (F := F) (V0 (Proc.devRef .tc main_arg1)) (V0 (Proc.devRef .tc main_arg3))) :=
  (W22_keep V0 main_v75 (by decide)).trans (W21_main_v75 V0)

theorem W22_main_v123 (V0 : Valuation τ sig (Elt F)) : W22 V0 (no_index (Proc.devRef .tc main_v123)) = (Cert.Ref1Ideal.Read.val_main_v132 (F := F) (V0 (Proc.devRef .tc main_arg1)) (V0 (Proc.devRef .tc main_arg3))) :=
  (W22_keep V0 main_v123 (by decide)).trans (W21_main_v123 V0)

set_option maxRecDepth 8192 in
set_option maxHeartbeats 1200000 in
theorem W22_main_v132 (V0 : Valuation τ sig (Elt F)) : W22 V0 (no_index (Proc.devRef .tc main_v132)) = (Cert.Ref1Ideal.Read.val_main_v141 (F := F) (V0 (Proc.devRef .tc main_arg1)) (V0 (Proc.devRef .tc main_arg3))) := by
  unfold W22
  simp only [hostOps0_22, TRef.nullary, TRef.ternary, TRef.binary, TRef.unary, TRef.toBuf, TRef.ofBuf, cast_eq]
  after_results_simp
  simp only [W21_main_v128, W21_main_v78] <;> rfl

set_option maxRecDepth 8192 in
set_option maxHeartbeats 1200000 in
theorem W22_main_v135 (V0 : Valuation τ sig (Elt F)) : W22 V0 (no_index (Proc.devRef .tc main_v135)) = (Cert.Ref1Ideal.Read.val_main_v144 (F := F) (V0 (Proc.devRef .tc main_arg1)) (V0 (Proc.devRef .tc main_arg3))) := by
  unfold W22
  simp only [hostOps0_22, TRef.nullary, TRef.ternary, TRef.binary, TRef.unary, TRef.toBuf, TRef.ofBuf, cast_eq]
  after_results_simp
  simp only [W21_main_v123, W21_main_v125] <;> rfl

set_option maxRecDepth 8192 in
set_option maxHeartbeats 1200000 in
theorem W22_main_c_57 (V0 : Valuation τ sig (Elt F)) : W22 V0 (no_index (Proc.devRef .tc main_c_57)) = (Cert.Ref1Ideal.Read.val_main_c_1 (F := F)) := by
  unfold W22
  simp only [hostOps0_22, TRef.nullary, TRef.ternary, TRef.binary, TRef.unary, TRef.toBuf, TRef.ofBuf, cast_eq]
  after_results_simp
  all_goals rfl

set_option maxRecDepth 8192 in
set_option maxHeartbeats 1200000 in
theorem W22_main_c_58 (V0 : Valuation τ sig (Elt F)) : W22 V0 (no_index (Proc.devRef .tc main_c_58)) = (Cert.Ref1Ideal.Read.val_main_c_2 (F := F)) := by
  unfold W22
  simp only [hostOps0_22, TRef.nullary, TRef.ternary, TRef.binary, TRef.unary, TRef.toBuf, TRef.ofBuf, cast_eq]
  after_results_simp
  all_goals rfl

/-- The contents of the buffers after the host operations up to `hostOps0_23`. -/
def W23 (V0 : Valuation τ sig (Elt F)) : Valuation τ sig (Elt F) := after hostOps0_23 (W22 V0)

/-- The buffers `hostOps0_23` writes. -/
abbrev W23_W : List (Ref sig .tc) := [main_call11_v0, main_call11_v1, main_call11_v2, main_call11_v3, main_call11_v4, main_v136]

theorem W23_writes : (hostOps0_23 : List (HloOp τ sig (Elt F))).Forall fun op => op.writes ⊆ ((W23_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W23_keep (V0 : Valuation τ sig (Elt F)) (r : Ref sig .tc) (h : r ∉ W23_W) :
    W23 V0 (Proc.devRef .tc r) = (W22 V0) (Proc.devRef .tc r) :=
  after_of_writes_sub hostOps0_23 _ W23_writes h

theorem W23_main_arg4 (V0 : Valuation τ sig (Elt F)) : W23 V0 (no_index (Proc.devRef .tc main_arg4)) = V0 (Proc.devRef .tc main_arg4) :=
  (W23_keep V0 main_arg4 (by decide)).trans (W22_main_arg4 V0)

theorem W23_main_arg5 (V0 : Valuation τ sig (Elt F)) : W23 V0 (no_index (Proc.devRef .tc main_arg5)) = V0 (Proc.devRef .tc main_arg5) :=
  (W23_keep V0 main_arg5 (by decide)).trans (W22_main_arg5 V0)

theorem W23_main_v0 (V0 : Valuation τ sig (Elt F)) : W23 V0 (no_index (Proc.devRef .tc main_v0)) = (Cert.Ref1Ideal.Read.val_main_v0 (F := F) (V0 (Proc.devRef .tc main_arg0))) :=
  (W23_keep V0 main_v0 (by decide)).trans (W22_main_v0 V0)

theorem W23_main_v2 (V0 : Valuation τ sig (Elt F)) : W23 V0 (no_index (Proc.devRef .tc main_v2)) = (Cert.Ref1Ideal.Read.val_main_v2 (F := F) (V0 (Proc.devRef .tc main_arg1)) (V0 (Proc.devRef .tc main_arg3))) :=
  (W23_keep V0 main_v2 (by decide)).trans (W22_main_v2 V0)

theorem W23_main_v49 (V0 : Valuation τ sig (Elt F)) : W23 V0 (no_index (Proc.devRef .tc main_v49)) = (Cert.Ref1Ideal.Read.val_main_v58 (F := F) (V0 (Proc.devRef .tc main_arg1)) (V0 (Proc.devRef .tc main_arg3))) :=
  (W23_keep V0 main_v49 (by decide)).trans (W22_main_v49 V0)

theorem W23_main_v70 (V0 : Valuation τ sig (Elt F)) : W23 V0 (no_index (Proc.devRef .tc main_v70)) = (Cert.Ref1Ideal.Read.val_main_v79 (F := F) (V0 (Proc.devRef .tc main_arg1)) (V0 (Proc.devRef .tc main_arg3))) :=
  (W23_keep V0 main_v70 (by decide)).trans (W22_main_v70 V0)

theorem W23_main_v75 (V0 : Valuation τ sig (Elt F)) : W23 V0 (no_index (Proc.devRef .tc main_v75)) = (Cert.Ref1Ideal.Read.val_main_v84 (F := F) (V0 (Proc.devRef .tc main_arg1)) (V0 (Proc.devRef .tc main_arg3))) :=
  (W23_keep V0 main_v75 (by decide)).trans (W22_main_v75 V0)

theorem W23_main_v123 (V0 : Valuation τ sig (Elt F)) : W23 V0 (no_index (Proc.devRef .tc main_v123)) = (Cert.Ref1Ideal.Read.val_main_v132 (F := F) (V0 (Proc.devRef .tc main_arg1)) (V0 (Proc.devRef .tc main_arg3))) :=
  (W23_keep V0 main_v123 (by decide)).trans (W22_main_v123 V0)

theorem W23_main_v132 (V0 : Valuation τ sig (Elt F)) : W23 V0 (no_index (Proc.devRef .tc main_v132)) = (Cert.Ref1Ideal.Read.val_main_v141 (F := F) (V0 (Proc.devRef .tc main_arg1)) (V0 (Proc.devRef .tc main_arg3))) :=
  (W23_keep V0 main_v132 (by decide)).trans (W22_main_v132 V0)

set_option maxRecDepth 8192 in
set_option maxHeartbeats 1200000 in
theorem W23_main_v136 (V0 : Valuation τ sig (Elt F)) : W23 V0 (no_index (Proc.devRef .tc main_v136)) = (Cert.Ref1Ideal.Read.val_main_v145 (F := F) (V0 (Proc.devRef .tc main_arg1)) (V0 (Proc.devRef .tc main_arg3))) := by
  unfold W23
  simp only [hostOps0_23, TRef.nullary, TRef.ternary, TRef.binary, TRef.unary, TRef.toBuf, TRef.ofBuf, cast_eq]
  after_results_simp
  simp only [W22_main_c_57, W22_main_c_58, W22_main_v135] <;> rfl

/-- The contents of the buffers after the host operations up to `hostOps0_24`. -/
def W24 (V0 : Valuation τ sig (Elt F)) : Valuation τ sig (Elt F) := after hostOps0_24 (W23 V0)

/-- The buffers `hostOps0_24` writes. -/
abbrev W24_W : List (Ref sig .tc) := [main_c_59, main_v137, main_v138, main_v139, main_v140, main_cst_60, main_v141, main_v142, main_v143, main_v144, main_v145, main_cst_61, main_v146, main_v147, main_c_62, main_c_63]

theorem W24_writes : (hostOps0_24 : List (HloOp τ sig (Elt F))).Forall fun op => op.writes ⊆ ((W24_W).map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W24_keep (V0 : Valuation τ sig (Elt F)) (r : Ref sig .tc) (h : r ∉ W24_W) :
    W24 V0 (Proc.devRef .tc r) = (W23 V0) (Proc.devRef .tc r) :=
  after_of_writes_sub hostOps0_24 _ W24_writes h

theorem W24_main_arg4 (V0 : Valuation τ sig (Elt F)) : W24 V0 (no_index (Proc.devRef .tc main_arg4)) = V0 (Proc.devRef .tc main_arg4) :=
  (W24_keep V0 main_arg4 (by decide)).trans (W23_main_arg4 V0)

theorem W24_main_arg5 (V0 : Valuation τ sig (Elt F)) : W24 V0 (no_index (Proc.devRef .tc main_arg5)) = V0 (Proc.devRef .tc main_arg5) :=
  (W24_keep V0 main_arg5 (by decide)).trans (W23_main_arg5 V0)

theorem W24_main_v0 (V0 : Valuation τ sig (Elt F)) : W24 V0 (no_index (Proc.devRef .tc main_v0)) = (Cert.Ref1Ideal.Read.val_main_v0 (F := F) (V0 (Proc.devRef .tc main_arg0))) :=
  (W24_keep V0 main_v0 (by decide)).trans (W23_main_v0 V0)

theorem W24_main_v49 (V0 : Valuation τ sig (Elt F)) : W24 V0 (no_index (Proc.devRef .tc main_v49)) = (Cert.Ref1Ideal.Read.val_main_v58 (F := F) (V0 (Proc.devRef .tc main_arg1)) (V0 (Proc.devRef .tc main_arg3))) :=
  (W24_keep V0 main_v49 (by decide)).trans (W23_main_v49 V0)

theorem W24_main_v70 (V0 : Valuation τ sig (Elt F)) : W24 V0 (no_index (Proc.devRef .tc main_v70)) = (Cert.Ref1Ideal.Read.val_main_v79 (F := F) (V0 (Proc.devRef .tc main_arg1)) (V0 (Proc.devRef .tc main_arg3))) :=
  (W24_keep V0 main_v70 (by decide)).trans (W23_main_v70 V0)

theorem W24_main_v75 (V0 : Valuation τ sig (Elt F)) : W24 V0 (no_index (Proc.devRef .tc main_v75)) = (Cert.Ref1Ideal.Read.val_main_v84 (F := F) (V0 (Proc.devRef .tc main_arg1)) (V0 (Proc.devRef .tc main_arg3))) :=
  (W24_keep V0 main_v75 (by decide)).trans (W23_main_v75 V0)

theorem W24_main_v123 (V0 : Valuation τ sig (Elt F)) : W24 V0 (no_index (Proc.devRef .tc main_v123)) = (Cert.Ref1Ideal.Read.val_main_v132 (F := F) (V0 (Proc.devRef .tc main_arg1)) (V0 (Proc.devRef .tc main_arg3))) :=
  (W24_keep V0 main_v123 (by decide)).trans (W23_main_v123 V0)

set_option maxRecDepth 8192 in
set_option maxHeartbeats 1200000 in
theorem W24_main_v144 (V0 : Valuation τ sig (Elt F)) : W24 V0 (no_index (Proc.devRef .tc main_v144)) = (Cert.Ref1Ideal.Read.val_main_v153 (F := F) (V0 (Proc.devRef .tc main_arg1)) (V0 (Proc.devRef .tc main_arg3))) := by
  unfold W24
  simp only [hostOps0_24, TRef.nullary, TRef.ternary, TRef.binary, TRef.unary, TRef.toBuf, TRef.ofBuf, cast_eq]
  after_results_simp
  simp only [W23_main_v132, W23_main_v136] <;> rfl

set_option maxRecDepth 8192 in
set_option maxHeartbeats 1200000 in
theorem W24_main_v147 (V0 : Valuation τ sig (Elt F)) : W24 V0 (no_index (Proc.devRef .tc main_v147)) = (Cert.Ref1Ideal.Read.val_main_v156 (F := F) (V0 (Proc.devRef .tc main_arg1)) (V0 (Proc.devRef .tc main_arg3))) := by
  unfold W24
  simp only [hostOps0_24, TRef.nullary, TRef.ternary, TRef.binary, TRef.unary, TRef.toBuf, TRef.ofBuf, cast_eq]
  after_results_simp
  simp only [W23_main_v132, W23_main_v136, W23_main_v2] <;> rfl

set_option maxRecDepth 8192 in
set_option maxHeartbeats 1200000 in
theorem W24_main_c_62 (V0 : Valuation τ sig (Elt F)) : W24 V0 (no_index (Proc.devRef .tc main_c_62)) = (Cert.Ref1Ideal.Read.val_main_c_1 (F := F)) := by
  unfold W24
  simp only [hostOps0_24, TRef.nullary, TRef.ternary, TRef.binary, TRef.unary, TRef.toBuf, TRef.ofBuf, cast_eq]
  after_results_simp
  all_goals rfl

set_option maxRecDepth 8192 in
set_option maxHeartbeats 1200000 in
theorem W24_main_c_63 (V0 : Valuation τ sig (Elt F)) : W24 V0 (no_index (Proc.devRef .tc main_c_63)) = (kv_main_c_63 (F := F)) := by
  unfold W24
  simp only [hostOps0_24, TRef.nullary, TRef.ternary, TRef.binary, TRef.unary, TRef.toBuf, TRef.ofBuf, cast_eq]
  after_results_simp
  all_goals rfl

/-- The contents of the buffers after the host operations up to `hostOps0_25`. -/
def W25 (V0 : Valuation τ sig (Elt F)) : Valuation τ sig (Elt F) := after hostOps0_25 (W24 V0)

/-- The buffers `hostOps0_25` writes. -/
abbrev W25_W : List (Ref sig .tc) := [main_call12_v0, main_call12_v1, main_call12_v2, main_call12_v3, main_call12_v4, main_v148]

theorem W25_writes : (hostOps0_25 : List (HloOp τ sig (Elt F))).Forall fun op => op.writes ⊆ ((W25_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W25_keep (V0 : Valuation τ sig (Elt F)) (r : Ref sig .tc) (h : r ∉ W25_W) :
    W25 V0 (Proc.devRef .tc r) = (W24 V0) (Proc.devRef .tc r) :=
  after_of_writes_sub hostOps0_25 _ W25_writes h

theorem W25_main_arg4 (V0 : Valuation τ sig (Elt F)) : W25 V0 (no_index (Proc.devRef .tc main_arg4)) = V0 (Proc.devRef .tc main_arg4) :=
  (W25_keep V0 main_arg4 (by decide)).trans (W24_main_arg4 V0)

theorem W25_main_arg5 (V0 : Valuation τ sig (Elt F)) : W25 V0 (no_index (Proc.devRef .tc main_arg5)) = V0 (Proc.devRef .tc main_arg5) :=
  (W25_keep V0 main_arg5 (by decide)).trans (W24_main_arg5 V0)

theorem W25_main_v0 (V0 : Valuation τ sig (Elt F)) : W25 V0 (no_index (Proc.devRef .tc main_v0)) = (Cert.Ref1Ideal.Read.val_main_v0 (F := F) (V0 (Proc.devRef .tc main_arg0))) :=
  (W25_keep V0 main_v0 (by decide)).trans (W24_main_v0 V0)

theorem W25_main_v49 (V0 : Valuation τ sig (Elt F)) : W25 V0 (no_index (Proc.devRef .tc main_v49)) = (Cert.Ref1Ideal.Read.val_main_v58 (F := F) (V0 (Proc.devRef .tc main_arg1)) (V0 (Proc.devRef .tc main_arg3))) :=
  (W25_keep V0 main_v49 (by decide)).trans (W24_main_v49 V0)

theorem W25_main_v70 (V0 : Valuation τ sig (Elt F)) : W25 V0 (no_index (Proc.devRef .tc main_v70)) = (Cert.Ref1Ideal.Read.val_main_v79 (F := F) (V0 (Proc.devRef .tc main_arg1)) (V0 (Proc.devRef .tc main_arg3))) :=
  (W25_keep V0 main_v70 (by decide)).trans (W24_main_v70 V0)

theorem W25_main_v75 (V0 : Valuation τ sig (Elt F)) : W25 V0 (no_index (Proc.devRef .tc main_v75)) = (Cert.Ref1Ideal.Read.val_main_v84 (F := F) (V0 (Proc.devRef .tc main_arg1)) (V0 (Proc.devRef .tc main_arg3))) :=
  (W25_keep V0 main_v75 (by decide)).trans (W24_main_v75 V0)

theorem W25_main_v123 (V0 : Valuation τ sig (Elt F)) : W25 V0 (no_index (Proc.devRef .tc main_v123)) = (Cert.Ref1Ideal.Read.val_main_v132 (F := F) (V0 (Proc.devRef .tc main_arg1)) (V0 (Proc.devRef .tc main_arg3))) :=
  (W25_keep V0 main_v123 (by decide)).trans (W24_main_v123 V0)

theorem W25_main_v144 (V0 : Valuation τ sig (Elt F)) : W25 V0 (no_index (Proc.devRef .tc main_v144)) = (Cert.Ref1Ideal.Read.val_main_v153 (F := F) (V0 (Proc.devRef .tc main_arg1)) (V0 (Proc.devRef .tc main_arg3))) :=
  (W25_keep V0 main_v144 (by decide)).trans (W24_main_v144 V0)

theorem W25_main_v147 (V0 : Valuation τ sig (Elt F)) : W25 V0 (no_index (Proc.devRef .tc main_v147)) = (Cert.Ref1Ideal.Read.val_main_v156 (F := F) (V0 (Proc.devRef .tc main_arg1)) (V0 (Proc.devRef .tc main_arg3))) :=
  (W25_keep V0 main_v147 (by decide)).trans (W24_main_v147 V0)

set_option maxRecDepth 8192 in
set_option maxHeartbeats 1200000 in
theorem W25_main_v148 (V0 : Valuation τ sig (Elt F)) : W25 V0 (no_index (Proc.devRef .tc main_v148)) = (kv_main_v148 (F := F) (V0 (Proc.devRef .tc main_arg1)) (V0 (Proc.devRef .tc main_arg3))) := by
  unfold W25
  simp only [hostOps0_25, TRef.nullary, TRef.ternary, TRef.binary, TRef.unary, TRef.toBuf, TRef.ofBuf, cast_eq]
  after_results_simp
  simp only [W24_main_c_62, W24_main_c_63, W24_main_v49] <;> rfl

/-- The contents of the buffers after the host operations up to `hostOps0_26`. -/
def W26 (V0 : Valuation τ sig (Elt F)) : Valuation τ sig (Elt F) := after hostOps0_26 (W25 V0)

/-- The buffers `hostOps0_26` writes. -/
abbrev W26_W : List (Ref sig .tc) := [main_v149, main_c_64, main_c_65]

theorem W26_writes : (hostOps0_26 : List (HloOp τ sig (Elt F))).Forall fun op => op.writes ⊆ ((W26_W).map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W26_keep (V0 : Valuation τ sig (Elt F)) (r : Ref sig .tc) (h : r ∉ W26_W) :
    W26 V0 (Proc.devRef .tc r) = (W25 V0) (Proc.devRef .tc r) :=
  after_of_writes_sub hostOps0_26 _ W26_writes h

theorem W26_main_arg4 (V0 : Valuation τ sig (Elt F)) : W26 V0 (no_index (Proc.devRef .tc main_arg4)) = V0 (Proc.devRef .tc main_arg4) :=
  (W26_keep V0 main_arg4 (by decide)).trans (W25_main_arg4 V0)

theorem W26_main_arg5 (V0 : Valuation τ sig (Elt F)) : W26 V0 (no_index (Proc.devRef .tc main_arg5)) = V0 (Proc.devRef .tc main_arg5) :=
  (W26_keep V0 main_arg5 (by decide)).trans (W25_main_arg5 V0)

theorem W26_main_v0 (V0 : Valuation τ sig (Elt F)) : W26 V0 (no_index (Proc.devRef .tc main_v0)) = (Cert.Ref1Ideal.Read.val_main_v0 (F := F) (V0 (Proc.devRef .tc main_arg0))) :=
  (W26_keep V0 main_v0 (by decide)).trans (W25_main_v0 V0)

theorem W26_main_v70 (V0 : Valuation τ sig (Elt F)) : W26 V0 (no_index (Proc.devRef .tc main_v70)) = (Cert.Ref1Ideal.Read.val_main_v79 (F := F) (V0 (Proc.devRef .tc main_arg1)) (V0 (Proc.devRef .tc main_arg3))) :=
  (W26_keep V0 main_v70 (by decide)).trans (W25_main_v70 V0)

theorem W26_main_v75 (V0 : Valuation τ sig (Elt F)) : W26 V0 (no_index (Proc.devRef .tc main_v75)) = (Cert.Ref1Ideal.Read.val_main_v84 (F := F) (V0 (Proc.devRef .tc main_arg1)) (V0 (Proc.devRef .tc main_arg3))) :=
  (W26_keep V0 main_v75 (by decide)).trans (W25_main_v75 V0)

theorem W26_main_v123 (V0 : Valuation τ sig (Elt F)) : W26 V0 (no_index (Proc.devRef .tc main_v123)) = (Cert.Ref1Ideal.Read.val_main_v132 (F := F) (V0 (Proc.devRef .tc main_arg1)) (V0 (Proc.devRef .tc main_arg3))) :=
  (W26_keep V0 main_v123 (by decide)).trans (W25_main_v123 V0)

theorem W26_main_v144 (V0 : Valuation τ sig (Elt F)) : W26 V0 (no_index (Proc.devRef .tc main_v144)) = (Cert.Ref1Ideal.Read.val_main_v153 (F := F) (V0 (Proc.devRef .tc main_arg1)) (V0 (Proc.devRef .tc main_arg3))) :=
  (W26_keep V0 main_v144 (by decide)).trans (W25_main_v144 V0)

theorem W26_main_v147 (V0 : Valuation τ sig (Elt F)) : W26 V0 (no_index (Proc.devRef .tc main_v147)) = (Cert.Ref1Ideal.Read.val_main_v156 (F := F) (V0 (Proc.devRef .tc main_arg1)) (V0 (Proc.devRef .tc main_arg3))) :=
  (W26_keep V0 main_v147 (by decide)).trans (W25_main_v147 V0)

theorem W26_main_v148 (V0 : Valuation τ sig (Elt F)) : W26 V0 (no_index (Proc.devRef .tc main_v148)) = (kv_main_v148 (F := F) (V0 (Proc.devRef .tc main_arg1)) (V0 (Proc.devRef .tc main_arg3))) :=
  (W26_keep V0 main_v148 (by decide)).trans (W25_main_v148 V0)

set_option maxRecDepth 8192 in
set_option maxHeartbeats 1200000 in
theorem W26_main_v149 (V0 : Valuation τ sig (Elt F)) : W26 V0 (no_index (Proc.devRef .tc main_v149)) = (Cert.Ref1Ideal.Read.val_main_v165 (F := F) (V0 (Proc.devRef .tc main_arg1)) (V0 (Proc.devRef .tc main_arg3))) := by
  unfold W26
  simp only [hostOps0_26, TRef.nullary, TRef.ternary, TRef.binary, TRef.unary, TRef.toBuf, TRef.ofBuf, cast_eq]
  after_results_simp
  simp only [W25_main_v49] <;> rfl

set_option maxRecDepth 8192 in
set_option maxHeartbeats 1200000 in
theorem W26_main_c_64 (V0 : Valuation τ sig (Elt F)) : W26 V0 (no_index (Proc.devRef .tc main_c_64)) = (Cert.Ref1Ideal.Read.val_main_c_1 (F := F)) := by
  unfold W26
  simp only [hostOps0_26, TRef.nullary, TRef.ternary, TRef.binary, TRef.unary, TRef.toBuf, TRef.ofBuf, cast_eq]
  after_results_simp
  all_goals rfl

set_option maxRecDepth 8192 in
set_option maxHeartbeats 1200000 in
theorem W26_main_c_65 (V0 : Valuation τ sig (Elt F)) : W26 V0 (no_index (Proc.devRef .tc main_c_65)) = (kv_main_c_65 (F := F)) := by
  unfold W26
  simp only [hostOps0_26, TRef.nullary, TRef.ternary, TRef.binary, TRef.unary, TRef.toBuf, TRef.ofBuf, cast_eq]
  after_results_simp
  all_goals rfl

/-- The contents of the buffers after the host operations up to `hostOps0_27`. -/
def W27 (V0 : Valuation τ sig (Elt F)) : Valuation τ sig (Elt F) := after hostOps0_27 (W26 V0)

/-- The buffers `hostOps0_27` writes. -/
abbrev W27_W : List (Ref sig .tc) := [main_call13_v0, main_call13_v1, main_call13_v2, main_call13_v3, main_call13_v4, main_v150]

theorem W27_writes : (hostOps0_27 : List (HloOp τ sig (Elt F))).Forall fun op => op.writes ⊆ ((W27_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W27_keep (V0 : Valuation τ sig (Elt F)) (r : Ref sig .tc) (h : r ∉ W27_W) :
    W27 V0 (Proc.devRef .tc r) = (W26 V0) (Proc.devRef .tc r) :=
  after_of_writes_sub hostOps0_27 _ W27_writes h

theorem W27_main_arg4 (V0 : Valuation τ sig (Elt F)) : W27 V0 (no_index (Proc.devRef .tc main_arg4)) = V0 (Proc.devRef .tc main_arg4) :=
  (W27_keep V0 main_arg4 (by decide)).trans (W26_main_arg4 V0)

theorem W27_main_arg5 (V0 : Valuation τ sig (Elt F)) : W27 V0 (no_index (Proc.devRef .tc main_arg5)) = V0 (Proc.devRef .tc main_arg5) :=
  (W27_keep V0 main_arg5 (by decide)).trans (W26_main_arg5 V0)

theorem W27_main_v0 (V0 : Valuation τ sig (Elt F)) : W27 V0 (no_index (Proc.devRef .tc main_v0)) = (Cert.Ref1Ideal.Read.val_main_v0 (F := F) (V0 (Proc.devRef .tc main_arg0))) :=
  (W27_keep V0 main_v0 (by decide)).trans (W26_main_v0 V0)

theorem W27_main_v70 (V0 : Valuation τ sig (Elt F)) : W27 V0 (no_index (Proc.devRef .tc main_v70)) = (Cert.Ref1Ideal.Read.val_main_v79 (F := F) (V0 (Proc.devRef .tc main_arg1)) (V0 (Proc.devRef .tc main_arg3))) :=
  (W27_keep V0 main_v70 (by decide)).trans (W26_main_v70 V0)

theorem W27_main_v75 (V0 : Valuation τ sig (Elt F)) : W27 V0 (no_index (Proc.devRef .tc main_v75)) = (Cert.Ref1Ideal.Read.val_main_v84 (F := F) (V0 (Proc.devRef .tc main_arg1)) (V0 (Proc.devRef .tc main_arg3))) :=
  (W27_keep V0 main_v75 (by decide)).trans (W26_main_v75 V0)

theorem W27_main_v123 (V0 : Valuation τ sig (Elt F)) : W27 V0 (no_index (Proc.devRef .tc main_v123)) = (Cert.Ref1Ideal.Read.val_main_v132 (F := F) (V0 (Proc.devRef .tc main_arg1)) (V0 (Proc.devRef .tc main_arg3))) :=
  (W27_keep V0 main_v123 (by decide)).trans (W26_main_v123 V0)

theorem W27_main_v144 (V0 : Valuation τ sig (Elt F)) : W27 V0 (no_index (Proc.devRef .tc main_v144)) = (Cert.Ref1Ideal.Read.val_main_v153 (F := F) (V0 (Proc.devRef .tc main_arg1)) (V0 (Proc.devRef .tc main_arg3))) :=
  (W27_keep V0 main_v144 (by decide)).trans (W26_main_v144 V0)

theorem W27_main_v147 (V0 : Valuation τ sig (Elt F)) : W27 V0 (no_index (Proc.devRef .tc main_v147)) = (Cert.Ref1Ideal.Read.val_main_v156 (F := F) (V0 (Proc.devRef .tc main_arg1)) (V0 (Proc.devRef .tc main_arg3))) :=
  (W27_keep V0 main_v147 (by decide)).trans (W26_main_v147 V0)

theorem W27_main_v148 (V0 : Valuation τ sig (Elt F)) : W27 V0 (no_index (Proc.devRef .tc main_v148)) = (kv_main_v148 (F := F) (V0 (Proc.devRef .tc main_arg1)) (V0 (Proc.devRef .tc main_arg3))) :=
  (W27_keep V0 main_v148 (by decide)).trans (W26_main_v148 V0)

set_option maxRecDepth 8192 in
set_option maxHeartbeats 1200000 in
theorem W27_main_v150 (V0 : Valuation τ sig (Elt F)) : W27 V0 (no_index (Proc.devRef .tc main_v150)) = (kv_main_v150 (F := F) (V0 (Proc.devRef .tc main_arg1)) (V0 (Proc.devRef .tc main_arg3))) := by
  unfold W27
  simp only [hostOps0_27, TRef.nullary, TRef.ternary, TRef.binary, TRef.unary, TRef.toBuf, TRef.ofBuf, cast_eq]
  after_results_simp
  simp only [W26_main_c_64, W26_main_c_65, W26_main_v149] <;> rfl

/-- The contents of the buffers after the host operations up to `hostOps0_28`. -/
def W28 (V0 : Valuation τ sig (Elt F)) : Valuation τ sig (Elt F) := after hostOps0_28 (W27 V0)

/-- The buffers `hostOps0_28` writes. -/
abbrev W28_W : List (Ref sig .tc) := [main_c_66, main_v151, main_v152, main_c_67, main_v153, main_v154, main_v155, main_c_68]

theorem W28_writes : (hostOps0_28 : List (HloOp τ sig (Elt F))).Forall fun op => op.writes ⊆ ((W28_W).map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W28_keep (V0 : Valuation τ sig (Elt F)) (r : Ref sig .tc) (h : r ∉ W28_W) :
    W28 V0 (Proc.devRef .tc r) = (W27 V0) (Proc.devRef .tc r) :=
  after_of_writes_sub hostOps0_28 _ W28_writes h

theorem W28_main_arg4 (V0 : Valuation τ sig (Elt F)) : W28 V0 (no_index (Proc.devRef .tc main_arg4)) = V0 (Proc.devRef .tc main_arg4) :=
  (W28_keep V0 main_arg4 (by decide)).trans (W27_main_arg4 V0)

theorem W28_main_arg5 (V0 : Valuation τ sig (Elt F)) : W28 V0 (no_index (Proc.devRef .tc main_arg5)) = V0 (Proc.devRef .tc main_arg5) :=
  (W28_keep V0 main_arg5 (by decide)).trans (W27_main_arg5 V0)

theorem W28_main_v0 (V0 : Valuation τ sig (Elt F)) : W28 V0 (no_index (Proc.devRef .tc main_v0)) = (Cert.Ref1Ideal.Read.val_main_v0 (F := F) (V0 (Proc.devRef .tc main_arg0))) :=
  (W28_keep V0 main_v0 (by decide)).trans (W27_main_v0 V0)

theorem W28_main_v70 (V0 : Valuation τ sig (Elt F)) : W28 V0 (no_index (Proc.devRef .tc main_v70)) = (Cert.Ref1Ideal.Read.val_main_v79 (F := F) (V0 (Proc.devRef .tc main_arg1)) (V0 (Proc.devRef .tc main_arg3))) :=
  (W28_keep V0 main_v70 (by decide)).trans (W27_main_v70 V0)

theorem W28_main_v75 (V0 : Valuation τ sig (Elt F)) : W28 V0 (no_index (Proc.devRef .tc main_v75)) = (Cert.Ref1Ideal.Read.val_main_v84 (F := F) (V0 (Proc.devRef .tc main_arg1)) (V0 (Proc.devRef .tc main_arg3))) :=
  (W28_keep V0 main_v75 (by decide)).trans (W27_main_v75 V0)

theorem W28_main_v123 (V0 : Valuation τ sig (Elt F)) : W28 V0 (no_index (Proc.devRef .tc main_v123)) = (Cert.Ref1Ideal.Read.val_main_v132 (F := F) (V0 (Proc.devRef .tc main_arg1)) (V0 (Proc.devRef .tc main_arg3))) :=
  (W28_keep V0 main_v123 (by decide)).trans (W27_main_v123 V0)

theorem W28_main_v144 (V0 : Valuation τ sig (Elt F)) : W28 V0 (no_index (Proc.devRef .tc main_v144)) = (Cert.Ref1Ideal.Read.val_main_v153 (F := F) (V0 (Proc.devRef .tc main_arg1)) (V0 (Proc.devRef .tc main_arg3))) :=
  (W28_keep V0 main_v144 (by decide)).trans (W27_main_v144 V0)

theorem W28_main_v147 (V0 : Valuation τ sig (Elt F)) : W28 V0 (no_index (Proc.devRef .tc main_v147)) = (Cert.Ref1Ideal.Read.val_main_v156 (F := F) (V0 (Proc.devRef .tc main_arg1)) (V0 (Proc.devRef .tc main_arg3))) :=
  (W28_keep V0 main_v147 (by decide)).trans (W27_main_v147 V0)

theorem W28_main_v148 (V0 : Valuation τ sig (Elt F)) : W28 V0 (no_index (Proc.devRef .tc main_v148)) = (kv_main_v148 (F := F) (V0 (Proc.devRef .tc main_arg1)) (V0 (Proc.devRef .tc main_arg3))) :=
  (W28_keep V0 main_v148 (by decide)).trans (W27_main_v148 V0)

theorem W28_main_v150 (V0 : Valuation τ sig (Elt F)) : W28 V0 (no_index (Proc.devRef .tc main_v150)) = (kv_main_v150 (F := F) (V0 (Proc.devRef .tc main_arg1)) (V0 (Proc.devRef .tc main_arg3))) :=
  (W28_keep V0 main_v150 (by decide)).trans (W27_main_v150 V0)

set_option maxRecDepth 8192 in
set_option maxHeartbeats 1200000 in
theorem W28_main_v155 (V0 : Valuation τ sig (Elt F)) : W28 V0 (no_index (Proc.devRef .tc main_v155)) = (kv_main_v155 (F := F) (V0 (Proc.devRef .tc main_arg1)) (V0 (Proc.devRef .tc main_arg3))) := by
  unfold W28
  simp only [hostOps0_28, TRef.nullary, TRef.ternary, TRef.binary, TRef.unary, TRef.toBuf, TRef.ofBuf, cast_eq]
  after_results_simp
  simp only [W27_main_v123] <;> rfl

set_option maxRecDepth 8192 in
set_option maxHeartbeats 1200000 in
theorem W28_main_c_68 (V0 : Valuation τ sig (Elt F)) : W28 V0 (no_index (Proc.devRef .tc main_c_68)) = (kv_main_c_68 (F := F)) := by
  unfold W28
  simp only [hostOps0_28, TRef.nullary, TRef.ternary, TRef.binary, TRef.unary, TRef.toBuf, TRef.ofBuf, cast_eq]
  after_results_simp
  all_goals rfl

/-- The contents of the buffers after the host operations up to `hostOps0_29`. -/
def W29 (V0 : Valuation τ sig (Elt F)) : Valuation τ sig (Elt F) := after hostOps0_29 (W28 V0)

/-- The buffers `hostOps0_29` writes. -/
abbrev W29_W : List (Ref sig .tc) := [main_call14_v0, main_call14_v1, main_v156]

theorem W29_writes : (hostOps0_29 : List (HloOp τ sig (Elt F))).Forall fun op => op.writes ⊆ ((W29_W).map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W29_keep (V0 : Valuation τ sig (Elt F)) (r : Ref sig .tc) (h : r ∉ W29_W) :
    W29 V0 (Proc.devRef .tc r) = (W28 V0) (Proc.devRef .tc r) :=
  after_of_writes_sub hostOps0_29 _ W29_writes h

theorem W29_main_arg4 (V0 : Valuation τ sig (Elt F)) : W29 V0 (no_index (Proc.devRef .tc main_arg4)) = V0 (Proc.devRef .tc main_arg4) :=
  (W29_keep V0 main_arg4 (by decide)).trans (W28_main_arg4 V0)

theorem W29_main_arg5 (V0 : Valuation τ sig (Elt F)) : W29 V0 (no_index (Proc.devRef .tc main_arg5)) = V0 (Proc.devRef .tc main_arg5) :=
  (W29_keep V0 main_arg5 (by decide)).trans (W28_main_arg5 V0)

theorem W29_main_v0 (V0 : Valuation τ sig (Elt F)) : W29 V0 (no_index (Proc.devRef .tc main_v0)) = (Cert.Ref1Ideal.Read.val_main_v0 (F := F) (V0 (Proc.devRef .tc main_arg0))) :=
  (W29_keep V0 main_v0 (by decide)).trans (W28_main_v0 V0)

theorem W29_main_v70 (V0 : Valuation τ sig (Elt F)) : W29 V0 (no_index (Proc.devRef .tc main_v70)) = (Cert.Ref1Ideal.Read.val_main_v79 (F := F) (V0 (Proc.devRef .tc main_arg1)) (V0 (Proc.devRef .tc main_arg3))) :=
  (W29_keep V0 main_v70 (by decide)).trans (W28_main_v70 V0)

theorem W29_main_v75 (V0 : Valuation τ sig (Elt F)) : W29 V0 (no_index (Proc.devRef .tc main_v75)) = (Cert.Ref1Ideal.Read.val_main_v84 (F := F) (V0 (Proc.devRef .tc main_arg1)) (V0 (Proc.devRef .tc main_arg3))) :=
  (W29_keep V0 main_v75 (by decide)).trans (W28_main_v75 V0)

theorem W29_main_v144 (V0 : Valuation τ sig (Elt F)) : W29 V0 (no_index (Proc.devRef .tc main_v144)) = (Cert.Ref1Ideal.Read.val_main_v153 (F := F) (V0 (Proc.devRef .tc main_arg1)) (V0 (Proc.devRef .tc main_arg3))) :=
  (W29_keep V0 main_v144 (by decide)).trans (W28_main_v144 V0)

theorem W29_main_v147 (V0 : Valuation τ sig (Elt F)) : W29 V0 (no_index (Proc.devRef .tc main_v147)) = (Cert.Ref1Ideal.Read.val_main_v156 (F := F) (V0 (Proc.devRef .tc main_arg1)) (V0 (Proc.devRef .tc main_arg3))) :=
  (W29_keep V0 main_v147 (by decide)).trans (W28_main_v147 V0)

theorem W29_main_v148 (V0 : Valuation τ sig (Elt F)) : W29 V0 (no_index (Proc.devRef .tc main_v148)) = (kv_main_v148 (F := F) (V0 (Proc.devRef .tc main_arg1)) (V0 (Proc.devRef .tc main_arg3))) :=
  (W29_keep V0 main_v148 (by decide)).trans (W28_main_v148 V0)

theorem W29_main_v150 (V0 : Valuation τ sig (Elt F)) : W29 V0 (no_index (Proc.devRef .tc main_v150)) = (kv_main_v150 (F := F) (V0 (Proc.devRef .tc main_arg1)) (V0 (Proc.devRef .tc main_arg3))) :=
  (W29_keep V0 main_v150 (by decide)).trans (W28_main_v150 V0)

set_option maxRecDepth 8192 in
set_option maxHeartbeats 1200000 in
theorem W29_main_v156 (V0 : Valuation τ sig (Elt F)) : W29 V0 (no_index (Proc.devRef .tc main_v156)) = (kv_main_v156 (F := F) (V0 (Proc.devRef .tc main_arg1)) (V0 (Proc.devRef .tc main_arg3))) := by
  unfold W29
  simp only [hostOps0_29, TRef.nullary, TRef.ternary, TRef.binary, TRef.unary, TRef.toBuf, TRef.ofBuf, cast_eq]
  after_results_simp
  simp only [W28_main_c_68, W28_main_v123, W28_main_v155] <;> rfl

/-- The contents of the buffers after the host operations up to `hostOps0_30`. -/
def W30 (V0 : Valuation τ sig (Elt F)) : Valuation τ sig (Elt F) := after hostOps0_30 (W29 V0)

/-- The buffers `hostOps0_30` writes. -/
abbrev W30_W : List (Ref sig .tc) := [main_v157, main_v158, main_v159, main_v160, main_c_69, main_v161, main_v162, main_c_70, main_v163, main_v164, main_c_71, main_c_72]

theorem W30_writes : (hostOps0_30 : List (HloOp τ sig (Elt F))).Forall fun op => op.writes ⊆ ((W30_W).map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W30_keep (V0 : Valuation τ sig (Elt F)) (r : Ref sig .tc) (h : r ∉ W30_W) :
    W30 V0 (Proc.devRef .tc r) = (W29 V0) (Proc.devRef .tc r) :=
  after_of_writes_sub hostOps0_30 _ W30_writes h

theorem W30_main_arg4 (V0 : Valuation τ sig (Elt F)) : W30 V0 (no_index (Proc.devRef .tc main_arg4)) = V0 (Proc.devRef .tc main_arg4) :=
  (W30_keep V0 main_arg4 (by decide)).trans (W29_main_arg4 V0)

theorem W30_main_v0 (V0 : Valuation τ sig (Elt F)) : W30 V0 (no_index (Proc.devRef .tc main_v0)) = (Cert.Ref1Ideal.Read.val_main_v0 (F := F) (V0 (Proc.devRef .tc main_arg0))) :=
  (W30_keep V0 main_v0 (by decide)).trans (W29_main_v0 V0)

theorem W30_main_v70 (V0 : Valuation τ sig (Elt F)) : W30 V0 (no_index (Proc.devRef .tc main_v70)) = (Cert.Ref1Ideal.Read.val_main_v79 (F := F) (V0 (Proc.devRef .tc main_arg1)) (V0 (Proc.devRef .tc main_arg3))) :=
  (W30_keep V0 main_v70 (by decide)).trans (W29_main_v70 V0)

theorem W30_main_v75 (V0 : Valuation τ sig (Elt F)) : W30 V0 (no_index (Proc.devRef .tc main_v75)) = (Cert.Ref1Ideal.Read.val_main_v84 (F := F) (V0 (Proc.devRef .tc main_arg1)) (V0 (Proc.devRef .tc main_arg3))) :=
  (W30_keep V0 main_v75 (by decide)).trans (W29_main_v75 V0)

theorem W30_main_v144 (V0 : Valuation τ sig (Elt F)) : W30 V0 (no_index (Proc.devRef .tc main_v144)) = (Cert.Ref1Ideal.Read.val_main_v153 (F := F) (V0 (Proc.devRef .tc main_arg1)) (V0 (Proc.devRef .tc main_arg3))) :=
  (W30_keep V0 main_v144 (by decide)).trans (W29_main_v144 V0)

theorem W30_main_v148 (V0 : Valuation τ sig (Elt F)) : W30 V0 (no_index (Proc.devRef .tc main_v148)) = (kv_main_v148 (F := F) (V0 (Proc.devRef .tc main_arg1)) (V0 (Proc.devRef .tc main_arg3))) :=
  (W30_keep V0 main_v148 (by decide)).trans (W29_main_v148 V0)

theorem W30_main_v150 (V0 : Valuation τ sig (Elt F)) : W30 V0 (no_index (Proc.devRef .tc main_v150)) = (kv_main_v150 (F := F) (V0 (Proc.devRef .tc main_arg1)) (V0 (Proc.devRef .tc main_arg3))) :=
  (W30_keep V0 main_v150 (by decide)).trans (W29_main_v150 V0)

theorem W30_main_v156 (V0 : Valuation τ sig (Elt F)) : W30 V0 (no_index (Proc.devRef .tc main_v156)) = (kv_main_v156 (F := F) (V0 (Proc.devRef .tc main_arg1)) (V0 (Proc.devRef .tc main_arg3))) :=
  (W30_keep V0 main_v156 (by decide)).trans (W29_main_v156 V0)

set_option maxRecDepth 8192 in
set_option maxHeartbeats 1200000 in
theorem W30_main_v158 (V0 : Valuation τ sig (Elt F)) : W30 V0 (no_index (Proc.devRef .tc main_v158)) = (Cert.Ref1Ideal.Read.val_main_v193 (F := F) (V0 (Proc.devRef .tc main_arg1)) (V0 (Proc.devRef .tc main_arg3)) (V0 (Proc.devRef .tc main_arg5))) := by
  unfold W30
  simp only [hostOps0_30, TRef.nullary, TRef.ternary, TRef.binary, TRef.unary, TRef.toBuf, TRef.ofBuf, cast_eq]
  after_results_simp
  simp only [W29_main_arg5, W29_main_v147] <;> rfl

set_option maxRecDepth 8192 in
set_option maxHeartbeats 1200000 in
theorem W30_main_v159 (V0 : Valuation τ sig (Elt F)) : W30 V0 (no_index (Proc.devRef .tc main_v159)) = (Cert.Ref1Ideal.Read.val_main_v194 (F := F) (V0 (Proc.devRef .tc main_arg1)) (V0 (Proc.devRef .tc main_arg3)) (V0 (Proc.devRef .tc main_arg5))) := by
  unfold W30
  simp only [hostOps0_30, TRef.nullary, TRef.ternary, TRef.binary, TRef.unary, TRef.toBuf, TRef.ofBuf, cast_eq]
  after_results_simp
  simp only [W29_main_arg5, W29_main_v147] <;> rfl

set_option maxRecDepth 8192 in
set_option maxHeartbeats 1200000 in
theorem W30_main_v164 (V0 : Valuation τ sig (Elt F)) : W30 V0 (no_index (Proc.devRef .tc main_v164)) = (Cert.Ref1Ideal.Read.val_main_v19 (F := F)) := by
  unfold W30
  simp only [hostOps0_30, TRef.nullary, TRef.ternary, TRef.binary, TRef.unary, TRef.toBuf, TRef.ofBuf, cast_eq]
  after_results_simp
  all_goals rfl

set_option maxRecDepth 8192 in
set_option maxHeartbeats 1200000 in
theorem W30_main_c_71 (V0 : Valuation τ sig (Elt F)) : W30 V0 (no_index (Proc.devRef .tc main_c_71)) = (Cert.Ref1Ideal.Read.val_main_c_1 (F := F)) := by
  unfold W30
  simp only [hostOps0_30, TRef.nullary, TRef.ternary, TRef.binary, TRef.unary, TRef.toBuf, TRef.ofBuf, cast_eq]
  after_results_simp
  all_goals rfl

set_option maxRecDepth 8192 in
set_option maxHeartbeats 1200000 in
theorem W30_main_c_72 (V0 : Valuation τ sig (Elt F)) : W30 V0 (no_index (Proc.devRef .tc main_c_72)) = (Cert.Ref1Ideal.Read.val_main_c_2 (F := F)) := by
  unfold W30
  simp only [hostOps0_30, TRef.nullary, TRef.ternary, TRef.binary, TRef.unary, TRef.toBuf, TRef.ofBuf, cast_eq]
  after_results_simp
  all_goals rfl

/-- The contents of the buffers after the host operations up to `hostOps0_31`. -/
def W31 (V0 : Valuation τ sig (Elt F)) : Valuation τ sig (Elt F) := after hostOps0_31 (W30 V0)

/-- The buffers `hostOps0_31` writes. -/
abbrev W31_W : List (Ref sig .tc) := [main_call15_v0, main_call15_v1, main_call15_v2, main_call15_v3, main_call15_v4, main_v165]

theorem W31_writes : (hostOps0_31 : List (HloOp τ sig (Elt F))).Forall fun op => op.writes ⊆ ((W31_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W31_keep (V0 : Valuation τ sig (Elt F)) (r : Ref sig .tc) (h : r ∉ W31_W) :
    W31 V0 (Proc.devRef .tc r) = (W30 V0) (Proc.devRef .tc r) :=
  after_of_writes_sub hostOps0_31 _ W31_writes h

theorem W31_main_arg4 (V0 : Valuation τ sig (Elt F)) : W31 V0 (no_index (Proc.devRef .tc main_arg4)) = V0 (Proc.devRef .tc main_arg4) :=
  (W31_keep V0 main_arg4 (by decide)).trans (W30_main_arg4 V0)

theorem W31_main_v0 (V0 : Valuation τ sig (Elt F)) : W31 V0 (no_index (Proc.devRef .tc main_v0)) = (Cert.Ref1Ideal.Read.val_main_v0 (F := F) (V0 (Proc.devRef .tc main_arg0))) :=
  (W31_keep V0 main_v0 (by decide)).trans (W30_main_v0 V0)

theorem W31_main_v70 (V0 : Valuation τ sig (Elt F)) : W31 V0 (no_index (Proc.devRef .tc main_v70)) = (Cert.Ref1Ideal.Read.val_main_v79 (F := F) (V0 (Proc.devRef .tc main_arg1)) (V0 (Proc.devRef .tc main_arg3))) :=
  (W31_keep V0 main_v70 (by decide)).trans (W30_main_v70 V0)

theorem W31_main_v75 (V0 : Valuation τ sig (Elt F)) : W31 V0 (no_index (Proc.devRef .tc main_v75)) = (Cert.Ref1Ideal.Read.val_main_v84 (F := F) (V0 (Proc.devRef .tc main_arg1)) (V0 (Proc.devRef .tc main_arg3))) :=
  (W31_keep V0 main_v75 (by decide)).trans (W30_main_v75 V0)

theorem W31_main_v144 (V0 : Valuation τ sig (Elt F)) : W31 V0 (no_index (Proc.devRef .tc main_v144)) = (Cert.Ref1Ideal.Read.val_main_v153 (F := F) (V0 (Proc.devRef .tc main_arg1)) (V0 (Proc.devRef .tc main_arg3))) :=
  (W31_keep V0 main_v144 (by decide)).trans (W30_main_v144 V0)

theorem W31_main_v148 (V0 : Valuation τ sig (Elt F)) : W31 V0 (no_index (Proc.devRef .tc main_v148)) = (kv_main_v148 (F := F) (V0 (Proc.devRef .tc main_arg1)) (V0 (Proc.devRef .tc main_arg3))) :=
  (W31_keep V0 main_v148 (by decide)).trans (W30_main_v148 V0)

theorem W31_main_v150 (V0 : Valuation τ sig (Elt F)) : W31 V0 (no_index (Proc.devRef .tc main_v150)) = (kv_main_v150 (F := F) (V0 (Proc.devRef .tc main_arg1)) (V0 (Proc.devRef .tc main_arg3))) :=
  (W31_keep V0 main_v150 (by decide)).trans (W30_main_v150 V0)

theorem W31_main_v156 (V0 : Valuation τ sig (Elt F)) : W31 V0 (no_index (Proc.devRef .tc main_v156)) = (kv_main_v156 (F := F) (V0 (Proc.devRef .tc main_arg1)) (V0 (Proc.devRef .tc main_arg3))) :=
  (W31_keep V0 main_v156 (by decide)).trans (W30_main_v156 V0)

theorem W31_main_v158 (V0 : Valuation τ sig (Elt F)) : W31 V0 (no_index (Proc.devRef .tc main_v158)) = (Cert.Ref1Ideal.Read.val_main_v193 (F := F) (V0 (Proc.devRef .tc main_arg1)) (V0 (Proc.devRef .tc main_arg3)) (V0 (Proc.devRef .tc main_arg5))) :=
  (W31_keep V0 main_v158 (by decide)).trans (W30_main_v158 V0)

theorem W31_main_v159 (V0 : Valuation τ sig (Elt F)) : W31 V0 (no_index (Proc.devRef .tc main_v159)) = (Cert.Ref1Ideal.Read.val_main_v194 (F := F) (V0 (Proc.devRef .tc main_arg1)) (V0 (Proc.devRef .tc main_arg3)) (V0 (Proc.devRef .tc main_arg5))) :=
  (W31_keep V0 main_v159 (by decide)).trans (W30_main_v159 V0)

set_option maxRecDepth 8192 in
set_option maxHeartbeats 1200000 in
theorem W31_main_v165 (V0 : Valuation τ sig (Elt F)) : W31 V0 (no_index (Proc.devRef .tc main_v165)) = (Cert.Ref1Ideal.Read.val_main_v20 (F := F)) := by
  unfold W31
  simp only [hostOps0_31, TRef.nullary, TRef.ternary, TRef.binary, TRef.unary, TRef.toBuf, TRef.ofBuf, cast_eq]
  after_results_simp
  simp only [W30_main_c_71, W30_main_c_72, W30_main_v164] <;> rfl

/-- The contents of the buffers after the host operations up to `hostOps0_32`. -/
def W32 (V0 : Valuation τ sig (Elt F)) : Valuation τ sig (Elt F) := after hostOps0_32 (W31 V0)

/-- The buffers `hostOps0_32` writes. -/
abbrev W32_W : List (Ref sig .tc) := [main_c_73, main_v166, main_v167, main_v168, main_v169, main_v170, main_v171, main_v172, main_v173, main_v174, main_c_74, main_v175, main_c_75, main_v176, main_v177, main_cst_76, main_v178, main_v179, main_cst_77, main_v180, main_v181, main_v182, main_c_78]

theorem W32_writes : (hostOps0_32 : List (HloOp τ sig (Elt F))).Forall fun op => op.writes ⊆ ((W32_W).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W32_keep (V0 : Valuation τ sig (Elt F)) (r : Ref sig .tc) (h : r ∉ W32_W) :
    W32 V0 (Proc.devRef .tc r) = (W31 V0) (Proc.devRef .tc r) :=
  after_of_writes_sub hostOps0_32 _ W32_writes h

theorem W32_main_arg4 (V0 : Valuation τ sig (Elt F)) : W32 V0 (no_index (Proc.devRef .tc main_arg4)) = V0 (Proc.devRef .tc main_arg4) :=
  (W32_keep V0 main_arg4 (by decide)).trans (W31_main_arg4 V0)

theorem W32_main_v0 (V0 : Valuation τ sig (Elt F)) : W32 V0 (no_index (Proc.devRef .tc main_v0)) = (Cert.Ref1Ideal.Read.val_main_v0 (F := F) (V0 (Proc.devRef .tc main_arg0))) :=
  (W32_keep V0 main_v0 (by decide)).trans (W31_main_v0 V0)

theorem W32_main_v70 (V0 : Valuation τ sig (Elt F)) : W32 V0 (no_index (Proc.devRef .tc main_v70)) = (Cert.Ref1Ideal.Read.val_main_v79 (F := F) (V0 (Proc.devRef .tc main_arg1)) (V0 (Proc.devRef .tc main_arg3))) :=
  (W32_keep V0 main_v70 (by decide)).trans (W31_main_v70 V0)

theorem W32_main_v75 (V0 : Valuation τ sig (Elt F)) : W32 V0 (no_index (Proc.devRef .tc main_v75)) = (Cert.Ref1Ideal.Read.val_main_v84 (F := F) (V0 (Proc.devRef .tc main_arg1)) (V0 (Proc.devRef .tc main_arg3))) :=
  (W32_keep V0 main_v75 (by decide)).trans (W31_main_v75 V0)

theorem W32_main_v144 (V0 : Valuation τ sig (Elt F)) : W32 V0 (no_index (Proc.devRef .tc main_v144)) = (Cert.Ref1Ideal.Read.val_main_v153 (F := F) (V0 (Proc.devRef .tc main_arg1)) (V0 (Proc.devRef .tc main_arg3))) :=
  (W32_keep V0 main_v144 (by decide)).trans (W31_main_v144 V0)

theorem W32_main_v148 (V0 : Valuation τ sig (Elt F)) : W32 V0 (no_index (Proc.devRef .tc main_v148)) = (kv_main_v148 (F := F) (V0 (Proc.devRef .tc main_arg1)) (V0 (Proc.devRef .tc main_arg3))) :=
  (W32_keep V0 main_v148 (by decide)).trans (W31_main_v148 V0)

theorem W32_main_v150 (V0 : Valuation τ sig (Elt F)) : W32 V0 (no_index (Proc.devRef .tc main_v150)) = (kv_main_v150 (F := F) (V0 (Proc.devRef .tc main_arg1)) (V0 (Proc.devRef .tc main_arg3))) :=
  (W32_keep V0 main_v150 (by decide)).trans (W31_main_v150 V0)

theorem W32_main_v156 (V0 : Valuation τ sig (Elt F)) : W32 V0 (no_index (Proc.devRef .tc main_v156)) = (kv_main_v156 (F := F) (V0 (Proc.devRef .tc main_arg1)) (V0 (Proc.devRef .tc main_arg3))) :=
  (W32_keep V0 main_v156 (by decide)).trans (W31_main_v156 V0)

theorem W32_main_v158 (V0 : Valuation τ sig (Elt F)) : W32 V0 (no_index (Proc.devRef .tc main_v158)) = (Cert.Ref1Ideal.Read.val_main_v193 (F := F) (V0 (Proc.devRef .tc main_arg1)) (V0 (Proc.devRef .tc main_arg3)) (V0 (Proc.devRef .tc main_arg5))) :=
  (W32_keep V0 main_v158 (by decide)).trans (W31_main_v158 V0)

set_option maxRecDepth 8192 in
set_option maxHeartbeats 1200000 in
theorem W32_main_v177 (V0 : Valuation τ sig (Elt F)) : W32 V0 (no_index (Proc.devRef .tc main_v177)) = (Cert.Ref1Ideal.Read.val_main_v212 (F := F) (V0 (Proc.devRef .tc main_arg1)) (V0 (Proc.devRef .tc main_arg3)) (V0 (Proc.devRef .tc main_arg5))) := by
  unfold W32
  simp only [hostOps0_32, TRef.nullary, TRef.ternary, TRef.binary, TRef.unary, TRef.toBuf, TRef.ofBuf, cast_eq]
  after_results_simp
  simp only [W31_main_v159, W31_main_v165] <;> rfl

set_option maxRecDepth 8192 in
set_option maxHeartbeats 1200000 in
theorem W32_main_v182 (V0 : Valuation τ sig (Elt F)) : W32 V0 (no_index (Proc.devRef .tc main_v182)) = (Cert.Ref1Ideal.Read.val_main_v217 (F := F) (V0 (Proc.devRef .tc main_arg1)) (V0 (Proc.devRef .tc main_arg3)) (V0 (Proc.devRef .tc main_arg5))) := by
  unfold W32
  simp only [hostOps0_32, TRef.nullary, TRef.ternary, TRef.binary, TRef.unary, TRef.toBuf, TRef.ofBuf, cast_eq]
  after_results_simp
  simp only [W31_main_v159] <;> rfl

set_option maxRecDepth 8192 in
set_option maxHeartbeats 1200000 in
theorem W32_main_c_78 (V0 : Valuation τ sig (Elt F)) : W32 V0 (no_index (Proc.devRef .tc main_c_78)) = (Cert.Ref1Ideal.Read.val_main_c_1 (F := F)) := by
  unfold W32
  simp only [hostOps0_32, TRef.nullary, TRef.ternary, TRef.binary, TRef.unary, TRef.toBuf, TRef.ofBuf, cast_eq]
  after_results_simp
  all_goals rfl

/-- The contents of the buffers after the host operations up to `hostOps0_33`. -/
def W33 (V0 : Valuation τ sig (Elt F)) : Valuation τ sig (Elt F) := after hostOps0_33 (W32 V0)

/-- The buffers `hostOps0_33` writes. -/
abbrev W33_W : List (Ref sig .tc) := [main_call16_v0, main_call16_v1, main_v183]

theorem W33_writes : (hostOps0_33 : List (HloOp τ sig (Elt F))).Forall fun op => op.writes ⊆ ((W33_W).map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W33_keep (V0 : Valuation τ sig (Elt F)) (r : Ref sig .tc) (h : r ∉ W33_W) :
    W33 V0 (Proc.devRef .tc r) = (W32 V0) (Proc.devRef .tc r) :=
  after_of_writes_sub hostOps0_33 _ W33_writes h

theorem W33_main_arg4 (V0 : Valuation τ sig (Elt F)) : W33 V0 (no_index (Proc.devRef .tc main_arg4)) = V0 (Proc.devRef .tc main_arg4) :=
  (W33_keep V0 main_arg4 (by decide)).trans (W32_main_arg4 V0)

theorem W33_main_v0 (V0 : Valuation τ sig (Elt F)) : W33 V0 (no_index (Proc.devRef .tc main_v0)) = (Cert.Ref1Ideal.Read.val_main_v0 (F := F) (V0 (Proc.devRef .tc main_arg0))) :=
  (W33_keep V0 main_v0 (by decide)).trans (W32_main_v0 V0)

theorem W33_main_v70 (V0 : Valuation τ sig (Elt F)) : W33 V0 (no_index (Proc.devRef .tc main_v70)) = (Cert.Ref1Ideal.Read.val_main_v79 (F := F) (V0 (Proc.devRef .tc main_arg1)) (V0 (Proc.devRef .tc main_arg3))) :=
  (W33_keep V0 main_v70 (by decide)).trans (W32_main_v70 V0)

theorem W33_main_v75 (V0 : Valuation τ sig (Elt F)) : W33 V0 (no_index (Proc.devRef .tc main_v75)) = (Cert.Ref1Ideal.Read.val_main_v84 (F := F) (V0 (Proc.devRef .tc main_arg1)) (V0 (Proc.devRef .tc main_arg3))) :=
  (W33_keep V0 main_v75 (by decide)).trans (W32_main_v75 V0)

theorem W33_main_v144 (V0 : Valuation τ sig (Elt F)) : W33 V0 (no_index (Proc.devRef .tc main_v144)) = (Cert.Ref1Ideal.Read.val_main_v153 (F := F) (V0 (Proc.devRef .tc main_arg1)) (V0 (Proc.devRef .tc main_arg3))) :=
  (W33_keep V0 main_v144 (by decide)).trans (W32_main_v144 V0)

theorem W33_main_v148 (V0 : Valuation τ sig (Elt F)) : W33 V0 (no_index (Proc.devRef .tc main_v148)) = (kv_main_v148 (F := F) (V0 (Proc.devRef .tc main_arg1)) (V0 (Proc.devRef .tc main_arg3))) :=
  (W33_keep V0 main_v148 (by decide)).trans (W32_main_v148 V0)

theorem W33_main_v150 (V0 : Valuation τ sig (Elt F)) : W33 V0 (no_index (Proc.devRef .tc main_v150)) = (kv_main_v150 (F := F) (V0 (Proc.devRef .tc main_arg1)) (V0 (Proc.devRef .tc main_arg3))) :=
  (W33_keep V0 main_v150 (by decide)).trans (W32_main_v150 V0)

theorem W33_main_v156 (V0 : Valuation τ sig (Elt F)) : W33 V0 (no_index (Proc.devRef .tc main_v156)) = (kv_main_v156 (F := F) (V0 (Proc.devRef .tc main_arg1)) (V0 (Proc.devRef .tc main_arg3))) :=
  (W33_keep V0 main_v156 (by decide)).trans (W32_main_v156 V0)

theorem W33_main_v158 (V0 : Valuation τ sig (Elt F)) : W33 V0 (no_index (Proc.devRef .tc main_v158)) = (Cert.Ref1Ideal.Read.val_main_v193 (F := F) (V0 (Proc.devRef .tc main_arg1)) (V0 (Proc.devRef .tc main_arg3)) (V0 (Proc.devRef .tc main_arg5))) :=
  (W33_keep V0 main_v158 (by decide)).trans (W32_main_v158 V0)

set_option maxRecDepth 8192 in
set_option maxHeartbeats 1200000 in
theorem W33_main_v183 (V0 : Valuation τ sig (Elt F)) : W33 V0 (no_index (Proc.devRef .tc main_v183)) = (Cert.Ref1Ideal.Read.val_main_v218 (F := F) (V0 (Proc.devRef .tc main_arg1)) (V0 (Proc.devRef .tc main_arg3)) (V0 (Proc.devRef .tc main_arg5))) := by
  unfold W33
  simp only [hostOps0_33, TRef.nullary, TRef.ternary, TRef.binary, TRef.unary, TRef.toBuf, TRef.ofBuf, cast_eq]
  after_results_simp
  simp only [W32_main_c_78, W32_main_v177, W32_main_v182] <;> rfl

/-- The contents of the buffers after the host operations up to `hostOps0_34`. -/
def W34 (V0 : Valuation τ sig (Elt F)) : Valuation τ sig (Elt F) := after hostOps0_34 (W33 V0)

/-- The buffers `hostOps0_34` writes. -/
abbrev W34_W : List (Ref sig .tc) := [main_v184, main_c_79, main_v185, main_v186, main_c_80, main_v187, main_v188, main_c_81, main_c_82]

theorem W34_writes : (hostOps0_34 : List (HloOp τ sig (Elt F))).Forall fun op => op.writes ⊆ ((W34_W).map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W34_keep (V0 : Valuation τ sig (Elt F)) (r : Ref sig .tc) (h : r ∉ W34_W) :
    W34 V0 (Proc.devRef .tc r) = (W33 V0) (Proc.devRef .tc r) :=
  after_of_writes_sub hostOps0_34 _ W34_writes h

theorem W34_main_arg4 (V0 : Valuation τ sig (Elt F)) : W34 V0 (no_index (Proc.devRef .tc main_arg4)) = V0 (Proc.devRef .tc main_arg4) :=
  (W34_keep V0 main_arg4 (by decide)).trans (W33_main_arg4 V0)

theorem W34_main_v0 (V0 : Valuation τ sig (Elt F)) : W34 V0 (no_index (Proc.devRef .tc main_v0)) = (Cert.Ref1Ideal.Read.val_main_v0 (F := F) (V0 (Proc.devRef .tc main_arg0))) :=
  (W34_keep V0 main_v0 (by decide)).trans (W33_main_v0 V0)

theorem W34_main_v70 (V0 : Valuation τ sig (Elt F)) : W34 V0 (no_index (Proc.devRef .tc main_v70)) = (Cert.Ref1Ideal.Read.val_main_v79 (F := F) (V0 (Proc.devRef .tc main_arg1)) (V0 (Proc.devRef .tc main_arg3))) :=
  (W34_keep V0 main_v70 (by decide)).trans (W33_main_v70 V0)

theorem W34_main_v75 (V0 : Valuation τ sig (Elt F)) : W34 V0 (no_index (Proc.devRef .tc main_v75)) = (Cert.Ref1Ideal.Read.val_main_v84 (F := F) (V0 (Proc.devRef .tc main_arg1)) (V0 (Proc.devRef .tc main_arg3))) :=
  (W34_keep V0 main_v75 (by decide)).trans (W33_main_v75 V0)

theorem W34_main_v144 (V0 : Valuation τ sig (Elt F)) : W34 V0 (no_index (Proc.devRef .tc main_v144)) = (Cert.Ref1Ideal.Read.val_main_v153 (F := F) (V0 (Proc.devRef .tc main_arg1)) (V0 (Proc.devRef .tc main_arg3))) :=
  (W34_keep V0 main_v144 (by decide)).trans (W33_main_v144 V0)

theorem W34_main_v148 (V0 : Valuation τ sig (Elt F)) : W34 V0 (no_index (Proc.devRef .tc main_v148)) = (kv_main_v148 (F := F) (V0 (Proc.devRef .tc main_arg1)) (V0 (Proc.devRef .tc main_arg3))) :=
  (W34_keep V0 main_v148 (by decide)).trans (W33_main_v148 V0)

theorem W34_main_v150 (V0 : Valuation τ sig (Elt F)) : W34 V0 (no_index (Proc.devRef .tc main_v150)) = (kv_main_v150 (F := F) (V0 (Proc.devRef .tc main_arg1)) (V0 (Proc.devRef .tc main_arg3))) :=
  (W34_keep V0 main_v150 (by decide)).trans (W33_main_v150 V0)

theorem W34_main_v156 (V0 : Valuation τ sig (Elt F)) : W34 V0 (no_index (Proc.devRef .tc main_v156)) = (kv_main_v156 (F := F) (V0 (Proc.devRef .tc main_arg1)) (V0 (Proc.devRef .tc main_arg3))) :=
  (W34_keep V0 main_v156 (by decide)).trans (W33_main_v156 V0)

theorem W34_main_v158 (V0 : Valuation τ sig (Elt F)) : W34 V0 (no_index (Proc.devRef .tc main_v158)) = (Cert.Ref1Ideal.Read.val_main_v193 (F := F) (V0 (Proc.devRef .tc main_arg1)) (V0 (Proc.devRef .tc main_arg3)) (V0 (Proc.devRef .tc main_arg5))) :=
  (W34_keep V0 main_v158 (by decide)).trans (W33_main_v158 V0)

theorem W34_main_v183 (V0 : Valuation τ sig (Elt F)) : W34 V0 (no_index (Proc.devRef .tc main_v183)) = (Cert.Ref1Ideal.Read.val_main_v218 (F := F) (V0 (Proc.devRef .tc main_arg1)) (V0 (Proc.devRef .tc main_arg3)) (V0 (Proc.devRef .tc main_arg5))) :=
  (W34_keep V0 main_v183 (by decide)).trans (W33_main_v183 V0)

set_option maxRecDepth 8192 in
set_option maxHeartbeats 1200000 in
theorem W34_main_v184 (V0 : Valuation τ sig (Elt F)) : W34 V0 (no_index (Proc.devRef .tc main_v184)) = (Cert.Ref1Ideal.Read.val_main_v219 (F := F) (V0 (Proc.devRef .tc main_arg1)) (V0 (Proc.devRef .tc main_arg3)) (V0 (Proc.devRef .tc main_arg5))) := by
  unfold W34
  simp only [hostOps0_34, TRef.nullary, TRef.ternary, TRef.binary, TRef.unary, TRef.toBuf, TRef.ofBuf, cast_eq]
  after_results_simp
  simp only [W33_main_v183] <;> rfl

set_option maxRecDepth 8192 in
set_option maxHeartbeats 1200000 in
theorem W34_main_v186 (V0 : Valuation τ sig (Elt F)) : W34 V0 (no_index (Proc.devRef .tc main_v186)) = (Cert.Ref1Ideal.Read.val_main_v221 (F := F) (V0 (Proc.devRef .tc main_arg1)) (V0 (Proc.devRef .tc main_arg3)) (V0 (Proc.devRef .tc main_arg5))) := by
  unfold W34
  simp only [hostOps0_34, TRef.nullary, TRef.ternary, TRef.binary, TRef.unary, TRef.toBuf, TRef.ofBuf, cast_eq]
  after_results_simp
  simp only [W33_main_v183] <;> rfl

set_option maxRecDepth 8192 in
set_option maxHeartbeats 1200000 in
theorem W34_main_v188 (V0 : Valuation τ sig (Elt F)) : W34 V0 (no_index (Proc.devRef .tc main_v188)) = (Cert.Ref1Ideal.Read.val_main_v223 (F := F) (V0 (Proc.devRef .tc main_arg1)) (V0 (Proc.devRef .tc main_arg3)) (V0 (Proc.devRef .tc main_arg5))) := by
  unfold W34
  simp only [hostOps0_34, TRef.nullary, TRef.ternary, TRef.binary, TRef.unary, TRef.toBuf, TRef.ofBuf, cast_eq]
  after_results_simp
  simp only [W33_main_v183] <;> rfl

set_option maxRecDepth 8192 in
set_option maxHeartbeats 1200000 in
theorem W34_main_c_81 (V0 : Valuation τ sig (Elt F)) : W34 V0 (no_index (Proc.devRef .tc main_c_81)) = (Cert.Ref1Ideal.Read.val_main_c_1 (F := F)) := by
  unfold W34
  simp only [hostOps0_34, TRef.nullary, TRef.ternary, TRef.binary, TRef.unary, TRef.toBuf, TRef.ofBuf, cast_eq]
  after_results_simp
  all_goals rfl

set_option maxRecDepth 8192 in
set_option maxHeartbeats 1200000 in
theorem W34_main_c_82 (V0 : Valuation τ sig (Elt F)) : W34 V0 (no_index (Proc.devRef .tc main_c_82)) = (Cert.Ref1Ideal.Read.val_main_c_2 (F := F)) := by
  unfold W34
  simp only [hostOps0_34, TRef.nullary, TRef.ternary, TRef.binary, TRef.unary, TRef.toBuf, TRef.ofBuf, cast_eq]
  after_results_simp
  all_goals rfl

/-- The contents of the buffers after the host operations up to `hostOps0_35`. -/
def W35 (V0 : Valuation τ sig (Elt F)) : Valuation τ sig (Elt F) := after hostOps0_35 (W34 V0)

/-- The buffers `hostOps0_35` writes. -/
abbrev W35_W : List (Ref sig .tc) := [main_call17_v0, main_call17_v1, main_call17_v2, main_call17_v3, main_call17_v4, main_v189]

theorem W35_writes : (hostOps0_35 : List (HloOp τ sig (Elt F))).Forall fun op => op.writes ⊆ ((W35_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W35_keep (V0 : Valuation τ sig (Elt F)) (r : Ref sig .tc) (h : r ∉ W35_W) :
    W35 V0 (Proc.devRef .tc r) = (W34 V0) (Proc.devRef .tc r) :=
  after_of_writes_sub hostOps0_35 _ W35_writes h

theorem W35_main_arg4 (V0 : Valuation τ sig (Elt F)) : W35 V0 (no_index (Proc.devRef .tc main_arg4)) = V0 (Proc.devRef .tc main_arg4) :=
  (W35_keep V0 main_arg4 (by decide)).trans (W34_main_arg4 V0)

theorem W35_main_v0 (V0 : Valuation τ sig (Elt F)) : W35 V0 (no_index (Proc.devRef .tc main_v0)) = (Cert.Ref1Ideal.Read.val_main_v0 (F := F) (V0 (Proc.devRef .tc main_arg0))) :=
  (W35_keep V0 main_v0 (by decide)).trans (W34_main_v0 V0)

theorem W35_main_v70 (V0 : Valuation τ sig (Elt F)) : W35 V0 (no_index (Proc.devRef .tc main_v70)) = (Cert.Ref1Ideal.Read.val_main_v79 (F := F) (V0 (Proc.devRef .tc main_arg1)) (V0 (Proc.devRef .tc main_arg3))) :=
  (W35_keep V0 main_v70 (by decide)).trans (W34_main_v70 V0)

theorem W35_main_v75 (V0 : Valuation τ sig (Elt F)) : W35 V0 (no_index (Proc.devRef .tc main_v75)) = (Cert.Ref1Ideal.Read.val_main_v84 (F := F) (V0 (Proc.devRef .tc main_arg1)) (V0 (Proc.devRef .tc main_arg3))) :=
  (W35_keep V0 main_v75 (by decide)).trans (W34_main_v75 V0)

theorem W35_main_v144 (V0 : Valuation τ sig (Elt F)) : W35 V0 (no_index (Proc.devRef .tc main_v144)) = (Cert.Ref1Ideal.Read.val_main_v153 (F := F) (V0 (Proc.devRef .tc main_arg1)) (V0 (Proc.devRef .tc main_arg3))) :=
  (W35_keep V0 main_v144 (by decide)).trans (W34_main_v144 V0)

theorem W35_main_v148 (V0 : Valuation τ sig (Elt F)) : W35 V0 (no_index (Proc.devRef .tc main_v148)) = (kv_main_v148 (F := F) (V0 (Proc.devRef .tc main_arg1)) (V0 (Proc.devRef .tc main_arg3))) :=
  (W35_keep V0 main_v148 (by decide)).trans (W34_main_v148 V0)

theorem W35_main_v150 (V0 : Valuation τ sig (Elt F)) : W35 V0 (no_index (Proc.devRef .tc main_v150)) = (kv_main_v150 (F := F) (V0 (Proc.devRef .tc main_arg1)) (V0 (Proc.devRef .tc main_arg3))) :=
  (W35_keep V0 main_v150 (by decide)).trans (W34_main_v150 V0)

theorem W35_main_v156 (V0 : Valuation τ sig (Elt F)) : W35 V0 (no_index (Proc.devRef .tc main_v156)) = (kv_main_v156 (F := F) (V0 (Proc.devRef .tc main_arg1)) (V0 (Proc.devRef .tc main_arg3))) :=
  (W35_keep V0 main_v156 (by decide)).trans (W34_main_v156 V0)

theorem W35_main_v158 (V0 : Valuation τ sig (Elt F)) : W35 V0 (no_index (Proc.devRef .tc main_v158)) = (Cert.Ref1Ideal.Read.val_main_v193 (F := F) (V0 (Proc.devRef .tc main_arg1)) (V0 (Proc.devRef .tc main_arg3)) (V0 (Proc.devRef .tc main_arg5))) :=
  (W35_keep V0 main_v158 (by decide)).trans (W34_main_v158 V0)

theorem W35_main_v183 (V0 : Valuation τ sig (Elt F)) : W35 V0 (no_index (Proc.devRef .tc main_v183)) = (Cert.Ref1Ideal.Read.val_main_v218 (F := F) (V0 (Proc.devRef .tc main_arg1)) (V0 (Proc.devRef .tc main_arg3)) (V0 (Proc.devRef .tc main_arg5))) :=
  (W35_keep V0 main_v183 (by decide)).trans (W34_main_v183 V0)

theorem W35_main_v184 (V0 : Valuation τ sig (Elt F)) : W35 V0 (no_index (Proc.devRef .tc main_v184)) = (Cert.Ref1Ideal.Read.val_main_v219 (F := F) (V0 (Proc.devRef .tc main_arg1)) (V0 (Proc.devRef .tc main_arg3)) (V0 (Proc.devRef .tc main_arg5))) :=
  (W35_keep V0 main_v184 (by decide)).trans (W34_main_v184 V0)

theorem W35_main_v186 (V0 : Valuation τ sig (Elt F)) : W35 V0 (no_index (Proc.devRef .tc main_v186)) = (Cert.Ref1Ideal.Read.val_main_v221 (F := F) (V0 (Proc.devRef .tc main_arg1)) (V0 (Proc.devRef .tc main_arg3)) (V0 (Proc.devRef .tc main_arg5))) :=
  (W35_keep V0 main_v186 (by decide)).trans (W34_main_v186 V0)

set_option maxRecDepth 8192 in
set_option maxHeartbeats 1200000 in
theorem W35_main_v189 (V0 : Valuation τ sig (Elt F)) : W35 V0 (no_index (Proc.devRef .tc main_v189)) = (Cert.Ref1Ideal.Read.val_main_v224 (F := F) (V0 (Proc.devRef .tc main_arg1)) (V0 (Proc.devRef .tc main_arg3)) (V0 (Proc.devRef .tc main_arg5))) := by
  unfold W35
  simp only [hostOps0_35, TRef.nullary, TRef.ternary, TRef.binary, TRef.unary, TRef.toBuf, TRef.ofBuf, cast_eq]
  after_results_simp
  simp only [W34_main_c_81, W34_main_c_82, W34_main_v188] <;> rfl

/-- The contents of the buffers after the host operations up to `hostOps0_36`. -/
def W36 (V0 : Valuation τ sig (Elt F)) : Valuation τ sig (Elt F) := after hostOps0_36 (W35 V0)

/-- The buffers `hostOps0_36` writes. -/
abbrev W36_W : List (Ref sig .tc) := [main_c_83, main_v190, main_v191, main_v192, main_v193, main_v194, main_c_84, main_v195, main_v196, main_c_85, main_c_86]

theorem W36_writes : (hostOps0_36 : List (HloOp τ sig (Elt F))).Forall fun op => op.writes ⊆ ((W36_W).map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W36_keep (V0 : Valuation τ sig (Elt F)) (r : Ref sig .tc) (h : r ∉ W36_W) :
    W36 V0 (Proc.devRef .tc r) = (W35 V0) (Proc.devRef .tc r) :=
  after_of_writes_sub hostOps0_36 _ W36_writes h

theorem W36_main_arg4 (V0 : Valuation τ sig (Elt F)) : W36 V0 (no_index (Proc.devRef .tc main_arg4)) = V0 (Proc.devRef .tc main_arg4) :=
  (W36_keep V0 main_arg4 (by decide)).trans (W35_main_arg4 V0)

theorem W36_main_v0 (V0 : Valuation τ sig (Elt F)) : W36 V0 (no_index (Proc.devRef .tc main_v0)) = (Cert.Ref1Ideal.Read.val_main_v0 (F := F) (V0 (Proc.devRef .tc main_arg0))) :=
  (W36_keep V0 main_v0 (by decide)).trans (W35_main_v0 V0)

theorem W36_main_v70 (V0 : Valuation τ sig (Elt F)) : W36 V0 (no_index (Proc.devRef .tc main_v70)) = (Cert.Ref1Ideal.Read.val_main_v79 (F := F) (V0 (Proc.devRef .tc main_arg1)) (V0 (Proc.devRef .tc main_arg3))) :=
  (W36_keep V0 main_v70 (by decide)).trans (W35_main_v70 V0)

theorem W36_main_v75 (V0 : Valuation τ sig (Elt F)) : W36 V0 (no_index (Proc.devRef .tc main_v75)) = (Cert.Ref1Ideal.Read.val_main_v84 (F := F) (V0 (Proc.devRef .tc main_arg1)) (V0 (Proc.devRef .tc main_arg3))) :=
  (W36_keep V0 main_v75 (by decide)).trans (W35_main_v75 V0)

theorem W36_main_v144 (V0 : Valuation τ sig (Elt F)) : W36 V0 (no_index (Proc.devRef .tc main_v144)) = (Cert.Ref1Ideal.Read.val_main_v153 (F := F) (V0 (Proc.devRef .tc main_arg1)) (V0 (Proc.devRef .tc main_arg3))) :=
  (W36_keep V0 main_v144 (by decide)).trans (W35_main_v144 V0)

theorem W36_main_v148 (V0 : Valuation τ sig (Elt F)) : W36 V0 (no_index (Proc.devRef .tc main_v148)) = (kv_main_v148 (F := F) (V0 (Proc.devRef .tc main_arg1)) (V0 (Proc.devRef .tc main_arg3))) :=
  (W36_keep V0 main_v148 (by decide)).trans (W35_main_v148 V0)

theorem W36_main_v150 (V0 : Valuation τ sig (Elt F)) : W36 V0 (no_index (Proc.devRef .tc main_v150)) = (kv_main_v150 (F := F) (V0 (Proc.devRef .tc main_arg1)) (V0 (Proc.devRef .tc main_arg3))) :=
  (W36_keep V0 main_v150 (by decide)).trans (W35_main_v150 V0)

theorem W36_main_v156 (V0 : Valuation τ sig (Elt F)) : W36 V0 (no_index (Proc.devRef .tc main_v156)) = (kv_main_v156 (F := F) (V0 (Proc.devRef .tc main_arg1)) (V0 (Proc.devRef .tc main_arg3))) :=
  (W36_keep V0 main_v156 (by decide)).trans (W35_main_v156 V0)

theorem W36_main_v183 (V0 : Valuation τ sig (Elt F)) : W36 V0 (no_index (Proc.devRef .tc main_v183)) = (Cert.Ref1Ideal.Read.val_main_v218 (F := F) (V0 (Proc.devRef .tc main_arg1)) (V0 (Proc.devRef .tc main_arg3)) (V0 (Proc.devRef .tc main_arg5))) :=
  (W36_keep V0 main_v183 (by decide)).trans (W35_main_v183 V0)

set_option maxRecDepth 8192 in
set_option maxHeartbeats 1200000 in
theorem W36_main_v193 (V0 : Valuation τ sig (Elt F)) : W36 V0 (no_index (Proc.devRef .tc main_v193)) = (Cert.Ref1Ideal.Read.val_main_v228 (F := F) (V0 (Proc.devRef .tc main_arg1)) (V0 (Proc.devRef .tc main_arg3)) (V0 (Proc.devRef .tc main_arg5))) := by
  unfold W36
  simp only [hostOps0_36, TRef.nullary, TRef.ternary, TRef.binary, TRef.unary, TRef.toBuf, TRef.ofBuf, cast_eq]
  after_results_simp
  simp only [W35_main_v158, W35_main_v189] <;> rfl

set_option maxRecDepth 8192 in
set_option maxHeartbeats 1200000 in
theorem W36_main_v196 (V0 : Valuation τ sig (Elt F)) : W36 V0 (no_index (Proc.devRef .tc main_v196)) = (Cert.Ref1Ideal.Read.val_main_v231 (F := F) (V0 (Proc.devRef .tc main_arg1)) (V0 (Proc.devRef .tc main_arg3)) (V0 (Proc.devRef .tc main_arg5))) := by
  unfold W36
  simp only [hostOps0_36, TRef.nullary, TRef.ternary, TRef.binary, TRef.unary, TRef.toBuf, TRef.ofBuf, cast_eq]
  after_results_simp
  simp only [W35_main_v184, W35_main_v186] <;> rfl

set_option maxRecDepth 8192 in
set_option maxHeartbeats 1200000 in
theorem W36_main_c_85 (V0 : Valuation τ sig (Elt F)) : W36 V0 (no_index (Proc.devRef .tc main_c_85)) = (Cert.Ref1Ideal.Read.val_main_c_1 (F := F)) := by
  unfold W36
  simp only [hostOps0_36, TRef.nullary, TRef.ternary, TRef.binary, TRef.unary, TRef.toBuf, TRef.ofBuf, cast_eq]
  after_results_simp
  all_goals rfl

set_option maxRecDepth 8192 in
set_option maxHeartbeats 1200000 in
theorem W36_main_c_86 (V0 : Valuation τ sig (Elt F)) : W36 V0 (no_index (Proc.devRef .tc main_c_86)) = (Cert.Ref1Ideal.Read.val_main_c_2 (F := F)) := by
  unfold W36
  simp only [hostOps0_36, TRef.nullary, TRef.ternary, TRef.binary, TRef.unary, TRef.toBuf, TRef.ofBuf, cast_eq]
  after_results_simp
  all_goals rfl

/-- The contents of the buffers after the host operations up to `hostOps0_37`. -/
def W37 (V0 : Valuation τ sig (Elt F)) : Valuation τ sig (Elt F) := after hostOps0_37 (W36 V0)

/-- The buffers `hostOps0_37` writes. -/
abbrev W37_W : List (Ref sig .tc) := [main_call18_v0, main_call18_v1, main_call18_v2, main_call18_v3, main_call18_v4, main_v197]

theorem W37_writes : (hostOps0_37 : List (HloOp τ sig (Elt F))).Forall fun op => op.writes ⊆ ((W37_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W37_keep (V0 : Valuation τ sig (Elt F)) (r : Ref sig .tc) (h : r ∉ W37_W) :
    W37 V0 (Proc.devRef .tc r) = (W36 V0) (Proc.devRef .tc r) :=
  after_of_writes_sub hostOps0_37 _ W37_writes h

theorem W37_main_arg4 (V0 : Valuation τ sig (Elt F)) : W37 V0 (no_index (Proc.devRef .tc main_arg4)) = V0 (Proc.devRef .tc main_arg4) :=
  (W37_keep V0 main_arg4 (by decide)).trans (W36_main_arg4 V0)

theorem W37_main_v0 (V0 : Valuation τ sig (Elt F)) : W37 V0 (no_index (Proc.devRef .tc main_v0)) = (Cert.Ref1Ideal.Read.val_main_v0 (F := F) (V0 (Proc.devRef .tc main_arg0))) :=
  (W37_keep V0 main_v0 (by decide)).trans (W36_main_v0 V0)

theorem W37_main_v70 (V0 : Valuation τ sig (Elt F)) : W37 V0 (no_index (Proc.devRef .tc main_v70)) = (Cert.Ref1Ideal.Read.val_main_v79 (F := F) (V0 (Proc.devRef .tc main_arg1)) (V0 (Proc.devRef .tc main_arg3))) :=
  (W37_keep V0 main_v70 (by decide)).trans (W36_main_v70 V0)

theorem W37_main_v75 (V0 : Valuation τ sig (Elt F)) : W37 V0 (no_index (Proc.devRef .tc main_v75)) = (Cert.Ref1Ideal.Read.val_main_v84 (F := F) (V0 (Proc.devRef .tc main_arg1)) (V0 (Proc.devRef .tc main_arg3))) :=
  (W37_keep V0 main_v75 (by decide)).trans (W36_main_v75 V0)

theorem W37_main_v144 (V0 : Valuation τ sig (Elt F)) : W37 V0 (no_index (Proc.devRef .tc main_v144)) = (Cert.Ref1Ideal.Read.val_main_v153 (F := F) (V0 (Proc.devRef .tc main_arg1)) (V0 (Proc.devRef .tc main_arg3))) :=
  (W37_keep V0 main_v144 (by decide)).trans (W36_main_v144 V0)

theorem W37_main_v148 (V0 : Valuation τ sig (Elt F)) : W37 V0 (no_index (Proc.devRef .tc main_v148)) = (kv_main_v148 (F := F) (V0 (Proc.devRef .tc main_arg1)) (V0 (Proc.devRef .tc main_arg3))) :=
  (W37_keep V0 main_v148 (by decide)).trans (W36_main_v148 V0)

theorem W37_main_v150 (V0 : Valuation τ sig (Elt F)) : W37 V0 (no_index (Proc.devRef .tc main_v150)) = (kv_main_v150 (F := F) (V0 (Proc.devRef .tc main_arg1)) (V0 (Proc.devRef .tc main_arg3))) :=
  (W37_keep V0 main_v150 (by decide)).trans (W36_main_v150 V0)

theorem W37_main_v156 (V0 : Valuation τ sig (Elt F)) : W37 V0 (no_index (Proc.devRef .tc main_v156)) = (kv_main_v156 (F := F) (V0 (Proc.devRef .tc main_arg1)) (V0 (Proc.devRef .tc main_arg3))) :=
  (W37_keep V0 main_v156 (by decide)).trans (W36_main_v156 V0)

theorem W37_main_v183 (V0 : Valuation τ sig (Elt F)) : W37 V0 (no_index (Proc.devRef .tc main_v183)) = (Cert.Ref1Ideal.Read.val_main_v218 (F := F) (V0 (Proc.devRef .tc main_arg1)) (V0 (Proc.devRef .tc main_arg3)) (V0 (Proc.devRef .tc main_arg5))) :=
  (W37_keep V0 main_v183 (by decide)).trans (W36_main_v183 V0)

theorem W37_main_v193 (V0 : Valuation τ sig (Elt F)) : W37 V0 (no_index (Proc.devRef .tc main_v193)) = (Cert.Ref1Ideal.Read.val_main_v228 (F := F) (V0 (Proc.devRef .tc main_arg1)) (V0 (Proc.devRef .tc main_arg3)) (V0 (Proc.devRef .tc main_arg5))) :=
  (W37_keep V0 main_v193 (by decide)).trans (W36_main_v193 V0)

set_option maxRecDepth 8192 in
set_option maxHeartbeats 1200000 in
theorem W37_main_v197 (V0 : Valuation τ sig (Elt F)) : W37 V0 (no_index (Proc.devRef .tc main_v197)) = (Cert.Ref1Ideal.Read.val_main_v232 (F := F) (V0 (Proc.devRef .tc main_arg1)) (V0 (Proc.devRef .tc main_arg3)) (V0 (Proc.devRef .tc main_arg5))) := by
  unfold W37
  simp only [hostOps0_37, TRef.nullary, TRef.ternary, TRef.binary, TRef.unary, TRef.toBuf, TRef.ofBuf, cast_eq]
  after_results_simp
  simp only [W36_main_c_85, W36_main_c_86, W36_main_v196] <;> rfl

/-- The contents of the buffers after the host operations up to `hostOps0_38`. -/
def W38 (V0 : Valuation τ sig (Elt F)) : Valuation τ sig (Elt F) := after hostOps0_38 (W37 V0)

/-- The buffers `hostOps0_38` writes. -/
abbrev W38_W : List (Ref sig .tc) := [main_c_87, main_v198, main_v199, main_v200, main_v201, main_cst_88, main_v202, main_v203]

theorem W38_writes : (hostOps0_38 : List (HloOp τ sig (Elt F))).Forall fun op => op.writes ⊆ ((W38_W).map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W38_keep (V0 : Valuation τ sig (Elt F)) (r : Ref sig .tc) (h : r ∉ W38_W) :
    W38 V0 (Proc.devRef .tc r) = (W37 V0) (Proc.devRef .tc r) :=
  after_of_writes_sub hostOps0_38 _ W38_writes h

theorem W38_main_arg4 (V0 : Valuation τ sig (Elt F)) : W38 V0 (no_index (Proc.devRef .tc main_arg4)) = V0 (Proc.devRef .tc main_arg4) :=
  (W38_keep V0 main_arg4 (by decide)).trans (W37_main_arg4 V0)

theorem W38_main_v0 (V0 : Valuation τ sig (Elt F)) : W38 V0 (no_index (Proc.devRef .tc main_v0)) = (Cert.Ref1Ideal.Read.val_main_v0 (F := F) (V0 (Proc.devRef .tc main_arg0))) :=
  (W38_keep V0 main_v0 (by decide)).trans (W37_main_v0 V0)

theorem W38_main_v70 (V0 : Valuation τ sig (Elt F)) : W38 V0 (no_index (Proc.devRef .tc main_v70)) = (Cert.Ref1Ideal.Read.val_main_v79 (F := F) (V0 (Proc.devRef .tc main_arg1)) (V0 (Proc.devRef .tc main_arg3))) :=
  (W38_keep V0 main_v70 (by decide)).trans (W37_main_v70 V0)

theorem W38_main_v75 (V0 : Valuation τ sig (Elt F)) : W38 V0 (no_index (Proc.devRef .tc main_v75)) = (Cert.Ref1Ideal.Read.val_main_v84 (F := F) (V0 (Proc.devRef .tc main_arg1)) (V0 (Proc.devRef .tc main_arg3))) :=
  (W38_keep V0 main_v75 (by decide)).trans (W37_main_v75 V0)

theorem W38_main_v144 (V0 : Valuation τ sig (Elt F)) : W38 V0 (no_index (Proc.devRef .tc main_v144)) = (Cert.Ref1Ideal.Read.val_main_v153 (F := F) (V0 (Proc.devRef .tc main_arg1)) (V0 (Proc.devRef .tc main_arg3))) :=
  (W38_keep V0 main_v144 (by decide)).trans (W37_main_v144 V0)

theorem W38_main_v148 (V0 : Valuation τ sig (Elt F)) : W38 V0 (no_index (Proc.devRef .tc main_v148)) = (kv_main_v148 (F := F) (V0 (Proc.devRef .tc main_arg1)) (V0 (Proc.devRef .tc main_arg3))) :=
  (W38_keep V0 main_v148 (by decide)).trans (W37_main_v148 V0)

theorem W38_main_v150 (V0 : Valuation τ sig (Elt F)) : W38 V0 (no_index (Proc.devRef .tc main_v150)) = (kv_main_v150 (F := F) (V0 (Proc.devRef .tc main_arg1)) (V0 (Proc.devRef .tc main_arg3))) :=
  (W38_keep V0 main_v150 (by decide)).trans (W37_main_v150 V0)

theorem W38_main_v156 (V0 : Valuation τ sig (Elt F)) : W38 V0 (no_index (Proc.devRef .tc main_v156)) = (kv_main_v156 (F := F) (V0 (Proc.devRef .tc main_arg1)) (V0 (Proc.devRef .tc main_arg3))) :=
  (W38_keep V0 main_v156 (by decide)).trans (W37_main_v156 V0)

theorem W38_main_v183 (V0 : Valuation τ sig (Elt F)) : W38 V0 (no_index (Proc.devRef .tc main_v183)) = (Cert.Ref1Ideal.Read.val_main_v218 (F := F) (V0 (Proc.devRef .tc main_arg1)) (V0 (Proc.devRef .tc main_arg3)) (V0 (Proc.devRef .tc main_arg5))) :=
  (W38_keep V0 main_v183 (by decide)).trans (W37_main_v183 V0)

set_option maxRecDepth 8192 in
set_option maxHeartbeats 1200000 in
theorem W38_main_v203 (V0 : Valuation τ sig (Elt F)) : W38 V0 (no_index (Proc.devRef .tc main_v203)) = (Cert.Ref1Ideal.Read.val_main_v238 (F := F) (V0 (Proc.devRef .tc main_arg1)) (V0 (Proc.devRef .tc main_arg3)) (V0 (Proc.devRef .tc main_arg5))) := by
  unfold W38
  simp only [hostOps0_38, TRef.nullary, TRef.ternary, TRef.binary, TRef.unary, TRef.toBuf, TRef.ofBuf, cast_eq]
  after_results_simp
  simp only [W37_main_v193, W37_main_v197] <;> rfl

/-- The contents of the buffers after the host operations up to `hostOps0_39`. -/
def W39 (V0 : Valuation τ sig (Elt F)) : Valuation τ sig (Elt F) := after hostOps0_39 (W38 V0)

/-- The buffers `hostOps0_39` writes. -/
abbrev W39_W : List (Ref sig .tc) := [main_v204]

theorem W39_writes : (hostOps0_39 : List (HloOp τ sig (Elt F))).Forall fun op => op.writes ⊆ ((W39_W).map (Proc.devRef (τ := τ) .tc)).toFinset := by
  simp only [List.Forall]
  (simp only [nullary_writes, unary_writes, binary_writes, ternary_writes, quaternary_writes, reshape_writes, binaryIndexed_writes, nary_writes, unaryIndexed_writes, Finset.singleton_subset_iff, List.mem_toFinset]; exact List.mem_map_of_mem (by decide))

theorem W39_keep (V0 : Valuation τ sig (Elt F)) (r : Ref sig .tc) (h : r ∉ W39_W) :
    W39 V0 (Proc.devRef .tc r) = (W38 V0) (Proc.devRef .tc r) :=
  after_of_writes_sub hostOps0_39 _ W39_writes h

theorem W39_main_arg4 (V0 : Valuation τ sig (Elt F)) : W39 V0 (no_index (Proc.devRef .tc main_arg4)) = V0 (Proc.devRef .tc main_arg4) :=
  (W39_keep V0 main_arg4 (by decide)).trans (W38_main_arg4 V0)

theorem W39_main_v0 (V0 : Valuation τ sig (Elt F)) : W39 V0 (no_index (Proc.devRef .tc main_v0)) = (Cert.Ref1Ideal.Read.val_main_v0 (F := F) (V0 (Proc.devRef .tc main_arg0))) :=
  (W39_keep V0 main_v0 (by decide)).trans (W38_main_v0 V0)

theorem W39_main_v70 (V0 : Valuation τ sig (Elt F)) : W39 V0 (no_index (Proc.devRef .tc main_v70)) = (Cert.Ref1Ideal.Read.val_main_v79 (F := F) (V0 (Proc.devRef .tc main_arg1)) (V0 (Proc.devRef .tc main_arg3))) :=
  (W39_keep V0 main_v70 (by decide)).trans (W38_main_v70 V0)

theorem W39_main_v75 (V0 : Valuation τ sig (Elt F)) : W39 V0 (no_index (Proc.devRef .tc main_v75)) = (Cert.Ref1Ideal.Read.val_main_v84 (F := F) (V0 (Proc.devRef .tc main_arg1)) (V0 (Proc.devRef .tc main_arg3))) :=
  (W39_keep V0 main_v75 (by decide)).trans (W38_main_v75 V0)

theorem W39_main_v144 (V0 : Valuation τ sig (Elt F)) : W39 V0 (no_index (Proc.devRef .tc main_v144)) = (Cert.Ref1Ideal.Read.val_main_v153 (F := F) (V0 (Proc.devRef .tc main_arg1)) (V0 (Proc.devRef .tc main_arg3))) :=
  (W39_keep V0 main_v144 (by decide)).trans (W38_main_v144 V0)

theorem W39_main_v148 (V0 : Valuation τ sig (Elt F)) : W39 V0 (no_index (Proc.devRef .tc main_v148)) = (kv_main_v148 (F := F) (V0 (Proc.devRef .tc main_arg1)) (V0 (Proc.devRef .tc main_arg3))) :=
  (W39_keep V0 main_v148 (by decide)).trans (W38_main_v148 V0)

theorem W39_main_v150 (V0 : Valuation τ sig (Elt F)) : W39 V0 (no_index (Proc.devRef .tc main_v150)) = (kv_main_v150 (F := F) (V0 (Proc.devRef .tc main_arg1)) (V0 (Proc.devRef .tc main_arg3))) :=
  (W39_keep V0 main_v150 (by decide)).trans (W38_main_v150 V0)

theorem W39_main_v156 (V0 : Valuation τ sig (Elt F)) : W39 V0 (no_index (Proc.devRef .tc main_v156)) = (kv_main_v156 (F := F) (V0 (Proc.devRef .tc main_arg1)) (V0 (Proc.devRef .tc main_arg3))) :=
  (W39_keep V0 main_v156 (by decide)).trans (W38_main_v156 V0)

theorem W39_main_v183 (V0 : Valuation τ sig (Elt F)) : W39 V0 (no_index (Proc.devRef .tc main_v183)) = (Cert.Ref1Ideal.Read.val_main_v218 (F := F) (V0 (Proc.devRef .tc main_arg1)) (V0 (Proc.devRef .tc main_arg3)) (V0 (Proc.devRef .tc main_arg5))) :=
  (W39_keep V0 main_v183 (by decide)).trans (W38_main_v183 V0)

set_option maxRecDepth 8192 in
set_option maxHeartbeats 1200000 in
theorem W39_main_v204 (V0 : Valuation τ sig (Elt F)) : W39 V0 (no_index (Proc.devRef .tc main_v204)) = (Cert.Ref1Ideal.Read.val_main_v239 (F := F) (V0 (Proc.devRef .tc main_arg1)) (V0 (Proc.devRef .tc main_arg3)) (V0 (Proc.devRef .tc main_arg5))) := by
  unfold W39
  simp only [hostOps0_39, TRef.nullary, TRef.ternary, TRef.binary, TRef.unary, TRef.toBuf, TRef.ofBuf, cast_eq]
  after_results_simp
  simp only [W38_main_v203] <;> rfl

/-- The contents of the buffers after the host operations up to `hostOps0_40`. -/
def W40 (V0 : Valuation τ sig (Elt F)) : Valuation τ sig (Elt F) := after hostOps0_40 (W39 V0)

/-- The buffers `hostOps0_40` writes. -/
abbrev W40_W : List (Ref sig .tc) := [main_v205, main_c_89, main_v206, main_v207, main_c_90, main_v208, main_v209, main_c_91, main_v210, main_v211, main_c_92, main_v212, main_v213, main_c_93, main_v214, main_v215, main_v216, main_c_94]

theorem W40_writes : (hostOps0_40 : List (HloOp τ sig (Elt F))).Forall fun op => op.writes ⊆ ((W40_W).map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W40_keep (V0 : Valuation τ sig (Elt F)) (r : Ref sig .tc) (h : r ∉ W40_W) :
    W40 V0 (Proc.devRef .tc r) = (W39 V0) (Proc.devRef .tc r) :=
  after_of_writes_sub hostOps0_40 _ W40_writes h

theorem W40_main_arg4 (V0 : Valuation τ sig (Elt F)) : W40 V0 (no_index (Proc.devRef .tc main_arg4)) = V0 (Proc.devRef .tc main_arg4) :=
  (W40_keep V0 main_arg4 (by decide)).trans (W39_main_arg4 V0)

theorem W40_main_v0 (V0 : Valuation τ sig (Elt F)) : W40 V0 (no_index (Proc.devRef .tc main_v0)) = (Cert.Ref1Ideal.Read.val_main_v0 (F := F) (V0 (Proc.devRef .tc main_arg0))) :=
  (W40_keep V0 main_v0 (by decide)).trans (W39_main_v0 V0)

theorem W40_main_v70 (V0 : Valuation τ sig (Elt F)) : W40 V0 (no_index (Proc.devRef .tc main_v70)) = (Cert.Ref1Ideal.Read.val_main_v79 (F := F) (V0 (Proc.devRef .tc main_arg1)) (V0 (Proc.devRef .tc main_arg3))) :=
  (W40_keep V0 main_v70 (by decide)).trans (W39_main_v70 V0)

theorem W40_main_v75 (V0 : Valuation τ sig (Elt F)) : W40 V0 (no_index (Proc.devRef .tc main_v75)) = (Cert.Ref1Ideal.Read.val_main_v84 (F := F) (V0 (Proc.devRef .tc main_arg1)) (V0 (Proc.devRef .tc main_arg3))) :=
  (W40_keep V0 main_v75 (by decide)).trans (W39_main_v75 V0)

theorem W40_main_v144 (V0 : Valuation τ sig (Elt F)) : W40 V0 (no_index (Proc.devRef .tc main_v144)) = (Cert.Ref1Ideal.Read.val_main_v153 (F := F) (V0 (Proc.devRef .tc main_arg1)) (V0 (Proc.devRef .tc main_arg3))) :=
  (W40_keep V0 main_v144 (by decide)).trans (W39_main_v144 V0)

theorem W40_main_v148 (V0 : Valuation τ sig (Elt F)) : W40 V0 (no_index (Proc.devRef .tc main_v148)) = (kv_main_v148 (F := F) (V0 (Proc.devRef .tc main_arg1)) (V0 (Proc.devRef .tc main_arg3))) :=
  (W40_keep V0 main_v148 (by decide)).trans (W39_main_v148 V0)

theorem W40_main_v150 (V0 : Valuation τ sig (Elt F)) : W40 V0 (no_index (Proc.devRef .tc main_v150)) = (kv_main_v150 (F := F) (V0 (Proc.devRef .tc main_arg1)) (V0 (Proc.devRef .tc main_arg3))) :=
  (W40_keep V0 main_v150 (by decide)).trans (W39_main_v150 V0)

theorem W40_main_v156 (V0 : Valuation τ sig (Elt F)) : W40 V0 (no_index (Proc.devRef .tc main_v156)) = (kv_main_v156 (F := F) (V0 (Proc.devRef .tc main_arg1)) (V0 (Proc.devRef .tc main_arg3))) :=
  (W40_keep V0 main_v156 (by decide)).trans (W39_main_v156 V0)

set_option maxRecDepth 8192 in
set_option maxHeartbeats 1200000 in
theorem W40_main_v205 (V0 : Valuation τ sig (Elt F)) : W40 V0 (no_index (Proc.devRef .tc main_v205)) = (Cert.Ref1Ideal.Read.val_main_v240 (F := F) (V0 (Proc.devRef .tc main_arg1)) (V0 (Proc.devRef .tc main_arg3)) (V0 (Proc.devRef .tc main_arg5))) := by
  unfold W40
  simp only [hostOps0_40, TRef.nullary, TRef.ternary, TRef.binary, TRef.unary, TRef.toBuf, TRef.ofBuf, cast_eq]
  after_results_simp
  simp only [W39_main_v204] <;> rfl

set_option maxRecDepth 8192 in
set_option maxHeartbeats 1200000 in
theorem W40_main_v207 (V0 : Valuation τ sig (Elt F)) : W40 V0 (no_index (Proc.devRef .tc main_v207)) = (Cert.Ref1Ideal.Read.val_main_v242 (F := F) (V0 (Proc.devRef .tc main_arg1)) (V0 (Proc.devRef .tc main_arg3)) (V0 (Proc.devRef .tc main_arg5))) := by
  unfold W40
  simp only [hostOps0_40, TRef.nullary, TRef.ternary, TRef.binary, TRef.unary, TRef.toBuf, TRef.ofBuf, cast_eq]
  after_results_simp
  simp only [W39_main_v183] <;> rfl

set_option maxRecDepth 8192 in
set_option maxHeartbeats 1200000 in
theorem W40_main_v211 (V0 : Valuation τ sig (Elt F)) : W40 V0 (no_index (Proc.devRef .tc main_v211)) = (Cert.Ref1Ideal.Read.val_main_v255 (F := F) (V0 (Proc.devRef .tc main_arg1)) (V0 (Proc.devRef .tc main_arg3)) (V0 (Proc.devRef .tc main_arg5))) := by
  unfold W40
  simp only [hostOps0_40, TRef.nullary, TRef.ternary, TRef.binary, TRef.unary, TRef.toBuf, TRef.ofBuf, cast_eq]
  after_results_simp
  simp only [W39_main_v183] <;> rfl

set_option maxRecDepth 8192 in
set_option maxHeartbeats 1200000 in
theorem W40_main_v216 (V0 : Valuation τ sig (Elt F)) : W40 V0 (no_index (Proc.devRef .tc main_v216)) = (kv_main_v216 (F := F) (V0 (Proc.devRef .tc main_arg1)) (V0 (Proc.devRef .tc main_arg3)) (V0 (Proc.devRef .tc main_arg5))) := by
  unfold W40
  simp only [hostOps0_40, TRef.nullary, TRef.ternary, TRef.binary, TRef.unary, TRef.toBuf, TRef.ofBuf, cast_eq]
  after_results_simp
  simp only [W39_main_v183] <;> rfl

set_option maxRecDepth 8192 in
set_option maxHeartbeats 1200000 in
theorem W40_main_c_94 (V0 : Valuation τ sig (Elt F)) : W40 V0 (no_index (Proc.devRef .tc main_c_94)) = (kv_main_c_94 (F := F)) := by
  unfold W40
  simp only [hostOps0_40, TRef.nullary, TRef.ternary, TRef.binary, TRef.unary, TRef.toBuf, TRef.ofBuf, cast_eq]
  after_results_simp
  all_goals rfl

/-- The contents of the buffers after the host operations up to `hostOps0_41`. -/
def W41 (V0 : Valuation τ sig (Elt F)) : Valuation τ sig (Elt F) := after hostOps0_41 (W40 V0)

/-- The buffers `hostOps0_41` writes. -/
abbrev W41_W : List (Ref sig .tc) := [main_call20_v0, main_call20_v1, main_v217]

theorem W41_writes : (hostOps0_41 : List (HloOp τ sig (Elt F))).Forall fun op => op.writes ⊆ ((W41_W).map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W41_keep (V0 : Valuation τ sig (Elt F)) (r : Ref sig .tc) (h : r ∉ W41_W) :
    W41 V0 (Proc.devRef .tc r) = (W40 V0) (Proc.devRef .tc r) :=
  after_of_writes_sub hostOps0_41 _ W41_writes h

theorem W41_main_arg4 (V0 : Valuation τ sig (Elt F)) : W41 V0 (no_index (Proc.devRef .tc main_arg4)) = V0 (Proc.devRef .tc main_arg4) :=
  (W41_keep V0 main_arg4 (by decide)).trans (W40_main_arg4 V0)

theorem W41_main_v0 (V0 : Valuation τ sig (Elt F)) : W41 V0 (no_index (Proc.devRef .tc main_v0)) = (Cert.Ref1Ideal.Read.val_main_v0 (F := F) (V0 (Proc.devRef .tc main_arg0))) :=
  (W41_keep V0 main_v0 (by decide)).trans (W40_main_v0 V0)

theorem W41_main_v70 (V0 : Valuation τ sig (Elt F)) : W41 V0 (no_index (Proc.devRef .tc main_v70)) = (Cert.Ref1Ideal.Read.val_main_v79 (F := F) (V0 (Proc.devRef .tc main_arg1)) (V0 (Proc.devRef .tc main_arg3))) :=
  (W41_keep V0 main_v70 (by decide)).trans (W40_main_v70 V0)

theorem W41_main_v75 (V0 : Valuation τ sig (Elt F)) : W41 V0 (no_index (Proc.devRef .tc main_v75)) = (Cert.Ref1Ideal.Read.val_main_v84 (F := F) (V0 (Proc.devRef .tc main_arg1)) (V0 (Proc.devRef .tc main_arg3))) :=
  (W41_keep V0 main_v75 (by decide)).trans (W40_main_v75 V0)

theorem W41_main_v144 (V0 : Valuation τ sig (Elt F)) : W41 V0 (no_index (Proc.devRef .tc main_v144)) = (Cert.Ref1Ideal.Read.val_main_v153 (F := F) (V0 (Proc.devRef .tc main_arg1)) (V0 (Proc.devRef .tc main_arg3))) :=
  (W41_keep V0 main_v144 (by decide)).trans (W40_main_v144 V0)

theorem W41_main_v148 (V0 : Valuation τ sig (Elt F)) : W41 V0 (no_index (Proc.devRef .tc main_v148)) = (kv_main_v148 (F := F) (V0 (Proc.devRef .tc main_arg1)) (V0 (Proc.devRef .tc main_arg3))) :=
  (W41_keep V0 main_v148 (by decide)).trans (W40_main_v148 V0)

theorem W41_main_v150 (V0 : Valuation τ sig (Elt F)) : W41 V0 (no_index (Proc.devRef .tc main_v150)) = (kv_main_v150 (F := F) (V0 (Proc.devRef .tc main_arg1)) (V0 (Proc.devRef .tc main_arg3))) :=
  (W41_keep V0 main_v150 (by decide)).trans (W40_main_v150 V0)

theorem W41_main_v156 (V0 : Valuation τ sig (Elt F)) : W41 V0 (no_index (Proc.devRef .tc main_v156)) = (kv_main_v156 (F := F) (V0 (Proc.devRef .tc main_arg1)) (V0 (Proc.devRef .tc main_arg3))) :=
  (W41_keep V0 main_v156 (by decide)).trans (W40_main_v156 V0)

theorem W41_main_v205 (V0 : Valuation τ sig (Elt F)) : W41 V0 (no_index (Proc.devRef .tc main_v205)) = (Cert.Ref1Ideal.Read.val_main_v240 (F := F) (V0 (Proc.devRef .tc main_arg1)) (V0 (Proc.devRef .tc main_arg3)) (V0 (Proc.devRef .tc main_arg5))) :=
  (W41_keep V0 main_v205 (by decide)).trans (W40_main_v205 V0)

theorem W41_main_v211 (V0 : Valuation τ sig (Elt F)) : W41 V0 (no_index (Proc.devRef .tc main_v211)) = (Cert.Ref1Ideal.Read.val_main_v255 (F := F) (V0 (Proc.devRef .tc main_arg1)) (V0 (Proc.devRef .tc main_arg3)) (V0 (Proc.devRef .tc main_arg5))) :=
  (W41_keep V0 main_v211 (by decide)).trans (W40_main_v211 V0)

set_option maxRecDepth 8192 in
set_option maxHeartbeats 1200000 in
theorem W41_main_v217 (V0 : Valuation τ sig (Elt F)) : W41 V0 (no_index (Proc.devRef .tc main_v217)) = (kv_main_v217 (F := F) (V0 (Proc.devRef .tc main_arg1)) (V0 (Proc.devRef .tc main_arg3)) (V0 (Proc.devRef .tc main_arg5))) := by
  unfold W41
  simp only [hostOps0_41, TRef.nullary, TRef.ternary, TRef.binary, TRef.unary, TRef.toBuf, TRef.ofBuf, cast_eq]
  after_results_simp
  simp only [W40_main_c_94, W40_main_v207, W40_main_v216] <;> rfl

/-- The contents of the buffers after the host operations up to `hostOps0_42`. -/
def W42 (V0 : Valuation τ sig (Elt F)) : Valuation τ sig (Elt F) := after hostOps0_42 (W41 V0)

/-- The buffers `hostOps0_42` writes. -/
abbrev W42_W : List (Ref sig .tc) := [main_c_95, main_v218, main_v219, main_v220, main_v221, main_v222, main_v223, main_v224, main_v225, main_v226, main_v227, main_v228, main_v229, main_v230, main_v231, main_v232, main_v233, main_v234, main_v235]

theorem W42_writes : (hostOps0_42 : List (HloOp τ sig (Elt F))).Forall fun op => op.writes ⊆ ((W42_W).map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W42_keep (V0 : Valuation τ sig (Elt F)) (r : Ref sig .tc) (h : r ∉ W42_W) :
    W42 V0 (Proc.devRef .tc r) = (W41 V0) (Proc.devRef .tc r) :=
  after_of_writes_sub hostOps0_42 _ W42_writes h

theorem W42_main_v0 (V0 : Valuation τ sig (Elt F)) : W42 V0 (no_index (Proc.devRef .tc main_v0)) = (Cert.Ref1Ideal.Read.val_main_v0 (F := F) (V0 (Proc.devRef .tc main_arg0))) :=
  (W42_keep V0 main_v0 (by decide)).trans (W41_main_v0 V0)

/-- The contents before the last operation of `hostOps0_42`, which stacks the rows. -/
def W42p (V0 : Valuation τ sig (Elt F)) : Valuation τ sig (Elt F) := after ((hostOps0_42 : List (HloOp τ sig (Elt F))).take 18) (W41 V0)

set_option maxRecDepth 8192 in
set_option maxHeartbeats 1200000 in
theorem W42p_main_v219 (V0 : Valuation τ sig (Elt F)) : W42p V0 (no_index (Proc.devRef .tc main_v219)) = (Cert.Ref1Ideal.Read.val_main_v9 (F := F) (V0 (Proc.devRef .tc main_arg4))) := by
  unfold W42p
  simp only [hostOps0_42, TRef.nullary, TRef.ternary, TRef.binary, TRef.unary, TRef.toBuf, TRef.ofBuf, cast_eq, List.take_succ_cons, List.take_zero]
  after_results_simp
  simp only [W41_main_arg4] <;> rfl

set_option maxRecDepth 8192 in
set_option maxHeartbeats 1200000 in
theorem W42p_main_v220 (V0 : Valuation τ sig (Elt F)) : W42p V0 (no_index (Proc.devRef .tc main_v220)) = (kv_main_v220 (F := F) (V0 (Proc.devRef .tc main_arg1)) (V0 (Proc.devRef .tc main_arg3))) := by
  unfold W42p
  simp only [hostOps0_42, TRef.nullary, TRef.ternary, TRef.binary, TRef.unary, TRef.toBuf, TRef.ofBuf, cast_eq, List.take_succ_cons, List.take_zero]
  after_results_simp
  simp only [W41_main_v148] <;> rfl

set_option maxRecDepth 8192 in
set_option maxHeartbeats 1200000 in
theorem W42p_main_v221 (V0 : Valuation τ sig (Elt F)) : W42p V0 (no_index (Proc.devRef .tc main_v221)) = (kv_main_v221 (F := F) (V0 (Proc.devRef .tc main_arg1)) (V0 (Proc.devRef .tc main_arg3))) := by
  unfold W42p
  simp only [hostOps0_42, TRef.nullary, TRef.ternary, TRef.binary, TRef.unary, TRef.toBuf, TRef.ofBuf, cast_eq, List.take_succ_cons, List.take_zero]
  after_results_simp
  simp only [W41_main_v150] <;> rfl

set_option maxRecDepth 8192 in
set_option maxHeartbeats 1200000 in
theorem W42p_main_v222 (V0 : Valuation τ sig (Elt F)) : W42p V0 (no_index (Proc.devRef .tc main_v222)) = (Cert.Ref1Ideal.Read.val_main_v176 (F := F) (V0 (Proc.devRef .tc main_arg1)) (V0 (Proc.devRef .tc main_arg3))) := by
  unfold W42p
  simp only [hostOps0_42, TRef.nullary, TRef.ternary, TRef.binary, TRef.unary, TRef.toBuf, TRef.ofBuf, cast_eq, List.take_succ_cons, List.take_zero]
  after_results_simp
  simp only [W41_main_v70] <;> rfl

set_option maxRecDepth 8192 in
set_option maxHeartbeats 1200000 in
theorem W42p_main_v223 (V0 : Valuation τ sig (Elt F)) : W42p V0 (no_index (Proc.devRef .tc main_v223)) = (Cert.Ref1Ideal.Read.val_main_v180 (F := F) (V0 (Proc.devRef .tc main_arg1)) (V0 (Proc.devRef .tc main_arg3))) := by
  unfold W42p
  simp only [hostOps0_42, TRef.nullary, TRef.ternary, TRef.binary, TRef.unary, TRef.toBuf, TRef.ofBuf, cast_eq, List.take_succ_cons, List.take_zero]
  after_results_simp
  simp only [W41_main_v75] <;> rfl

set_option maxRecDepth 8192 in
set_option maxHeartbeats 1200000 in
theorem W42p_main_v224 (V0 : Valuation τ sig (Elt F)) : W42p V0 (no_index (Proc.devRef .tc main_v224)) = (kv_main_v224 (F := F) (V0 (Proc.devRef .tc main_arg1)) (V0 (Proc.devRef .tc main_arg3))) := by
  unfold W42p
  simp only [hostOps0_42, TRef.nullary, TRef.ternary, TRef.binary, TRef.unary, TRef.toBuf, TRef.ofBuf, cast_eq, List.take_succ_cons, List.take_zero]
  after_results_simp
  simp only [W41_main_v156] <;> rfl

set_option maxRecDepth 8192 in
set_option maxHeartbeats 1200000 in
theorem W42p_main_v225 (V0 : Valuation τ sig (Elt F)) : W42p V0 (no_index (Proc.devRef .tc main_v225)) = (Cert.Ref1Ideal.Read.val_main_v188 (F := F) (V0 (Proc.devRef .tc main_arg1)) (V0 (Proc.devRef .tc main_arg3))) := by
  unfold W42p
  simp only [hostOps0_42, TRef.nullary, TRef.ternary, TRef.binary, TRef.unary, TRef.toBuf, TRef.ofBuf, cast_eq, List.take_succ_cons, List.take_zero]
  after_results_simp
  simp only [W41_main_v144] <;> rfl

set_option maxRecDepth 8192 in
set_option maxHeartbeats 1200000 in
theorem W42p_main_v226 (V0 : Valuation τ sig (Elt F)) : W42p V0 (no_index (Proc.devRef .tc main_v226)) = (Cert.Ref1Ideal.Read.val_main_v249 (F := F) (V0 (Proc.devRef .tc main_arg1)) (V0 (Proc.devRef .tc main_arg3)) (V0 (Proc.devRef .tc main_arg5))) := by
  unfold W42p
  simp only [hostOps0_42, TRef.nullary, TRef.ternary, TRef.binary, TRef.unary, TRef.toBuf, TRef.ofBuf, cast_eq, List.take_succ_cons, List.take_zero]
  after_results_simp
  simp only [W41_main_v205] <;> rfl

set_option maxRecDepth 8192 in
set_option maxHeartbeats 1200000 in
theorem W42p_main_v227 (V0 : Valuation τ sig (Elt F)) : W42p V0 (no_index (Proc.devRef .tc main_v227)) = (Cert.Ref1Ideal.Read.val_main_v256 (F := F) (V0 (Proc.devRef .tc main_arg1)) (V0 (Proc.devRef .tc main_arg3)) (V0 (Proc.devRef .tc main_arg5))) := by
  unfold W42p
  simp only [hostOps0_42, TRef.nullary, TRef.ternary, TRef.binary, TRef.unary, TRef.toBuf, TRef.ofBuf, cast_eq, List.take_succ_cons, List.take_zero]
  after_results_simp
  simp only [W41_main_v211] <;> rfl

set_option maxRecDepth 8192 in
set_option maxHeartbeats 1200000 in
theorem W42p_main_v228 (V0 : Valuation τ sig (Elt F)) : W42p V0 (no_index (Proc.devRef .tc main_v228)) = (kv_main_v228 (F := F) (V0 (Proc.devRef .tc main_arg1)) (V0 (Proc.devRef .tc main_arg3)) (V0 (Proc.devRef .tc main_arg5))) := by
  unfold W42p
  simp only [hostOps0_42, TRef.nullary, TRef.ternary, TRef.binary, TRef.unary, TRef.toBuf, TRef.ofBuf, cast_eq, List.take_succ_cons, List.take_zero]
  after_results_simp
  simp only [W41_main_v217] <;> rfl

set_option maxRecDepth 8192 in
set_option maxHeartbeats 1200000 in
theorem W42p_main_v229 (V0 : Valuation τ sig (Elt F)) : W42p V0 (no_index (Proc.devRef .tc main_v229)) = (kv_main_v229 (F := F)) := by
  unfold W42p
  simp only [hostOps0_42, TRef.nullary, TRef.ternary, TRef.binary, TRef.unary, TRef.toBuf, TRef.ofBuf, cast_eq, List.take_succ_cons, List.take_zero]
  after_results_simp
  all_goals rfl

set_option maxRecDepth 8192 in
set_option maxHeartbeats 1200000 in
theorem W42p_main_v230 (V0 : Valuation τ sig (Elt F)) : W42p V0 (no_index (Proc.devRef .tc main_v230)) = (kv_main_v230 (F := F)) := by
  unfold W42p
  simp only [hostOps0_42, TRef.nullary, TRef.ternary, TRef.binary, TRef.unary, TRef.toBuf, TRef.ofBuf, cast_eq, List.take_succ_cons, List.take_zero]
  after_results_simp
  all_goals rfl

set_option maxRecDepth 8192 in
set_option maxHeartbeats 1200000 in
theorem W42p_main_v231 (V0 : Valuation τ sig (Elt F)) : W42p V0 (no_index (Proc.devRef .tc main_v231)) = (kv_main_v231 (F := F)) := by
  unfold W42p
  simp only [hostOps0_42, TRef.nullary, TRef.ternary, TRef.binary, TRef.unary, TRef.toBuf, TRef.ofBuf, cast_eq, List.take_succ_cons, List.take_zero]
  after_results_simp
  all_goals rfl

set_option maxRecDepth 8192 in
set_option maxHeartbeats 1200000 in
theorem W42p_main_v232 (V0 : Valuation τ sig (Elt F)) : W42p V0 (no_index (Proc.devRef .tc main_v232)) = (kv_main_v232 (F := F)) := by
  unfold W42p
  simp only [hostOps0_42, TRef.nullary, TRef.ternary, TRef.binary, TRef.unary, TRef.toBuf, TRef.ofBuf, cast_eq, List.take_succ_cons, List.take_zero]
  after_results_simp
  all_goals rfl

set_option maxRecDepth 8192 in
set_option maxHeartbeats 1200000 in
theorem W42p_main_v233 (V0 : Valuation τ sig (Elt F)) : W42p V0 (no_index (Proc.devRef .tc main_v233)) = (kv_main_v233 (F := F)) := by
  unfold W42p
  simp only [hostOps0_42, TRef.nullary, TRef.ternary, TRef.binary, TRef.unary, TRef.toBuf, TRef.ofBuf, cast_eq, List.take_succ_cons, List.take_zero]
  after_results_simp
  all_goals rfl

set_option maxRecDepth 8192 in
set_option maxHeartbeats 1200000 in
theorem W42p_main_v234 (V0 : Valuation τ sig (Elt F)) : W42p V0 (no_index (Proc.devRef .tc main_v234)) = (kv_main_v234 (F := F)) := by
  unfold W42p
  simp only [hostOps0_42, TRef.nullary, TRef.ternary, TRef.binary, TRef.unary, TRef.toBuf, TRef.ofBuf, cast_eq, List.take_succ_cons, List.take_zero]
  after_results_simp
  all_goals rfl

set_option maxRecDepth 8192 in
set_option maxHeartbeats 1200000 in
theorem W42_main_v235 (V0 : Valuation τ sig (Elt F)) : W42 V0 (no_index (Proc.devRef .tc main_v235)) = (kv_main_v235 (F := F) (V0 (Proc.devRef .tc main_arg1)) (V0 (Proc.devRef .tc main_arg3)) (V0 (Proc.devRef .tc main_arg4)) (V0 (Proc.devRef .tc main_arg5))) := by
  have h : W42 V0 (Proc.devRef .tc main_v235) = kst_main_v235 (F := F) (W42p V0 (Proc.devRef .tc main_v219)) (W42p V0 (Proc.devRef .tc main_v220)) (W42p V0 (Proc.devRef .tc main_v221)) (W42p V0 (Proc.devRef .tc main_v222)) (W42p V0 (Proc.devRef .tc main_v223)) (W42p V0 (Proc.devRef .tc main_v224)) (W42p V0 (Proc.devRef .tc main_v225)) (W42p V0 (Proc.devRef .tc main_v226)) (W42p V0 (Proc.devRef .tc main_v227)) (W42p V0 (Proc.devRef .tc main_v228)) (W42p V0 (Proc.devRef .tc main_v229)) (W42p V0 (Proc.devRef .tc main_v230)) (W42p V0 (Proc.devRef .tc main_v231)) (W42p V0 (Proc.devRef .tc main_v232)) (W42p V0 (Proc.devRef .tc main_v233)) (W42p V0 (Proc.devRef .tc main_v234)) := by
    show (nary ![main_v219, main_v220, main_v221, main_v222, main_v223, main_v224, main_v225, main_v226, main_v227, main_v228, main_v229, main_v230, main_v231, main_v232, main_v233, main_v234] main_v235 (fun u => (concatenate S16x18432 0 [⟨S1x18432, (u 0 : (⟨S1x18432, .i32⟩ : BufTy).Contents (Elt F))⟩, ⟨S1x18432, (u 1 : (⟨S1x18432, .i32⟩ : BufTy).Contents (Elt F))⟩, ⟨S1x18432, (u 2 : (⟨S1x18432, .i32⟩ : BufTy).Contents (Elt F))⟩, ⟨S1x18432, (u 3 : (⟨S1x18432, .i32⟩ : BufTy).Contents (Elt F))⟩, ⟨S1x18432, (u 4 : (⟨S1x18432, .i32⟩ : BufTy).Contents (Elt F))⟩, ⟨S1x18432, (u 5 : (⟨S1x18432, .i32⟩ : BufTy).Contents (Elt F))⟩, ⟨S1x18432, (u 6 : (⟨S1x18432, .i32⟩ : BufTy).Contents (Elt F))⟩, ⟨S1x18432, (u 7 : (⟨S1x18432, .i32⟩ : BufTy).Contents (Elt F))⟩, ⟨S1x18432, (u 8 : (⟨S1x18432, .i32⟩ : BufTy).Contents (Elt F))⟩, ⟨S1x18432, (u 9 : (⟨S1x18432, .i32⟩ : BufTy).Contents (Elt F))⟩, ⟨S1x18432, (u 10 : (⟨S1x18432, .i32⟩ : BufTy).Contents (Elt F))⟩, ⟨S1x18432, (u 11 : (⟨S1x18432, .i32⟩ : BufTy).Contents (Elt F))⟩, ⟨S1x18432, (u 12 : (⟨S1x18432, .i32⟩ : BufTy).Contents (Elt F))⟩, ⟨S1x18432, (u 13 : (⟨S1x18432, .i32⟩ : BufTy).Contents (Elt F))⟩, ⟨S1x18432, (u 14 : (⟨S1x18432, .i32⟩ : BufTy).Contents (Elt F))⟩, ⟨S1x18432, (u 15 : (⟨S1x18432, .i32⟩ : BufTy).Contents (Elt F))⟩] concatenates_S1x18432_S1x18432_S1x18432_S1x18432_S1x18432_S1x18432_S1x18432_S1x18432_S1x18432_S1x18432_S1x18432_S1x18432_S1x18432_S1x18432_S1x18432_S1x18432_S16x18432_d0 : (⟨S16x18432, .i32⟩ : BufTy).Contents (Elt F))) : HloOp τ sig (Elt F)).result (W42p V0) (Proc.devRef .tc main_v235) = _
    exact nary_result ..
  rw [h, W42p_main_v219, W42p_main_v220, W42p_main_v221, W42p_main_v222, W42p_main_v223, W42p_main_v224, W42p_main_v225, W42p_main_v226, W42p_main_v227, W42p_main_v228, W42p_main_v229, W42p_main_v230, W42p_main_v231, W42p_main_v232, W42p_main_v233, W42p_main_v234]
  rfl

theorem after_app (a b : List (HloOp τ sig (Elt F))) (V0 : Valuation τ sig (Elt F)) : after (a ++ b) V0 = after b (after a V0) := by
  induction a generalizing V0 with
  | nil => rfl
  | cons op a ih => exact ih _

theorem after_split (l : List (HloOp τ sig (Elt F))) (k : ℕ) (V0 : Valuation τ sig (Elt F)) : after l V0 = after (l.drop k) (after (l.take k) V0) := by
  rw [← after_app, List.take_append_drop]

/-- The contents the region finds: the host operations in order. -/
theorem V_eq (m : (ℓ : Loc nD τ sig) → Buf (Elt F) ℓ) (c : Dev nD) (b : Ref sig .tc) :
    V m c b = W42 (fun b => m (c, b)) (Proc.devRef .tc b) := by
  unfold V
  simp only [List.flatten_cons, List.flatten_nil, List.append_nil, after_app]
  rfl

end Cert.Ffn1Ideal.HostVals

end

end
-- ==== Proof.Core.lean ====
/- The integer arithmetic of both kernels' epilogues on one word, against the reference's. -/
module

public import Idealize.ShloMosaic.Lib.Pipeline.Value
public import Idealize.ShloMosaic.PureOps.Ideal.Laws

@[expose] public section

noncomputable section

namespace Cert.Core

open Idealize.ShloMosaic

/-- A right shift by 31 leaves the sign in every bit. -/
theorem sshiftRight_31 (x : BitVec 32) : x.sshiftRight 31 = if x.msb then BitVec.allOnes 32 else 0#32 := by
  apply BitVec.eq_of_getElem_eq
  intro i hi
  rw [BitVec.getElem_sshiftRight]
  have hm : x.msb = x.getLsbD 31 := by simp [BitVec.msb_eq_getLsbD_last]
  by_cases h : 31 + i < 32
  · have h0 : i = 0 := by omega
    subst h0
    have h1 : x[31] = x.msb := by simp [hm]
    simp only [Nat.add_zero, dif_pos (show 31 < 32 by omega), h1]
    cases x.msb <;> simp
  · rw [dif_neg h]
    cases x.msb
    · simp
    · rw [if_pos rfl, BitVec.getElem_allOnes]

/-- The right shift at any amount: by the amount up to 31, the sign in every bit beyond. -/
theorem shrsi_of_lt (u : ArithUnit) (x y : BitVec 32) (h : y.toNat < 32) : IntOp.shrsi u x y = x.sshiftRight y.toNat := by
  unfold IntOp.shrsi
  rw [if_pos h]; rfl

theorem shrsi_of_ge (u : ArithUnit) (x y : BitVec 32) (h : ¬ y.toNat < 32) :
    IntOp.shrsi u x y = if x.msb then BitVec.allOnes 32 else 0#32 := by
  unfold IntOp.shrsi
  rw [if_neg h]
  unfold IntOp.cornerWord
  rw [if_neg (by simp)]
  cases u <;> rfl

theorem shrsi_31 (u : ArithUnit) (x : BitVec 32) : IntOp.shrsi u x 31#32 = if x.msb then BitVec.allOnes 32 else 0#32 := by
  rw [shrsi_of_lt u x _ (by decide)]
  exact sshiftRight_31 x

theorem shrsi_unit (u v : ArithUnit) (x y : BitVec 32) : IntOp.shrsi u x y = IntOp.shrsi v x y := by
  by_cases h : y.toNat < 32
  · rw [shrsi_of_lt u _ _ h, shrsi_of_lt v _ _ h]
  · rw [shrsi_of_ge u _ _ h, shrsi_of_ge v _ _ h]

theorem shli_of_lt (u : ArithUnit) (x y : BitVec 32) (h : y.toNat < 32) : IntOp.shli u x y = x <<< y.toNat := by
  unfold IntOp.shli
  rw [if_pos h]; rfl

theorem shli_of_ge (u : ArithUnit) (x y : BitVec 32) (h : ¬ y.toNat < 32) : IntOp.shli u x y = 0#32 := by
  unfold IntOp.shli
  rw [if_neg h]
  unfold IntOp.cornerWord
  rw [if_neg (by simp)]
  cases u <;> rfl

theorem ofBool_eq_one (p : Bool) : (BitVec.ofBool p = 1) ↔ p = true := by cases p <;> decide

/-- A shift amount as the kernels pass it: 31 where it does not lie in `0 … 31`. -/
def amount (n : BitVec 32) : BitVec 32 :=
  Scalar.select (IntOp.ori (IntOp.cmpi .slt n 0#32) (IntOp.cmpi .sgt n 31#32)) 31#32 n

/-- Shifting right by the kernels' amount is shifting right by the amount itself. -/
theorem shrsi_amount (u v : ArithUnit) (x n : BitVec 32) : IntOp.shrsi u x (amount n) = IntOp.shrsi v x n := by
  unfold amount Scalar.select IntOp.ori IntOp.cmpi
  dsimp only
  have hn : n.toInt = if 2 * n.toNat < 2 ^ 32 then (n.toNat : ℤ) else (n.toNat : ℤ) - 2 ^ 32 := BitVec.toInt_eq_toNat_cond n
  have hlt := n.isLt
  have e : ∀ p q : Bool, BitVec.ofBool p ||| BitVec.ofBool q = BitVec.ofBool (p || q) := by decide
  rw [e]
  by_cases h : n.toNat < 32
  · have h1 : n.slt 0#32 = false := by
      simp only [BitVec.slt, decide_eq_false_iff_not]
      rw [hn]; simp; omega
    have h2 : (31#32).slt n = false := by
      simp only [BitVec.slt, decide_eq_false_iff_not]
      rw [hn, show (31#32).toInt = 31 by decide]; split <;> omega
    rw [h1, h2]
    simp only [Bool.or_self]
    rw [if_neg (by decide)]
    exact shrsi_unit u v x n
  · have h3 : (n.slt 0#32 || (31#32).slt n) = true := by
      simp only [BitVec.slt, Bool.or_eq_true, decide_eq_true_eq]
      rw [hn, show (31#32).toInt = 31 by decide, show (0#32).toInt = 0 by decide]; split <;> omega
    rw [h3, if_pos (by decide), shrsi_31, shrsi_of_ge v x n h]

/-- The kernel's `|q|` shifted right by `t` clipped to `0 … 31` and then left by `-t` clipped so. -/
def kShift (aq t : BitVec 32) : BitVec 32 :=
  IntOp.shli .vector (IntOp.shrsi .vector aq (IntOp.minsi 31#32 (IntOp.maxsi 0#32 t)))
    (IntOp.minsi 31#32 (IntOp.maxsi 0#32 (-t)))

/-- The reference's: a right shift by `t`, or a left shift by `-t`. -/
def rShift (aq t : BitVec 32) : BitVec 32 :=
  Scalar.select (IntOp.cmpi .sge t 0#32) (IntOp.shrsi .host aq (IntOp.maxsi t 0#32))
    (IntOp.shli .host aq (IntOp.maxsi (-t) 0#32))

theorem shl_31 (x : BitVec 32) : x <<< 31 = 0#32 ∨ x <<< 31 = 2147483648#32 := by
  have h : (x <<< 31).toNat = x.toNat * 2 ^ 31 % 2 ^ 32 := by
    rw [BitVec.toNat_shiftLeft, Nat.shiftLeft_eq]
  have : x.toNat * 2 ^ 31 % 2 ^ 32 = 0 ∨ x.toNat * 2 ^ 31 % 2 ^ 32 = 2 ^ 31 := by omega
  rcases this with h0 | h0
  · left; apply BitVec.eq_of_toNat_eq; rw [h, h0]; rfl
  · right; apply BitVec.eq_of_toNat_eq; rw [h, h0]; rfl

theorem minsi_eq (x y : BitVec 32) : IntOp.minsi x y = if x.toInt < y.toInt then x else y := by
  unfold IntOp.minsi BitVec.slt; simp

theorem maxsi_eq (x y : BitVec 32) : IntOp.maxsi x y = if y.toInt < x.toInt then x else y := by
  unfold IntOp.maxsi BitVec.slt; simp

theorem toInt_cond (n : BitVec 32) : (n.toInt = n.toNat ∧ n.toNat < 2 ^ 31) ∨ (n.toInt = (n.toNat : ℤ) - 2 ^ 32 ∧ 2 ^ 31 ≤ n.toNat) := by
  rw [BitVec.toInt_eq_toNat_cond]; split <;> omega

/-- The two shifts agree, except that the kernel's may leave the lowest bit in the highest place where the
    reference's has shifted everything out. -/
theorem shift_cases (aq t : BitVec 32) : kShift aq t = rShift aq t ∨
    (rShift aq t = 0#32 ∧ (kShift aq t = 0#32 ∨ kShift aq t = 2147483648#32)) := by
  have hsge : IntOp.cmpi .sge t 0#32 = BitVec.ofBool (decide (0 ≤ t.toInt)) := by
    unfold IntOp.cmpi BitVec.sle; simp
  unfold kShift rShift Scalar.select
  rw [hsge, minsi_eq, minsi_eq, maxsi_eq, maxsi_eq, maxsi_eq, maxsi_eq]
  simp only [ofBool_eq_one, decide_eq_true_eq, show (31#32).toInt = 31 by decide, show (0#32).toInt = 0 by decide]
  have ht := toInt_cond t
  have hm := toInt_cond (-t)
  have hneg : (-t).toNat = (2 ^ 32 - t.toNat) % 2 ^ 32 := BitVec.toNat_neg t
  have hlt := t.isLt
  have s0 : ∀ x : BitVec 32, IntOp.shli .vector x 0#32 = x := fun x => by
    rw [shli_of_lt _ _ _ (by decide)]; exact BitVec.shiftLeft_zero x
  have r0 : ∀ x : BitVec 32, IntOp.shrsi .vector x 0#32 = x := fun x => by
    rw [shrsi_of_lt _ _ _ (by decide)]; exact BitVec.sshiftRight_zero
  have su : ∀ x y : BitVec 32, IntOp.shli .vector x y = IntOp.shli .host x y := fun x y => by
    by_cases h : y.toNat < 32
    · rw [shli_of_lt _ _ _ h, shli_of_lt _ _ _ h]
    · rw [shli_of_ge _ _ _ h, shli_of_ge _ _ _ h]
  by_cases h0 : 0 ≤ t.toInt
  · -- a right shift
    left
    have hl : (if (-t).toInt < 0 then (0#32) else -t) = 0#32 := by
      split
      · rfl
      · apply BitVec.eq_of_toNat_eq
        rw [show (0#32).toNat = 0 by decide]; omega
    rw [if_pos h0, hl, if_neg (show ¬ (31:ℤ) < (0#32).toInt by decide), s0, if_neg (show ¬ t.toInt < 0 by omega)]
    have hx : (if 0 < t.toInt then t else 0#32) = t := by
      split
      · rfl
      · apply BitVec.eq_of_toNat_eq
        rw [show (0#32).toNat = 0 by decide]; omega
    rw [hx]
    by_cases h1 : 31 < t.toInt
    · rw [if_pos h1, shrsi_31, shrsi_of_ge _ _ _ (by omega)]
    · rw [if_neg h1]
      exact shrsi_unit _ _ _ _
  · rw [if_neg h0, if_pos (show t.toInt < 0 by omega), if_neg (show ¬ (31:ℤ) < (0#32).toInt by decide), r0]
    by_cases h1 : (-t).toInt < 0
    · left
      rw [if_pos h1, if_neg (show ¬ 0 < (-t).toInt by omega), if_neg (show ¬ (31:ℤ) < (0#32).toInt by decide)]
      exact su _ _
    · rw [if_neg h1]
      have hp : 0 < (-t).toInt := by omega
      rw [if_pos hp]
      by_cases h2 : 31 < (-t).toInt
      · right
        rw [if_pos h2]
        refine ⟨shli_of_ge _ _ _ (by omega), ?_⟩
        rw [shli_of_lt _ _ _ (by decide)]
        exact shl_31 aq
      · left
        rw [if_neg h2]
        exact su _ _

/-- The square both take of `min(a, -b) + b`. -/
def sq (a b : BitVec 32) : BitVec 32 :=
  IntOp.muli (IntOp.addi (IntOp.minsi a (-b)) b) (IntOp.addi (IntOp.minsi a (-b)) b)

theorem sq_zero_min (b : BitVec 32) (hb : b.toInt ≤ 0) : sq 2147483648#32 b = sq 0#32 b := by
  unfold sq IntOp.muli IntOp.addi
  rw [minsi_eq, minsi_eq, show (0#32).toInt = 0 by decide, show (2147483648#32).toInt = -2147483648 by decide]
  have h1 := toInt_cond b
  have h2 := toInt_cond (-b)
  have hneg : (-b).toNat = (2 ^ 32 - b.toNat) % 2 ^ 32 := BitVec.toNat_neg b
  have hlt := b.isLt
  have hz : ∀ x : BitVec 32, 2147483648#32 * x + 2147483648#32 * x = 0#32 := fun x => by
    rw [← BitVec.add_mul]; exact BitVec.zero_mul
  have hexp : (2147483648#32 + b) * (2147483648#32 + b) = b * b := by
    have : (2147483648#32 + b) * (2147483648#32 + b)
        = 2147483648#32 * 2147483648#32 + (2147483648#32 * b + 2147483648#32 * b) + b * b := by
      rw [BitVec.mul_add, BitVec.add_mul, BitVec.add_mul, BitVec.mul_comm b 2147483648#32]
      simp only [BitVec.add_assoc]
    rw [this, hz]
    simp
  by_cases hm : b.toNat = 2 ^ 31
  · rw [if_neg (by omega), if_neg (by omega)]
  · rw [if_pos (show (-2147483648 : ℤ) < (-b).toInt by omega), hexp]
    by_cases hb0 : b.toNat = 0
    · have : b = 0#32 := BitVec.eq_of_toNat_eq (by rw [hb0]; rfl)
      subst this; decide
    · rw [if_pos (show (0 : ℤ) < (-b).toInt by omega)]
      simp

/-- The squares agree where `b` is not positive. -/
theorem sq_shift (aq t b : BitVec 32) (hb : b.toInt ≤ 0) : sq (kShift aq t) b = sq (rShift aq t) b := by
  rcases shift_cases aq t with h | ⟨h0, h | h⟩
  · rw [h]
  · rw [h, h0]
  · rw [h, h0]; exact sq_zero_min b hb

/-- The sign of a word: -1, 0 or 1. -/
def sign (q : BitVec 32) : BitVec 32 := if q = 0 then 0 else if q.msb then -1 else 1

/-- `q (erf + one)` with the sign put on by xor and subtract, against the sign put on by a product. -/
theorem gelu_sign (u v : ArithUnit) (q p n one : BitVec 32) :
    IntOp.muli q (IntOp.addi (IntOp.shrsi u (IntOp.subi (IntOp.xori p (IntOp.shrsi .vector q 31#32)) (IntOp.shrsi .vector q 31#32)) (amount n)) one)
      = IntOp.muli q (IntOp.addi (IntOp.shrsi v (IntOp.muli (sign q) p) n) one) := by
  rw [shrsi_amount u v, shrsi_31]
  unfold sign IntOp.muli IntOp.addi IntOp.subi IntOp.xori
  by_cases h0 : q = 0
  · subst h0; exact (BitVec.zero_mul).trans (BitVec.zero_mul).symm
  · rw [if_neg h0]
    congr 3
    by_cases hm : q.msb
    · rw [if_pos hm, if_pos hm, BitVec.xor_allOnes]
      rw [show (-1 : BitVec 32) * p = -p by rw [BitVec.neg_mul]; exact congrArg _ (BitVec.one_mul p)]
      rw [BitVec.neg_eq_not_add, BitVec.sub_eq_add_neg]
      rfl
    · rw [if_neg hm, if_neg hm, BitVec.xor_zero, BitVec.sub_zero]
      exact (BitVec.one_mul p).symm

/-- The kernel's requantised gelu of one word `q`. -/
def kGelu (q right left b c n one m half k : BitVec 32) : BitVec 8 :=
  let a := IntOp.shli .vector (IntOp.shrsi .vector (IntOp.absi q) right) left
  let z := IntOp.addi (IntOp.minsi a (IntOp.subi 0#32 b)) b
  let p := IntOp.addi (IntOp.muli z z) c
  let s := IntOp.shrsi .vector q 31#32
  let g := IntOp.muli q (IntOp.addi (IntOp.shrsi .vector (IntOp.subi (IntOp.xori p s) s) n) one)
  (IntOp.minsi 127#32 (IntOp.maxsi 4294967169#32 (IntOp.shrsi .vector
    (IntOp.addi (IntOp.muli (IntOp.shrsi .vector (IntOp.addi g 8192#32) 14#32) m) half) k))).setWidth 8

/-- The reference's. -/
def rGelu (q t b c n one m half k : BitVec 32) : BitVec 8 :=
  let z := IntOp.addi (IntOp.minsi (rShift (IntOp.absi q) t) (-b)) b
  let p := IntOp.addi (IntOp.muli z z) c
  let g := IntOp.muli q (IntOp.addi (IntOp.shrsi .host (IntOp.muli (sign q) p) n) one)
  (IntOp.minsi 127#32 (IntOp.maxsi 4294967169#32 (IntOp.shrsi .host
    (IntOp.addi (IntOp.muli (IntOp.shrsi .host (IntOp.addi g 8192#32) 14#32) m) half) k))).setWidth 8

/-- The two agree where `b` is not positive. -/
theorem kGelu_eq (q t b c n one m half k : BitVec 32) (hb : b.toInt ≤ 0) :
    kGelu q (IntOp.minsi 31#32 (IntOp.maxsi 0#32 t)) (IntOp.minsi 31#32 (IntOp.maxsi 0#32 (-t))) b c (amount n) one m half (amount k)
      = rGelu q t b c n one m half k := by
  have h := sq_shift (IntOp.absi q) t b hb
  unfold sq kShift at h
  unfold kGelu rGelu
  have hs : IntOp.subi 0#32 b = -b := by unfold IntOp.subi; exact BitVec.zero_sub b
  dsimp only
  rw [hs, h, gelu_sign .vector .host, shrsi_amount .vector .host, shrsi_unit .vector .host]

/-- The kernel's requantised second layer of one word `q` with its residual word `x`. -/
def kOut (q x m half k sm sh sk : BitVec 32) : BitVec 8 :=
  (IntOp.minsi 127#32 (IntOp.maxsi 4294967169#32 (IntOp.addi
    (IntOp.shrsi .vector (IntOp.addi (IntOp.muli (IntOp.shrsi .vector (IntOp.addi q 8#32) 4#32) m) half) k)
    (IntOp.shrsi .vector (IntOp.addi (IntOp.muli x sm) sh) sk)))).setWidth 8

/-- The reference's. -/
def rOut (q x m half k sm sh sk : BitVec 32) : BitVec 8 :=
  (IntOp.minsi 127#32 (IntOp.maxsi 4294967169#32 (IntOp.addi
    (IntOp.shrsi .host (IntOp.addi (IntOp.muli (IntOp.shrsi .host (IntOp.addi q 8#32) 4#32) m) half) k)
    (IntOp.shrsi .host (IntOp.addi (IntOp.muli (IntOp.shrsi .host (IntOp.addi x 0#32) 0#32) sm) sh) sk)))).setWidth 8

theorem kOut_eq (q x m half k sm sh sk : BitVec 32) : kOut q x m half (amount k) sm sh (amount sk) = rOut q x m half k sm sh sk := by
  unfold kOut rOut
  have h0 : IntOp.shrsi .host (IntOp.addi x 0#32) 0#32 = x := by
    rw [shrsi_of_lt _ _ _ (by decide)]
    unfold IntOp.addi
    rw [BitVec.add_zero]; exact BitVec.sshiftRight_zero
  rw [h0, shrsi_amount .vector .host, shrsi_amount .vector .host, shrsi_unit .vector .host _ 4#32]

/-- A sum of products of integers, over the extended reals, is the integer sum. -/
theorem sum_mul_coe {ι : Type} (s : Finset ι) (a b : ι → ℤ) :
    (∑ i ∈ s, (((a i : ℝ) : EReal) * ((b i : ℝ) : EReal))) = (((∑ i ∈ s, a i * b i : ℤ) : ℝ) : EReal) := by
  classical
  induction s using Finset.induction_on with
  | empty => simp
  | insert i s hi ih =>
    rw [Finset.sum_insert hi, Finset.sum_insert hi, ih]
    push_cast
    rfl

/-- Rounding an integer to the nearest integer leaves it. -/
theorem roundHalfEven_int (z : ℤ) : Ideal.liftRound Ideal.roundHalfEven ((z : ℝ) : EReal) = ((z : ℝ) : EReal) := by
  have : Ideal.roundHalfEven (z : ℝ) = z := by
    unfold Ideal.roundHalfEven
    simp
  show (((Ideal.roundHalfEven (z : ℝ) : ℤ) : ℝ) : EReal) = _
  rw [this]

/-- A binary32 word below the one of infinity is not negative. -/
theorem ieee_nonneg (w : BitVec 32) (hw : w.toNat < 255 * 2 ^ 23) : (0 : EReal) ≤ Ideal.ieee 8 23 w := by
  have e1 : (w.extractLsb' (8 + 23) 1).toNat = 0 := by
    rw [BitVec.extractLsb'_toNat, Nat.shiftRight_eq_div_pow]; omega
  have hneg : (w.extractLsb' (8 + 23) 1 == 1#1) = false := by
    rw [beq_eq_false_iff_ne]
    intro h
    rw [h] at e1
    exact absurd e1 (by decide)
  have hex : (w.extractLsb' 23 8).toNat ≠ 2 ^ 8 - 1 := by
    rw [BitVec.extractLsb'_toNat, Nat.shiftRight_eq_div_pow]; omega
  have hn : ∀ r : ℝ, 0 ≤ r → (0 : EReal) ≤ (r : EReal) := fun r hr => EReal.coe_nonneg.mpr hr
  unfold Ideal.ieee
  dsimp only
  rw [hneg, if_neg hex]
  simp only [Bool.false_eq_true, if_false]
  split
  · exact hn _ (by positivity)
  · exact hn _ (by positivity)

/-- A power of two made of its exponent field is not negative. -/
theorem pow2_nonneg (y : BitVec 32) :
    0 ≤ Ideal.ofBits .f32 (IntOp.shli .host (IntOp.minsi 254#32 (IntOp.maxsi 0#32 y)) 23#32) := by
  have hz : ∀ z : BitVec 32, z.toNat ≤ 254 → 0 ≤ Ideal.ofBits .f32 (IntOp.shli .host z 23#32) := by
    intro z hz
    rw [shli_of_lt _ _ _ (by decide)]
    have hw : (z <<< (23#32).toNat).toNat = z.toNat * 2 ^ 23 := by
      rw [BitVec.toNat_shiftLeft, Nat.shiftLeft_eq, show (23#32).toNat = 23 by decide, Nat.mod_eq_of_lt (by omega)]
    exact ieee_nonneg _ (by rw [hw]; omega)
  apply hz
  rw [minsi_eq, maxsi_eq, show (0#32).toInt = 0 by decide, show (254#32).toInt = 254 by decide]
  have := toInt_cond y
  by_cases h1 : y.toInt < 0
  · rw [if_pos h1, if_neg (by decide)]; decide
  · rw [if_neg h1]
    split
    · decide
    · omega

theorem coe_nonneg_div (x : EReal) (hx : 0 ≤ x) (c : ℝ) (hc : 0 < c) : 0 ≤ Ideal.div x (c : EReal) := by
  unfold Ideal.div
  rw [if_neg (by exact_mod_cast hc.ne')]
  exact mul_nonneg hx (EReal.inv_nonneg_of_nonneg (by exact_mod_cast hc.le))

/-- The floor of a negative number over one that is not negative, as a word, is not positive. -/
theorem floor_div_nonpos (c : ℝ) (hc : c < 0) (s : EReal) (hs : 0 ≤ s) :
    (Ideal.fptosi 32 (Ideal.liftRound Int.floor (Ideal.div (c : EReal) s))).toInt ≤ 0 := by
  have hd : Ideal.div (c : EReal) s ≤ 0 := by
    unfold Ideal.div
    split
    · rw [if_neg (by exact_mod_cast hc.le.not_gt)]; exact bot_le
    · exact mul_nonpos_of_nonpos_of_nonneg (by exact_mod_cast hc.le) (EReal.inv_nonneg_of_nonneg hs)
  have hi : ∀ z : ℤ, -2147483648 ≤ z → z ≤ 0 → (BitVec.ofInt 32 z).toInt ≤ 0 := by
    intro z h1 h2
    rw [BitVec.toInt_ofInt, Int.bmod_eq_of_le (by norm_num; omega) (by norm_num; omega)]
    exact h2
  unfold Ideal.fptosi
  generalize Ideal.div (c : EReal) s = d at hd
  induction d with
  | bot =>
    show (BitVec.ofInt 32 (-2147483648)).toInt ≤ 0
    exact hi _ (by norm_num) (by norm_num)
  | top => exact absurd hd (by simp)
  | coe r =>
    have hr : r ≤ 0 := by exact_mod_cast hd
    rw [Ideal.liftRound_coe, Ideal.toIntClamped_coe]
    have hf : ⌊r⌋ ≤ 0 := by
      have := Int.floor_le r
      have h2 : ((⌊r⌋ : ℤ) : ℝ) ≤ ((0 : ℤ) : ℝ) := by push_cast; linarith
      exact_mod_cast h2
    apply hi
    · exact le_max_left _ _
    · apply max_le (by norm_num)
      refine (min_le_right _ _).trans ?_
      rw [Int.floor_intCast, Int.ceil_intCast, ite_self]
      exact hf

end Cert.Core

end

end
-- ==== Proof.KBody1.lean ====
/- The first kernel's body, case by case. -/
module

public import proofs.«01_k».proof.Proof.Gen.Ffn1Ideal.Frame
public import proofs.«01_k».proof.Proof.Core
public import Idealize.ShloMosaic.Lib.Tactic
public import Idealize.ShloMosaic.Lib.Pipeline.ValueKit.Tiles
public import Idealize.ShloMosaic.Lib.Pipeline.Value

@[expose] public section

noncomputable section

namespace Cert.Ffn1Ideal.KValue

open Cert.Ffn1Ideal Cert.Ffn1Ideal.Gen Idealize.ShloMosaic Idealize.ShloMosaic.TcCoe Idealize.ShloMosaic.Tactic

variable {F : FTy → Type} [FloatOps F]

theorem hz : (![0, 0] : Fin 2 → Nat) = fun _ => 0 := funext fun a => by fin_cases a <;> rfl

/-- The first point of a sweep leaves zero plus the first product in the accumulator. -/
theorem sout_A (c : Dev nD) (i : grid0.Coords) (arg3 : Memref sig .tc .vmem S1024x1024 .i8) (harg3 : arg3.IsWhole) (arg4 : Memref sig .tc .vmem S1024x1024 .i8) (harg4 : arg4.IsWhole) (arg5 : Memref sig .tc .vmem S16x1024 .i32) (harg5 : arg5.IsWhole) (arg6 : Memref sig .tc .vmem S1024x1024 .i8) (harg6 : arg6.IsWhole) (arg7 : Memref sig .tc .vmem S1024x1024 .f32) (harg7 : arg7.IsWhole) (hc0 : cond0_0 i) (hc1 : ¬cond0_1 i)
    (x0 x1 : Vec F S1024x1024 .i8) (x2 : Vec F S16x1024 .i32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A later point adds its product. -/
theorem sout_B (c : Dev nD) (i : grid0.Coords) (arg3 : Memref sig .tc .vmem S1024x1024 .i8) (harg3 : arg3.IsWhole) (arg4 : Memref sig .tc .vmem S1024x1024 .i8) (harg4 : arg4.IsWhole) (arg5 : Memref sig .tc .vmem S16x1024 .i32) (harg5 : arg5.IsWhole) (arg6 : Memref sig .tc .vmem S1024x1024 .i8) (harg6 : arg6.IsWhole) (arg7 : Memref sig .tc .vmem S1024x1024 .f32) (harg7 : arg7.IsWhole) (hc0 : ¬cond0_0 i) (hc1 : ¬cond0_1 i)
    (x0 x1 : Vec F S1024x1024 .i8) (x2 : Vec F S16x1024 .i32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x1024) hz]

/-- Column `j 1` of a one-row block. -/
def r1 (j : S1024x1024.Idx) : S1x1024.Idx := fun a => match a with
  | ⟨0, _⟩ => ⟨0, Nat.one_pos⟩
  | ⟨1, _⟩ => j 1

/-- Row `r`, column `j 1` of the packed parameter block. -/
def rw16 (r : Fin 16) (j : S1024x1024.Idx) : S16x1024.Idx := fun a => match a with
  | ⟨0, _⟩ => r
  | ⟨1, _⟩ => j 1

theorem row_apply (x : IVec S1x1024 32) (j : S1024x1024.Idx) :
    broadcastTo S1024x1024 (shapeCast S1x1024 x shapeCasts_S1x1024_S1x1024) broadcasts_S1x1024_S1024x1024 j = x (r1 j) := by
  rw [shapeCast_self]
  exact broadcastTo_apply x _ j (r1 j) fun a => match a with
    | ⟨0, _⟩ => rfl
    | ⟨1, _⟩ => rfl

/-- The negated row read at one index. -/
theorem nrow_apply (x : IVec S1x1024 32) (j : S1024x1024.Idx) :
    broadcastTo S1024x1024 (subi (broadcast S1x1024 0#32) (shapeCast S1x1024 x shapeCasts_S1x1024_S1x1024)) broadcasts_S1x1024_S1024x1024 j
      = IntOp.subi 0#32 (x (r1 j)) := by
  rw [shapeCast_self]
  exact broadcastTo_apply _ _ j (r1 j) fun a => match a with
    | ⟨0, _⟩ => rfl
    | ⟨1, _⟩ => rfl

/-- The epilogue at one index. -/
theorem pay34_apply (v17 : Vec F S1024x1024 .f32) (v20 v25 v29 v33 v42 v50 v54 v63 v67 v71 : Vec F S1x1024 .i32) (j : S1024x1024.Idx) :
    k0_pay3 (F := F) (k0_pay4 v17 v20 v25 v29 v33 v42 v50 v54) v63 v67 v71 j
      = Core.kGelu (IntOp.addi (FloatOps.fptosi 32 (FloatOps.roundeven (v17 j))) (v20 (r1 j))) (v25 (r1 j)) (v29 (r1 j)) (v33 (r1 j)) (v42 (r1 j))
          (v50 (r1 j)) (v54 (r1 j)) (v63 (r1 j)) (v67 (r1 j)) (v71 (r1 j)) := by
  unfold Core.kGelu
  dsimp only
  rw [← nrow_apply v33 j, ← row_apply v20 j, ← row_apply v25 j, ← row_apply v29 j, ← row_apply v33 j, ← row_apply v42 j, ← row_apply v50 j,
    ← row_apply v54 j, ← row_apply v63 j, ← row_apply v67 j, ← row_apply v71 j]
  rfl

theorem ld_row (X : S16x1024.Idx → Elt F .i32) (r : Fin 16) (inb) (j : S1024x1024.Idx) :
    View.ld (Val := Elt F) (e' := .i32) X (Rect.unit ![r.val, 0] ![1, 1024] inb) (r1 j) = X (rw16 r j) :=
  View.ld_unit_apply_of X _ _ inb (r1 j) (rw16 r j) fun a => match a with
    | ⟨0, _⟩ => rfl
    | ⟨1, _⟩ => (Nat.zero_add (j 1).val).symm

/-- The last point's output. -/
theorem out_C (c : Dev nD) (i : grid0.Coords) (arg3 : Memref sig .tc .vmem S1024x1024 .i8) (harg3 : arg3.IsWhole) (arg4 : Memref sig .tc .vmem S1024x1024 .i8) (harg4 : arg4.IsWhole) (arg5 : Memref sig .tc .vmem S16x1024 .i32) (harg5 : arg5.IsWhole) (arg6 : Memref sig .tc .vmem S1024x1024 .i8) (harg6 : arg6.IsWhole) (arg7 : Memref sig .tc .vmem S1024x1024 .f32) (harg7 : arg7.IsWhole) (hc0 : ¬cond0_0 i) (hc1 : cond0_1 i)
    (x0 x1 : Vec F S1024x1024 .i8) (x2 : Vec F S16x1024 .i32) (xs0 : Vec F S1024x1024 .f32) (j : S1024x1024.Idx) :
    out0_C_3 c i arg3 harg3 arg4 harg4 arg5 harg5 arg6 harg6 arg7 harg7 hc0 hc1 x0 x1 x2 xs0 j
      = Core.kGelu (IntOp.addi (FloatOps.fptosi 32 (FloatOps.roundeven (k0_pay2 xs0 x0 x1 j))) (x2 (rw16 0 j))) (x2 (rw16 1 j)) (x2 (rw16 2 j)) (x2 (rw16 3 j))
          (x2 (rw16 4 j)) (x2 (rw16 5 j)) (x2 (rw16 6 j)) (x2 (rw16 7 j)) (x2 (rw16 8 j)) (x2 (rw16 9 j)) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x1024) hz, View.readCov_unit_zero (S := S1024x1024) _ hz]
  rw [pay34_apply]
  have e0 := ld_row (F := F) x2 0
  have e1 := ld_row (F := F) x2 1
  have e2 := ld_row (F := F) x2 2
  have e3 := ld_row (F := F) x2 3
  have e4 := ld_row (F := F) x2 4
  have e5 := ld_row (F := F) x2 5
  have e6 := ld_row (F := F) x2 6
  have e7 := ld_row (F := F) x2 7
  have e8 := ld_row (F := F) x2 8
  have e9 := ld_row (F := F) x2 9
  congr 1
  all_goals first | rfl | exact congrArg _ (e0 _ _) | exact e1 _ _ | exact e2 _ _ | exact e3 _ _ | exact e4 _ _ | exact e5 _ _ | exact e6 _ _ | exact e7 _ _ | exact e8 _ _ | exact e9 _ _

end Cert.Ffn1Ideal.KValue

end
-- ==== Proof.Sums.lean ====
/- Sums cut into blocks of equal length. -/
module

public import Idealize.ShloMosaic.PureOps.Ideal.Laws

@[expose] public section

namespace Cert.Sums

/-- A sum over `n` blocks of `m` terms each is the sum over all `m * n` terms. -/
theorem sum_blocks {β : Type} [AddCommMonoid β] (m : ℕ) (f : ℕ → β) :
    ∀ n : ℕ, ∑ s ∈ Finset.range n, ∑ k : Fin m, f (m * s + k.val) = ∑ k ∈ Finset.range (m * n), f k
  | 0 => by simp
  | n + 1 => by
    rw [Finset.sum_range_succ, sum_blocks m f n, Nat.mul_succ, Finset.sum_range_add, Fin.sum_univ_eq_sum_range (fun k => f (m * n + k)) m]

end Cert.Sums
-- ==== Proof.K1.lean ====
/- What the first kernel leaves in its result array, at one index. -/
module

public import proofs.«01_k».proof.Proof.KBody1
public import proofs.«01_k».proof.Proof.Sums
public import proofs.«01_k».proof.Proof.Gen.Ffn1Ideal.Value
public import Idealize.ShloMosaic.PureOps.Ideal.Laws
public import Idealize.ShloMosaic.Lib.ValueIdxCore

@[expose] public section

noncomputable section

namespace Cert.Ffn1Ideal.KValue

open Cert.Ffn1Ideal Cert.Ffn1Ideal.Gen Idealize.ShloMosaic Idealize.ShloMosaic.TcCoe Idealize.ShloMosaic.Tactic

/-! ## One product of two staged blocks -/

theorem lhs_0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

theorem lhs_1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q

theorem rhs_0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q

theorem rhs_1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Row `j 0`, column `k` of the left block. -/
def lx (j : S1024x1024.Idx) (k : Fin 1024) : S1024x1024.Idx := fun a => match a with
  | ⟨0, _⟩ => j 0
  | ⟨1, _⟩ => k

/-- Row `k`, column `j 1` of the right block. -/
def rx (j : S1024x1024.Idx) (k : Fin 1024) : S1024x1024.Idx := fun a => match a with
  | ⟨0, _⟩ => k
  | ⟨1, _⟩ => j 1

/-- The accumulator's update at one index: what it held plus the sum of the products of the codes. -/
theorem pay2_apply (acc : Vec Ideal S1024x1024 .f32) (x w : Vec Ideal S1024x1024 .i8) (j : S1024x1024.Idx) :
    k0_pay2 (F := Ideal) acc x w j
      = acc j + ∑ k : Fin 1024, ((((x (lx j k)).toInt : ℝ) : EReal) * (((w (rx j k)).toInt : ℝ) : EReal)) := by
  unfold k0_pay2
  rw [shapeCast_self, shapeCast_self]
  show acc j + (Ideal.ofBits .f32 0x00000000#32 + ∑ q : dot_S1024x1024_S1024x1024_S1024x1024_1_0_0_1_n_n.contr.Idx,
    ((((x (dot_S1024x1024_S1024x1024_S1024x1024_1_0_0_1_n_n.lhsIdx j q)).toInt : ℝ) : EReal) * (((w (dot_S1024x1024_S1024x1024_S1024x1024_1_0_0_1_n_n.rhsIdx j q)).toInt : ℝ) : EReal))) = _
  rw [Ideal.ofBits_zero_f32, zero_add, ← Equiv.sum_comp (ValueIdx.contrEquiv1 dot_S1024x1024_S1024x1024_S1024x1024_1_0_0_1_n_n 1024 rfl rfl).symm]
  refine congrArg (fun z => acc j + z) ?_
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx j ((ValueIdx.contrEquiv1 dot_S1024x1024_S1024x1024_S1024x1024_1_0_0_1_n_n 1024 rfl rfl).symm k) = lx j k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx j ((ValueIdx.contrEquiv1 dot_S1024x1024_S1024x1024_S1024x1024_1_0_0_1_n_n 1024 rfl rfl).symm k) = rx j k := funext fun a => Fin.ext (by
    match a with
    | ⟨0, _⟩ => exact (rhs_0 _ _).trans hk
    | ⟨1, _⟩ => exact rhs_1 _ _)
  rw [el, er]

/-- The accumulator starts at zero. -/
theorem pay1_apply (j : S1024x1024.Idx) : k0_pay1 (F := Ideal) j = 0 := by
  unfold k0_pay1
  rw [shapeCast_self]
  exact Ideal.ofBits_zero_f32

/-! ## The accumulator over a sweep -/

variable (m : (ℓ : Loc nD τ sig) → Buf (Elt Ideal) ℓ)

/-- Row `r`, column `k` of the left operand. -/
def ixH (r k : ℕ) (hr : r < 6144) (hk : k < 7168) : S6144x7168.Idx := fun a => match a with
  | ⟨0, _⟩ => ⟨r, hr⟩
  | ⟨1, _⟩ => ⟨k, hk⟩

/-- Row `k`, column `c` of the right operand. -/
def ixW (k c : ℕ) (hk : k < 7168) (hc : c < 18432) : S7168x18432.Idx := fun a => match a with
  | ⟨0, _⟩ => ⟨k, hk⟩
  | ⟨1, _⟩ => ⟨c, hc⟩

/-- The `k`-th term of the product at row `r`, column `c`. -/
def term (H : S6144x7168.Idx → BitVec 8) (W : S7168x18432.Idx → BitVec 8) (r c k : ℕ) : EReal :=
  if h : r < 6144 ∧ k < 7168 ∧ c < 18432 then
    ((((H (ixH r k h.1 h.2.1)).toInt : ℝ) : EReal) * (((W (ixW k c h.2.1 h.2.2)).toInt : ℝ) : EReal))
  else 0

theorem co0 (t : Fin cfg0.N) : (grid0.coords t 0).val = t.val / 126 % 6 := Pipeline.Grid.coords_val t 0 (by decide) rfl
theorem co1 (t : Fin cfg0.N) : (grid0.coords t 1).val = t.val / 7 % 18 := Pipeline.Grid.coords_val t 1 (by decide) rfl
theorem co2 (t : Fin cfg0.N) : (grid0.coords t 2).val = t.val % 7 := by
  rw [Pipeline.Grid.coords_val t 2 (S := 1) (by decide) rfl, Nat.div_one]; rfl

/-- The staged block of the left operand, read off the array. -/
theorem iblk_x (c : Dev nD) (t : Fin cfg0.N) (y : S1024x1024.Idx) (i : S6144x7168.Idx)
    (h0 : (i 0).val = t.val / 126 % 6 * 1024 + (y 0).val) (h1 : (i 1).val = t.val % 7 * 1024 + (y 1).val) :
    iblk m c 0 t y = V m c main_v0 i := by
  unfold iblk
  rw [View.read_apply]
  show V m c main_v0 _ = V m c main_v0 _
  congr 1
  funext a
  apply Fin.ext
  match a with
  | ⟨0, _⟩ =>
    show (BitVec.ofNat 32 (grid0.coords t 0).val).toNat * 1024 + 1 * (y 0).val = (i 0).val
    rw [co0, BitVec.toNat_ofNat, h0]; omega
  | ⟨1, _⟩ =>
    show (BitVec.ofNat 32 (grid0.coords t 2).val).toNat * 1024 + 1 * (y 1).val = (i 1).val
    rw [co2, BitVec.toNat_ofNat, h1]; omega

/-- The staged block of the right operand, read off the array. -/
theorem iblk_w (c : Dev nD) (t : Fin cfg0.N) (y : S1024x1024.Idx) (i : S7168x18432.Idx)
    (h0 : (i 0).val = t.val % 7 * 1024 + (y 0).val) (h1 : (i 1).val = t.val / 7 % 18 * 1024 + (y 1).val) :
    iblk m c 1 t y = V m c main_arg2 i := by
  unfold iblk
  rw [View.read_apply]
  show V m c main_arg2 _ = V m c main_arg2 _
  congr 1
  funext a
  apply Fin.ext
  match a with
  | ⟨0, _⟩ =>
    show (BitVec.ofNat 32 (grid0.coords t 2).val).toNat * 1024 + 1 * (y 0).val = (i 0).val
    rw [co2, BitVec.toNat_ofNat, h0]; omega
  | ⟨1, _⟩ =>
    show (BitVec.ofNat 32 (grid0.coords t 1).val).toNat * 1024 + 1 * (y 1).val = (i 1).val
    rw [co1, BitVec.toNat_ofNat, h1]; omega

/-- The staged block of the packed parameters, read off the array. -/
theorem iblk_p (c : Dev nD) (t : Fin cfg0.N) (y : S16x1024.Idx) (i : S16x18432.Idx)
    (h0 : (i 0).val = (y 0).val) (h1 : (i 1).val = t.val / 7 % 18 * 1024 + (y 1).val) :
    iblk m c 2 t y = V m c main_v235 i := by
  unfold iblk
  rw [View.read_apply]
  show V m c main_v235 _ = V m c main_v235 _
  congr 1
  funext a
  apply Fin.ext
  match a with
  | ⟨0, _⟩ =>
    show 0 * 16 + 1 * (y 0).val = (i 0).val
    omega
  | ⟨1, _⟩ =>
    show (BitVec.ofNat 32 (grid0.coords t 1).val).toNat * 1024 + 1 * (y 1).val = (i 1).val
    rw [co1, BitVec.toNat_ofNat, h1]; omega

/-- What point `n` adds at index `j` of its block. -/
def part (c : Dev nD) (n : ℕ) (j : S1024x1024.Idx) : EReal :=
  ∑ k : Fin 1024, term (V m c main_v0) (V m c main_arg2) (n / 126 % 6 * 1024 + (j 0).val) (n / 7 % 18 * 1024 + (j 1).val) (1024 * (n % 7) + k.val)

theorem part_eq (c : Dev nD) (t : Fin cfg0.N) (j : S1024x1024.Idx) :
    ∑ k : Fin 1024, ((((BitVec.toInt (n := 8) (iblk m c 0 t (lx j k))) : ℝ) : EReal) * (((BitVec.toInt (n := 8) (iblk m c 1 t (rx j k))) : ℝ) : EReal)) = part m c t.val j := by
  unfold part
  refine Finset.sum_congr rfl fun k _ => ?_
  have hj0 : (j 0).val < 1024 := (j 0).isLt
  have hj1 : (j 1).val < 1024 := (j 1).isLt
  have hk := k.isLt
  have hr : t.val / 126 % 6 * 1024 + (j 0).val < 6144 ∧ 1024 * (t.val % 7) + k.val < 7168 ∧ t.val / 7 % 18 * 1024 + (j 1).val < 18432 := by omega
  unfold term
  rw [dif_pos hr]
  rw [iblk_x m c t (lx j k) (ixH _ _ hr.1 hr.2.1) rfl (by show 1024 * (t.val % 7) + k.val = t.val % 7 * 1024 + k.val; omega),
    iblk_w m c t (rx j k) (ixW _ _ hr.2.1 hr.2.2) (by show 1024 * (t.val % 7) + k.val = t.val % 7 * 1024 + k.val; omega) rfl]

theorem sc_first (c : Dev nD) (n : ℕ) (h : n < cfg0.N) (acc : Vec Ideal S1024x1024 .f32) (h0 : n % 7 = 0) (j : S1024x1024.Idx) :
    Value.scAt0_0 m c n h acc j = 0 + part m c n j := by
  unfold Value.scAt0_0
  rw [dif_pos h0, dif_neg (by omega), sout_A, pay2_apply, pay1_apply]
  exact congrArg (fun z => (0 : EReal) + z) (part_eq m c ⟨n, h⟩ j)

theorem sc_next (c : Dev nD) (n : ℕ) (h : n < cfg0.N) (acc : Vec Ideal S1024x1024 .f32) (h0 : ¬ n % 7 = 0) (h1 : ¬ n % 7 = 6) (j : S1024x1024.Idx) :
    Value.scAt0_0 m c n h acc j = acc j + part m c n j := by
  unfold Value.scAt0_0
  rw [dif_neg h0, dif_neg h1, sout_B, pay2_apply]
  exact congrArg (fun z => acc j + z) (part_eq m c ⟨n, h⟩ j)

/-- The accumulator before the last point of a sweep. -/
theorem scratch_eq (c : Dev nD) (t : Fin cfg0.N) (ht : t.val % 7 = 5) (j : S1024x1024.Idx) :
    (outsAt0 m c t.val t.isLt).2 j = 0 + ∑ s ∈ Finset.range 6, part m c (7 * (t.val / 7) + s) j := by
  rw [Value.soutsAt0_0_eq]
  have := Pipeline.accAt_add_apply (N := cfg0.N) (fun n h => Value.scAt0_0 m c n h (VS0_0.read (Elt Ideal) VS0_0.junk)) (Value.scAt0_0 m c)
    (fun _ => (0 : EReal)) (part m c) (7 * (t.val / 7)) 5
    (fun h i => sc_first m c _ h _ (by omega) i)
    (fun n h acc i h1 h2 => sc_next m c n h acc (by omega) (by omega) i)
    (t.val % 7) (by omega) (by have := t.isLt; omega) j
  rw [this, ht]

/-- Row `r` of the packed parameters, at column `i 1` of the result. -/
def prm (r : Fin 16) (i : S6144x18432.Idx) : S16x18432.Idx := fun a => match a with
  | ⟨0, _⟩ => r
  | ⟨1, _⟩ => i 1

/-- The product at index `i` of the result. -/
def acc (c : Dev nD) (i : S6144x18432.Idx) : EReal :=
  ∑ k ∈ Finset.range 7168, term (V m c main_v0) (V m c main_arg2) (i 0).val (i 1).val k

/-- The last point's accumulator is the whole product. -/
theorem last_eq (c : Dev nD) (i : S6144x18432.Idx) (n : ℕ) (hn : n = 7 * Value.run3Of i + 6) :
    (0 + ∑ s ∈ Finset.range 6, part m c (7 * ((n - 1) / 7) + s) (Value.loc3Of i)) + part m c n (Value.loc3Of i) = acc m c i := by
  have hi0 : (i 0).val < 6144 := (i 0).isLt
  have hi1 : (i 1).val < 18432 := (i 1).isLt
  have hr : Value.run3Of i = 18 * ((i 0).val / 1024) + (i 1).val / 1024 := by
    show 18 * ((i 0).val / 1024 - 0) + 1 * ((i 1).val / 1024 - 0) = _
    omega
  rw [hr] at hn
  have e : ∀ s, s < 7 → part m c (7 * ((n - 1) / 7) + s) (Value.loc3Of i)
      = ∑ k : Fin 1024, term (V m c main_v0) (V m c main_arg2) (i 0).val (i 1).val (1024 * s + k.val) := by
    intro s hs
    unfold part
    refine Finset.sum_congr rfl fun k _ => ?_
    have a0 : (7 * ((n - 1) / 7) + s) / 126 % 6 * 1024 + (Value.loc3Of i 0).val = (i 0).val := by
      show _ + (i 0).val % 1024 = _
      omega
    have a1 : (7 * ((n - 1) / 7) + s) / 7 % 18 * 1024 + (Value.loc3Of i 1).val = (i 1).val := by
      show _ + (i 1).val % 1024 = _
      omega
    have a2 : (7 * ((n - 1) / 7) + s) % 7 = s := by omega
    rw [a0, a1, a2]
  have hl : part m c n (Value.loc3Of i) = ∑ k : Fin 1024, term (V m c main_v0) (V m c main_arg2) (i 0).val (i 1).val (1024 * 6 + k.val) := by
    rw [← e 6 (by omega)]
    congr 1
    omega
  rw [hl, zero_add, Finset.sum_congr rfl fun s hs => e s (by have := Finset.mem_range.mp hs; omega),
    ← Finset.sum_range_succ (fun s => ∑ k : Fin 1024, term (V m c main_v0) (V m c main_arg2) (i 0).val (i 1).val (1024 * s + k.val)) 6,
    Sums.sum_blocks 1024]
  rfl

end Cert.Ffn1Ideal.KValue

end
-- ==== Proof.K1v.lean ====
/- The first kernel's result at one index, and its operands read. -/
module

public import proofs.«01_k».proof.Proof.K1

@[expose] public section

noncomputable section

namespace Cert.Ffn1Ideal.KValue

open Cert.Ffn1Ideal Cert.Ffn1Ideal.Gen Idealize.ShloMosaic Idealize.ShloMosaic.TcCoe Idealize.ShloMosaic.Tactic

variable (m : (ℓ : Loc nD τ sig) → Buf (Elt Ideal) ℓ)

/-- The result at one index is what the last point of the sweep over its block left there. -/
theorem G3_fold (c : Dev nD) (i : S6144x18432.Idx) (h : Value.pt3Of i < cfg0.N) :
    Value.G3 m c i = (outsAt0 m c (Value.pt3Of i) h).1 (Value.loc3Of i) := by
  unfold Value.G3
  rw [dif_pos h, Value.outsAt0_sweep m c (Value.pt3Of i) h]

/-- What the last point of a sweep leaves in the output block. -/
theorem out_last (c : Dev nD) (t : Fin cfg0.N) (h0 : ¬ t.val % 7 = 0) (h17 : t.val % 7 = 6) (j : S1024x1024.Idx) :
    (outsAt0 m c t.val t.isLt).1 j = Core.kGelu (IntOp.addi (FloatOps.fptosi 32 (FloatOps.roundeven (F := Ideal) (φ := .f32)
        (k0_pay2 (F := Ideal) (outsAt0 m c (t.val - 1) (Nat.lt_of_le_of_lt (Nat.sub_le _ _) t.isLt)).2 (iblk m c 0 t) (iblk m c 1 t) j))) (iblk m c 2 t (rw16 0 j)))
      (iblk m c 2 t (rw16 1 j)) (iblk m c 2 t (rw16 2 j)) (iblk m c 2 t (rw16 3 j)) (iblk m c 2 t (rw16 4 j)) (iblk m c 2 t (rw16 5 j)) (iblk m c 2 t (rw16 6 j)) (iblk m c 2 t (rw16 7 j)) (iblk m c 2 t (rw16 8 j)) (iblk m c 2 t (rw16 9 j)) := by
  rw [outsAt0_C m c t h0 h17]
  dsimp only
  exact out_C ..

/-- The accumulator of the last point, before the epilogue. -/
theorem acc_last (c : Dev nD) (i : S6144x18432.Idx) (t : Fin cfg0.N) (htv : t.val = 7 * Value.run3Of i + 6) :
    k0_pay2 (F := Ideal) (outsAt0 m c (t.val - 1) (Nat.lt_of_le_of_lt (Nat.sub_le _ _) t.isLt)).2 (iblk m c 0 t) (iblk m c 1 t) (Value.loc3Of i) = acc m c i := by
  rw [pay2_apply, part_eq, scratch_eq m c ⟨t.val - 1, Nat.lt_of_le_of_lt (Nat.sub_le _ _) t.isLt⟩ (by show (t.val - 1) % 7 = 5; omega)]
  exact last_eq m c i t.val htv

/-- THE RESULT at one index: the epilogue of the whole product. -/
theorem G3_apply (c : Dev nD) (i : S6144x18432.Idx) :
    Value.G3 m c i = Core.kGelu (IntOp.addi (FloatOps.fptosi 32 (FloatOps.roundeven (F := Ideal) (φ := .f32) (acc m c i))) (V m c main_v235 (prm 0 i)))
      (V m c main_v235 (prm 1 i)) (V m c main_v235 (prm 2 i)) (V m c main_v235 (prm 3 i)) (V m c main_v235 (prm 4 i)) (V m c main_v235 (prm 5 i)) (V m c main_v235 (prm 6 i)) (V m c main_v235 (prm 7 i)) (V m c main_v235 (prm 8 i)) (V m c main_v235 (prm 9 i)) := by
  have hi0 : (i 0).val < 6144 := (i 0).isLt
  have hi1 : (i 1).val < 18432 := (i 1).isLt
  have hr : Value.run3Of i = 18 * ((i 0).val / 1024) + (i 1).val / 1024 := by
    show 18 * ((i 0).val / 1024 - 0) + 1 * ((i 1).val / 1024 - 0) = _
    omega
  have hpt : Value.pt3Of i < cfg0.N := by
    rw [show cfg0.N = 756 from N_0]; show 7 * Value.run3Of i + 6 < 756; omega
  obtain ⟨t, ht⟩ : ∃ t : Fin cfg0.N, t.val = Value.pt3Of i := ⟨⟨_, hpt⟩, rfl⟩
  have htv : t.val = 7 * Value.run3Of i + 6 := ht
  have e : Value.G3 m c i = (outsAt0 m c t.val t.isLt).1 (Value.loc3Of i) := by
    have : ∀ (n : ℕ) (hn : n < cfg0.N), n = Value.pt3Of i → outsAt0 m c n hn = outsAt0 m c (Value.pt3Of i) hpt := by
      intro n hn h; subst h; rfl
    rw [G3_fold m c i hpt, this t.val t.isLt ht]
  rw [e, out_last m c t (by omega) (by omega), acc_last m c i t htv]
  have hp : ∀ r : Fin 16, iblk m c 2 t (rw16 r (Value.loc3Of i)) = V m c main_v235 (prm r i) := fun r =>
    iblk_p m c t _ _ rfl (by show (i 1).val = _ + (i 1).val % 1024; omega)
  rw [hp 0, hp 1, hp 2, hp 3, hp 4, hp 5, hp 6, hp 7, hp 8, hp 9]

end Cert.Ffn1Ideal.KValue

end
-- ==== Proof.Ref1v.lean ====
/- The first reference at one index, in the words of the integer epilogue. -/
module

public import proofs.«01_k».proof.Proof.Core
public import proofs.«01_k».proof.Proof.Gen.Ref1Ideal.Read

@[expose] public section

noncomputable section

namespace Cert.Ref1Ideal.RValue

open Cert.Ref1Ideal Cert.Ref1Ideal.Read Idealize.ShloMosaic

theorem half14 : IntOp.shrsi .host (IntOp.shli .host 1#32 14#32) 1#32 = 8192#32 := by decide

variable (x0 : (⟨S3x2048x7168, .i8⟩ : BufTy).Contents (Elt Ideal)) (x1 : (⟨S_, .f32⟩ : BufTy).Contents (Elt Ideal))
  (x2 : (⟨S7168x18432, .i8⟩ : BufTy).Contents (Elt Ideal)) (x3 : (⟨S18432, .f32⟩ : BufTy).Contents (Elt Ideal))
  (x4 : (⟨S18432, .i32⟩ : BufTy).Contents (Elt Ideal)) (x5 : (⟨S_, .f32⟩ : BufTy).Contents (Elt Ideal))

theorem sitofp_bf16 (b : BitVec 32) : (FloatOps.sitofp .bf16 b : Ideal .bf16) = (((b.toInt : ℤ) : ℝ) : EReal) := rfl

/-- The product of the codes at one index. -/
def dot (i : S6144x18432.Idx) : EReal :=
  ∑ k : Fin 7168, ((((BitVec.toInt (n := 8) (val_main_v0 (F := Ideal) x0 (lidx_main_v7 i k)) : ℤ) : ℝ) : EReal)
    * (((BitVec.toInt (n := 8) (x2 (ridx_main_v7 i k)) : ℤ) : ℝ) : EReal))

theorem v7_eq (i : S6144x18432.Idx) : val_main_v7 (F := Ideal) x0 x2 i = dot x0 x2 i := by
  rw [val_main_v7_apply]
  unfold dot
  refine Finset.sum_congr rfl fun k _ => ?_
  rw [val_main_v4_apply, val_main_v6_apply, val_main_v3_apply, val_main_v5_apply, sitofp_bf16, sitofp_bf16,
    BitVec.toInt_signExtend_of_le (by decide), BitVec.toInt_signExtend_of_le (by decide)]

/-- The accumulator at one index. -/
abbrev qv (i : S6144x18432.Idx) : BitVec 32 :=
  IntOp.addi (FloatOps.fptosi (F := Ideal) (φ := .f32) 32 (dot x0 x2 i)) (val_main_v9 (F := Ideal) x4 (idx_main_v10 i))

/-- The channel of an index. -/
abbrev chan (i : S6144x18432.Idx) : S18432.Idx := idx_main_v176 (idx_main_v10 i)

theorem v11_eq (i : S6144x18432.Idx) : val_main_v11 (F := Ideal) x0 x2 x4 i = qv x0 x2 x4 i := by
  rw [val_main_v11_apply, val_main_v8_apply, v7_eq, val_main_v10_apply]

theorem v183_eq (i : S6144x18432.Idx) : val_main_v183 (F := Ideal) x0 x2 x4 i = Core.sign (val_main_v11 (F := Ideal) x0 x2 x4 i) := rfl

/-- The magnitude brought to the scale of `b`. -/
theorem v171_eq (i : S6144x18432.Idx) :
    val_main_v171 (F := Ideal) x0 x1 x2 x3 x4 i = Core.rShift (IntOp.absi (qv x0 x2 x4 i)) (val_main_v58 (F := Ideal) x1 x3 (chan i)) := by
  unfold Core.rShift
  rw [val_main_v171_apply, val_main_call12_v0_apply, val_main_v159_apply, val_main_v158_apply, val_main_c_62_apply, val_main_v164_apply, val_main_v170_apply,
    val_main_v157_apply, v11_eq, val_main_v163_apply, val_main_v162_apply, val_main_v161_apply, val_main_v160_apply, val_main_c_63_apply,
    val_main_v169_apply, val_main_v168_apply, val_main_v167_apply, val_main_v166_apply, val_main_c_64_apply, val_main_v165_apply,
    show idx_main_call12_v0 i = chan i from rfl, show idx_main_v162 (idx_main_v163 i) = chan i from rfl,
    show idx_main_v168 (idx_main_v169 i) = chan i from rfl]

/-- The bounded magnitude plus `b`. -/
theorem v178_eq (i : S6144x18432.Idx) :
    val_main_v178 (F := Ideal) x0 x1 x2 x3 x4 i
      = IntOp.addi (IntOp.minsi (Core.rShift (IntOp.absi (qv x0 x2 x4 i)) (val_main_v58 (F := Ideal) x1 x3 (chan i))) (-(val_main_v79 (F := Ideal) x1 x3 (chan i))))
          (val_main_v79 (F := Ideal) x1 x3 (chan i)) := by
  rw [val_main_v178_apply, val_main_v175_apply, v171_eq, val_main_v174_apply, val_main_v173_apply, val_main_v172_apply, val_main_v177_apply, val_main_v176_apply,
    show idx_main_v173 (idx_main_v174 i) = chan i from rfl, show idx_main_v176 (idx_main_v177 i) = chan i from rfl]

/-- The product of the accumulator with the polynomial, before requantisation. -/
theorem v191_eq (i : S6144x18432.Idx) :
    val_main_v191 (F := Ideal) x0 x1 x2 x3 x4 i
      = IntOp.muli (qv x0 x2 x4 i) (IntOp.addi (IntOp.shrsi .host (IntOp.muli (Core.sign (qv x0 x2 x4 i))
          (IntOp.addi (IntOp.muli (val_main_v178 (F := Ideal) x0 x1 x2 x3 x4 i) (val_main_v178 (F := Ideal) x0 x1 x2 x3 x4 i)) (val_main_v180 (F := Ideal) x1 x3 (idx_main_v10 i))))
          (val_main_v132 (F := Ideal) x1 x3 (chan i))) (val_main_v188 (F := Ideal) x1 x3 (idx_main_v10 i))) := by
  rw [val_main_v191_apply, val_main_v190_apply, val_main_v187_apply, val_main_v184_apply, v183_eq, v11_eq, val_main_v182_apply, val_main_v179_apply,
    val_main_v181_apply, val_main_v186_apply, val_main_v185_apply, val_main_v189_apply,
    show idx_main_v181 i = idx_main_v10 i from rfl, show idx_main_v185 (idx_main_v186 i) = chan i from rfl, show idx_main_v189 i = idx_main_v10 i from rfl]

/-- The requantised product. -/
theorem v261_eq (i : S6144x18432.Idx) :
    val_main_v261 (F := Ideal) x0 x1 x2 x3 x4 x5 i
      = IntOp.shrsi .host (IntOp.addi (IntOp.muli (IntOp.shrsi .host (IntOp.addi (val_main_v191 (F := Ideal) x0 x1 x2 x3 x4 i) 8192#32) 14#32)
          (val_main_v249 (F := Ideal) x1 x3 x5 (idx_main_v10 i))) (val_main_v256 (F := Ideal) x1 x3 x5 (idx_main_v10 i))) (val_main_v242 (F := Ideal) x1 x3 x5 (chan i)) := by
  rw [val_main_v261_apply, val_main_v258_apply, val_main_v251_apply, val_main_v248_apply, val_main_v246_apply, val_main_v245_apply, val_main_v244_apply,
    val_main_v243_apply, val_main_c_86_apply, val_main_c_87_apply, val_main_c_88_apply, half14, val_main_v247_apply, val_main_c_89_apply,
    val_main_v250_apply, val_main_v257_apply, val_main_v260_apply, val_main_v259_apply,
    show idx_main_v250 i = idx_main_v10 i from rfl, show idx_main_v257 i = idx_main_v10 i from rfl, show idx_main_v259 (idx_main_v260 i) = chan i from rfl]

/-- THE REFERENCE at one index. -/
theorem apply (i : S6144x18432.Idx) :
    val_main_v263 (F := Ideal) x0 x1 x2 x3 x4 x5 i
      = Core.rGelu (qv x0 x2 x4 i) (val_main_v58 (F := Ideal) x1 x3 (chan i)) (val_main_v79 (F := Ideal) x1 x3 (chan i)) (val_main_v180 (F := Ideal) x1 x3 (idx_main_v10 i))
          (val_main_v132 (F := Ideal) x1 x3 (chan i)) (val_main_v188 (F := Ideal) x1 x3 (idx_main_v10 i)) (val_main_v249 (F := Ideal) x1 x3 x5 (idx_main_v10 i))
          (val_main_v256 (F := Ideal) x1 x3 x5 (idx_main_v10 i)) (val_main_v242 (F := Ideal) x1 x3 x5 (chan i)) := by
  unfold Core.rGelu
  dsimp only
  rw [← v178_eq x0 x1 x2 x3 x4 i, ← v191_eq x0 x1 x2 x3 x4 i, ← v261_eq x0 x1 x2 x3 x4 x5 i, val_main_v263_apply, val_main_v262_apply, val_main_call18_v2_apply,
    val_main_call18_v4_apply, val_main_call18_v1_apply, val_main_call18_v3_apply, val_main_call18_v0_apply, val_main_c_92_apply, val_main_c_93_apply]

/-! ## The constant of the polynomial is not positive -/

/-- The constant the reference divides is negative. -/
theorem cst_neg : ∃ c : ℝ, c < 0 ∧ Ideal.ofBits .f32 0xBFE26E98#32 = (c : EReal) := by
  have e1 : ((0xBFE26E98#32).extractLsb' (8 + 23) 1 == 1#1) = true := by decide
  have e2 : ((0xBFE26E98#32).extractLsb' 23 8).toNat = 127 := by decide
  refine ⟨(-1 : ℝ) * (2 ^ 23 + ((0xBFE26E98#32).extractLsb' 0 23).toNat : Nat) * (2 : ℝ) ^ (((127 : Nat) : Int) - (2 ^ (8 - 1) - 1) - (23 : Nat)), ?_, ?_⟩
  · have h1 : (0 : ℝ) < (2 ^ 23 + ((0xBFE26E98#32).extractLsb' 0 23).toNat : Nat) := by exact_mod_cast Nat.add_pos_left (by positivity) _
    have h2 : (0 : ℝ) < (2 : ℝ) ^ (((127 : Nat) : Int) - (2 ^ (8 - 1) - 1) - (23 : Nat)) := by positivity
    nlinarith [mul_pos h1 h2]
  · show Ideal.ieee 8 23 0xBFE26E98#32 = _
    unfold Ideal.ieee
    dsimp only
    rw [e1, e2, if_neg (by decide), if_neg (by decide), if_pos rfl]

/-- The square root of two the reference divides by is positive. -/
theorem cst_pos : ∃ c : ℝ, 0 < c ∧ Ideal.ofBits .f32 0x3FB50481#32 = (c : EReal) := by
  have e1 : ((0x3FB50481#32).extractLsb' (8 + 23) 1 == 1#1) = false := by decide
  have e2 : ((0x3FB50481#32).extractLsb' 23 8).toNat = 127 := by decide
  refine ⟨(1 : ℝ) * (2 ^ 23 + ((0x3FB50481#32).extractLsb' 0 23).toNat : Nat) * (2 : ℝ) ^ (((127 : Nat) : Int) - (2 ^ (8 - 1) - 1) - (23 : Nat)), ?_, ?_⟩
  · have h1 : (0 : ℝ) < (2 ^ 23 + ((0x3FB50481#32).extractLsb' 0 23).toNat : Nat) := by exact_mod_cast Nat.add_pos_left (by positivity) _
    have h2 : (0 : ℝ) < (2 : ℝ) ^ (((127 : Nat) : Int) - (2 ^ (8 - 1) - 1) - (23 : Nat)) := by positivity
    nlinarith [mul_pos h1 h2]
  · show Ideal.ieee 8 23 0x3FB50481#32 = _
    unfold Ideal.ieee
    dsimp only
    rw [e1, e2, if_neg (by decide), if_neg (by decide), if_neg (by decide)]

/-- Where the scale of a channel is not negative, its `b` is not positive. -/
theorem v79_nonpos (p : S18432.Idx) (h : (0 : EReal) ≤ val_main_v2 (F := Ideal) x1 x3 p) : (val_main_v79 (F := Ideal) x1 x3 p).toInt ≤ 0 := by
  obtain ⟨d, hd, ed⟩ := cst_pos
  obtain ⟨c, hc, ec⟩ := cst_neg
  have e13 : val_main_v13 (F := Ideal) x1 x3 p = Ideal.div (val_main_v2 (F := Ideal) x1 x3 p) (d : EReal) := by
    rw [val_main_v13_apply, val_main_v12_apply, val_main_cst_apply, ← ed]; rfl
  have h13 : (0 : EReal) ≤ val_main_v13 (F := Ideal) x1 x3 p := by rw [e13]; exact Core.coe_nonneg_div _ h d hd
  have h66 : (0 : EReal) ≤ val_main_v66 (F := Ideal) x1 x3 p := by
    rw [val_main_v66_apply, val_main_v65_apply, val_main_v64_apply, val_main_v63_apply, val_main_call4_v4_apply, val_main_call4_v3_apply, val_main_call4_v2_apply,
      val_main_call4_v1_apply, val_main_call4_v0_apply]
    exact Core.pow2_nonneg _
  have h74 : (0 : EReal) ≤ val_main_v74 (F := Ideal) x1 x3 p := by
    rw [val_main_v74_apply, val_main_v73_apply, val_main_v72_apply, val_main_v71_apply, val_main_call5_v4_apply, val_main_call5_v3_apply, val_main_call5_v2_apply,
      val_main_call5_v1_apply, val_main_call5_v0_apply]
    exact Core.pow2_nonneg _
  have h75 : (0 : EReal) ≤ val_main_v75 (F := Ideal) x1 x3 p := by
    rw [val_main_v75_apply, val_main_v67_apply]
    exact mul_nonneg (mul_nonneg h13 h66) h74
  have e77 : val_main_v77 (F := Ideal) x1 x3 p = Ideal.div (c : EReal) (val_main_v75 (F := Ideal) x1 x3 p) := by
    rw [val_main_v77_apply, val_main_v76_apply, val_main_cst_28_apply, ← ec]; rfl
  rw [val_main_v79_apply, val_main_v78_apply, e77]
  exact Core.floor_div_nonpos c hc _ h75

end Cert.Ref1Ideal.RValue

end
-- ==== Proof.Cmp1.lean ====
/- The first kernel's result array is the first reference's, where no scale is negative. -/
module

public import proofs.«01_k».proof.Pre_scales_nonnegative
public import proofs.«01_k».proof.Proof.Host1
public import proofs.«01_k».proof.Proof.K1v
public import proofs.«01_k».proof.Proof.Ref1v

@[expose] public section

noncomputable section

namespace Cert.Ffn1Ideal.Cmp

open Cert.Ffn1Ideal Cert.Ffn1Ideal.Gen Cert.Ffn1Ideal.HostVals Cert.Ffn1Ideal.KValue Idealize.ShloMosaic Idealize.ShloMosaic.TcCoe
open Cert.Ref1Ideal.Read (idx_main_v10 idx_main_v176 val_main_v0 val_main_v2 val_main_v9 val_main_v58 val_main_v79 val_main_v132 val_main_v165 val_main_v176
  val_main_v180 val_main_v188 val_main_v242 val_main_v249 val_main_v256 val_main_v263)
open Cert.Ref1Ideal.RValue (chan)

/-! ## The stacked parameters, row by row -/

section Stack

variable (u0 u1 u2 u3 u4 u5 u6 u7 u8 u9 u10 u11 u12 u13 u14 u15 : (⟨S1x18432, .i32⟩ : BufTy).Contents (Elt Ideal)) (i : S6144x18432.Idx)

theorem off_axis (r : Fin 16) (b : Fin S1x18432.rank) (hb : b.cast (rfl : S1x18432.rank = S16x18432.rank) ≠ (0 : Fin S16x18432.rank)) :
    ((idx_main_v10 i : S1x18432.Idx) b).val = ((prm r i) (b.cast rfl)).val := by
  match b, hb with
  | ⟨0, _⟩, hb => exact absurd rfl hb
  | ⟨1, _⟩, _ => rfl

theorem stack_0 : kst_main_v235 (F := Ideal) u0 u1 u2 u3 u4 u5 u6 u7 u8 u9 u10 u11 u12 u13 u14 u15 (prm 0 i) = u0 (idx_main_v10 i) :=
  concatenate_apply_piece (t := S16x18432) 0 _ _ (prm 0 i) 0 (by simp) S1x18432 u0 rfl rfl 0 rfl (idx_main_v10 i) (off_axis i 0) rfl
theorem stack_1 : kst_main_v235 (F := Ideal) u0 u1 u2 u3 u4 u5 u6 u7 u8 u9 u10 u11 u12 u13 u14 u15 (prm 1 i) = u1 (idx_main_v10 i) :=
  concatenate_apply_piece (t := S16x18432) 0 _ _ (prm 1 i) 1 (by simp) S1x18432 u1 rfl rfl 1 rfl (idx_main_v10 i) (off_axis i 1) rfl
theorem stack_2 : kst_main_v235 (F := Ideal) u0 u1 u2 u3 u4 u5 u6 u7 u8 u9 u10 u11 u12 u13 u14 u15 (prm 2 i) = u2 (idx_main_v10 i) :=
  concatenate_apply_piece (t := S16x18432) 0 _ _ (prm 2 i) 2 (by simp) S1x18432 u2 rfl rfl 2 rfl (idx_main_v10 i) (off_axis i 2) rfl
theorem stack_3 : kst_main_v235 (F := Ideal) u0 u1 u2 u3 u4 u5 u6 u7 u8 u9 u10 u11 u12 u13 u14 u15 (prm 3 i) = u3 (idx_main_v10 i) :=
  concatenate_apply_piece (t := S16x18432) 0 _ _ (prm 3 i) 3 (by simp) S1x18432 u3 rfl rfl 3 rfl (idx_main_v10 i) (off_axis i 3) rfl
theorem stack_4 : kst_main_v235 (F := Ideal) u0 u1 u2 u3 u4 u5 u6 u7 u8 u9 u10 u11 u12 u13 u14 u15 (prm 4 i) = u4 (idx_main_v10 i) :=
  concatenate_apply_piece (t := S16x18432) 0 _ _ (prm 4 i) 4 (by simp) S1x18432 u4 rfl rfl 4 rfl (idx_main_v10 i) (off_axis i 4) rfl
theorem stack_5 : kst_main_v235 (F := Ideal) u0 u1 u2 u3 u4 u5 u6 u7 u8 u9 u10 u11 u12 u13 u14 u15 (prm 5 i) = u5 (idx_main_v10 i) :=
  concatenate_apply_piece (t := S16x18432) 0 _ _ (prm 5 i) 5 (by simp) S1x18432 u5 rfl rfl 5 rfl (idx_main_v10 i) (off_axis i 5) rfl
theorem stack_6 : kst_main_v235 (F := Ideal) u0 u1 u2 u3 u4 u5 u6 u7 u8 u9 u10 u11 u12 u13 u14 u15 (prm 6 i) = u6 (idx_main_v10 i) :=
  concatenate_apply_piece (t := S16x18432) 0 _ _ (prm 6 i) 6 (by simp) S1x18432 u6 rfl rfl 6 rfl (idx_main_v10 i) (off_axis i 6) rfl
theorem stack_7 : kst_main_v235 (F := Ideal) u0 u1 u2 u3 u4 u5 u6 u7 u8 u9 u10 u11 u12 u13 u14 u15 (prm 7 i) = u7 (idx_main_v10 i) :=
  concatenate_apply_piece (t := S16x18432) 0 _ _ (prm 7 i) 7 (by simp) S1x18432 u7 rfl rfl 7 rfl (idx_main_v10 i) (off_axis i 7) rfl
theorem stack_8 : kst_main_v235 (F := Ideal) u0 u1 u2 u3 u4 u5 u6 u7 u8 u9 u10 u11 u12 u13 u14 u15 (prm 8 i) = u8 (idx_main_v10 i) :=
  concatenate_apply_piece (t := S16x18432) 0 _ _ (prm 8 i) 8 (by simp) S1x18432 u8 rfl rfl 8 rfl (idx_main_v10 i) (off_axis i 8) rfl
theorem stack_9 : kst_main_v235 (F := Ideal) u0 u1 u2 u3 u4 u5 u6 u7 u8 u9 u10 u11 u12 u13 u14 u15 (prm 9 i) = u9 (idx_main_v10 i) :=
  concatenate_apply_piece (t := S16x18432) 0 _ _ (prm 9 i) 9 (by simp) S1x18432 u9 rfl rfl 9 rfl (idx_main_v10 i) (off_axis i 9) rfl

end Stack

/-- A row made of one value per channel, at an index. -/
theorem row_chan (x : IVec S18432 32) (i : S6144x18432.Idx) :
    broadcastInDim S1x18432 ![1] bcast_S18432_S1x18432_1 x (idx_main_v10 i) = x (chan i) :=
  broadcastInDim_apply ![1] bcast_S18432_S1x18432_1 x (idx_main_v10 i) (chan i) (fun a => match a with | ⟨0, _⟩ => rfl)

section Rows

variable (x1 : (⟨S_, .f32⟩ : BufTy).Contents (Elt Ideal)) (x3 : (⟨S18432, .f32⟩ : BufTy).Contents (Elt Ideal)) (x5 : (⟨S_, .f32⟩ : BufTy).Contents (Elt Ideal)) (i : S6144x18432.Idx)

/-- The kernel's right shift of a channel. -/
theorem v220_eq : kv_main_v220 (F := Ideal) x1 x3 (idx_main_v10 i) = IntOp.minsi 31#32 (IntOp.maxsi 0#32 (val_main_v58 (F := Ideal) x1 x3 (chan i))) := by
  unfold kv_main_v220
  rw [row_chan]
  unfold kv_main_v148 kv_main_call12_v2 kv_main_call12_v4 kv_main_call12_v3 kv_main_c_63
  generalize val_main_v58 (F := Ideal) x1 x3 = y
  rfl

/-- The kernel's left shift of a channel. -/
theorem v221_eq : kv_main_v221 (F := Ideal) x1 x3 (idx_main_v10 i) = IntOp.minsi 31#32 (IntOp.maxsi 0#32 (-(val_main_v58 (F := Ideal) x1 x3 (chan i)))) := by
  unfold kv_main_v221
  rw [row_chan]
  unfold kv_main_v150 kv_main_call13_v2 kv_main_call13_v4 kv_main_call13_v3 kv_main_c_65 val_main_v165
  generalize val_main_v58 (F := Ideal) x1 x3 = y
  rfl

/-- The kernel's guarded shift of the polynomial. -/
theorem v224_eq : kv_main_v224 (F := Ideal) x1 x3 (idx_main_v10 i) = Core.amount (val_main_v132 (F := Ideal) x1 x3 (chan i)) := by
  unfold kv_main_v224
  rw [row_chan]
  unfold kv_main_v156 kv_main_v155 kv_main_v154 kv_main_v153 kv_main_v152
  generalize val_main_v132 (F := Ideal) x1 x3 = y
  rfl

/-- The kernel's guarded shift of the requantisation. -/
theorem v228_eq : kv_main_v228 (F := Ideal) x1 x3 x5 (idx_main_v10 i) = Core.amount (val_main_v242 (F := Ideal) x1 x3 x5 (chan i)) := by
  unfold kv_main_v228
  rw [row_chan]
  unfold kv_main_v217 kv_main_v216 kv_main_v215 kv_main_v214 kv_main_v213
  generalize val_main_v242 (F := Ideal) x1 x3 x5 = y
  rfl

end Rows

/-! ## The result -/

variable (m : (ℓ : Loc nD τ sig) → Buf (Elt Ideal) ℓ)

/-- What argument `b` holds at launch. -/
abbrev A (c : Dev nD) (b : Ref sig .tc) := m (c, Proc.devRef .tc b)

theorem V_v0 (c : Dev nD) : V m c main_v0 = val_main_v0 (F := Ideal) (A m c main_arg0) := (V_eq m c main_v0).trans (W42_main_v0 _)
theorem V_arg2 (c : Dev nD) : V m c main_arg2 = A m c main_arg2 := V_main_arg2 m c
theorem V_v235 (c : Dev nD) : V m c main_v235 = kv_main_v235 (F := Ideal) (A m c main_arg1) (A m c main_arg3) (A m c main_arg4) (A m c main_arg5) :=
  (V_eq m c main_v235).trans (W42_main_v235 _)

/-- The accumulated product is the reference's. -/
theorem acc_eq (c : Dev nD) (i : S6144x18432.Idx) : KValue.acc m c i = Cert.Ref1Ideal.RValue.dot (A m c main_arg0) (A m c main_arg2) i := by
  unfold KValue.acc Cert.Ref1Ideal.RValue.dot
  rw [Finset.sum_range]
  refine Finset.sum_congr rfl fun k _ => ?_
  unfold term
  rw [dif_pos ⟨(i 0).isLt, k.isLt, (i 1).isLt⟩, V_v0, V_arg2]
  generalize val_main_v0 (F := Ideal) (A m c main_arg0) = y
  rfl

/-- Rounding the product to an integer leaves it. -/
theorem round_eq (x0 : (⟨S3x2048x7168, .i8⟩ : BufTy).Contents (Elt Ideal)) (x2 : (⟨S7168x18432, .i8⟩ : BufTy).Contents (Elt Ideal)) (i : S6144x18432.Idx) :
    FloatOps.roundeven (F := Ideal) (φ := .f32) (Cert.Ref1Ideal.RValue.dot x0 x2 i) = Cert.Ref1Ideal.RValue.dot x0 x2 i := by
  unfold Cert.Ref1Ideal.RValue.dot
  rw [Core.sum_mul_coe]
  exact Core.roundHalfEven_int _

/-- THE RESULT ARRAY of the kernel is the reference's, where no channel's scale is negative. -/
theorem G3_eq (c : Dev nD) (hs : ∀ p, (0 : EReal) ≤ val_main_v2 (F := Ideal) (A m c main_arg1) (A m c main_arg3) p) :
    Value.G3 m c = val_main_v263 (F := Ideal) (A m c main_arg0) (A m c main_arg1) (A m c main_arg2) (A m c main_arg3) (A m c main_arg4) (A m c main_arg5) := by
  funext i
  rw [G3_apply, acc_eq, round_eq, V_v235, Cert.Ref1Ideal.RValue.apply]
  unfold kv_main_v235
  rw [stack_0, stack_1, stack_2, stack_3, stack_4, stack_5, stack_6, stack_7, stack_8, stack_9, v220_eq, v221_eq, v224_eq, v228_eq,
    Cert.Ref1Ideal.Read.val_main_v176_apply]
  exact Core.kGelu_eq _ _ _ _ _ _ _ _ _ (Cert.Ref1Ideal.RValue.v79_nonpos _ _ _ (hs _))

/-- What the precondition says of a channel's scale. -/
theorem scale_nonneg [Cert.Pre_scales_nonnegative.Facts] (x0 : (⟨S3x2048x7168, .i8⟩ : BufTy).Contents (Elt Ideal)) (x1 : (⟨S_, .f32⟩ : BufTy).Contents (Elt Ideal))
    (x2 : (⟨S7168x18432, .i8⟩ : BufTy).Contents (Elt Ideal)) (x3 : (⟨S18432, .f32⟩ : BufTy).Contents (Elt Ideal))
    (x4 : (⟨S18432, .i32⟩ : BufTy).Contents (Elt Ideal)) (x5 : (⟨S_, .f32⟩ : BufTy).Contents (Elt Ideal))
    (h : Cert.Pre_scales_nonnegative.fn (F := Ideal) x0 x1 x2 x3 x4 x5 = fun _ => 1#1) (p : S18432.Idx) :
    (0 : EReal) ≤ val_main_v2 (F := Ideal) x1 x3 p := by
  have hp : FloatOps.cmpf (F := Ideal) (φ := .f32) .oge (val_main_v2 (F := Ideal) x1 x3 p) (Ideal.ofBits .f32 0#32) = 1#1 := congrFun h p
  rw [Ideal.ofBits_zero_f32] at hp
  by_contra hn
  rw [show FloatOps.cmpf (F := Ideal) (φ := .f32) .oge (val_main_v2 (F := Ideal) x1 x3 p) 0
      = BitVec.ofBool (decide ((0 : EReal) ≤ val_main_v2 (F := Ideal) x1 x3 p)) from rfl, decide_eq_false hn] at hp
  exact absurd hp (by decide)

end Cert.Ffn1Ideal.Cmp

end
-- ==== Proof.Host2.lean ====
/- The host operations before the call of `Ffn2Ideal`, read: each buffer the call takes, as a function of the arguments. -/
module

public import proofs.«01_k».proof.Proof.Gen.Ffn2Ideal.Frame.Runs
public import proofs.«01_k».proof.Proof.Gen.Ref2Ideal.Read

@[expose] public section

noncomputable section

namespace Cert.Ffn2Ideal.HostVals

open Cert.Ffn2Ideal Cert.Ffn2Ideal.Gen Idealize.ShloMosaic Idealize.ShloMosaic.TcCoe Idealize.SL.Sem Idealize.ShloMosaic.StableHlo

variable {F : FTy → Type} [FloatOps F]

/-- The buffer `main_v58` as a function of the arguments. -/
def kv_main_v58 : (⟨S7168, .i32⟩ : BufTy).Contents (Elt F) :=
  (broadcastInDim S7168 ![] bcast_S_S7168) (Cert.Ref2Ideal.Read.val_main_c_1 (F := F))

/-- The buffer `main_v59` as a function of the arguments. -/
def kv_main_v59 (x3 : (⟨S_, .f32⟩ : BufTy).Contents (Elt F)) (x5 : (⟨S7168, .f32⟩ : BufTy).Contents (Elt F)) (x7 : (⟨S_, .f32⟩ : BufTy).Contents (Elt F)) : (⟨S7168, .i1⟩ : BufTy).Contents (Elt F) :=
  (cmpi .slt) (Cert.Ref2Ideal.Read.val_main_v62 (F := F) x3 x5 x7) (kv_main_v58 (F := F))

/-- The buffer `main_c_22` as a function of the arguments. -/
def kv_main_c_22 : (⟨S_, .i32⟩ : BufTy).Contents (Elt F) :=
  constantI S_ 32 31#32

/-- The buffer `main_v60` as a function of the arguments. -/
def kv_main_v60 : (⟨S7168, .i32⟩ : BufTy).Contents (Elt F) :=
  (broadcastInDim S7168 ![] bcast_S_S7168) (kv_main_c_22 (F := F))

/-- The buffer `main_v61` as a function of the arguments. -/
def kv_main_v61 (x3 : (⟨S_, .f32⟩ : BufTy).Contents (Elt F)) (x5 : (⟨S7168, .f32⟩ : BufTy).Contents (Elt F)) (x7 : (⟨S_, .f32⟩ : BufTy).Contents (Elt F)) : (⟨S7168, .i1⟩ : BufTy).Contents (Elt F) :=
  (cmpi .sgt) (Cert.Ref2Ideal.Read.val_main_v62 (F := F) x3 x5 x7) (kv_main_v60 (F := F))

/-- The buffer `main_v62` as a function of the arguments. -/
def kv_main_v62 (x3 : (⟨S_, .f32⟩ : BufTy).Contents (Elt F)) (x5 : (⟨S7168, .f32⟩ : BufTy).Contents (Elt F)) (x7 : (⟨S_, .f32⟩ : BufTy).Contents (Elt F)) : (⟨S7168, .i1⟩ : BufTy).Contents (Elt F) :=
  ori (kv_main_v59 (F := F) x3 x5 x7) (kv_main_v61 (F := F) x3 x5 x7)

/-- The buffer `main_c_23` as a function of the arguments. -/
def kv_main_c_23 : (⟨S_, .i32⟩ : BufTy).Contents (Elt F) :=
  constantI S_ 32 31#32

/-- The buffer `main_call5_v0` as a function of the arguments. -/
def kv_main_call5_v0 : (⟨S_, .i32⟩ : BufTy).Contents (Elt F) :=
  id (kv_main_c_23 (F := F))

/-- The buffer `main_call5_v1` as a function of the arguments. -/
def kv_main_call5_v1 : (⟨S7168, .i32⟩ : BufTy).Contents (Elt F) :=
  (broadcastInDim S7168 ![] bcast_S_S7168) (kv_main_call5_v0 (F := F))

/-- The buffer `main_v63` as a function of the arguments. -/
def kv_main_v63 (x3 : (⟨S_, .f32⟩ : BufTy).Contents (Elt F)) (x5 : (⟨S7168, .f32⟩ : BufTy).Contents (Elt F)) (x7 : (⟨S_, .f32⟩ : BufTy).Contents (Elt F)) : (⟨S7168, .i32⟩ : BufTy).Contents (Elt F) :=
  select (kv_main_v62 (F := F) x3 x5 x7) (kv_main_call5_v1 (F := F)) (Cert.Ref2Ideal.Read.val_main_v62 (F := F) x3 x5 x7)

/-- The buffer `main_v64` as a function of the arguments. -/
def kv_main_v64 : (⟨S7168, .i32⟩ : BufTy).Contents (Elt F) :=
  (broadcastInDim S7168 ![] bcast_S_S7168) (Cert.Ref2Ideal.Read.val_main_c_1 (F := F))

/-- The buffer `main_v68` as a function of the arguments. -/
def kv_main_v68 (x3 : (⟨S_, .f32⟩ : BufTy).Contents (Elt F)) (x5 : (⟨S7168, .f32⟩ : BufTy).Contents (Elt F)) (x7 : (⟨S_, .f32⟩ : BufTy).Contents (Elt F)) : (⟨S1x7168, .i32⟩ : BufTy).Contents (Elt F) :=
  (broadcastInDim S1x7168 ![1] bcast_S7168_S1x7168_1) (kv_main_v63 (F := F) x3 x5 x7)

/-- The buffer `main_v69` as a function of the arguments. -/
def kv_main_v69 : (⟨S1x7168, .i32⟩ : BufTy).Contents (Elt F) :=
  (broadcastInDim S1x7168 ![1] bcast_S7168_S1x7168_1) (kv_main_v64 (F := F))

/-- The buffer `main_v70` as a function of the arguments. -/
def kv_main_v70 : (⟨S1x7168, .i32⟩ : BufTy).Contents (Elt F) :=
  (broadcastInDim S1x7168 ![1] bcast_S7168_S1x7168_1) (kv_main_v64 (F := F))

/-- The buffer `main_v71` as a function of the arguments. -/
def kv_main_v71 : (⟨S1x7168, .i32⟩ : BufTy).Contents (Elt F) :=
  (broadcastInDim S1x7168 ![1] bcast_S7168_S1x7168_1) (kv_main_v64 (F := F))

/-- The buffer `main_v72` as a function of the arguments. -/
def kv_main_v72 : (⟨S1x7168, .i32⟩ : BufTy).Contents (Elt F) :=
  (broadcastInDim S1x7168 ![1] bcast_S7168_S1x7168_1) (kv_main_v64 (F := F))

/-- The rows of `main_v73`, one under the other. -/
def kst_main_v73 (u0 : (⟨S1x7168, .i32⟩ : BufTy).Contents (Elt F)) (u1 : (⟨S1x7168, .i32⟩ : BufTy).Contents (Elt F)) (u2 : (⟨S1x7168, .i32⟩ : BufTy).Contents (Elt F)) (u3 : (⟨S1x7168, .i32⟩ : BufTy).Contents (Elt F)) (u4 : (⟨S1x7168, .i32⟩ : BufTy).Contents (Elt F)) (u5 : (⟨S1x7168, .i32⟩ : BufTy).Contents (Elt F)) (u6 : (⟨S1x7168, .i32⟩ : BufTy).Contents (Elt F)) (u7 : (⟨S1x7168, .i32⟩ : BufTy).Contents (Elt F)) : (⟨S8x7168, .i32⟩ : BufTy).Contents (Elt F) :=
  concatenate S8x7168 0 [⟨S1x7168, u0⟩, ⟨S1x7168, u1⟩, ⟨S1x7168, u2⟩, ⟨S1x7168, u3⟩, ⟨S1x7168, u4⟩, ⟨S1x7168, u5⟩, ⟨S1x7168, u6⟩, ⟨S1x7168, u7⟩] concatenates_S1x7168_S1x7168_S1x7168_S1x7168_S1x7168_S1x7168_S1x7168_S1x7168_S8x7168_d0

/-- The buffer `main_v73` as a function of the arguments. -/
def kv_main_v73 (x3 : (⟨S_, .f32⟩ : BufTy).Contents (Elt F)) (x5 : (⟨S7168, .f32⟩ : BufTy).Contents (Elt F)) (x6 : (⟨S7168, .i32⟩ : BufTy).Contents (Elt F)) (x7 : (⟨S_, .f32⟩ : BufTy).Contents (Elt F)) : (⟨S8x7168, .i32⟩ : BufTy).Contents (Elt F) :=
  kst_main_v73 (F := F) (Cert.Ref2Ideal.Read.val_main_v7 (F := F) x6) (Cert.Ref2Ideal.Read.val_main_v69 (F := F) x3 x5 x7) (Cert.Ref2Ideal.Read.val_main_v76 (F := F) x3 x5 x7) (kv_main_v68 (F := F) x3 x5 x7) (kv_main_v69 (F := F)) (kv_main_v70 (F := F)) (kv_main_v71 (F := F)) (kv_main_v72 (F := F))

/-- The buffer `main_v114` as a function of the arguments. -/
def kv_main_v114 (x1 : (⟨S_, .f32⟩ : BufTy).Contents (Elt F)) (x7 : (⟨S_, .f32⟩ : BufTy).Contents (Elt F)) : (⟨S_, .i1⟩ : BufTy).Contents (Elt F) :=
  (cmpi .slt) (Cert.Ref2Ideal.Read.val_main_v122 (F := F) x1 x7) (Cert.Ref2Ideal.Read.val_main_c_1 (F := F))

/-- The buffer `main_c_49` as a function of the arguments. -/
def kv_main_c_49 : (⟨S_, .i32⟩ : BufTy).Contents (Elt F) :=
  constantI S_ 32 31#32

/-- The buffer `main_v115` as a function of the arguments. -/
def kv_main_v115 (x1 : (⟨S_, .f32⟩ : BufTy).Contents (Elt F)) (x7 : (⟨S_, .f32⟩ : BufTy).Contents (Elt F)) : (⟨S_, .i1⟩ : BufTy).Contents (Elt F) :=
  (cmpi .sgt) (Cert.Ref2Ideal.Read.val_main_v122 (F := F) x1 x7) (kv_main_c_49 (F := F))

/-- The buffer `main_v116` as a function of the arguments. -/
def kv_main_v116 (x1 : (⟨S_, .f32⟩ : BufTy).Contents (Elt F)) (x7 : (⟨S_, .f32⟩ : BufTy).Contents (Elt F)) : (⟨S_, .i1⟩ : BufTy).Contents (Elt F) :=
  ori (kv_main_v114 (F := F) x1 x7) (kv_main_v115 (F := F) x1 x7)

/-- The buffer `main_c_50` as a function of the arguments. -/
def kv_main_c_50 : (⟨S_, .i32⟩ : BufTy).Contents (Elt F) :=
  constantI S_ 32 31#32

/-- The buffer `main_call11_v0` as a function of the arguments. -/
def kv_main_call11_v0 : (⟨S_, .i32⟩ : BufTy).Contents (Elt F) :=
  id (kv_main_c_50 (F := F))

/-- The buffer `main_v117` as a function of the arguments. -/
def kv_main_v117 (x1 : (⟨S_, .f32⟩ : BufTy).Contents (Elt F)) (x7 : (⟨S_, .f32⟩ : BufTy).Contents (Elt F)) : (⟨S_, .i32⟩ : BufTy).Contents (Elt F) :=
  select (kv_main_v116 (F := F) x1 x7) (kv_main_call11_v0 (F := F)) (Cert.Ref2Ideal.Read.val_main_v122 (F := F) x1 x7)

/-- The buffer `main_v118` as a function of the arguments. -/
def kv_main_v118 (x1 : (⟨S_, .f32⟩ : BufTy).Contents (Elt F)) (x7 : (⟨S_, .f32⟩ : BufTy).Contents (Elt F)) : (⟨S1, .i32⟩ : BufTy).Contents (Elt F) :=
  (broadcastInDim S1 ![] bcast_S_S1) (Cert.Ref2Ideal.Read.val_main_v121 (F := F) x1 x7)

/-- The buffer `main_v119` as a function of the arguments. -/
def kv_main_v119 (x1 : (⟨S_, .f32⟩ : BufTy).Contents (Elt F)) (x7 : (⟨S_, .f32⟩ : BufTy).Contents (Elt F)) : (⟨S1, .i32⟩ : BufTy).Contents (Elt F) :=
  (broadcastInDim S1 ![] bcast_S_S1) (Cert.Ref2Ideal.Read.val_main_v132 (F := F) x1 x7)

/-- The buffer `main_v120` as a function of the arguments. -/
def kv_main_v120 (x1 : (⟨S_, .f32⟩ : BufTy).Contents (Elt F)) (x7 : (⟨S_, .f32⟩ : BufTy).Contents (Elt F)) : (⟨S1, .i32⟩ : BufTy).Contents (Elt F) :=
  (broadcastInDim S1 ![] bcast_S_S1) (kv_main_v117 (F := F) x1 x7)

/-- The rows of `main_v121`, one under the other. -/
def kst_main_v121 (u0 : (⟨S1, .i32⟩ : BufTy).Contents (Elt F)) (u1 : (⟨S1, .i32⟩ : BufTy).Contents (Elt F)) (u2 : (⟨S1, .i32⟩ : BufTy).Contents (Elt F)) : (⟨S3, .i32⟩ : BufTy).Contents (Elt F) :=
  concatenate S3 0 [⟨S1, u0⟩, ⟨S1, u1⟩, ⟨S1, u2⟩] concatenates_S1_S1_S1_S3_d0

/-- The buffer `main_v121` as a function of the arguments. -/
def kv_main_v121 (x1 : (⟨S_, .f32⟩ : BufTy).Contents (Elt F)) (x7 : (⟨S_, .f32⟩ : BufTy).Contents (Elt F)) : (⟨S3, .i32⟩ : BufTy).Contents (Elt F) :=
  kst_main_v121 (F := F) (kv_main_v118 (F := F) x1 x7) (kv_main_v119 (F := F) x1 x7) (kv_main_v120 (F := F) x1 x7)

/-- The contents of the buffers after the host operations up to `hostOps0`. -/
def W0 (V0 : Valuation τ sig (Elt F)) : Valuation τ sig (Elt F) := after hostOps0 V0

/-- The buffers `hostOps0` writes. -/
abbrev W0_W : List (Ref sig .tc) := [main_v0, main_v1, main_v2, main_v3, main_v4, main_v5, main_v6, main_c, main_v7, main_v8, main_c_0, main_v9, main_v10, main_c_1, main_c_2]

theorem W0_writes : (hostOps0 : List (HloOp τ sig (Elt F))).Forall fun op => op.writes ⊆ ((W0_W).map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W0_keep (V0 : Valuation τ sig (Elt F)) (r : Ref sig .tc) (h : r ∉ W0_W) :
    W0 V0 (Proc.devRef .tc r) = V0 (Proc.devRef .tc r) :=
  after_of_writes_sub hostOps0 _ W0_writes h

theorem W0_main_arg1 (V0 : Valuation τ sig (Elt F)) : W0 V0 (no_index (Proc.devRef .tc main_arg1)) = V0 (Proc.devRef .tc main_arg1) :=
  W0_keep V0 main_arg1 (by decide)

theorem W0_main_arg6 (V0 : Valuation τ sig (Elt F)) : W0 V0 (no_index (Proc.devRef .tc main_arg6)) = V0 (Proc.devRef .tc main_arg6) :=
  W0_keep V0 main_arg6 (by decide)

theorem W0_main_arg7 (V0 : Valuation τ sig (Elt F)) : W0 V0 (no_index (Proc.devRef .tc main_arg7)) = V0 (Proc.devRef .tc main_arg7) :=
  W0_keep V0 main_arg7 (by decide)

set_option maxRecDepth 8192 in
set_option maxHeartbeats 1200000 in
theorem W0_main_v0 (V0 : Valuation τ sig (Elt F)) : W0 V0 (no_index (Proc.devRef .tc main_v0)) = (Cert.Ref2Ideal.Read.val_main_v0 (F := F) (V0 (Proc.devRef .tc main_arg0))) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_v4 (V0 : Valuation τ sig (Elt F)) : W0 V0 (no_index (Proc.devRef .tc main_v4)) = (Cert.Ref2Ideal.Read.val_main_v13 (F := F) (V0 (Proc.devRef .tc main_arg3)) (V0 (Proc.devRef .tc main_arg5)) (V0 (Proc.devRef .tc main_arg7))) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_v5 (V0 : Valuation τ sig (Elt F)) : W0 V0 (no_index (Proc.devRef .tc main_v5)) = (Cert.Ref2Ideal.Read.val_main_v14 (F := F) (V0 (Proc.devRef .tc main_arg3)) (V0 (Proc.devRef .tc main_arg5)) (V0 (Proc.devRef .tc main_arg7))) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_v10 (V0 : Valuation τ sig (Elt F)) : W0 V0 (no_index (Proc.devRef .tc main_v10)) = (Cert.Ref2Ideal.Read.val_main_v19 (F := F)) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_c_1 (V0 : Valuation τ sig (Elt F)) : W0 V0 (no_index (Proc.devRef .tc main_c_1)) = (Cert.Ref2Ideal.Read.val_main_c_1 (F := F)) := by
  unfold W0
  simp only [hostOps0, TRef.nullary, TRef.ternary, TRef.binary, TRef.unary, TRef.toBuf, TRef.ofBuf, cast_eq]
  after_results_simp
  all_goals rfl

set_option maxRecDepth 8192 in
set_option maxHeartbeats 1200000 in
theorem W0_main_c_2 (V0 : Valuation τ sig (Elt F)) : W0 V0 (no_index (Proc.devRef .tc main_c_2)) = (Cert.Ref2Ideal.Read.val_main_c_2 (F := F)) := by
  unfold W0
  simp only [hostOps0, TRef.nullary, TRef.ternary, TRef.binary, TRef.unary, TRef.toBuf, TRef.ofBuf, cast_eq]
  after_results_simp
  all_goals rfl

/-- The contents of the buffers after the host operations up to `hostOps0_1`. -/
def W1 (V0 : Valuation τ sig (Elt F)) : Valuation τ sig (Elt F) := after hostOps0_1 (W0 V0)

/-- The buffers `hostOps0_1` writes. -/
abbrev W1_W : List (Ref sig .tc) := [main_call0_v0, main_call0_v1, main_call0_v2, main_call0_v3, main_call0_v4, main_v11]

theorem W1_writes : (hostOps0_1 : List (HloOp τ sig (Elt F))).Forall fun op => op.writes ⊆ ((W1_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W1_keep (V0 : Valuation τ sig (Elt F)) (r : Ref sig .tc) (h : r ∉ W1_W) :
    W1 V0 (Proc.devRef .tc r) = (W0 V0) (Proc.devRef .tc r) :=
  after_of_writes_sub hostOps0_1 _ W1_writes h

theorem W1_main_arg1 (V0 : Valuation τ sig (Elt F)) : W1 V0 (no_index (Proc.devRef .tc main_arg1)) = V0 (Proc.devRef .tc main_arg1) :=
  (W1_keep V0 main_arg1 (by decide)).trans (W0_main_arg1 V0)

theorem W1_main_arg6 (V0 : Valuation τ sig (Elt F)) : W1 V0 (no_index (Proc.devRef .tc main_arg6)) = V0 (Proc.devRef .tc main_arg6) :=
  (W1_keep V0 main_arg6 (by decide)).trans (W0_main_arg6 V0)

theorem W1_main_arg7 (V0 : Valuation τ sig (Elt F)) : W1 V0 (no_index (Proc.devRef .tc main_arg7)) = V0 (Proc.devRef .tc main_arg7) :=
  (W1_keep V0 main_arg7 (by decide)).trans (W0_main_arg7 V0)

theorem W1_main_v0 (V0 : Valuation τ sig (Elt F)) : W1 V0 (no_index (Proc.devRef .tc main_v0)) = (Cert.Ref2Ideal.Read.val_main_v0 (F := F) (V0 (Proc.devRef .tc main_arg0))) :=
  (W1_keep V0 main_v0 (by decide)).trans (W0_main_v0 V0)

theorem W1_main_v4 (V0 : Valuation τ sig (Elt F)) : W1 V0 (no_index (Proc.devRef .tc main_v4)) = (Cert.Ref2Ideal.Read.val_main_v13 (F := F) (V0 (Proc.devRef .tc main_arg3)) (V0 (Proc.devRef .tc main_arg5)) (V0 (Proc.devRef .tc main_arg7))) :=
  (W1_keep V0 main_v4 (by decide)).trans (W0_main_v4 V0)

theorem W1_main_v5 (V0 : Valuation τ sig (Elt F)) : W1 V0 (no_index (Proc.devRef .tc main_v5)) = (Cert.Ref2Ideal.Read.val_main_v14 (F := F) (V0 (Proc.devRef .tc main_arg3)) (V0 (Proc.devRef .tc main_arg5)) (V0 (Proc.devRef .tc main_arg7))) :=
  (W1_keep V0 main_v5 (by decide)).trans (W0_main_v5 V0)

set_option maxRecDepth 8192 in
set_option maxHeartbeats 1200000 in
theorem W1_main_v11 (V0 : Valuation τ sig (Elt F)) : W1 V0 (no_index (Proc.devRef .tc main_v11)) = (Cert.Ref2Ideal.Read.val_main_v20 (F := F)) := by
  unfold W1
  simp only [hostOps0_1, TRef.nullary, TRef.ternary, TRef.binary, TRef.unary, TRef.toBuf, TRef.ofBuf, cast_eq]
  after_results_simp
  simp only [W0_main_c_1, W0_main_c_2, W0_main_v10] <;> rfl

/-- The contents of the buffers after the host operations up to `hostOps0_2`. -/
def W2 (V0 : Valuation τ sig (Elt F)) : Valuation τ sig (Elt F) := after hostOps0_2 (W1 V0)

/-- The buffers `hostOps0_2` writes. -/
abbrev W2_W : List (Ref sig .tc) := [main_c_3, main_v12, main_v13, main_v14, main_v15, main_v16, main_v17, main_v18, main_v19, main_v20, main_c_4, main_v21, main_c_5, main_v22, main_v23, main_cst, main_v24, main_v25, main_cst_6, main_v26, main_v27, main_v28, main_c_7]

theorem W2_writes : (hostOps0_2 : List (HloOp τ sig (Elt F))).Forall fun op => op.writes ⊆ ((W2_W).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W2_keep (V0 : Valuation τ sig (Elt F)) (r : Ref sig .tc) (h : r ∉ W2_W) :
    W2 V0 (Proc.devRef .tc r) = (W1 V0) (Proc.devRef .tc r) :=
  after_of_writes_sub hostOps0_2 _ W2_writes h

theorem W2_main_arg1 (V0 : Valuation τ sig (Elt F)) : W2 V0 (no_index (Proc.devRef .tc main_arg1)) = V0 (Proc.devRef .tc main_arg1) :=
  (W2_keep V0 main_arg1 (by decide)).trans (W1_main_arg1 V0)

theorem W2_main_arg6 (V0 : Valuation τ sig (Elt F)) : W2 V0 (no_index (Proc.devRef .tc main_arg6)) = V0 (Proc.devRef .tc main_arg6) :=
  (W2_keep V0 main_arg6 (by decide)).trans (W1_main_arg6 V0)

theorem W2_main_arg7 (V0 : Valuation τ sig (Elt F)) : W2 V0 (no_index (Proc.devRef .tc main_arg7)) = V0 (Proc.devRef .tc main_arg7) :=
  (W2_keep V0 main_arg7 (by decide)).trans (W1_main_arg7 V0)

theorem W2_main_v0 (V0 : Valuation τ sig (Elt F)) : W2 V0 (no_index (Proc.devRef .tc main_v0)) = (Cert.Ref2Ideal.Read.val_main_v0 (F := F) (V0 (Proc.devRef .tc main_arg0))) :=
  (W2_keep V0 main_v0 (by decide)).trans (W1_main_v0 V0)

theorem W2_main_v4 (V0 : Valuation τ sig (Elt F)) : W2 V0 (no_index (Proc.devRef .tc main_v4)) = (Cert.Ref2Ideal.Read.val_main_v13 (F := F) (V0 (Proc.devRef .tc main_arg3)) (V0 (Proc.devRef .tc main_arg5)) (V0 (Proc.devRef .tc main_arg7))) :=
  (W2_keep V0 main_v4 (by decide)).trans (W1_main_v4 V0)

set_option maxRecDepth 8192 in
set_option maxHeartbeats 1200000 in
theorem W2_main_v23 (V0 : Valuation τ sig (Elt F)) : W2 V0 (no_index (Proc.devRef .tc main_v23)) = (Cert.Ref2Ideal.Read.val_main_v32 (F := F) (V0 (Proc.devRef .tc main_arg3)) (V0 (Proc.devRef .tc main_arg5)) (V0 (Proc.devRef .tc main_arg7))) := by
  unfold W2
  simp only [hostOps0_2, TRef.nullary, TRef.ternary, TRef.binary, TRef.unary, TRef.toBuf, TRef.ofBuf, cast_eq]
  after_results_simp
  simp only [W1_main_v11, W1_main_v5] <;> rfl

set_option maxRecDepth 8192 in
set_option maxHeartbeats 1200000 in
theorem W2_main_v28 (V0 : Valuation τ sig (Elt F)) : W2 V0 (no_index (Proc.devRef .tc main_v28)) = (Cert.Ref2Ideal.Read.val_main_v37 (F := F) (V0 (Proc.devRef .tc main_arg3)) (V0 (Proc.devRef .tc main_arg5)) (V0 (Proc.devRef .tc main_arg7))) := by
  unfold W2
  simp only [hostOps0_2, TRef.nullary, TRef.ternary, TRef.binary, TRef.unary, TRef.toBuf, TRef.ofBuf, cast_eq]
  after_results_simp
  simp only [W1_main_v5] <;> rfl

set_option maxRecDepth 8192 in
set_option maxHeartbeats 1200000 in
theorem W2_main_c_7 (V0 : Valuation τ sig (Elt F)) : W2 V0 (no_index (Proc.devRef .tc main_c_7)) = (Cert.Ref2Ideal.Read.val_main_c_1 (F := F)) := by
  unfold W2
  simp only [hostOps0_2, TRef.nullary, TRef.ternary, TRef.binary, TRef.unary, TRef.toBuf, TRef.ofBuf, cast_eq]
  after_results_simp
  all_goals rfl

/-- The contents of the buffers after the host operations up to `hostOps0_3`. -/
def W3 (V0 : Valuation τ sig (Elt F)) : Valuation τ sig (Elt F) := after hostOps0_3 (W2 V0)

/-- The buffers `hostOps0_3` writes. -/
abbrev W3_W : List (Ref sig .tc) := [main_call1_v0, main_call1_v1, main_v29]

theorem W3_writes : (hostOps0_3 : List (HloOp τ sig (Elt F))).Forall fun op => op.writes ⊆ ((W3_W).map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W3_keep (V0 : Valuation τ sig (Elt F)) (r : Ref sig .tc) (h : r ∉ W3_W) :
    W3 V0 (Proc.devRef .tc r) = (W2 V0) (Proc.devRef .tc r) :=
  after_of_writes_sub hostOps0_3 _ W3_writes h

theorem W3_main_arg1 (V0 : Valuation τ sig (Elt F)) : W3 V0 (no_index (Proc.devRef .tc main_arg1)) = V0 (Proc.devRef .tc main_arg1) :=
  (W3_keep V0 main_arg1 (by decide)).trans (W2_main_arg1 V0)

theorem W3_main_arg6 (V0 : Valuation τ sig (Elt F)) : W3 V0 (no_index (Proc.devRef .tc main_arg6)) = V0 (Proc.devRef .tc main_arg6) :=
  (W3_keep V0 main_arg6 (by decide)).trans (W2_main_arg6 V0)

theorem W3_main_arg7 (V0 : Valuation τ sig (Elt F)) : W3 V0 (no_index (Proc.devRef .tc main_arg7)) = V0 (Proc.devRef .tc main_arg7) :=
  (W3_keep V0 main_arg7 (by decide)).trans (W2_main_arg7 V0)

theorem W3_main_v0 (V0 : Valuation τ sig (Elt F)) : W3 V0 (no_index (Proc.devRef .tc main_v0)) = (Cert.Ref2Ideal.Read.val_main_v0 (F := F) (V0 (Proc.devRef .tc main_arg0))) :=
  (W3_keep V0 main_v0 (by decide)).trans (W2_main_v0 V0)

theorem W3_main_v4 (V0 : Valuation τ sig (Elt F)) : W3 V0 (no_index (Proc.devRef .tc main_v4)) = (Cert.Ref2Ideal.Read.val_main_v13 (F := F) (V0 (Proc.devRef .tc main_arg3)) (V0 (Proc.devRef .tc main_arg5)) (V0 (Proc.devRef .tc main_arg7))) :=
  (W3_keep V0 main_v4 (by decide)).trans (W2_main_v4 V0)

set_option maxRecDepth 8192 in
set_option maxHeartbeats 1200000 in
theorem W3_main_v29 (V0 : Valuation τ sig (Elt F)) : W3 V0 (no_index (Proc.devRef .tc main_v29)) = (Cert.Ref2Ideal.Read.val_main_v38 (F := F) (V0 (Proc.devRef .tc main_arg3)) (V0 (Proc.devRef .tc main_arg5)) (V0 (Proc.devRef .tc main_arg7))) := by
  unfold W3
  simp only [hostOps0_3, TRef.nullary, TRef.ternary, TRef.binary, TRef.unary, TRef.toBuf, TRef.ofBuf, cast_eq]
  after_results_simp
  simp only [W2_main_c_7, W2_main_v23, W2_main_v28] <;> rfl

/-- The contents of the buffers after the host operations up to `hostOps0_4`. -/
def W4 (V0 : Valuation τ sig (Elt F)) : Valuation τ sig (Elt F) := after hostOps0_4 (W3 V0)

/-- The buffers `hostOps0_4` writes. -/
abbrev W4_W : List (Ref sig .tc) := [main_v30, main_c_8, main_v31, main_v32, main_c_9, main_v33, main_v34, main_c_10, main_c_11]

theorem W4_writes : (hostOps0_4 : List (HloOp τ sig (Elt F))).Forall fun op => op.writes ⊆ ((W4_W).map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W4_keep (V0 : Valuation τ sig (Elt F)) (r : Ref sig .tc) (h : r ∉ W4_W) :
    W4 V0 (Proc.devRef .tc r) = (W3 V0) (Proc.devRef .tc r) :=
  after_of_writes_sub hostOps0_4 _ W4_writes h

theorem W4_main_arg1 (V0 : Valuation τ sig (Elt F)) : W4 V0 (no_index (Proc.devRef .tc main_arg1)) = V0 (Proc.devRef .tc main_arg1) :=
  (W4_keep V0 main_arg1 (by decide)).trans (W3_main_arg1 V0)

theorem W4_main_arg6 (V0 : Valuation τ sig (Elt F)) : W4 V0 (no_index (Proc.devRef .tc main_arg6)) = V0 (Proc.devRef .tc main_arg6) :=
  (W4_keep V0 main_arg6 (by decide)).trans (W3_main_arg6 V0)

theorem W4_main_arg7 (V0 : Valuation τ sig (Elt F)) : W4 V0 (no_index (Proc.devRef .tc main_arg7)) = V0 (Proc.devRef .tc main_arg7) :=
  (W4_keep V0 main_arg7 (by decide)).trans (W3_main_arg7 V0)

theorem W4_main_v0 (V0 : Valuation τ sig (Elt F)) : W4 V0 (no_index (Proc.devRef .tc main_v0)) = (Cert.Ref2Ideal.Read.val_main_v0 (F := F) (V0 (Proc.devRef .tc main_arg0))) :=
  (W4_keep V0 main_v0 (by decide)).trans (W3_main_v0 V0)

theorem W4_main_v4 (V0 : Valuation τ sig (Elt F)) : W4 V0 (no_index (Proc.devRef .tc main_v4)) = (Cert.Ref2Ideal.Read.val_main_v13 (F := F) (V0 (Proc.devRef .tc main_arg3)) (V0 (Proc.devRef .tc main_arg5)) (V0 (Proc.devRef .tc main_arg7))) :=
  (W4_keep V0 main_v4 (by decide)).trans (W3_main_v4 V0)

theorem W4_main_v29 (V0 : Valuation τ sig (Elt F)) : W4 V0 (no_index (Proc.devRef .tc main_v29)) = (Cert.Ref2Ideal.Read.val_main_v38 (F := F) (V0 (Proc.devRef .tc main_arg3)) (V0 (Proc.devRef .tc main_arg5)) (V0 (Proc.devRef .tc main_arg7))) :=
  (W4_keep V0 main_v29 (by decide)).trans (W3_main_v29 V0)

set_option maxRecDepth 8192 in
set_option maxHeartbeats 1200000 in
theorem W4_main_v30 (V0 : Valuation τ sig (Elt F)) : W4 V0 (no_index (Proc.devRef .tc main_v30)) = (Cert.Ref2Ideal.Read.val_main_v39 (F := F) (V0 (Proc.devRef .tc main_arg3)) (V0 (Proc.devRef .tc main_arg5)) (V0 (Proc.devRef .tc main_arg7))) := by
  unfold W4
  simp only [hostOps0_4, TRef.nullary, TRef.ternary, TRef.binary, TRef.unary, TRef.toBuf, TRef.ofBuf, cast_eq]
  after_results_simp
  simp only [W3_main_v29] <;> rfl

set_option maxRecDepth 8192 in
set_option maxHeartbeats 1200000 in
theorem W4_main_v32 (V0 : Valuation τ sig (Elt F)) : W4 V0 (no_index (Proc.devRef .tc main_v32)) = (Cert.Ref2Ideal.Read.val_main_v41 (F := F) (V0 (Proc.devRef .tc main_arg3)) (V0 (Proc.devRef .tc main_arg5)) (V0 (Proc.devRef .tc main_arg7))) := by
  unfold W4
  simp only [hostOps0_4, TRef.nullary, TRef.ternary, TRef.binary, TRef.unary, TRef.toBuf, TRef.ofBuf, cast_eq]
  after_results_simp
  simp only [W3_main_v29] <;> rfl

set_option maxRecDepth 8192 in
set_option maxHeartbeats 1200000 in
theorem W4_main_v34 (V0 : Valuation τ sig (Elt F)) : W4 V0 (no_index (Proc.devRef .tc main_v34)) = (Cert.Ref2Ideal.Read.val_main_v43 (F := F) (V0 (Proc.devRef .tc main_arg3)) (V0 (Proc.devRef .tc main_arg5)) (V0 (Proc.devRef .tc main_arg7))) := by
  unfold W4
  simp only [hostOps0_4, TRef.nullary, TRef.ternary, TRef.binary, TRef.unary, TRef.toBuf, TRef.ofBuf, cast_eq]
  after_results_simp
  simp only [W3_main_v29] <;> rfl

set_option maxRecDepth 8192 in
set_option maxHeartbeats 1200000 in
theorem W4_main_c_10 (V0 : Valuation τ sig (Elt F)) : W4 V0 (no_index (Proc.devRef .tc main_c_10)) = (Cert.Ref2Ideal.Read.val_main_c_1 (F := F)) := by
  unfold W4
  simp only [hostOps0_4, TRef.nullary, TRef.ternary, TRef.binary, TRef.unary, TRef.toBuf, TRef.ofBuf, cast_eq]
  after_results_simp
  all_goals rfl

set_option maxRecDepth 8192 in
set_option maxHeartbeats 1200000 in
theorem W4_main_c_11 (V0 : Valuation τ sig (Elt F)) : W4 V0 (no_index (Proc.devRef .tc main_c_11)) = (Cert.Ref2Ideal.Read.val_main_c_2 (F := F)) := by
  unfold W4
  simp only [hostOps0_4, TRef.nullary, TRef.ternary, TRef.binary, TRef.unary, TRef.toBuf, TRef.ofBuf, cast_eq]
  after_results_simp
  all_goals rfl

/-- The contents of the buffers after the host operations up to `hostOps0_5`. -/
def W5 (V0 : Valuation τ sig (Elt F)) : Valuation τ sig (Elt F) := after hostOps0_5 (W4 V0)

/-- The buffers `hostOps0_5` writes. -/
abbrev W5_W : List (Ref sig .tc) := [main_call2_v0, main_call2_v1, main_call2_v2, main_call2_v3, main_call2_v4, main_v35]

theorem W5_writes : (hostOps0_5 : List (HloOp τ sig (Elt F))).Forall fun op => op.writes ⊆ ((W5_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W5_keep (V0 : Valuation τ sig (Elt F)) (r : Ref sig .tc) (h : r ∉ W5_W) :
    W5 V0 (Proc.devRef .tc r) = (W4 V0) (Proc.devRef .tc r) :=
  after_of_writes_sub hostOps0_5 _ W5_writes h

theorem W5_main_arg1 (V0 : Valuation τ sig (Elt F)) : W5 V0 (no_index (Proc.devRef .tc main_arg1)) = V0 (Proc.devRef .tc main_arg1) :=
  (W5_keep V0 main_arg1 (by decide)).trans (W4_main_arg1 V0)

theorem W5_main_arg6 (V0 : Valuation τ sig (Elt F)) : W5 V0 (no_index (Proc.devRef .tc main_arg6)) = V0 (Proc.devRef .tc main_arg6) :=
  (W5_keep V0 main_arg6 (by decide)).trans (W4_main_arg6 V0)

theorem W5_main_arg7 (V0 : Valuation τ sig (Elt F)) : W5 V0 (no_index (Proc.devRef .tc main_arg7)) = V0 (Proc.devRef .tc main_arg7) :=
  (W5_keep V0 main_arg7 (by decide)).trans (W4_main_arg7 V0)

theorem W5_main_v0 (V0 : Valuation τ sig (Elt F)) : W5 V0 (no_index (Proc.devRef .tc main_v0)) = (Cert.Ref2Ideal.Read.val_main_v0 (F := F) (V0 (Proc.devRef .tc main_arg0))) :=
  (W5_keep V0 main_v0 (by decide)).trans (W4_main_v0 V0)

theorem W5_main_v4 (V0 : Valuation τ sig (Elt F)) : W5 V0 (no_index (Proc.devRef .tc main_v4)) = (Cert.Ref2Ideal.Read.val_main_v13 (F := F) (V0 (Proc.devRef .tc main_arg3)) (V0 (Proc.devRef .tc main_arg5)) (V0 (Proc.devRef .tc main_arg7))) :=
  (W5_keep V0 main_v4 (by decide)).trans (W4_main_v4 V0)

theorem W5_main_v29 (V0 : Valuation τ sig (Elt F)) : W5 V0 (no_index (Proc.devRef .tc main_v29)) = (Cert.Ref2Ideal.Read.val_main_v38 (F := F) (V0 (Proc.devRef .tc main_arg3)) (V0 (Proc.devRef .tc main_arg5)) (V0 (Proc.devRef .tc main_arg7))) :=
  (W5_keep V0 main_v29 (by decide)).trans (W4_main_v29 V0)

theorem W5_main_v30 (V0 : Valuation τ sig (Elt F)) : W5 V0 (no_index (Proc.devRef .tc main_v30)) = (Cert.Ref2Ideal.Read.val_main_v39 (F := F) (V0 (Proc.devRef .tc main_arg3)) (V0 (Proc.devRef .tc main_arg5)) (V0 (Proc.devRef .tc main_arg7))) :=
  (W5_keep V0 main_v30 (by decide)).trans (W4_main_v30 V0)

theorem W5_main_v32 (V0 : Valuation τ sig (Elt F)) : W5 V0 (no_index (Proc.devRef .tc main_v32)) = (Cert.Ref2Ideal.Read.val_main_v41 (F := F) (V0 (Proc.devRef .tc main_arg3)) (V0 (Proc.devRef .tc main_arg5)) (V0 (Proc.devRef .tc main_arg7))) :=
  (W5_keep V0 main_v32 (by decide)).trans (W4_main_v32 V0)

set_option maxRecDepth 8192 in
set_option maxHeartbeats 1200000 in
theorem W5_main_v35 (V0 : Valuation τ sig (Elt F)) : W5 V0 (no_index (Proc.devRef .tc main_v35)) = (Cert.Ref2Ideal.Read.val_main_v44 (F := F) (V0 (Proc.devRef .tc main_arg3)) (V0 (Proc.devRef .tc main_arg5)) (V0 (Proc.devRef .tc main_arg7))) := by
  unfold W5
  simp only [hostOps0_5, TRef.nullary, TRef.ternary, TRef.binary, TRef.unary, TRef.toBuf, TRef.ofBuf, cast_eq]
  after_results_simp
  simp only [W4_main_c_10, W4_main_c_11, W4_main_v34] <;> rfl

/-- The contents of the buffers after the host operations up to `hostOps0_6`. -/
def W6 (V0 : Valuation τ sig (Elt F)) : Valuation τ sig (Elt F) := after hostOps0_6 (W5 V0)

/-- The buffers `hostOps0_6` writes. -/
abbrev W6_W : List (Ref sig .tc) := [main_c_12, main_v36, main_v37, main_v38, main_v39, main_v40, main_c_13, main_v41, main_v42, main_c_14, main_c_15]

theorem W6_writes : (hostOps0_6 : List (HloOp τ sig (Elt F))).Forall fun op => op.writes ⊆ ((W6_W).map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W6_keep (V0 : Valuation τ sig (Elt F)) (r : Ref sig .tc) (h : r ∉ W6_W) :
    W6 V0 (Proc.devRef .tc r) = (W5 V0) (Proc.devRef .tc r) :=
  after_of_writes_sub hostOps0_6 _ W6_writes h

theorem W6_main_arg1 (V0 : Valuation τ sig (Elt F)) : W6 V0 (no_index (Proc.devRef .tc main_arg1)) = V0 (Proc.devRef .tc main_arg1) :=
  (W6_keep V0 main_arg1 (by decide)).trans (W5_main_arg1 V0)

theorem W6_main_arg6 (V0 : Valuation τ sig (Elt F)) : W6 V0 (no_index (Proc.devRef .tc main_arg6)) = V0 (Proc.devRef .tc main_arg6) :=
  (W6_keep V0 main_arg6 (by decide)).trans (W5_main_arg6 V0)

theorem W6_main_arg7 (V0 : Valuation τ sig (Elt F)) : W6 V0 (no_index (Proc.devRef .tc main_arg7)) = V0 (Proc.devRef .tc main_arg7) :=
  (W6_keep V0 main_arg7 (by decide)).trans (W5_main_arg7 V0)

theorem W6_main_v0 (V0 : Valuation τ sig (Elt F)) : W6 V0 (no_index (Proc.devRef .tc main_v0)) = (Cert.Ref2Ideal.Read.val_main_v0 (F := F) (V0 (Proc.devRef .tc main_arg0))) :=
  (W6_keep V0 main_v0 (by decide)).trans (W5_main_v0 V0)

theorem W6_main_v29 (V0 : Valuation τ sig (Elt F)) : W6 V0 (no_index (Proc.devRef .tc main_v29)) = (Cert.Ref2Ideal.Read.val_main_v38 (F := F) (V0 (Proc.devRef .tc main_arg3)) (V0 (Proc.devRef .tc main_arg5)) (V0 (Proc.devRef .tc main_arg7))) :=
  (W6_keep V0 main_v29 (by decide)).trans (W5_main_v29 V0)

set_option maxRecDepth 8192 in
set_option maxHeartbeats 1200000 in
theorem W6_main_v39 (V0 : Valuation τ sig (Elt F)) : W6 V0 (no_index (Proc.devRef .tc main_v39)) = (Cert.Ref2Ideal.Read.val_main_v48 (F := F) (V0 (Proc.devRef .tc main_arg3)) (V0 (Proc.devRef .tc main_arg5)) (V0 (Proc.devRef .tc main_arg7))) := by
  unfold W6
  simp only [hostOps0_6, TRef.nullary, TRef.ternary, TRef.binary, TRef.unary, TRef.toBuf, TRef.ofBuf, cast_eq]
  after_results_simp
  simp only [W5_main_v35, W5_main_v4] <;> rfl

set_option maxRecDepth 8192 in
set_option maxHeartbeats 1200000 in
theorem W6_main_v42 (V0 : Valuation τ sig (Elt F)) : W6 V0 (no_index (Proc.devRef .tc main_v42)) = (Cert.Ref2Ideal.Read.val_main_v51 (F := F) (V0 (Proc.devRef .tc main_arg3)) (V0 (Proc.devRef .tc main_arg5)) (V0 (Proc.devRef .tc main_arg7))) := by
  unfold W6
  simp only [hostOps0_6, TRef.nullary, TRef.ternary, TRef.binary, TRef.unary, TRef.toBuf, TRef.ofBuf, cast_eq]
  after_results_simp
  simp only [W5_main_v30, W5_main_v32] <;> rfl

set_option maxRecDepth 8192 in
set_option maxHeartbeats 1200000 in
theorem W6_main_c_14 (V0 : Valuation τ sig (Elt F)) : W6 V0 (no_index (Proc.devRef .tc main_c_14)) = (Cert.Ref2Ideal.Read.val_main_c_1 (F := F)) := by
  unfold W6
  simp only [hostOps0_6, TRef.nullary, TRef.ternary, TRef.binary, TRef.unary, TRef.toBuf, TRef.ofBuf, cast_eq]
  after_results_simp
  all_goals rfl

set_option maxRecDepth 8192 in
set_option maxHeartbeats 1200000 in
theorem W6_main_c_15 (V0 : Valuation τ sig (Elt F)) : W6 V0 (no_index (Proc.devRef .tc main_c_15)) = (Cert.Ref2Ideal.Read.val_main_c_2 (F := F)) := by
  unfold W6
  simp only [hostOps0_6, TRef.nullary, TRef.ternary, TRef.binary, TRef.unary, TRef.toBuf, TRef.ofBuf, cast_eq]
  after_results_simp
  all_goals rfl

/-- The contents of the buffers after the host operations up to `hostOps0_7`. -/
def W7 (V0 : Valuation τ sig (Elt F)) : Valuation τ sig (Elt F) := after hostOps0_7 (W6 V0)

/-- The buffers `hostOps0_7` writes. -/
abbrev W7_W : List (Ref sig .tc) := [main_call3_v0, main_call3_v1, main_call3_v2, main_call3_v3, main_call3_v4, main_v43]

theorem W7_writes : (hostOps0_7 : List (HloOp τ sig (Elt F))).Forall fun op => op.writes ⊆ ((W7_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W7_keep (V0 : Valuation τ sig (Elt F)) (r : Ref sig .tc) (h : r ∉ W7_W) :
    W7 V0 (Proc.devRef .tc r) = (W6 V0) (Proc.devRef .tc r) :=
  after_of_writes_sub hostOps0_7 _ W7_writes h

theorem W7_main_arg1 (V0 : Valuation τ sig (Elt F)) : W7 V0 (no_index (Proc.devRef .tc main_arg1)) = V0 (Proc.devRef .tc main_arg1) :=
  (W7_keep V0 main_arg1 (by decide)).trans (W6_main_arg1 V0)

theorem W7_main_arg6 (V0 : Valuation τ sig (Elt F)) : W7 V0 (no_index (Proc.devRef .tc main_arg6)) = V0 (Proc.devRef .tc main_arg6) :=
  (W7_keep V0 main_arg6 (by decide)).trans (W6_main_arg6 V0)

theorem W7_main_arg7 (V0 : Valuation τ sig (Elt F)) : W7 V0 (no_index (Proc.devRef .tc main_arg7)) = V0 (Proc.devRef .tc main_arg7) :=
  (W7_keep V0 main_arg7 (by decide)).trans (W6_main_arg7 V0)

theorem W7_main_v0 (V0 : Valuation τ sig (Elt F)) : W7 V0 (no_index (Proc.devRef .tc main_v0)) = (Cert.Ref2Ideal.Read.val_main_v0 (F := F) (V0 (Proc.devRef .tc main_arg0))) :=
  (W7_keep V0 main_v0 (by decide)).trans (W6_main_v0 V0)

theorem W7_main_v29 (V0 : Valuation τ sig (Elt F)) : W7 V0 (no_index (Proc.devRef .tc main_v29)) = (Cert.Ref2Ideal.Read.val_main_v38 (F := F) (V0 (Proc.devRef .tc main_arg3)) (V0 (Proc.devRef .tc main_arg5)) (V0 (Proc.devRef .tc main_arg7))) :=
  (W7_keep V0 main_v29 (by decide)).trans (W6_main_v29 V0)

theorem W7_main_v39 (V0 : Valuation τ sig (Elt F)) : W7 V0 (no_index (Proc.devRef .tc main_v39)) = (Cert.Ref2Ideal.Read.val_main_v48 (F := F) (V0 (Proc.devRef .tc main_arg3)) (V0 (Proc.devRef .tc main_arg5)) (V0 (Proc.devRef .tc main_arg7))) :=
  (W7_keep V0 main_v39 (by decide)).trans (W6_main_v39 V0)

set_option maxRecDepth 8192 in
set_option maxHeartbeats 1200000 in
theorem W7_main_v43 (V0 : Valuation τ sig (Elt F)) : W7 V0 (no_index (Proc.devRef .tc main_v43)) = (Cert.Ref2Ideal.Read.val_main_v52 (F := F) (V0 (Proc.devRef .tc main_arg3)) (V0 (Proc.devRef .tc main_arg5)) (V0 (Proc.devRef .tc main_arg7))) := by
  unfold W7
  simp only [hostOps0_7, TRef.nullary, TRef.ternary, TRef.binary, TRef.unary, TRef.toBuf, TRef.ofBuf, cast_eq]
  after_results_simp
  simp only [W6_main_c_14, W6_main_c_15, W6_main_v42] <;> rfl

/-- The contents of the buffers after the host operations up to `hostOps0_8`. -/
def W8 (V0 : Valuation τ sig (Elt F)) : Valuation τ sig (Elt F) := after hostOps0_8 (W7 V0)

/-- The buffers `hostOps0_8` writes. -/
abbrev W8_W : List (Ref sig .tc) := [main_c_16, main_v44, main_v45, main_v46, main_v47, main_cst_17, main_v48, main_v49]

theorem W8_writes : (hostOps0_8 : List (HloOp τ sig (Elt F))).Forall fun op => op.writes ⊆ ((W8_W).map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W8_keep (V0 : Valuation τ sig (Elt F)) (r : Ref sig .tc) (h : r ∉ W8_W) :
    W8 V0 (Proc.devRef .tc r) = (W7 V0) (Proc.devRef .tc r) :=
  after_of_writes_sub hostOps0_8 _ W8_writes h

theorem W8_main_arg1 (V0 : Valuation τ sig (Elt F)) : W8 V0 (no_index (Proc.devRef .tc main_arg1)) = V0 (Proc.devRef .tc main_arg1) :=
  (W8_keep V0 main_arg1 (by decide)).trans (W7_main_arg1 V0)

theorem W8_main_arg6 (V0 : Valuation τ sig (Elt F)) : W8 V0 (no_index (Proc.devRef .tc main_arg6)) = V0 (Proc.devRef .tc main_arg6) :=
  (W8_keep V0 main_arg6 (by decide)).trans (W7_main_arg6 V0)

theorem W8_main_arg7 (V0 : Valuation τ sig (Elt F)) : W8 V0 (no_index (Proc.devRef .tc main_arg7)) = V0 (Proc.devRef .tc main_arg7) :=
  (W8_keep V0 main_arg7 (by decide)).trans (W7_main_arg7 V0)

theorem W8_main_v0 (V0 : Valuation τ sig (Elt F)) : W8 V0 (no_index (Proc.devRef .tc main_v0)) = (Cert.Ref2Ideal.Read.val_main_v0 (F := F) (V0 (Proc.devRef .tc main_arg0))) :=
  (W8_keep V0 main_v0 (by decide)).trans (W7_main_v0 V0)

theorem W8_main_v29 (V0 : Valuation τ sig (Elt F)) : W8 V0 (no_index (Proc.devRef .tc main_v29)) = (Cert.Ref2Ideal.Read.val_main_v38 (F := F) (V0 (Proc.devRef .tc main_arg3)) (V0 (Proc.devRef .tc main_arg5)) (V0 (Proc.devRef .tc main_arg7))) :=
  (W8_keep V0 main_v29 (by decide)).trans (W7_main_v29 V0)

set_option maxRecDepth 8192 in
set_option maxHeartbeats 1200000 in
theorem W8_main_v49 (V0 : Valuation τ sig (Elt F)) : W8 V0 (no_index (Proc.devRef .tc main_v49)) = (Cert.Ref2Ideal.Read.val_main_v58 (F := F) (V0 (Proc.devRef .tc main_arg3)) (V0 (Proc.devRef .tc main_arg5)) (V0 (Proc.devRef .tc main_arg7))) := by
  unfold W8
  simp only [hostOps0_8, TRef.nullary, TRef.ternary, TRef.binary, TRef.unary, TRef.toBuf, TRef.ofBuf, cast_eq]
  after_results_simp
  simp only [W7_main_v39, W7_main_v43] <;> rfl

/-- The contents of the buffers after the host operations up to `hostOps0_9`. -/
def W9 (V0 : Valuation τ sig (Elt F)) : Valuation τ sig (Elt F) := after hostOps0_9 (W8 V0)

/-- The buffers `hostOps0_9` writes. -/
abbrev W9_W : List (Ref sig .tc) := [main_v50]

theorem W9_writes : (hostOps0_9 : List (HloOp τ sig (Elt F))).Forall fun op => op.writes ⊆ ((W9_W).map (Proc.devRef (τ := τ) .tc)).toFinset := by
  simp only [List.Forall]
  (simp only [nullary_writes, unary_writes, binary_writes, ternary_writes, quaternary_writes, reshape_writes, binaryIndexed_writes, nary_writes, unaryIndexed_writes, Finset.singleton_subset_iff, List.mem_toFinset]; exact List.mem_map_of_mem (by decide))

theorem W9_keep (V0 : Valuation τ sig (Elt F)) (r : Ref sig .tc) (h : r ∉ W9_W) :
    W9 V0 (Proc.devRef .tc r) = (W8 V0) (Proc.devRef .tc r) :=
  after_of_writes_sub hostOps0_9 _ W9_writes h

theorem W9_main_arg1 (V0 : Valuation τ sig (Elt F)) : W9 V0 (no_index (Proc.devRef .tc main_arg1)) = V0 (Proc.devRef .tc main_arg1) :=
  (W9_keep V0 main_arg1 (by decide)).trans (W8_main_arg1 V0)

theorem W9_main_arg6 (V0 : Valuation τ sig (Elt F)) : W9 V0 (no_index (Proc.devRef .tc main_arg6)) = V0 (Proc.devRef .tc main_arg6) :=
  (W9_keep V0 main_arg6 (by decide)).trans (W8_main_arg6 V0)

theorem W9_main_arg7 (V0 : Valuation τ sig (Elt F)) : W9 V0 (no_index (Proc.devRef .tc main_arg7)) = V0 (Proc.devRef .tc main_arg7) :=
  (W9_keep V0 main_arg7 (by decide)).trans (W8_main_arg7 V0)

theorem W9_main_v0 (V0 : Valuation τ sig (Elt F)) : W9 V0 (no_index (Proc.devRef .tc main_v0)) = (Cert.Ref2Ideal.Read.val_main_v0 (F := F) (V0 (Proc.devRef .tc main_arg0))) :=
  (W9_keep V0 main_v0 (by decide)).trans (W8_main_v0 V0)

theorem W9_main_v29 (V0 : Valuation τ sig (Elt F)) : W9 V0 (no_index (Proc.devRef .tc main_v29)) = (Cert.Ref2Ideal.Read.val_main_v38 (F := F) (V0 (Proc.devRef .tc main_arg3)) (V0 (Proc.devRef .tc main_arg5)) (V0 (Proc.devRef .tc main_arg7))) :=
  (W9_keep V0 main_v29 (by decide)).trans (W8_main_v29 V0)

set_option maxRecDepth 8192 in
set_option maxHeartbeats 1200000 in
theorem W9_main_v50 (V0 : Valuation τ sig (Elt F)) : W9 V0 (no_index (Proc.devRef .tc main_v50)) = (Cert.Ref2Ideal.Read.val_main_v59 (F := F) (V0 (Proc.devRef .tc main_arg3)) (V0 (Proc.devRef .tc main_arg5)) (V0 (Proc.devRef .tc main_arg7))) := by
  unfold W9
  simp only [hostOps0_9, TRef.nullary, TRef.ternary, TRef.binary, TRef.unary, TRef.toBuf, TRef.ofBuf, cast_eq]
  after_results_simp
  simp only [W8_main_v49] <;> rfl

/-- The contents of the buffers after the host operations up to `hostOps0_10`. -/
def W10 (V0 : Valuation τ sig (Elt F)) : Valuation τ sig (Elt F) := after hostOps0_10 (W9 V0)

/-- The buffers `hostOps0_10` writes. -/
abbrev W10_W : List (Ref sig .tc) := [main_v51, main_c_18, main_v52, main_v53, main_c_19, main_v54, main_v55, main_c_20, main_v56, main_v57, main_c_21, main_v58, main_v59, main_c_22, main_v60, main_v61, main_v62, main_c_23]

theorem W10_writes : (hostOps0_10 : List (HloOp τ sig (Elt F))).Forall fun op => op.writes ⊆ ((W10_W).map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W10_keep (V0 : Valuation τ sig (Elt F)) (r : Ref sig .tc) (h : r ∉ W10_W) :
    W10 V0 (Proc.devRef .tc r) = (W9 V0) (Proc.devRef .tc r) :=
  after_of_writes_sub hostOps0_10 _ W10_writes h

theorem W10_main_arg1 (V0 : Valuation τ sig (Elt F)) : W10 V0 (no_index (Proc.devRef .tc main_arg1)) = V0 (Proc.devRef .tc main_arg1) :=
  (W10_keep V0 main_arg1 (by decide)).trans (W9_main_arg1 V0)

theorem W10_main_arg6 (V0 : Valuation τ sig (Elt F)) : W10 V0 (no_index (Proc.devRef .tc main_arg6)) = V0 (Proc.devRef .tc main_arg6) :=
  (W10_keep V0 main_arg6 (by decide)).trans (W9_main_arg6 V0)

theorem W10_main_arg7 (V0 : Valuation τ sig (Elt F)) : W10 V0 (no_index (Proc.devRef .tc main_arg7)) = V0 (Proc.devRef .tc main_arg7) :=
  (W10_keep V0 main_arg7 (by decide)).trans (W9_main_arg7 V0)

theorem W10_main_v0 (V0 : Valuation τ sig (Elt F)) : W10 V0 (no_index (Proc.devRef .tc main_v0)) = (Cert.Ref2Ideal.Read.val_main_v0 (F := F) (V0 (Proc.devRef .tc main_arg0))) :=
  (W10_keep V0 main_v0 (by decide)).trans (W9_main_v0 V0)

set_option maxRecDepth 8192 in
set_option maxHeartbeats 1200000 in
theorem W10_main_v51 (V0 : Valuation τ sig (Elt F)) : W10 V0 (no_index (Proc.devRef .tc main_v51)) = (Cert.Ref2Ideal.Read.val_main_v60 (F := F) (V0 (Proc.devRef .tc main_arg3)) (V0 (Proc.devRef .tc main_arg5)) (V0 (Proc.devRef .tc main_arg7))) := by
  unfold W10
  simp only [hostOps0_10, TRef.nullary, TRef.ternary, TRef.binary, TRef.unary, TRef.toBuf, TRef.ofBuf, cast_eq]
  after_results_simp
  simp only [W9_main_v50] <;> rfl

set_option maxRecDepth 8192 in
set_option maxHeartbeats 1200000 in
theorem W10_main_v53 (V0 : Valuation τ sig (Elt F)) : W10 V0 (no_index (Proc.devRef .tc main_v53)) = (Cert.Ref2Ideal.Read.val_main_v62 (F := F) (V0 (Proc.devRef .tc main_arg3)) (V0 (Proc.devRef .tc main_arg5)) (V0 (Proc.devRef .tc main_arg7))) := by
  unfold W10
  simp only [hostOps0_10, TRef.nullary, TRef.ternary, TRef.binary, TRef.unary, TRef.toBuf, TRef.ofBuf, cast_eq]
  after_results_simp
  simp only [W9_main_v29] <;> rfl

set_option maxRecDepth 8192 in
set_option maxHeartbeats 1200000 in
theorem W10_main_v57 (V0 : Valuation τ sig (Elt F)) : W10 V0 (no_index (Proc.devRef .tc main_v57)) = (Cert.Ref2Ideal.Read.val_main_v75 (F := F) (V0 (Proc.devRef .tc main_arg3)) (V0 (Proc.devRef .tc main_arg5)) (V0 (Proc.devRef .tc main_arg7))) := by
  unfold W10
  simp only [hostOps0_10, TRef.nullary, TRef.ternary, TRef.binary, TRef.unary, TRef.toBuf, TRef.ofBuf, cast_eq]
  after_results_simp
  simp only [W9_main_v29] <;> rfl

set_option maxRecDepth 8192 in
set_option maxHeartbeats 1200000 in
theorem W10_main_v62 (V0 : Valuation τ sig (Elt F)) : W10 V0 (no_index (Proc.devRef .tc main_v62)) = (kv_main_v62 (F := F) (V0 (Proc.devRef .tc main_arg3)) (V0 (Proc.devRef .tc main_arg5)) (V0 (Proc.devRef .tc main_arg7))) := by
  unfold W10
  simp only [hostOps0_10, TRef.nullary, TRef.ternary, TRef.binary, TRef.unary, TRef.toBuf, TRef.ofBuf, cast_eq]
  after_results_simp
  simp only [W9_main_v29] <;> rfl

set_option maxRecDepth 8192 in
set_option maxHeartbeats 1200000 in
theorem W10_main_c_23 (V0 : Valuation τ sig (Elt F)) : W10 V0 (no_index (Proc.devRef .tc main_c_23)) = (kv_main_c_23 (F := F)) := by
  unfold W10
  simp only [hostOps0_10, TRef.nullary, TRef.ternary, TRef.binary, TRef.unary, TRef.toBuf, TRef.ofBuf, cast_eq]
  after_results_simp
  all_goals rfl

/-- The contents of the buffers after the host operations up to `hostOps0_11`. -/
def W11 (V0 : Valuation τ sig (Elt F)) : Valuation τ sig (Elt F) := after hostOps0_11 (W10 V0)

/-- The buffers `hostOps0_11` writes. -/
abbrev W11_W : List (Ref sig .tc) := [main_call5_v0, main_call5_v1, main_v63]

theorem W11_writes : (hostOps0_11 : List (HloOp τ sig (Elt F))).Forall fun op => op.writes ⊆ ((W11_W).map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W11_keep (V0 : Valuation τ sig (Elt F)) (r : Ref sig .tc) (h : r ∉ W11_W) :
    W11 V0 (Proc.devRef .tc r) = (W10 V0) (Proc.devRef .tc r) :=
  after_of_writes_sub hostOps0_11 _ W11_writes h

theorem W11_main_arg1 (V0 : Valuation τ sig (Elt F)) : W11 V0 (no_index (Proc.devRef .tc main_arg1)) = V0 (Proc.devRef .tc main_arg1) :=
  (W11_keep V0 main_arg1 (by decide)).trans (W10_main_arg1 V0)

theorem W11_main_arg6 (V0 : Valuation τ sig (Elt F)) : W11 V0 (no_index (Proc.devRef .tc main_arg6)) = V0 (Proc.devRef .tc main_arg6) :=
  (W11_keep V0 main_arg6 (by decide)).trans (W10_main_arg6 V0)

theorem W11_main_arg7 (V0 : Valuation τ sig (Elt F)) : W11 V0 (no_index (Proc.devRef .tc main_arg7)) = V0 (Proc.devRef .tc main_arg7) :=
  (W11_keep V0 main_arg7 (by decide)).trans (W10_main_arg7 V0)

theorem W11_main_v0 (V0 : Valuation τ sig (Elt F)) : W11 V0 (no_index (Proc.devRef .tc main_v0)) = (Cert.Ref2Ideal.Read.val_main_v0 (F := F) (V0 (Proc.devRef .tc main_arg0))) :=
  (W11_keep V0 main_v0 (by decide)).trans (W10_main_v0 V0)

theorem W11_main_v51 (V0 : Valuation τ sig (Elt F)) : W11 V0 (no_index (Proc.devRef .tc main_v51)) = (Cert.Ref2Ideal.Read.val_main_v60 (F := F) (V0 (Proc.devRef .tc main_arg3)) (V0 (Proc.devRef .tc main_arg5)) (V0 (Proc.devRef .tc main_arg7))) :=
  (W11_keep V0 main_v51 (by decide)).trans (W10_main_v51 V0)

theorem W11_main_v57 (V0 : Valuation τ sig (Elt F)) : W11 V0 (no_index (Proc.devRef .tc main_v57)) = (Cert.Ref2Ideal.Read.val_main_v75 (F := F) (V0 (Proc.devRef .tc main_arg3)) (V0 (Proc.devRef .tc main_arg5)) (V0 (Proc.devRef .tc main_arg7))) :=
  (W11_keep V0 main_v57 (by decide)).trans (W10_main_v57 V0)

set_option maxRecDepth 8192 in
set_option maxHeartbeats 1200000 in
theorem W11_main_v63 (V0 : Valuation τ sig (Elt F)) : W11 V0 (no_index (Proc.devRef .tc main_v63)) = (kv_main_v63 (F := F) (V0 (Proc.devRef .tc main_arg3)) (V0 (Proc.devRef .tc main_arg5)) (V0 (Proc.devRef .tc main_arg7))) := by
  unfold W11
  simp only [hostOps0_11, TRef.nullary, TRef.ternary, TRef.binary, TRef.unary, TRef.toBuf, TRef.ofBuf, cast_eq]
  after_results_simp
  simp only [W10_main_c_23, W10_main_v53, W10_main_v62] <;> rfl

/-- The contents of the buffers after the host operations up to `((hostOps0_12 : List (HloOp τ sig (Elt F))).take 11)`. -/
def W12 (V0 : Valuation τ sig (Elt F)) : Valuation τ sig (Elt F) := after ((hostOps0_12 : List (HloOp τ sig (Elt F))).take 11) (W11 V0)

/-- The buffers `((hostOps0_12 : List (HloOp τ sig (Elt F))).take 11)` writes. -/
abbrev W12_W : List (Ref sig .tc) := [main_c_24, main_v64, main_v65, main_v66, main_v67, main_v68, main_v69, main_v70, main_v71, main_v72, main_v73]

theorem W12_writes : (((hostOps0_12 : List (HloOp τ sig (Elt F))).take 11) : List (HloOp τ sig (Elt F))).Forall fun op => op.writes ⊆ ((W12_W).map (Proc.devRef (τ := τ) .tc)).toFinset := by
  simp only [hostOps0_12, List.take_succ_cons, List.take_zero, List.drop_succ_cons, List.drop_zero, List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W12_keep (V0 : Valuation τ sig (Elt F)) (r : Ref sig .tc) (h : r ∉ W12_W) :
    W12 V0 (Proc.devRef .tc r) = (W11 V0) (Proc.devRef .tc r) :=
  after_of_writes_sub ((hostOps0_12 : List (HloOp τ sig (Elt F))).take 11) _ W12_writes h

theorem W12_main_arg1 (V0 : Valuation τ sig (Elt F)) : W12 V0 (no_index (Proc.devRef .tc main_arg1)) = V0 (Proc.devRef .tc main_arg1) :=
  (W12_keep V0 main_arg1 (by decide)).trans (W11_main_arg1 V0)

theorem W12_main_arg7 (V0 : Valuation τ sig (Elt F)) : W12 V0 (no_index (Proc.devRef .tc main_arg7)) = V0 (Proc.devRef .tc main_arg7) :=
  (W12_keep V0 main_arg7 (by decide)).trans (W11_main_arg7 V0)

theorem W12_main_v0 (V0 : Valuation τ sig (Elt F)) : W12 V0 (no_index (Proc.devRef .tc main_v0)) = (Cert.Ref2Ideal.Read.val_main_v0 (F := F) (V0 (Proc.devRef .tc main_arg0))) :=
  (W12_keep V0 main_v0 (by decide)).trans (W11_main_v0 V0)

/-- The contents before the last operation of `((hostOps0_12 : List (HloOp τ sig (Elt F))).take 11)`, which stacks the rows. -/
def W12p (V0 : Valuation τ sig (Elt F)) : Valuation τ sig (Elt F) := after ((((hostOps0_12 : List (HloOp τ sig (Elt F))).take 11) : List (HloOp τ sig (Elt F))).take 10) (W11 V0)

set_option maxRecDepth 8192 in
set_option maxHeartbeats 1200000 in
theorem W12p_main_v65 (V0 : Valuation τ sig (Elt F)) : W12p V0 (no_index (Proc.devRef .tc main_v65)) = (Cert.Ref2Ideal.Read.val_main_v7 (F := F) (V0 (Proc.devRef .tc main_arg6))) := by
  unfold W12p
  simp only [hostOps0_12, List.take_succ_cons, List.take_zero, List.drop_succ_cons, List.drop_zero, TRef.nullary, TRef.ternary, TRef.binary, TRef.unary, TRef.toBuf, TRef.ofBuf, cast_eq]
  after_results_simp
  simp only [W11_main_arg6] <;> rfl

set_option maxRecDepth 8192 in
set_option maxHeartbeats 1200000 in
theorem W12p_main_v66 (V0 : Valuation τ sig (Elt F)) : W12p V0 (no_index (Proc.devRef .tc main_v66)) = (Cert.Ref2Ideal.Read.val_main_v69 (F := F) (V0 (Proc.devRef .tc main_arg3)) (V0 (Proc.devRef .tc main_arg5)) (V0 (Proc.devRef .tc main_arg7))) := by
  unfold W12p
  simp only [hostOps0_12, List.take_succ_cons, List.take_zero, List.drop_succ_cons, List.drop_zero, TRef.nullary, TRef.ternary, TRef.binary, TRef.unary, TRef.toBuf, TRef.ofBuf, cast_eq]
  after_results_simp
  simp only [W11_main_v51] <;> rfl

set_option maxRecDepth 8192 in
set_option maxHeartbeats 1200000 in
theorem W12p_main_v67 (V0 : Valuation τ sig (Elt F)) : W12p V0 (no_index (Proc.devRef .tc main_v67)) = (Cert.Ref2Ideal.Read.val_main_v76 (F := F) (V0 (Proc.devRef .tc main_arg3)) (V0 (Proc.devRef .tc main_arg5)) (V0 (Proc.devRef .tc main_arg7))) := by
  unfold W12p
  simp only [hostOps0_12, List.take_succ_cons, List.take_zero, List.drop_succ_cons, List.drop_zero, TRef.nullary, TRef.ternary, TRef.binary, TRef.unary, TRef.toBuf, TRef.ofBuf, cast_eq]
  after_results_simp
  simp only [W11_main_v57] <;> rfl

set_option maxRecDepth 8192 in
set_option maxHeartbeats 1200000 in
theorem W12p_main_v68 (V0 : Valuation τ sig (Elt F)) : W12p V0 (no_index (Proc.devRef .tc main_v68)) = (kv_main_v68 (F := F) (V0 (Proc.devRef .tc main_arg3)) (V0 (Proc.devRef .tc main_arg5)) (V0 (Proc.devRef .tc main_arg7))) := by
  unfold W12p
  simp only [hostOps0_12, List.take_succ_cons, List.take_zero, List.drop_succ_cons, List.drop_zero, TRef.nullary, TRef.ternary, TRef.binary, TRef.unary, TRef.toBuf, TRef.ofBuf, cast_eq]
  after_results_simp
  simp only [W11_main_v63] <;> rfl

set_option maxRecDepth 8192 in
set_option maxHeartbeats 1200000 in
theorem W12p_main_v69 (V0 : Valuation τ sig (Elt F)) : W12p V0 (no_index (Proc.devRef .tc main_v69)) = (kv_main_v69 (F := F)) := by
  unfold W12p
  simp only [hostOps0_12, List.take_succ_cons, List.take_zero, List.drop_succ_cons, List.drop_zero, TRef.nullary, TRef.ternary, TRef.binary, TRef.unary, TRef.toBuf, TRef.ofBuf, cast_eq]
  after_results_simp
  all_goals rfl

set_option maxRecDepth 8192 in
set_option maxHeartbeats 1200000 in
theorem W12p_main_v70 (V0 : Valuation τ sig (Elt F)) : W12p V0 (no_index (Proc.devRef .tc main_v70)) = (kv_main_v70 (F := F)) := by
  unfold W12p
  simp only [hostOps0_12, List.take_succ_cons, List.take_zero, List.drop_succ_cons, List.drop_zero, TRef.nullary, TRef.ternary, TRef.binary, TRef.unary, TRef.toBuf, TRef.ofBuf, cast_eq]
  after_results_simp
  all_goals rfl

set_option maxRecDepth 8192 in
set_option maxHeartbeats 1200000 in
theorem W12p_main_v71 (V0 : Valuation τ sig (Elt F)) : W12p V0 (no_index (Proc.devRef .tc main_v71)) = (kv_main_v71 (F := F)) := by
  unfold W12p
  simp only [hostOps0_12, List.take_succ_cons, List.take_zero, List.drop_succ_cons, List.drop_zero, TRef.nullary, TRef.ternary, TRef.binary, TRef.unary, TRef.toBuf, TRef.ofBuf, cast_eq]
  after_results_simp
  all_goals rfl

set_option maxRecDepth 8192 in
set_option maxHeartbeats 1200000 in
theorem W12p_main_v72 (V0 : Valuation τ sig (Elt F)) : W12p V0 (no_index (Proc.devRef .tc main_v72)) = (kv_main_v72 (F := F)) := by
  unfold W12p
  simp only [hostOps0_12, List.take_succ_cons, List.take_zero, List.drop_succ_cons, List.drop_zero, TRef.nullary, TRef.ternary, TRef.binary, TRef.unary, TRef.toBuf, TRef.ofBuf, cast_eq]
  after_results_simp
  all_goals rfl

set_option maxRecDepth 8192 in
set_option maxHeartbeats 1200000 in
theorem W12_main_v73 (V0 : Valuation τ sig (Elt F)) : W12 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) := by
  have h : W12 V0 (Proc.devRef .tc main_v73) = kst_main_v73 (F := F) (W12p V0 (Proc.devRef .tc main_v65)) (W12p V0 (Proc.devRef .tc main_v66)) (W12p V0 (Proc.devRef .tc main_v67)) (W12p V0 (Proc.devRef .tc main_v68)) (W12p V0 (Proc.devRef .tc main_v69)) (W12p V0 (Proc.devRef .tc main_v70)) (W12p V0 (Proc.devRef .tc main_v71)) (W12p V0 (Proc.devRef .tc main_v72)) := by
    show (nary ![main_v65, main_v66, main_v67, main_v68, main_v69, main_v70, main_v71, main_v72] main_v73 (fun u => (concatenate S8x7168 0 [⟨S1x7168, (u 0 : (⟨S1x7168, .i32⟩ : BufTy).Contents (Elt F))⟩, ⟨S1x7168, (u 1 : (⟨S1x7168, .i32⟩ : BufTy).Contents (Elt F))⟩, ⟨S1x7168, (u 2 : (⟨S1x7168, .i32⟩ : BufTy).Contents (Elt F))⟩, ⟨S1x7168, (u 3 : (⟨S1x7168, .i32⟩ : BufTy).Contents (Elt F))⟩, ⟨S1x7168, (u 4 : (⟨S1x7168, .i32⟩ : BufTy).Contents (Elt F))⟩, ⟨S1x7168, (u 5 : (⟨S1x7168, .i32⟩ : BufTy).Contents (Elt F))⟩, ⟨S1x7168, (u 6 : (⟨S1x7168, .i32⟩ : BufTy).Contents (Elt F))⟩, ⟨S1x7168, (u 7 : (⟨S1x7168, .i32⟩ : BufTy).Contents (Elt F))⟩] concatenates_S1x7168_S1x7168_S1x7168_S1x7168_S1x7168_S1x7168_S1x7168_S1x7168_S8x7168_d0 : (⟨S8x7168, .i32⟩ : BufTy).Contents (Elt F))) : HloOp τ sig (Elt F)).result (W12p V0) (Proc.devRef .tc main_v73) = _
    exact nary_result ..
  rw [h, W12p_main_v65, W12p_main_v66, W12p_main_v67, W12p_main_v68, W12p_main_v69, W12p_main_v70, W12p_main_v71, W12p_main_v72]
  rfl

/-- The contents of the buffers after the host operations up to `((hostOps0_12 : List (HloOp τ sig (Elt F))).drop 11)`. -/
def W13 (V0 : Valuation τ sig (Elt F)) : Valuation τ sig (Elt F) := after ((hostOps0_12 : List (HloOp τ sig (Elt F))).drop 11) (W12 V0)

/-- The buffers `((hostOps0_12 : List (HloOp τ sig (Elt F))).drop 11)` writes. -/
abbrev W13_W : List (Ref sig .tc) := [main_v74, main_v75, main_v76, main_c_25, main_v77, main_v78, main_c_26, main_v79, main_v80, main_c_27, main_c_28]

theorem W13_writes : (((hostOps0_12 : List (HloOp τ sig (Elt F))).drop 11) : List (HloOp τ sig (Elt F))).Forall fun op => op.writes ⊆ ((W13_W).map (Proc.devRef (τ := τ) .tc)).toFinset := by
  simp only [hostOps0_12, List.take_succ_cons, List.take_zero, List.drop_succ_cons, List.drop_zero, List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W13_keep (V0 : Valuation τ sig (Elt F)) (r : Ref sig .tc) (h : r ∉ W13_W) :
    W13 V0 (Proc.devRef .tc r) = (W12 V0) (Proc.devRef .tc r) :=
  after_of_writes_sub ((hostOps0_12 : List (HloOp τ sig (Elt F))).drop 11) _ W13_writes h

theorem W13_main_v0 (V0 : Valuation τ sig (Elt F)) : W13 V0 (no_index (Proc.devRef .tc main_v0)) = (Cert.Ref2Ideal.Read.val_main_v0 (F := F) (V0 (Proc.devRef .tc main_arg0))) :=
  (W13_keep V0 main_v0 (by decide)).trans (W12_main_v0 V0)

theorem W13_main_v73 (V0 : Valuation τ sig (Elt F)) : W13 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W13_keep V0 main_v73 (by decide)).trans (W12_main_v73 V0)

set_option maxRecDepth 8192 in
set_option maxHeartbeats 1200000 in
theorem W13_main_v74 (V0 : Valuation τ sig (Elt F)) : W13 V0 (no_index (Proc.devRef .tc main_v74)) = (Cert.Ref2Ideal.Read.val_main_v85 (F := F) (V0 (Proc.devRef .tc main_arg1)) (V0 (Proc.devRef .tc main_arg7))) := by
  unfold W13
  simp only [hostOps0_12, List.take_succ_cons, List.take_zero, List.drop_succ_cons, List.drop_zero, TRef.nullary, TRef.ternary, TRef.binary, TRef.unary, TRef.toBuf, TRef.ofBuf, cast_eq]
  after_results_simp
  simp only [W12_main_arg1, W12_main_arg7] <;> rfl

set_option maxRecDepth 8192 in
set_option maxHeartbeats 1200000 in
theorem W13_main_v75 (V0 : Valuation τ sig (Elt F)) : W13 V0 (no_index (Proc.devRef .tc main_v75)) = (Cert.Ref2Ideal.Read.val_main_v86 (F := F) (V0 (Proc.devRef .tc main_arg1)) (V0 (Proc.devRef .tc main_arg7))) := by
  unfold W13
  simp only [hostOps0_12, List.take_succ_cons, List.take_zero, List.drop_succ_cons, List.drop_zero, TRef.nullary, TRef.ternary, TRef.binary, TRef.unary, TRef.toBuf, TRef.ofBuf, cast_eq]
  after_results_simp
  simp only [W12_main_arg1, W12_main_arg7] <;> rfl

set_option maxRecDepth 8192 in
set_option maxHeartbeats 1200000 in
theorem W13_main_v80 (V0 : Valuation τ sig (Elt F)) : W13 V0 (no_index (Proc.devRef .tc main_v80)) = (Cert.Ref2Ideal.Read.val_main_v19 (F := F)) := by
  unfold W13
  simp only [hostOps0_12, List.take_succ_cons, List.take_zero, List.drop_succ_cons, List.drop_zero, TRef.nullary, TRef.ternary, TRef.binary, TRef.unary, TRef.toBuf, TRef.ofBuf, cast_eq]
  after_results_simp
  all_goals rfl

set_option maxRecDepth 8192 in
set_option maxHeartbeats 1200000 in
theorem W13_main_c_27 (V0 : Valuation τ sig (Elt F)) : W13 V0 (no_index (Proc.devRef .tc main_c_27)) = (Cert.Ref2Ideal.Read.val_main_c_1 (F := F)) := by
  unfold W13
  simp only [hostOps0_12, List.take_succ_cons, List.take_zero, List.drop_succ_cons, List.drop_zero, TRef.nullary, TRef.ternary, TRef.binary, TRef.unary, TRef.toBuf, TRef.ofBuf, cast_eq]
  after_results_simp
  all_goals rfl

set_option maxRecDepth 8192 in
set_option maxHeartbeats 1200000 in
theorem W13_main_c_28 (V0 : Valuation τ sig (Elt F)) : W13 V0 (no_index (Proc.devRef .tc main_c_28)) = (Cert.Ref2Ideal.Read.val_main_c_2 (F := F)) := by
  unfold W13
  simp only [hostOps0_12, List.take_succ_cons, List.take_zero, List.drop_succ_cons, List.drop_zero, TRef.nullary, TRef.ternary, TRef.binary, TRef.unary, TRef.toBuf, TRef.ofBuf, cast_eq]
  after_results_simp
  all_goals rfl

/-- The contents of the buffers after the host operations up to `hostOps0_13`. -/
def W14 (V0 : Valuation τ sig (Elt F)) : Valuation τ sig (Elt F) := after hostOps0_13 (W13 V0)

/-- The buffers `hostOps0_13` writes. -/
abbrev W14_W : List (Ref sig .tc) := [main_call6_v0, main_call6_v1, main_call6_v2, main_call6_v3, main_call6_v4, main_v81]

theorem W14_writes : (hostOps0_13 : List (HloOp τ sig (Elt F))).Forall fun op => op.writes ⊆ ((W14_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W14_keep (V0 : Valuation τ sig (Elt F)) (r : Ref sig .tc) (h : r ∉ W14_W) :
    W14 V0 (Proc.devRef .tc r) = (W13 V0) (Proc.devRef .tc r) :=
  after_of_writes_sub hostOps0_13 _ W14_writes h

theorem W14_main_v0 (V0 : Valuation τ sig (Elt F)) : W14 V0 (no_index (Proc.devRef .tc main_v0)) = (Cert.Ref2Ideal.Read.val_main_v0 (F := F) (V0 (Proc.devRef .tc main_arg0))) :=
  (W14_keep V0 main_v0 (by decide)).trans (W13_main_v0 V0)

theorem W14_main_v73 (V0 : Valuation τ sig (Elt F)) : W14 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W14_keep V0 main_v73 (by decide)).trans (W13_main_v73 V0)

theorem W14_main_v74 (V0 : Valuation τ sig (Elt F)) : W14 V0 (no_index (Proc.devRef .tc main_v74)) = (Cert.Ref2Ideal.Read.val_main_v85 (F := F) (V0 (Proc.devRef .tc main_arg1)) (V0 (Proc.devRef .tc main_arg7))) :=
  (W14_keep V0 main_v74 (by decide)).trans (W13_main_v74 V0)

theorem W14_main_v75 (V0 : Valuation τ sig (Elt F)) : W14 V0 (no_index (Proc.devRef .tc main_v75)) = (Cert.Ref2Ideal.Read.val_main_v86 (F := F) (V0 (Proc.devRef .tc main_arg1)) (V0 (Proc.devRef .tc main_arg7))) :=
  (W14_keep V0 main_v75 (by decide)).trans (W13_main_v75 V0)

set_option maxRecDepth 8192 in
set_option maxHeartbeats 1200000 in
theorem W14_main_v81 (V0 : Valuation τ sig (Elt F)) : W14 V0 (no_index (Proc.devRef .tc main_v81)) = (Cert.Ref2Ideal.Read.val_main_v20 (F := F)) := by
  unfold W14
  simp only [hostOps0_13, TRef.nullary, TRef.ternary, TRef.binary, TRef.unary, TRef.toBuf, TRef.ofBuf, cast_eq]
  after_results_simp
  simp only [W13_main_c_27, W13_main_c_28, W13_main_v80] <;> rfl

/-- The contents of the buffers after the host operations up to `hostOps0_14`. -/
def W15 (V0 : Valuation τ sig (Elt F)) : Valuation τ sig (Elt F) := after hostOps0_14 (W14 V0)

/-- The buffers `hostOps0_14` writes. -/
abbrev W15_W : List (Ref sig .tc) := [main_c_29, main_v82, main_v83, main_v84, main_v85, main_v86, main_v87, main_v88, main_c_30, main_v89, main_c_31, main_v90, main_cst_32, main_v91, main_cst_33, main_v92, main_v93, main_c_34]

theorem W15_writes : (hostOps0_14 : List (HloOp τ sig (Elt F))).Forall fun op => op.writes ⊆ ((W15_W).map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W15_keep (V0 : Valuation τ sig (Elt F)) (r : Ref sig .tc) (h : r ∉ W15_W) :
    W15 V0 (Proc.devRef .tc r) = (W14 V0) (Proc.devRef .tc r) :=
  after_of_writes_sub hostOps0_14 _ W15_writes h

theorem W15_main_v0 (V0 : Valuation τ sig (Elt F)) : W15 V0 (no_index (Proc.devRef .tc main_v0)) = (Cert.Ref2Ideal.Read.val_main_v0 (F := F) (V0 (Proc.devRef .tc main_arg0))) :=
  (W15_keep V0 main_v0 (by decide)).trans (W14_main_v0 V0)

theorem W15_main_v73 (V0 : Valuation τ sig (Elt F)) : W15 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W15_keep V0 main_v73 (by decide)).trans (W14_main_v73 V0)

theorem W15_main_v74 (V0 : Valuation τ sig (Elt F)) : W15 V0 (no_index (Proc.devRef .tc main_v74)) = (Cert.Ref2Ideal.Read.val_main_v85 (F := F) (V0 (Proc.devRef .tc main_arg1)) (V0 (Proc.devRef .tc main_arg7))) :=
  (W15_keep V0 main_v74 (by decide)).trans (W14_main_v74 V0)

set_option maxRecDepth 8192 in
set_option maxHeartbeats 1200000 in
theorem W15_main_v90 (V0 : Valuation τ sig (Elt F)) : W15 V0 (no_index (Proc.devRef .tc main_v90)) = (Cert.Ref2Ideal.Read.val_main_v101 (F := F) (V0 (Proc.devRef .tc main_arg1)) (V0 (Proc.devRef .tc main_arg7))) := by
  unfold W15
  simp only [hostOps0_14, TRef.nullary, TRef.ternary, TRef.binary, TRef.unary, TRef.toBuf, TRef.ofBuf, cast_eq]
  after_results_simp
  simp only [W14_main_v75, W14_main_v81] <;> rfl

set_option maxRecDepth 8192 in
set_option maxHeartbeats 1200000 in
theorem W15_main_v93 (V0 : Valuation τ sig (Elt F)) : W15 V0 (no_index (Proc.devRef .tc main_v93)) = (Cert.Ref2Ideal.Read.val_main_v104 (F := F) (V0 (Proc.devRef .tc main_arg1)) (V0 (Proc.devRef .tc main_arg7))) := by
  unfold W15
  simp only [hostOps0_14, TRef.nullary, TRef.ternary, TRef.binary, TRef.unary, TRef.toBuf, TRef.ofBuf, cast_eq]
  after_results_simp
  simp only [W14_main_v75] <;> rfl

set_option maxRecDepth 8192 in
set_option maxHeartbeats 1200000 in
theorem W15_main_c_34 (V0 : Valuation τ sig (Elt F)) : W15 V0 (no_index (Proc.devRef .tc main_c_34)) = (Cert.Ref2Ideal.Read.val_main_c_1 (F := F)) := by
  unfold W15
  simp only [hostOps0_14, TRef.nullary, TRef.ternary, TRef.binary, TRef.unary, TRef.toBuf, TRef.ofBuf, cast_eq]
  after_results_simp
  all_goals rfl

/-- The contents of the buffers after the host operations up to `hostOps0_15`. -/
def W16 (V0 : Valuation τ sig (Elt F)) : Valuation τ sig (Elt F) := after hostOps0_15 (W15 V0)

/-- The buffers `hostOps0_15` writes. -/
abbrev W16_W : List (Ref sig .tc) := [main_call7_v0, main_v94]

theorem W16_writes : (hostOps0_15 : List (HloOp τ sig (Elt F))).Forall fun op => op.writes ⊆ ((W16_W).map (Proc.devRef (τ := τ) .tc)).toFinset := by
  simp only [List.Forall]
  refine ⟨?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W16_keep (V0 : Valuation τ sig (Elt F)) (r : Ref sig .tc) (h : r ∉ W16_W) :
    W16 V0 (Proc.devRef .tc r) = (W15 V0) (Proc.devRef .tc r) :=
  after_of_writes_sub hostOps0_15 _ W16_writes h

theorem W16_main_v0 (V0 : Valuation τ sig (Elt F)) : W16 V0 (no_index (Proc.devRef .tc main_v0)) = (Cert.Ref2Ideal.Read.val_main_v0 (F := F) (V0 (Proc.devRef .tc main_arg0))) :=
  (W16_keep V0 main_v0 (by decide)).trans (W15_main_v0 V0)

theorem W16_main_v73 (V0 : Valuation τ sig (Elt F)) : W16 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W16_keep V0 main_v73 (by decide)).trans (W15_main_v73 V0)

theorem W16_main_v74 (V0 : Valuation τ sig (Elt F)) : W16 V0 (no_index (Proc.devRef .tc main_v74)) = (Cert.Ref2Ideal.Read.val_main_v85 (F := F) (V0 (Proc.devRef .tc main_arg1)) (V0 (Proc.devRef .tc main_arg7))) :=
  (W16_keep V0 main_v74 (by decide)).trans (W15_main_v74 V0)

set_option maxRecDepth 8192 in
set_option maxHeartbeats 1200000 in
theorem W16_main_v94 (V0 : Valuation τ sig (Elt F)) : W16 V0 (no_index (Proc.devRef .tc main_v94)) = (Cert.Ref2Ideal.Read.val_main_v105 (F := F) (V0 (Proc.devRef .tc main_arg1)) (V0 (Proc.devRef .tc main_arg7))) := by
  unfold W16
  simp only [hostOps0_15, TRef.nullary, TRef.ternary, TRef.binary, TRef.unary, TRef.toBuf, TRef.ofBuf, cast_eq]
  after_results_simp
  simp only [W15_main_c_34, W15_main_v90, W15_main_v93] <;> rfl

/-- The contents of the buffers after the host operations up to `hostOps0_16`. -/
def W17 (V0 : Valuation τ sig (Elt F)) : Valuation τ sig (Elt F) := after hostOps0_16 (W16 V0)

/-- The buffers `hostOps0_16` writes. -/
abbrev W17_W : List (Ref sig .tc) := [main_v95, main_c_35, main_v96, main_c_36, main_v97, main_c_37, main_c_38]

theorem W17_writes : (hostOps0_16 : List (HloOp τ sig (Elt F))).Forall fun op => op.writes ⊆ ((W17_W).map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W17_keep (V0 : Valuation τ sig (Elt F)) (r : Ref sig .tc) (h : r ∉ W17_W) :
    W17 V0 (Proc.devRef .tc r) = (W16 V0) (Proc.devRef .tc r) :=
  after_of_writes_sub hostOps0_16 _ W17_writes h

theorem W17_main_v0 (V0 : Valuation τ sig (Elt F)) : W17 V0 (no_index (Proc.devRef .tc main_v0)) = (Cert.Ref2Ideal.Read.val_main_v0 (F := F) (V0 (Proc.devRef .tc main_arg0))) :=
  (W17_keep V0 main_v0 (by decide)).trans (W16_main_v0 V0)

theorem W17_main_v73 (V0 : Valuation τ sig (Elt F)) : W17 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W17_keep V0 main_v73 (by decide)).trans (W16_main_v73 V0)

theorem W17_main_v74 (V0 : Valuation τ sig (Elt F)) : W17 V0 (no_index (Proc.devRef .tc main_v74)) = (Cert.Ref2Ideal.Read.val_main_v85 (F := F) (V0 (Proc.devRef .tc main_arg1)) (V0 (Proc.devRef .tc main_arg7))) :=
  (W17_keep V0 main_v74 (by decide)).trans (W16_main_v74 V0)

theorem W17_main_v94 (V0 : Valuation τ sig (Elt F)) : W17 V0 (no_index (Proc.devRef .tc main_v94)) = (Cert.Ref2Ideal.Read.val_main_v105 (F := F) (V0 (Proc.devRef .tc main_arg1)) (V0 (Proc.devRef .tc main_arg7))) :=
  (W17_keep V0 main_v94 (by decide)).trans (W16_main_v94 V0)

set_option maxRecDepth 8192 in
set_option maxHeartbeats 1200000 in
theorem W17_main_v95 (V0 : Valuation τ sig (Elt F)) : W17 V0 (no_index (Proc.devRef .tc main_v95)) = (Cert.Ref2Ideal.Read.val_main_v106 (F := F) (V0 (Proc.devRef .tc main_arg1)) (V0 (Proc.devRef .tc main_arg7))) := by
  unfold W17
  simp only [hostOps0_16, TRef.nullary, TRef.ternary, TRef.binary, TRef.unary, TRef.toBuf, TRef.ofBuf, cast_eq]
  after_results_simp
  simp only [W16_main_v94] <;> rfl

set_option maxRecDepth 8192 in
set_option maxHeartbeats 1200000 in
theorem W17_main_v96 (V0 : Valuation τ sig (Elt F)) : W17 V0 (no_index (Proc.devRef .tc main_v96)) = (Cert.Ref2Ideal.Read.val_main_v107 (F := F) (V0 (Proc.devRef .tc main_arg1)) (V0 (Proc.devRef .tc main_arg7))) := by
  unfold W17
  simp only [hostOps0_16, TRef.nullary, TRef.ternary, TRef.binary, TRef.unary, TRef.toBuf, TRef.ofBuf, cast_eq]
  after_results_simp
  simp only [W16_main_v94] <;> rfl

set_option maxRecDepth 8192 in
set_option maxHeartbeats 1200000 in
theorem W17_main_v97 (V0 : Valuation τ sig (Elt F)) : W17 V0 (no_index (Proc.devRef .tc main_v97)) = (Cert.Ref2Ideal.Read.val_main_v108 (F := F) (V0 (Proc.devRef .tc main_arg1)) (V0 (Proc.devRef .tc main_arg7))) := by
  unfold W17
  simp only [hostOps0_16, TRef.nullary, TRef.ternary, TRef.binary, TRef.unary, TRef.toBuf, TRef.ofBuf, cast_eq]
  after_results_simp
  simp only [W16_main_v94] <;> rfl

set_option maxRecDepth 8192 in
set_option maxHeartbeats 1200000 in
theorem W17_main_c_37 (V0 : Valuation τ sig (Elt F)) : W17 V0 (no_index (Proc.devRef .tc main_c_37)) = (Cert.Ref2Ideal.Read.val_main_c_1 (F := F)) := by
  unfold W17
  simp only [hostOps0_16, TRef.nullary, TRef.ternary, TRef.binary, TRef.unary, TRef.toBuf, TRef.ofBuf, cast_eq]
  after_results_simp
  all_goals rfl

set_option maxRecDepth 8192 in
set_option maxHeartbeats 1200000 in
theorem W17_main_c_38 (V0 : Valuation τ sig (Elt F)) : W17 V0 (no_index (Proc.devRef .tc main_c_38)) = (Cert.Ref2Ideal.Read.val_main_c_2 (F := F)) := by
  unfold W17
  simp only [hostOps0_16, TRef.nullary, TRef.ternary, TRef.binary, TRef.unary, TRef.toBuf, TRef.ofBuf, cast_eq]
  after_results_simp
  all_goals rfl

/-- The contents of the buffers after the host operations up to `hostOps0_17`. -/
def W18 (V0 : Valuation τ sig (Elt F)) : Valuation τ sig (Elt F) := after hostOps0_17 (W17 V0)

/-- The buffers `hostOps0_17` writes. -/
abbrev W18_W : List (Ref sig .tc) := [main_call8_v0, main_call8_v1, main_call8_v2, main_v98]

theorem W18_writes : (hostOps0_17 : List (HloOp τ sig (Elt F))).Forall fun op => op.writes ⊆ ((W18_W).map (Proc.devRef (τ := τ) .tc)).toFinset := by
  simp only [List.Forall]
  refine ⟨?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W18_keep (V0 : Valuation τ sig (Elt F)) (r : Ref sig .tc) (h : r ∉ W18_W) :
    W18 V0 (Proc.devRef .tc r) = (W17 V0) (Proc.devRef .tc r) :=
  after_of_writes_sub hostOps0_17 _ W18_writes h

theorem W18_main_v0 (V0 : Valuation τ sig (Elt F)) : W18 V0 (no_index (Proc.devRef .tc main_v0)) = (Cert.Ref2Ideal.Read.val_main_v0 (F := F) (V0 (Proc.devRef .tc main_arg0))) :=
  (W18_keep V0 main_v0 (by decide)).trans (W17_main_v0 V0)

theorem W18_main_v73 (V0 : Valuation τ sig (Elt F)) : W18 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W18_keep V0 main_v73 (by decide)).trans (W17_main_v73 V0)

theorem W18_main_v74 (V0 : Valuation τ sig (Elt F)) : W18 V0 (no_index (Proc.devRef .tc main_v74)) = (Cert.Ref2Ideal.Read.val_main_v85 (F := F) (V0 (Proc.devRef .tc main_arg1)) (V0 (Proc.devRef .tc main_arg7))) :=
  (W18_keep V0 main_v74 (by decide)).trans (W17_main_v74 V0)

theorem W18_main_v94 (V0 : Valuation τ sig (Elt F)) : W18 V0 (no_index (Proc.devRef .tc main_v94)) = (Cert.Ref2Ideal.Read.val_main_v105 (F := F) (V0 (Proc.devRef .tc main_arg1)) (V0 (Proc.devRef .tc main_arg7))) :=
  (W18_keep V0 main_v94 (by decide)).trans (W17_main_v94 V0)

theorem W18_main_v95 (V0 : Valuation τ sig (Elt F)) : W18 V0 (no_index (Proc.devRef .tc main_v95)) = (Cert.Ref2Ideal.Read.val_main_v106 (F := F) (V0 (Proc.devRef .tc main_arg1)) (V0 (Proc.devRef .tc main_arg7))) :=
  (W18_keep V0 main_v95 (by decide)).trans (W17_main_v95 V0)

theorem W18_main_v96 (V0 : Valuation τ sig (Elt F)) : W18 V0 (no_index (Proc.devRef .tc main_v96)) = (Cert.Ref2Ideal.Read.val_main_v107 (F := F) (V0 (Proc.devRef .tc main_arg1)) (V0 (Proc.devRef .tc main_arg7))) :=
  (W18_keep V0 main_v96 (by decide)).trans (W17_main_v96 V0)

set_option maxRecDepth 8192 in
set_option maxHeartbeats 1200000 in
theorem W18_main_v98 (V0 : Valuation τ sig (Elt F)) : W18 V0 (no_index (Proc.devRef .tc main_v98)) = (Cert.Ref2Ideal.Read.val_main_v109 (F := F) (V0 (Proc.devRef .tc main_arg1)) (V0 (Proc.devRef .tc main_arg7))) := by
  unfold W18
  simp only [hostOps0_17, TRef.nullary, TRef.ternary, TRef.binary, TRef.unary, TRef.toBuf, TRef.ofBuf, cast_eq]
  after_results_simp
  simp only [W17_main_c_37, W17_main_c_38, W17_main_v97] <;> rfl

/-- The contents of the buffers after the host operations up to `hostOps0_18`. -/
def W19 (V0 : Valuation τ sig (Elt F)) : Valuation τ sig (Elt F) := after hostOps0_18 (W18 V0)

/-- The buffers `hostOps0_18` writes. -/
abbrev W19_W : List (Ref sig .tc) := [main_c_39, main_v99, main_v100, main_v101, main_v102, main_c_40, main_v103, main_c_41, main_c_42]

theorem W19_writes : (hostOps0_18 : List (HloOp τ sig (Elt F))).Forall fun op => op.writes ⊆ ((W19_W).map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W19_keep (V0 : Valuation τ sig (Elt F)) (r : Ref sig .tc) (h : r ∉ W19_W) :
    W19 V0 (Proc.devRef .tc r) = (W18 V0) (Proc.devRef .tc r) :=
  after_of_writes_sub hostOps0_18 _ W19_writes h

theorem W19_main_v0 (V0 : Valuation τ sig (Elt F)) : W19 V0 (no_index (Proc.devRef .tc main_v0)) = (Cert.Ref2Ideal.Read.val_main_v0 (F := F) (V0 (Proc.devRef .tc main_arg0))) :=
  (W19_keep V0 main_v0 (by decide)).trans (W18_main_v0 V0)

theorem W19_main_v73 (V0 : Valuation τ sig (Elt F)) : W19 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W19_keep V0 main_v73 (by decide)).trans (W18_main_v73 V0)

theorem W19_main_v94 (V0 : Valuation τ sig (Elt F)) : W19 V0 (no_index (Proc.devRef .tc main_v94)) = (Cert.Ref2Ideal.Read.val_main_v105 (F := F) (V0 (Proc.devRef .tc main_arg1)) (V0 (Proc.devRef .tc main_arg7))) :=
  (W19_keep V0 main_v94 (by decide)).trans (W18_main_v94 V0)

set_option maxRecDepth 8192 in
set_option maxHeartbeats 1200000 in
theorem W19_main_v101 (V0 : Valuation τ sig (Elt F)) : W19 V0 (no_index (Proc.devRef .tc main_v101)) = (Cert.Ref2Ideal.Read.val_main_v112 (F := F) (V0 (Proc.devRef .tc main_arg1)) (V0 (Proc.devRef .tc main_arg7))) := by
  unfold W19
  simp only [hostOps0_18, TRef.nullary, TRef.ternary, TRef.binary, TRef.unary, TRef.toBuf, TRef.ofBuf, cast_eq]
  after_results_simp
  simp only [W18_main_v74, W18_main_v98] <;> rfl

set_option maxRecDepth 8192 in
set_option maxHeartbeats 1200000 in
theorem W19_main_v103 (V0 : Valuation τ sig (Elt F)) : W19 V0 (no_index (Proc.devRef .tc main_v103)) = (Cert.Ref2Ideal.Read.val_main_v114 (F := F) (V0 (Proc.devRef .tc main_arg1)) (V0 (Proc.devRef .tc main_arg7))) := by
  unfold W19
  simp only [hostOps0_18, TRef.nullary, TRef.ternary, TRef.binary, TRef.unary, TRef.toBuf, TRef.ofBuf, cast_eq]
  after_results_simp
  simp only [W18_main_v95, W18_main_v96] <;> rfl

set_option maxRecDepth 8192 in
set_option maxHeartbeats 1200000 in
theorem W19_main_c_41 (V0 : Valuation τ sig (Elt F)) : W19 V0 (no_index (Proc.devRef .tc main_c_41)) = (Cert.Ref2Ideal.Read.val_main_c_1 (F := F)) := by
  unfold W19
  simp only [hostOps0_18, TRef.nullary, TRef.ternary, TRef.binary, TRef.unary, TRef.toBuf, TRef.ofBuf, cast_eq]
  after_results_simp
  all_goals rfl

set_option maxRecDepth 8192 in
set_option maxHeartbeats 1200000 in
theorem W19_main_c_42 (V0 : Valuation τ sig (Elt F)) : W19 V0 (no_index (Proc.devRef .tc main_c_42)) = (Cert.Ref2Ideal.Read.val_main_c_2 (F := F)) := by
  unfold W19
  simp only [hostOps0_18, TRef.nullary, TRef.ternary, TRef.binary, TRef.unary, TRef.toBuf, TRef.ofBuf, cast_eq]
  after_results_simp
  all_goals rfl

/-- The contents of the buffers after the host operations up to `hostOps0_19`. -/
def W20 (V0 : Valuation τ sig (Elt F)) : Valuation τ sig (Elt F) := after hostOps0_19 (W19 V0)

/-- The buffers `hostOps0_19` writes. -/
abbrev W20_W : List (Ref sig .tc) := [main_call9_v0, main_call9_v1, main_call9_v2, main_v104]

theorem W20_writes : (hostOps0_19 : List (HloOp τ sig (Elt F))).Forall fun op => op.writes ⊆ ((W20_W).map (Proc.devRef (τ := τ) .tc)).toFinset := by
  simp only [List.Forall]
  refine ⟨?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W20_keep (V0 : Valuation τ sig (Elt F)) (r : Ref sig .tc) (h : r ∉ W20_W) :
    W20 V0 (Proc.devRef .tc r) = (W19 V0) (Proc.devRef .tc r) :=
  after_of_writes_sub hostOps0_19 _ W20_writes h

theorem W20_main_v0 (V0 : Valuation τ sig (Elt F)) : W20 V0 (no_index (Proc.devRef .tc main_v0)) = (Cert.Ref2Ideal.Read.val_main_v0 (F := F) (V0 (Proc.devRef .tc main_arg0))) :=
  (W20_keep V0 main_v0 (by decide)).trans (W19_main_v0 V0)

theorem W20_main_v73 (V0 : Valuation τ sig (Elt F)) : W20 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W20_keep V0 main_v73 (by decide)).trans (W19_main_v73 V0)

theorem W20_main_v94 (V0 : Valuation τ sig (Elt F)) : W20 V0 (no_index (Proc.devRef .tc main_v94)) = (Cert.Ref2Ideal.Read.val_main_v105 (F := F) (V0 (Proc.devRef .tc main_arg1)) (V0 (Proc.devRef .tc main_arg7))) :=
  (W20_keep V0 main_v94 (by decide)).trans (W19_main_v94 V0)

theorem W20_main_v101 (V0 : Valuation τ sig (Elt F)) : W20 V0 (no_index (Proc.devRef .tc main_v101)) = (Cert.Ref2Ideal.Read.val_main_v112 (F := F) (V0 (Proc.devRef .tc main_arg1)) (V0 (Proc.devRef .tc main_arg7))) :=
  (W20_keep V0 main_v101 (by decide)).trans (W19_main_v101 V0)

set_option maxRecDepth 8192 in
set_option maxHeartbeats 1200000 in
theorem W20_main_v104 (V0 : Valuation τ sig (Elt F)) : W20 V0 (no_index (Proc.devRef .tc main_v104)) = (Cert.Ref2Ideal.Read.val_main_v115 (F := F) (V0 (Proc.devRef .tc main_arg1)) (V0 (Proc.devRef .tc main_arg7))) := by
  unfold W20
  simp only [hostOps0_19, TRef.nullary, TRef.ternary, TRef.binary, TRef.unary, TRef.toBuf, TRef.ofBuf, cast_eq]
  after_results_simp
  simp only [W19_main_c_41, W19_main_c_42, W19_main_v103] <;> rfl

/-- The contents of the buffers after the host operations up to `hostOps0_20`. -/
def W21 (V0 : Valuation τ sig (Elt F)) : Valuation τ sig (Elt F) := after hostOps0_20 (W20 V0)

/-- The buffers `hostOps0_20` writes. -/
abbrev W21_W : List (Ref sig .tc) := [main_c_43, main_v105, main_v106, main_v107, main_cst_44, main_v108]

theorem W21_writes : (hostOps0_20 : List (HloOp τ sig (Elt F))).Forall fun op => op.writes ⊆ ((W21_W).map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W21_keep (V0 : Valuation τ sig (Elt F)) (r : Ref sig .tc) (h : r ∉ W21_W) :
    W21 V0 (Proc.devRef .tc r) = (W20 V0) (Proc.devRef .tc r) :=
  after_of_writes_sub hostOps0_20 _ W21_writes h

theorem W21_main_v0 (V0 : Valuation τ sig (Elt F)) : W21 V0 (no_index (Proc.devRef .tc main_v0)) = (Cert.Ref2Ideal.Read.val_main_v0 (F := F) (V0 (Proc.devRef .tc main_arg0))) :=
  (W21_keep V0 main_v0 (by decide)).trans (W20_main_v0 V0)

theorem W21_main_v73 (V0 : Valuation τ sig (Elt F)) : W21 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W21_keep V0 main_v73 (by decide)).trans (W20_main_v73 V0)

theorem W21_main_v94 (V0 : Valuation τ sig (Elt F)) : W21 V0 (no_index (Proc.devRef .tc main_v94)) = (Cert.Ref2Ideal.Read.val_main_v105 (F := F) (V0 (Proc.devRef .tc main_arg1)) (V0 (Proc.devRef .tc main_arg7))) :=
  (W21_keep V0 main_v94 (by decide)).trans (W20_main_v94 V0)

set_option maxRecDepth 8192 in
set_option maxHeartbeats 1200000 in
theorem W21_main_v108 (V0 : Valuation τ sig (Elt F)) : W21 V0 (no_index (Proc.devRef .tc main_v108)) = (Cert.Ref2Ideal.Read.val_main_v119 (F := F) (V0 (Proc.devRef .tc main_arg1)) (V0 (Proc.devRef .tc main_arg7))) := by
  unfold W21
  simp only [hostOps0_20, TRef.nullary, TRef.ternary, TRef.binary, TRef.unary, TRef.toBuf, TRef.ofBuf, cast_eq]
  after_results_simp
  simp only [W20_main_v101, W20_main_v104] <;> rfl

/-- The contents of the buffers after the host operations up to `hostOps0_21`. -/
def W22 (V0 : Valuation τ sig (Elt F)) : Valuation τ sig (Elt F) := after hostOps0_21 (W21 V0)

/-- The buffers `hostOps0_21` writes. -/
abbrev W22_W : List (Ref sig .tc) := [main_v109]

theorem W22_writes : (hostOps0_21 : List (HloOp τ sig (Elt F))).Forall fun op => op.writes ⊆ ((W22_W).map (Proc.devRef (τ := τ) .tc)).toFinset := by
  simp only [List.Forall]
  (simp only [nullary_writes, unary_writes, binary_writes, ternary_writes, quaternary_writes, reshape_writes, binaryIndexed_writes, nary_writes, unaryIndexed_writes, Finset.singleton_subset_iff, List.mem_toFinset]; exact List.mem_map_of_mem (by decide))

theorem W22_keep (V0 : Valuation τ sig (Elt F)) (r : Ref sig .tc) (h : r ∉ W22_W) :
    W22 V0 (Proc.devRef .tc r) = (W21 V0) (Proc.devRef .tc r) :=
  after_of_writes_sub hostOps0_21 _ W22_writes h

theorem W22_main_v0 (V0 : Valuation τ sig (Elt F)) : W22 V0 (no_index (Proc.devRef .tc main_v0)) = (Cert.Ref2Ideal.Read.val_main_v0 (F := F) (V0 (Proc.devRef .tc main_arg0))) :=
  (W22_keep V0 main_v0 (by decide)).trans (W21_main_v0 V0)

theorem W22_main_v73 (V0 : Valuation τ sig (Elt F)) : W22 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W22_keep V0 main_v73 (by decide)).trans (W21_main_v73 V0)

theorem W22_main_v94 (V0 : Valuation τ sig (Elt F)) : W22 V0 (no_index (Proc.devRef .tc main_v94)) = (Cert.Ref2Ideal.Read.val_main_v105 (F := F) (V0 (Proc.devRef .tc main_arg1)) (V0 (Proc.devRef .tc main_arg7))) :=
  (W22_keep V0 main_v94 (by decide)).trans (W21_main_v94 V0)

set_option maxRecDepth 8192 in
set_option maxHeartbeats 1200000 in
theorem W22_main_v109 (V0 : Valuation τ sig (Elt F)) : W22 V0 (no_index (Proc.devRef .tc main_v109)) = (Cert.Ref2Ideal.Read.val_main_v120 (F := F) (V0 (Proc.devRef .tc main_arg1)) (V0 (Proc.devRef .tc main_arg7))) := by
  unfold W22
  simp only [hostOps0_21, TRef.nullary, TRef.ternary, TRef.binary, TRef.unary, TRef.toBuf, TRef.ofBuf, cast_eq]
  after_results_simp
  simp only [W21_main_v108] <;> rfl

/-- The contents of the buffers after the host operations up to `hostOps0_22`. -/
def W23 (V0 : Valuation τ sig (Elt F)) : Valuation τ sig (Elt F) := after hostOps0_22 (W22 V0)

/-- The buffers `hostOps0_22` writes. -/
abbrev W23_W : List (Ref sig .tc) := [main_v110, main_c_45, main_v111, main_c_46, main_v112, main_c_47, main_v113, main_c_48, main_v114, main_c_49, main_v115, main_v116, main_c_50]

theorem W23_writes : (hostOps0_22 : List (HloOp τ sig (Elt F))).Forall fun op => op.writes ⊆ ((W23_W).map (Proc.devRef (τ := τ) .tc)).toFinset := by
  simp only [List.Forall]
  refine ⟨?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W23_keep (V0 : Valuation τ sig (Elt F)) (r : Ref sig .tc) (h : r ∉ W23_W) :
    W23 V0 (Proc.devRef .tc r) = (W22 V0) (Proc.devRef .tc r) :=
  after_of_writes_sub hostOps0_22 _ W23_writes h

theorem W23_main_v0 (V0 : Valuation τ sig (Elt F)) : W23 V0 (no_index (Proc.devRef .tc main_v0)) = (Cert.Ref2Ideal.Read.val_main_v0 (F := F) (V0 (Proc.devRef .tc main_arg0))) :=
  (W23_keep V0 main_v0 (by decide)).trans (W22_main_v0 V0)

theorem W23_main_v73 (V0 : Valuation τ sig (Elt F)) : W23 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W23_keep V0 main_v73 (by decide)).trans (W22_main_v73 V0)

set_option maxRecDepth 8192 in
set_option maxHeartbeats 1200000 in
theorem W23_main_v110 (V0 : Valuation τ sig (Elt F)) : W23 V0 (no_index (Proc.devRef .tc main_v110)) = (Cert.Ref2Ideal.Read.val_main_v121 (F := F) (V0 (Proc.devRef .tc main_arg1)) (V0 (Proc.devRef .tc main_arg7))) := by
  unfold W23
  simp only [hostOps0_22, TRef.nullary, TRef.ternary, TRef.binary, TRef.unary, TRef.toBuf, TRef.ofBuf, cast_eq]
  after_results_simp
  simp only [W22_main_v109] <;> rfl

set_option maxRecDepth 8192 in
set_option maxHeartbeats 1200000 in
theorem W23_main_v111 (V0 : Valuation τ sig (Elt F)) : W23 V0 (no_index (Proc.devRef .tc main_v111)) = (Cert.Ref2Ideal.Read.val_main_v122 (F := F) (V0 (Proc.devRef .tc main_arg1)) (V0 (Proc.devRef .tc main_arg7))) := by
  unfold W23
  simp only [hostOps0_22, TRef.nullary, TRef.ternary, TRef.binary, TRef.unary, TRef.toBuf, TRef.ofBuf, cast_eq]
  after_results_simp
  simp only [W22_main_v94] <;> rfl

set_option maxRecDepth 8192 in
set_option maxHeartbeats 1200000 in
theorem W23_main_v113 (V0 : Valuation τ sig (Elt F)) : W23 V0 (no_index (Proc.devRef .tc main_v113)) = (Cert.Ref2Ideal.Read.val_main_v132 (F := F) (V0 (Proc.devRef .tc main_arg1)) (V0 (Proc.devRef .tc main_arg7))) := by
  unfold W23
  simp only [hostOps0_22, TRef.nullary, TRef.ternary, TRef.binary, TRef.unary, TRef.toBuf, TRef.ofBuf, cast_eq]
  after_results_simp
  simp only [W22_main_v94] <;> rfl

set_option maxRecDepth 8192 in
set_option maxHeartbeats 1200000 in
theorem W23_main_v116 (V0 : Valuation τ sig (Elt F)) : W23 V0 (no_index (Proc.devRef .tc main_v116)) = (kv_main_v116 (F := F) (V0 (Proc.devRef .tc main_arg1)) (V0 (Proc.devRef .tc main_arg7))) := by
  unfold W23
  simp only [hostOps0_22, TRef.nullary, TRef.ternary, TRef.binary, TRef.unary, TRef.toBuf, TRef.ofBuf, cast_eq]
  after_results_simp
  simp only [W22_main_v94] <;> rfl

set_option maxRecDepth 8192 in
set_option maxHeartbeats 1200000 in
theorem W23_main_c_50 (V0 : Valuation τ sig (Elt F)) : W23 V0 (no_index (Proc.devRef .tc main_c_50)) = (kv_main_c_50 (F := F)) := by
  unfold W23
  simp only [hostOps0_22, TRef.nullary, TRef.ternary, TRef.binary, TRef.unary, TRef.toBuf, TRef.ofBuf, cast_eq]
  after_results_simp
  all_goals rfl

/-- The contents of the buffers after the host operations up to `hostOps0_23`. -/
def W24 (V0 : Valuation τ sig (Elt F)) : Valuation τ sig (Elt F) := after hostOps0_23 (W23 V0)

/-- The buffers `hostOps0_23` writes. -/
abbrev W24_W : List (Ref sig .tc) := [main_call11_v0, main_v117]

theorem W24_writes : (hostOps0_23 : List (HloOp τ sig (Elt F))).Forall fun op => op.writes ⊆ ((W24_W).map (Proc.devRef (τ := τ) .tc)).toFinset := by
  simp only [List.Forall]
  refine ⟨?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W24_keep (V0 : Valuation τ sig (Elt F)) (r : Ref sig .tc) (h : r ∉ W24_W) :
    W24 V0 (Proc.devRef .tc r) = (W23 V0) (Proc.devRef .tc r) :=
  after_of_writes_sub hostOps0_23 _ W24_writes h

theorem W24_main_v0 (V0 : Valuation τ sig (Elt F)) : W24 V0 (no_index (Proc.devRef .tc main_v0)) = (Cert.Ref2Ideal.Read.val_main_v0 (F := F) (V0 (Proc.devRef .tc main_arg0))) :=
  (W24_keep V0 main_v0 (by decide)).trans (W23_main_v0 V0)

theorem W24_main_v73 (V0 : Valuation τ sig (Elt F)) : W24 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W24_keep V0 main_v73 (by decide)).trans (W23_main_v73 V0)

theorem W24_main_v110 (V0 : Valuation τ sig (Elt F)) : W24 V0 (no_index (Proc.devRef .tc main_v110)) = (Cert.Ref2Ideal.Read.val_main_v121 (F := F) (V0 (Proc.devRef .tc main_arg1)) (V0 (Proc.devRef .tc main_arg7))) :=
  (W24_keep V0 main_v110 (by decide)).trans (W23_main_v110 V0)

theorem W24_main_v113 (V0 : Valuation τ sig (Elt F)) : W24 V0 (no_index (Proc.devRef .tc main_v113)) = (Cert.Ref2Ideal.Read.val_main_v132 (F := F) (V0 (Proc.devRef .tc main_arg1)) (V0 (Proc.devRef .tc main_arg7))) :=
  (W24_keep V0 main_v113 (by decide)).trans (W23_main_v113 V0)

set_option maxRecDepth 8192 in
set_option maxHeartbeats 1200000 in
theorem W24_main_v117 (V0 : Valuation τ sig (Elt F)) : W24 V0 (no_index (Proc.devRef .tc main_v117)) = (kv_main_v117 (F := F) (V0 (Proc.devRef .tc main_arg1)) (V0 (Proc.devRef .tc main_arg7))) := by
  unfold W24
  simp only [hostOps0_23, TRef.nullary, TRef.ternary, TRef.binary, TRef.unary, TRef.toBuf, TRef.ofBuf, cast_eq]
  after_results_simp
  simp only [W23_main_c_50, W23_main_v111, W23_main_v116] <;> rfl

/-- The contents of the buffers after the host operations up to `hostOps0_24`. -/
def W25 (V0 : Valuation τ sig (Elt F)) : Valuation τ sig (Elt F) := after hostOps0_24 (W24 V0)

/-- The buffers `hostOps0_24` writes. -/
abbrev W25_W : List (Ref sig .tc) := [main_v118, main_v119, main_v120, main_v121]

theorem W25_writes : (hostOps0_24 : List (HloOp τ sig (Elt F))).Forall fun op => op.writes ⊆ ((W25_W).map (Proc.devRef (τ := τ) .tc)).toFinset := by
  simp only [List.Forall]
  refine ⟨?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem W25_keep (V0 : Valuation τ sig (Elt F)) (r : Ref sig .tc) (h : r ∉ W25_W) :
    W25 V0 (Proc.devRef .tc r) = (W24 V0) (Proc.devRef .tc r) :=
  after_of_writes_sub hostOps0_24 _ W25_writes h

theorem W25_main_v0 (V0 : Valuation τ sig (Elt F)) : W25 V0 (no_index (Proc.devRef .tc main_v0)) = (Cert.Ref2Ideal.Read.val_main_v0 (F := F) (V0 (Proc.devRef .tc main_arg0))) :=
  (W25_keep V0 main_v0 (by decide)).trans (W24_main_v0 V0)

theorem W25_main_v73 (V0 : Valuation τ sig (Elt F)) : W25 V0 (no_index (Proc.devRef .tc main_v73)) = (kv_main_v73 (F := F) (V0 (Proc.devRef .tc main_arg3)) (V0 (Proc.devRef .tc main_arg5)) (V0 (Proc.devRef .tc main_arg6)) (V0 (Proc.devRef .tc main_arg7))) :=
  (W25_keep V0 main_v73 (by decide)).trans (W24_main_v73 V0)

/-- The contents before the last operation of `hostOps0_24`, which stacks the rows. -/
def W25p (V0 : Valuation τ sig (Elt F)) : Valuation τ sig (Elt F) := after ((hostOps0_24 : List (HloOp τ sig (Elt F))).take 3) (W24 V0)

set_option maxRecDepth 8192 in
set_option maxHeartbeats 1200000 in
theorem W25p_main_v118 (V0 : Valuation τ sig (Elt F)) : W25p V0 (no_index (Proc.devRef .tc main_v118)) = (kv_main_v118 (F := F) (V0 (Proc.devRef .tc main_arg1)) (V0 (Proc.devRef .tc main_arg7))) := by
  unfold W25p
  simp only [hostOps0_24, TRef.nullary, TRef.ternary, TRef.binary, TRef.unary, TRef.toBuf, TRef.ofBuf, cast_eq, List.take_succ_cons, List.take_zero]
  after_results_simp
  simp only [W24_main_v110] <;> rfl

set_option maxRecDepth 8192 in
set_option maxHeartbeats 1200000 in
theorem W25p_main_v119 (V0 : Valuation τ sig (Elt F)) : W25p V0 (no_index (Proc.devRef .tc main_v119)) = (kv_main_v119 (F := F) (V0 (Proc.devRef .tc main_arg1)) (V0 (Proc.devRef .tc main_arg7))) := by
  unfold W25p
  simp only [hostOps0_24, TRef.nullary, TRef.ternary, TRef.binary, TRef.unary, TRef.toBuf, TRef.ofBuf, cast_eq, List.take_succ_cons, List.take_zero]
  after_results_simp
  simp only [W24_main_v113] <;> rfl

set_option maxRecDepth 8192 in
set_option maxHeartbeats 1200000 in
theorem W25p_main_v120 (V0 : Valuation τ sig (Elt F)) : W25p V0 (no_index (Proc.devRef .tc main_v120)) = (kv_main_v120 (F := F) (V0 (Proc.devRef .tc main_arg1)) (V0 (Proc.devRef .tc main_arg7))) := by
  unfold W25p
  simp only [hostOps0_24, TRef.nullary, TRef.ternary, TRef.binary, TRef.unary, TRef.toBuf, TRef.ofBuf, cast_eq, List.take_succ_cons, List.take_zero]
  after_results_simp
  simp only [W24_main_v117] <;> rfl

set_option maxRecDepth 8192 in
set_option maxHeartbeats 1200000 in
theorem W25_main_v121 (V0 : Valuation τ sig (Elt F)) : W25 V0 (no_index (Proc.devRef .tc main_v121)) = (kv_main_v121 (F := F) (V0 (Proc.devRef .tc main_arg1)) (V0 (Proc.devRef .tc main_arg7))) := by
  have h : W25 V0 (Proc.devRef .tc main_v121) = kst_main_v121 (F := F) (W25p V0 (Proc.devRef .tc main_v118)) (W25p V0 (Proc.devRef .tc main_v119)) (W25p V0 (Proc.devRef .tc main_v120)) := by
    show (nary ![main_v118, main_v119, main_v120] main_v121 (fun u => (concatenate S3 0 [⟨S1, (u 0 : (⟨S1, .i32⟩ : BufTy).Contents (Elt F))⟩, ⟨S1, (u 1 : (⟨S1, .i32⟩ : BufTy).Contents (Elt F))⟩, ⟨S1, (u 2 : (⟨S1, .i32⟩ : BufTy).Contents (Elt F))⟩] concatenates_S1_S1_S1_S3_d0 : (⟨S3, .i32⟩ : BufTy).Contents (Elt F))) : HloOp τ sig (Elt F)).result (W25p V0) (Proc.devRef .tc main_v121) = _
    exact nary_result ..
  rw [h, W25p_main_v118, W25p_main_v119, W25p_main_v120]
  rfl

theorem after_app (a b : List (HloOp τ sig (Elt F))) (V0 : Valuation τ sig (Elt F)) : after (a ++ b) V0 = after b (after a V0) := by
  induction a generalizing V0 with
  | nil => rfl
  | cons op a ih => exact ih _

theorem after_split (l : List (HloOp τ sig (Elt F))) (k : ℕ) (V0 : Valuation τ sig (Elt F)) : after l V0 = after (l.drop k) (after (l.take k) V0) := by
  rw [← after_app, List.take_append_drop]

/-- The contents the region finds: the host operations in order. -/
theorem V_eq (m : (ℓ : Loc nD τ sig) → Buf (Elt F) ℓ) (c : Dev nD) (b : Ref sig .tc) :
    V m c b = W25 (fun b => m (c, b)) (Proc.devRef .tc b) := by
  unfold V
  simp only [List.flatten_cons, List.flatten_nil, List.append_nil, after_app]
  rw [after_split hostOps0_12 11]
  rfl

end Cert.Ffn2Ideal.HostVals

end

end
-- ==== Proof.KBody2.lean ====
/- The second kernel's body, case by case. -/
module

public import proofs.«01_k».proof.Proof.Gen.Ffn2Ideal.Frame
public import proofs.«01_k».proof.Proof.Core
public import Idealize.ShloMosaic.Lib.Tactic
public import Idealize.ShloMosaic.Lib.Pipeline.ValueKit.Tiles
public import Idealize.ShloMosaic.Lib.Pipeline.Value

@[expose] public section

noncomputable section

namespace Cert.Ffn2Ideal.KValue

open Cert.Ffn2Ideal Cert.Ffn2Ideal.Gen Idealize.ShloMosaic Idealize.ShloMosaic.TcCoe Idealize.ShloMosaic.Tactic

variable {F : FTy → Type} [FloatOps F]

theorem hz : (![0, 0] : Fin 2 → Nat) = fun _ => 0 := funext fun a => by fin_cases a <;> rfl

/-- The first point of a sweep leaves zero plus the first product in the accumulator. -/
theorem sout_A (c : Dev nD) (i : grid0.Coords) (arg3 : Memref sig .tc .smem S3 .i32) (harg3 : arg3.IsWhole) (arg4 : Memref sig .tc .vmem S1024x1024 .i8) (harg4 : arg4.IsWhole) (arg5 : Memref sig .tc .vmem S1024x1024 .i8) (harg5 : arg5.IsWhole) (arg6 : Memref sig .tc .vmem S8x1024 .i32) (harg6 : arg6.IsWhole) (arg7 : Memref sig .tc .vmem S1024x1024 .i8) (harg7 : arg7.IsWhole) (arg8 : Memref sig .tc .vmem S1024x1024 .i8) (harg8 : arg8.IsWhole) (arg9 : Memref sig .tc .vmem S1024x1024 .f32) (harg9 : arg9.IsWhole) (hc0 : cond0_0 i) (hc1 : ¬cond0_1 i) (x0 : Vec F S3 .i32) (x1 : Vec F S1024x1024 .i8) (x2 : Vec F S1024x1024 .i8) (x3 : Vec F S8x1024 .i32) (x4 : Vec F S1024x1024 .i8) :
    sout0_A_0 c i arg3 harg3 arg4 harg4 arg5 harg5 arg6 harg6 arg7 harg7 arg8 harg8 arg9 harg9 hc0 hc1 x0 x1 x2 x3 x4 = k0_pay2 k0_pay1 x1 x2 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg4.read_unread, harg5.read_unread, View.ld_unit_zero (S := S1024x1024) hz]

/-- A later point adds its product. -/
theorem sout_B (c : Dev nD) (i : grid0.Coords) (arg3 : Memref sig .tc .smem S3 .i32) (harg3 : arg3.IsWhole) (arg4 : Memref sig .tc .vmem S1024x1024 .i8) (harg4 : arg4.IsWhole) (arg5 : Memref sig .tc .vmem S1024x1024 .i8) (harg5 : arg5.IsWhole) (arg6 : Memref sig .tc .vmem S8x1024 .i32) (harg6 : arg6.IsWhole) (arg7 : Memref sig .tc .vmem S1024x1024 .i8) (harg7 : arg7.IsWhole) (arg8 : Memref sig .tc .vmem S1024x1024 .i8) (harg8 : arg8.IsWhole) (arg9 : Memref sig .tc .vmem S1024x1024 .f32) (harg9 : arg9.IsWhole) (hc0 : ¬cond0_0 i) (hc1 : ¬cond0_1 i) (x0 : Vec F S3 .i32) (x1 : Vec F S1024x1024 .i8) (x2 : Vec F S1024x1024 .i8) (x3 : Vec F S8x1024 .i32) (x4 : Vec F S1024x1024 .i8) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 xs0 x1 x2 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg4.read_unread, harg5.read_unread, harg9.read_unread, View.ld_unit_zero (S := S1024x1024) hz]

/-- Column `j 1` of a one-row block. -/
def r1 (j : S1024x1024.Idx) : S1x1024.Idx := fun a => match a with
  | ⟨0, _⟩ => ⟨0, Nat.one_pos⟩
  | ⟨1, _⟩ => j 1

/-- Row `r`, column `j 1` of the packed parameter block. -/
def rw8 (r : Fin 8) (j : S1024x1024.Idx) : S8x1024.Idx := fun a => match a with
  | ⟨0, _⟩ => r
  | ⟨1, _⟩ => j 1

/-- Entry `k` of the three scalars. -/
def s3 (k : Fin 3) : S3.Idx := fun a => match a with
  | ⟨0, _⟩ => k

theorem row_apply (x : IVec S1x1024 32) (j : S1024x1024.Idx) :
    broadcastTo S1024x1024 (shapeCast S1x1024 x shapeCasts_S1x1024_S1x1024) broadcasts_S1x1024_S1024x1024 j = x (r1 j) := by
  rw [shapeCast_self]
  exact broadcastTo_apply x _ j (r1 j) fun a => match a with
    | ⟨0, _⟩ => rfl
    | ⟨1, _⟩ => rfl

/-- The epilogue at one index. -/
theorem pay3_apply (v16 : Vec F S1024x1024 .f32) (v19 v27 v31 v35 : Vec F S1x1024 .i32) (v39 : Vec F S1024x1024 .i8) (v42 v45 v48 : Elt F .i32)
    (j : S1024x1024.Idx) :
    k0_pay3 v16 v19 v27 v31 v35 v39 v42 v45 v48 j
      = Core.kOut (IntOp.addi (FloatOps.fptosi 32 (FloatOps.roundeven (v16 j))) (v19 (r1 j))) ((v39 j).signExtend 32)
          (v27 (r1 j)) (v31 (r1 j)) (v35 (r1 j)) v42 v45 v48 := by
  rw [← row_apply v19 j, ← row_apply v27 j, ← row_apply v31 j, ← row_apply v35 j]
  unfold k0_pay3
  rw [shapeCast_self v39]
  rfl

theorem ld_row (X : S8x1024.Idx → Elt F .i32) (r : Fin 8) (inb) (j : S1024x1024.Idx) :
    View.ld (Val := Elt F) (e' := .i32) X (Rect.unit ![r.val, 0] ![1, 1024] inb) (r1 j) = X (rw8 r j) :=
  View.ld_unit_apply_of X _ _ inb (r1 j) (rw8 r j) fun a => match a with
    | ⟨0, _⟩ => rfl
    | ⟨1, _⟩ => (Nat.zero_add (j 1).val).symm

theorem ld_s (X : S3.Idx → Elt F .i32) (k : Fin 3) (inb) (h) :
    View.ld (Val := Elt F) (e' := .i32) X (Rect.unit ![k.val] ![1] inb) (Shape.Idx.first h) = X (s3 k) :=
  View.ld_unit_apply_of X _ _ inb _ (s3 k) fun a => match a with
    | ⟨0, _⟩ => rfl

/-- The last point's output. -/
theorem out_C (c : Dev nD) (i : grid0.Coords) (arg3 : Memref sig .tc .smem S3 .i32) (harg3 : arg3.IsWhole) (arg4 : Memref sig .tc .vmem S1024x1024 .i8) (harg4 : arg4.IsWhole) (arg5 : Memref sig .tc .vmem S1024x1024 .i8) (harg5 : arg5.IsWhole) (arg6 : Memref sig .tc .vmem S8x1024 .i32) (harg6 : arg6.IsWhole) (arg7 : Memref sig .tc .vmem S1024x1024 .i8) (harg7 : arg7.IsWhole) (arg8 : Memref sig .tc .vmem S1024x1024 .i8) (harg8 : arg8.IsWhole) (arg9 : Memref sig .tc .vmem S1024x1024 .f32) (harg9 : arg9.IsWhole) (hc0 : ¬cond0_0 i) (hc1 : cond0_1 i) (x0 : Vec F S3 .i32) (x1 : Vec F S1024x1024 .i8) (x2 : Vec F S1024x1024 .i8) (x3 : Vec F S8x1024 .i32) (x4 : Vec F S1024x1024 .i8) (xs0 : Vec F S1024x1024 .f32) (j : S1024x1024.Idx) :
    out0_C_5 c i arg3 harg3 arg4 harg4 arg5 harg5 arg6 harg6 arg7 harg7 arg8 harg8 arg9 harg9 hc0 hc1 x0 x1 x2 x3 x4 xs0 j
      = Core.kOut (IntOp.addi (FloatOps.fptosi 32 (FloatOps.roundeven (k0_pay2 xs0 x1 x2 j))) (x3 (rw8 0 j))) ((x4 j).signExtend 32)
          (x3 (rw8 1 j)) (x3 (rw8 2 j)) (x3 (rw8 3 j)) (x0 (s3 0)) (x0 (s3 1)) (x0 (s3 2)) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread, View.ld_unit_zero (S := S1024x1024) hz, View.readCov_unit_zero (S := S1024x1024) _ hz]
  rw [pay3_apply]
  have e0 := ld_row (F := F) x3 0
  have e1 := ld_row (F := F) x3 1
  have e2 := ld_row (F := F) x3 2
  have e3 := ld_row (F := F) x3 3
  have f0 := ld_s (F := F) x0 0
  have f1 := ld_s (F := F) x0 1
  have f2 := ld_s (F := F) x0 2
  congr 1
  all_goals first | rfl | exact congrArg _ (e0 _ _) | exact e1 _ _ | exact e2 _ _ | exact e3 _ _ | exact f0 _ _ | exact f1 _ _ | exact f2 _ _

end Cert.Ffn2Ideal.KValue

end

end
-- ==== Proof.K2.lean ====
/- What the second kernel leaves in its result array, at one index. -/
module

public import proofs.«01_k».proof.Proof.KBody2
public import proofs.«01_k».proof.Proof.Sums
public import proofs.«01_k».proof.Proof.Gen.Ffn2Ideal.Value
public import Idealize.ShloMosaic.PureOps.Ideal.Laws
public import Idealize.ShloMosaic.Lib.ValueIdxCore

@[expose] public section

noncomputable section

namespace Cert.Ffn2Ideal.KValue

open Cert.Ffn2Ideal Cert.Ffn2Ideal.Gen Idealize.ShloMosaic Idealize.ShloMosaic.TcCoe Idealize.ShloMosaic.Tactic

/-! ## One product of two staged blocks -/

theorem lhs_0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

theorem lhs_1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q

theorem rhs_0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q

theorem rhs_1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Row `j 0`, column `k` of the left block. -/
def lx (j : S1024x1024.Idx) (k : Fin 1024) : S1024x1024.Idx := fun a => match a with
  | ⟨0, _⟩ => j 0
  | ⟨1, _⟩ => k

/-- Row `k`, column `j 1` of the right block. -/
def rx (j : S1024x1024.Idx) (k : Fin 1024) : S1024x1024.Idx := fun a => match a with
  | ⟨0, _⟩ => k
  | ⟨1, _⟩ => j 1

/-- The accumulator's update at one index: what it held plus the sum of the products of the codes. -/
theorem pay2_apply (acc : Vec Ideal S1024x1024 .f32) (x w : Vec Ideal S1024x1024 .i8) (j : S1024x1024.Idx) :
    k0_pay2 (F := Ideal) acc x w j
      = acc j + ∑ k : Fin 1024, ((((x (lx j k)).toInt : ℝ) : EReal) * (((w (rx j k)).toInt : ℝ) : EReal)) := by
  unfold k0_pay2
  rw [shapeCast_self]
  show acc j + (Ideal.ofBits .f32 0x00000000#32 + ∑ q : dot_S1024x1024_S1024x1024_S1024x1024_1_0_0_1_n_n.contr.Idx,
    ((((x (dot_S1024x1024_S1024x1024_S1024x1024_1_0_0_1_n_n.lhsIdx j q)).toInt : ℝ) : EReal) * (((w (dot_S1024x1024_S1024x1024_S1024x1024_1_0_0_1_n_n.rhsIdx j q)).toInt : ℝ) : EReal))) = _
  rw [Ideal.ofBits_zero_f32, zero_add, ← Equiv.sum_comp (ValueIdx.contrEquiv1 dot_S1024x1024_S1024x1024_S1024x1024_1_0_0_1_n_n 1024 rfl rfl).symm]
  refine congrArg (fun z => acc j + z) ?_
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx j ((ValueIdx.contrEquiv1 dot_S1024x1024_S1024x1024_S1024x1024_1_0_0_1_n_n 1024 rfl rfl).symm k) = lx j k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx j ((ValueIdx.contrEquiv1 dot_S1024x1024_S1024x1024_S1024x1024_1_0_0_1_n_n 1024 rfl rfl).symm k) = rx j k := funext fun a => Fin.ext (by
    match a with
    | ⟨0, _⟩ => exact (rhs_0 _ _).trans hk
    | ⟨1, _⟩ => exact rhs_1 _ _)
  rw [el, er]

/-- The accumulator starts at zero. -/
theorem pay1_apply (j : S1024x1024.Idx) : k0_pay1 (F := Ideal) j = 0 := by
  unfold k0_pay1
  rw [shapeCast_self]
  exact Ideal.ofBits_zero_f32

/-! ## The accumulator over a sweep -/

variable (m : (ℓ : Loc nD τ sig) → Buf (Elt Ideal) ℓ)

/-- Row `r`, column `k` of the left operand. -/
def ixH (r k : ℕ) (hr : r < 6144) (hk : k < 18432) : S6144x18432.Idx := fun a => match a with
  | ⟨0, _⟩ => ⟨r, hr⟩
  | ⟨1, _⟩ => ⟨k, hk⟩

/-- Row `k`, column `c` of the right operand. -/
def ixW (k c : ℕ) (hk : k < 18432) (hc : c < 7168) : S18432x7168.Idx := fun a => match a with
  | ⟨0, _⟩ => ⟨k, hk⟩
  | ⟨1, _⟩ => ⟨c, hc⟩

/-- The `k`-th term of the product at row `r`, column `c`. -/
def term (H : S6144x18432.Idx → BitVec 8) (W : S18432x7168.Idx → BitVec 8) (r c k : ℕ) : EReal :=
  if h : r < 6144 ∧ k < 18432 ∧ c < 7168 then
    ((((H (ixH r k h.1 h.2.1)).toInt : ℝ) : EReal) * (((W (ixW k c h.2.1 h.2.2)).toInt : ℝ) : EReal))
  else 0

theorem co0 (t : Fin cfg0.N) : (grid0.coords t 0).val = t.val / 126 % 6 := Pipeline.Grid.coords_val t 0 (by decide) rfl
theorem co1 (t : Fin cfg0.N) : (grid0.coords t 1).val = t.val / 18 % 7 := Pipeline.Grid.coords_val t 1 (by decide) rfl
theorem co2 (t : Fin cfg0.N) : (grid0.coords t 2).val = t.val % 18 := by
  rw [Pipeline.Grid.coords_val t 2 (S := 1) (by decide) rfl, Nat.div_one]; rfl

/-- The staged block of the left operand, read off the array. -/
theorem iblk_x (c : Dev nD) (t : Fin cfg0.N) (y : S1024x1024.Idx) (i : S6144x18432.Idx)
    (h0 : (i 0).val = t.val / 126 % 6 * 1024 + (y 0).val) (h1 : (i 1).val = t.val % 18 * 1024 + (y 1).val) :
    iblk m c 1 t y = V m c main_arg2 i := by
  unfold iblk
  rw [View.read_apply]
  show V m c main_arg2 _ = V m c main_arg2 _
  congr 1
  funext a
  apply Fin.ext
  match a with
  | ⟨0, _⟩ =>
    show (BitVec.ofNat 32 (grid0.coords t 0).val).toNat * 1024 + 1 * (y 0).val = (i 0).val
    rw [co0, BitVec.toNat_ofNat, h0]; omega
  | ⟨1, _⟩ =>
    show (BitVec.ofNat 32 (grid0.coords t 2).val).toNat * 1024 + 1 * (y 1).val = (i 1).val
    rw [co2, BitVec.toNat_ofNat, h1]; omega

/-- The staged block of the right operand, read off the array. -/
theorem iblk_w (c : Dev nD) (t : Fin cfg0.N) (y : S1024x1024.Idx) (i : S18432x7168.Idx)
    (h0 : (i 0).val = t.val % 18 * 1024 + (y 0).val) (h1 : (i 1).val = t.val / 18 % 7 * 1024 + (y 1).val) :
    iblk m c 2 t y = V m c main_arg4 i := by
  unfold iblk
  rw [View.read_apply]
  show V m c main_arg4 _ = V m c main_arg4 _
  congr 1
  funext a
  apply Fin.ext
  match a with
  | ⟨0, _⟩ =>
    show (BitVec.ofNat 32 (grid0.coords t 2).val).toNat * 1024 + 1 * (y 0).val = (i 0).val
    rw [co2, BitVec.toNat_ofNat, h0]; omega
  | ⟨1, _⟩ =>
    show (BitVec.ofNat 32 (grid0.coords t 1).val).toNat * 1024 + 1 * (y 1).val = (i 1).val
    rw [co1, BitVec.toNat_ofNat, h1]; omega

/-- The staged block of the packed parameters, read off the array. -/
theorem iblk_p (c : Dev nD) (t : Fin cfg0.N) (y : S8x1024.Idx) (i : S8x7168.Idx)
    (h0 : (i 0).val = (y 0).val) (h1 : (i 1).val = t.val / 18 % 7 * 1024 + (y 1).val) :
    iblk m c 3 t y = V m c main_v73 i := by
  unfold iblk
  rw [View.read_apply]
  show V m c main_v73 _ = V m c main_v73 _
  congr 1
  funext a
  apply Fin.ext
  match a with
  | ⟨0, _⟩ =>
    show 0 * 8 + 1 * (y 0).val = (i 0).val
    omega
  | ⟨1, _⟩ =>
    show (BitVec.ofNat 32 (grid0.coords t 1).val).toNat * 1024 + 1 * (y 1).val = (i 1).val
    rw [co1, BitVec.toNat_ofNat, h1]; omega

/-- The staged block of the residual input, read off the array. -/
theorem iblk_r (c : Dev nD) (t : Fin cfg0.N) (y : S1024x1024.Idx) (i : S6144x7168.Idx)
    (h0 : (i 0).val = t.val / 126 % 6 * 1024 + (y 0).val) (h1 : (i 1).val = t.val / 18 % 7 * 1024 + (y 1).val) :
    iblk m c 4 t y = V m c main_v0 i := by
  unfold iblk
  rw [View.read_apply]
  show V m c main_v0 _ = V m c main_v0 _
  congr 1
  funext a
  apply Fin.ext
  match a with
  | ⟨0, _⟩ =>
    show (BitVec.ofNat 32 (grid0.coords t 0).val).toNat * 1024 + 1 * (y 0).val = (i 0).val
    rw [co0, BitVec.toNat_ofNat, h0]; omega
  | ⟨1, _⟩ =>
    show (BitVec.ofNat 32 (grid0.coords t 1).val).toNat * 1024 + 1 * (y 1).val = (i 1).val
    rw [co1, BitVec.toNat_ofNat, h1]; omega

/-- The three scalars, read off the array. -/
theorem iblk_s (c : Dev nD) (t : Fin cfg0.N) (k : Fin 3) : iblk m c 0 t (s3 k) = V m c main_v121 (s3 k) := by
  unfold iblk
  rw [View.read_apply]
  show V m c main_v121 _ = V m c main_v121 _
  congr 1
  funext a
  apply Fin.ext
  match a with
  | ⟨0, _⟩ =>
    show 0 * 3 + 1 * k.val = k.val
    omega

/-- What point `n` adds at index `j` of its block. -/
def part (c : Dev nD) (n : ℕ) (j : S1024x1024.Idx) : EReal :=
  ∑ k : Fin 1024, term (V m c main_arg2) (V m c main_arg4) (n / 126 % 6 * 1024 + (j 0).val) (n / 18 % 7 * 1024 + (j 1).val) (1024 * (n % 18) + k.val)

theorem part_eq (c : Dev nD) (t : Fin cfg0.N) (j : S1024x1024.Idx) :
    ∑ k : Fin 1024, ((((BitVec.toInt (n := 8) (iblk m c 1 t (lx j k))) : ℝ) : EReal) * (((BitVec.toInt (n := 8) (iblk m c 2 t (rx j k))) : ℝ) : EReal)) = part m c t.val j := by
  unfold part
  refine Finset.sum_congr rfl fun k _ => ?_
  have hj0 : (j 0).val < 1024 := (j 0).isLt
  have hj1 : (j 1).val < 1024 := (j 1).isLt
  have hk := k.isLt
  have hr : t.val / 126 % 6 * 1024 + (j 0).val < 6144 ∧ 1024 * (t.val % 18) + k.val < 18432 ∧ t.val / 18 % 7 * 1024 + (j 1).val < 7168 := by omega
  unfold term
  rw [dif_pos hr]
  rw [iblk_x m c t (lx j k) (ixH _ _ hr.1 hr.2.1) rfl (by show 1024 * (t.val % 18) + k.val = t.val % 18 * 1024 + k.val; omega),
    iblk_w m c t (rx j k) (ixW _ _ hr.2.1 hr.2.2) (by show 1024 * (t.val % 18) + k.val = t.val % 18 * 1024 + k.val; omega) rfl]

theorem sc_first (c : Dev nD) (n : ℕ) (h : n < cfg0.N) (acc : Vec Ideal S1024x1024 .f32) (h0 : n % 18 = 0) (j : S1024x1024.Idx) :
    Value.scAt0_0 m c n h acc j = 0 + part m c n j := by
  unfold Value.scAt0_0
  rw [dif_pos h0, dif_neg (by omega), sout_A, pay2_apply, pay1_apply]
  exact congrArg (fun z => (0 : EReal) + z) (part_eq m c ⟨n, h⟩ j)

theorem sc_next (c : Dev nD) (n : ℕ) (h : n < cfg0.N) (acc : Vec Ideal S1024x1024 .f32) (h0 : ¬ n % 18 = 0) (h1 : ¬ n % 18 = 17) (j : S1024x1024.Idx) :
    Value.scAt0_0 m c n h acc j = acc j + part m c n j := by
  unfold Value.scAt0_0
  rw [dif_neg h0, dif_neg h1, sout_B, pay2_apply]
  exact congrArg (fun z => acc j + z) (part_eq m c ⟨n, h⟩ j)

/-- The accumulator before the last point of a sweep. -/
theorem scratch_eq (c : Dev nD) (t : Fin cfg0.N) (ht : t.val % 18 = 16) (j : S1024x1024.Idx) :
    (outsAt0 m c t.val t.isLt).2 j = 0 + ∑ s ∈ Finset.range 17, part m c (18 * (t.val / 18) + s) j := by
  rw [Value.soutsAt0_0_eq]
  have := Pipeline.accAt_add_apply (N := cfg0.N) (fun n h => Value.scAt0_0 m c n h (VS0_0.read (Elt Ideal) VS0_0.junk)) (Value.scAt0_0 m c)
    (fun _ => (0 : EReal)) (part m c) (18 * (t.val / 18)) 16
    (fun h i => sc_first m c _ h _ (by omega) i)
    (fun n h acc i h1 h2 => sc_next m c n h acc (by omega) (by omega) i)
    (t.val % 18) (by omega) (by have := t.isLt; omega) j
  rw [this, ht]

/-- Row `r` of the packed parameters, at column `i 1` of the result. -/
def prm (r : Fin 8) (i : S6144x7168.Idx) : S8x7168.Idx := fun a => match a with
  | ⟨0, _⟩ => r
  | ⟨1, _⟩ => i 1

/-- The product at index `i` of the result. -/
def acc (c : Dev nD) (i : S6144x7168.Idx) : EReal :=
  ∑ k ∈ Finset.range 18432, term (V m c main_arg2) (V m c main_arg4) (i 0).val (i 1).val k

/-- The last point's accumulator is the whole product. -/
theorem last_eq (c : Dev nD) (i : S6144x7168.Idx) (n : ℕ) (hn : n = 18 * Value.run5Of i + 17) :
    (0 + ∑ s ∈ Finset.range 17, part m c (18 * ((n - 1) / 18) + s) (Value.loc5Of i)) + part m c n (Value.loc5Of i) = acc m c i := by
  have hi0 : (i 0).val < 6144 := (i 0).isLt
  have hi1 : (i 1).val < 7168 := (i 1).isLt
  have hr : Value.run5Of i = 7 * ((i 0).val / 1024) + (i 1).val / 1024 := by
    show 7 * ((i 0).val / 1024 - 0) + 1 * ((i 1).val / 1024 - 0) = _
    omega
  rw [hr] at hn
  have e : ∀ s, s < 18 → part m c (18 * ((n - 1) / 18) + s) (Value.loc5Of i)
      = ∑ k : Fin 1024, term (V m c main_arg2) (V m c main_arg4) (i 0).val (i 1).val (1024 * s + k.val) := by
    intro s hs
    unfold part
    refine Finset.sum_congr rfl fun k _ => ?_
    have a0 : (18 * ((n - 1) / 18) + s) / 126 % 6 * 1024 + (Value.loc5Of i 0).val = (i 0).val := by
      show _ + (i 0).val % 1024 = _
      omega
    have a1 : (18 * ((n - 1) / 18) + s) / 18 % 7 * 1024 + (Value.loc5Of i 1).val = (i 1).val := by
      show _ + (i 1).val % 1024 = _
      omega
    have a2 : (18 * ((n - 1) / 18) + s) % 18 = s := by omega
    rw [a0, a1, a2]
  have hl : part m c n (Value.loc5Of i) = ∑ k : Fin 1024, term (V m c main_arg2) (V m c main_arg4) (i 0).val (i 1).val (1024 * 17 + k.val) := by
    rw [← e 17 (by omega)]
    congr 1
    omega
  rw [hl, zero_add, Finset.sum_congr rfl fun s hs => e s (by have := Finset.mem_range.mp hs; omega),
    ← Finset.sum_range_succ (fun s => ∑ k : Fin 1024, term (V m c main_arg2) (V m c main_arg4) (i 0).val (i 1).val (1024 * s + k.val)) 17,
    Sums.sum_blocks 1024]
  rfl

end Cert.Ffn2Ideal.KValue

end
-- ==== Proof.K2v.lean ====
/- The second kernel's result at one index, and its operands read. -/
module

public import proofs.«01_k».proof.Proof.K2

@[expose] public section

noncomputable section

namespace Cert.Ffn2Ideal.KValue

open Cert.Ffn2Ideal Cert.Ffn2Ideal.Gen Idealize.ShloMosaic Idealize.ShloMosaic.TcCoe Idealize.ShloMosaic.Tactic

variable (m : (ℓ : Loc nD τ sig) → Buf (Elt Ideal) ℓ)

/-- The result at one index is what the last point of the sweep over its block left there. -/
theorem G5_fold (c : Dev nD) (i : S6144x7168.Idx) (h : Value.pt5Of i < cfg0.N) :
    Value.G5 m c i = (outsAt0 m c (Value.pt5Of i) h).1 (Value.loc5Of i) := by
  unfold Value.G5
  rw [dif_pos h, Value.outsAt0_sweep m c (Value.pt5Of i) h]

/-- What the last point of a sweep leaves in the output block. -/
theorem out_last (c : Dev nD) (t : Fin cfg0.N) (h0 : ¬ t.val % 18 = 0) (h17 : t.val % 18 = 17) (j : S1024x1024.Idx) :
    (outsAt0 m c t.val t.isLt).1 j = Core.kOut (IntOp.addi (FloatOps.fptosi 32 (FloatOps.roundeven (F := Ideal) (φ := .f32)
        (k0_pay2 (F := Ideal) (outsAt0 m c (t.val - 1) (Nat.lt_of_le_of_lt (Nat.sub_le _ _) t.isLt)).2 (iblk m c 1 t) (iblk m c 2 t) j))) (iblk m c 3 t (rw8 0 j)))
      (BitVec.signExtend (w := 8) 32 (iblk m c 4 t j)) (iblk m c 3 t (rw8 1 j)) (iblk m c 3 t (rw8 2 j)) (iblk m c 3 t (rw8 3 j))
      (iblk m c 0 t (s3 0)) (iblk m c 0 t (s3 1)) (iblk m c 0 t (s3 2)) := by
  rw [outsAt0_C m c t h0 h17]
  dsimp only
  exact out_C ..

/-- The accumulator of the last point, before the epilogue. -/
theorem acc_last (c : Dev nD) (i : S6144x7168.Idx) (t : Fin cfg0.N) (htv : t.val = 18 * Value.run5Of i + 17) :
    k0_pay2 (F := Ideal) (outsAt0 m c (t.val - 1) (Nat.lt_of_le_of_lt (Nat.sub_le _ _) t.isLt)).2 (iblk m c 1 t) (iblk m c 2 t) (Value.loc5Of i) = acc m c i := by
  rw [pay2_apply, part_eq, scratch_eq m c ⟨t.val - 1, Nat.lt_of_le_of_lt (Nat.sub_le _ _) t.isLt⟩ (by show (t.val - 1) % 18 = 16; omega)]
  exact last_eq m c i t.val htv

/-- THE RESULT at one index: the epilogue of the whole product. -/
theorem G5_apply (c : Dev nD) (i : S6144x7168.Idx) :
    Value.G5 m c i = Core.kOut (IntOp.addi (FloatOps.fptosi 32 (FloatOps.roundeven (F := Ideal) (φ := .f32) (acc m c i))) (V m c main_v73 (prm 0 i)))
      (BitVec.signExtend (w := 8) 32 (V m c main_v0 i)) (V m c main_v73 (prm 1 i)) (V m c main_v73 (prm 2 i)) (V m c main_v73 (prm 3 i))
      (V m c main_v121 (s3 0)) (V m c main_v121 (s3 1)) (V m c main_v121 (s3 2)) := by
  have hi0 : (i 0).val < 6144 := (i 0).isLt
  have hi1 : (i 1).val < 7168 := (i 1).isLt
  have hr : Value.run5Of i = 7 * ((i 0).val / 1024) + (i 1).val / 1024 := by
    show 7 * ((i 0).val / 1024 - 0) + 1 * ((i 1).val / 1024 - 0) = _
    omega
  have hpt : Value.pt5Of i < cfg0.N := by
    rw [show cfg0.N = 756 from N_0]; show 18 * Value.run5Of i + 17 < 756; omega
  have hl1 : (Value.loc5Of i 1).val = (i 1).val % 1024 := rfl
  have hl0 : (Value.loc5Of i 0).val = (i 0).val % 1024 := rfl
  obtain ⟨t, ht⟩ : ∃ t : Fin cfg0.N, t.val = Value.pt5Of i := ⟨⟨_, hpt⟩, rfl⟩
  have htv : t.val = 18 * Value.run5Of i + 17 := ht
  have e : Value.G5 m c i = (outsAt0 m c t.val t.isLt).1 (Value.loc5Of i) := by
    have : ∀ (n : ℕ) (hn : n < cfg0.N), n = Value.pt5Of i → outsAt0 m c n hn = outsAt0 m c (Value.pt5Of i) hpt := by
      intro n hn h; subst h; rfl
    rw [G5_fold m c i hpt, this t.val t.isLt ht]
  rw [e, out_last m c t (by omega) (by omega), acc_last m c i t htv]
  have hp : ∀ r : Fin 8, iblk m c 3 t (rw8 r (Value.loc5Of i)) = V m c main_v73 (prm r i) := fun r =>
    iblk_p m c t _ _ rfl (by show (i 1).val = _ + (Value.loc5Of i 1).val; omega)
  rw [hp 0, hp 1, hp 2, hp 3, iblk_s, iblk_s, iblk_s, iblk_r m c t _ i (by omega) (by omega)]

end Cert.Ffn2Ideal.KValue

end
-- ==== Proof.Ref2v.lean ====
/- The second reference at one index, in the words of the integer epilogue. -/
module

public import proofs.«01_k».proof.Proof.Core
public import proofs.«01_k».proof.Proof.Gen.Ref2Ideal.Read

@[expose] public section

noncomputable section

namespace Cert.Ref2Ideal.RValue

open Cert.Ref2Ideal Cert.Ref2Ideal.Read Idealize.ShloMosaic

/-- The one index of a scalar. -/
abbrev z0 : S_.Idx := fun a => a.elim0

theorem half4 : IntOp.shrsi .host (IntOp.shli .host 1#32 4#32) 1#32 = 8#32 := by decide
theorem half0 : IntOp.shrsi .host (IntOp.shli .host 1#32 0#32) 1#32 = 0#32 := by decide

variable (x0 : (⟨S3x2048x7168, .i8⟩ : BufTy).Contents (Elt Ideal)) (x1 : (⟨S_, .f32⟩ : BufTy).Contents (Elt Ideal))
  (x2 : (⟨S6144x18432, .i8⟩ : BufTy).Contents (Elt Ideal)) (x3 : (⟨S_, .f32⟩ : BufTy).Contents (Elt Ideal))
  (x4 : (⟨S18432x7168, .i8⟩ : BufTy).Contents (Elt Ideal)) (x5 : (⟨S7168, .f32⟩ : BufTy).Contents (Elt Ideal))
  (x6 : (⟨S7168, .i32⟩ : BufTy).Contents (Elt Ideal)) (x7 : (⟨S_, .f32⟩ : BufTy).Contents (Elt Ideal))

theorem sitofp_bf16 (b : BitVec 32) : (FloatOps.sitofp .bf16 b : Ideal .bf16) = (((b.toInt : ℤ) : ℝ) : EReal) := rfl

/-- The product of the codes at one index. -/
def dot (i : S6144x7168.Idx) : EReal :=
  ∑ k : Fin 18432, ((((BitVec.toInt (n := 8) (x2 (lidx_main_v5 i k)) : ℤ) : ℝ) : EReal) * (((BitVec.toInt (n := 8) (x4 (ridx_main_v5 i k)) : ℤ) : ℝ) : EReal))

theorem v5_eq (i : S6144x7168.Idx) : val_main_v5 (F := Ideal) x2 x4 i = dot x2 x4 i := by
  rw [val_main_v5_apply]
  unfold dot
  refine Finset.sum_congr rfl fun k _ => ?_
  rw [val_main_v2_apply, val_main_v4_apply, val_main_v1_apply, val_main_v3_apply, sitofp_bf16, sitofp_bf16,
    BitVec.toInt_signExtend_of_le (by decide), BitVec.toInt_signExtend_of_le (by decide)]

/-- The requantised product at one index. -/
theorem v81_eq (i : S6144x7168.Idx) :
    val_main_v81 (F := Ideal) x2 x3 x4 x5 x6 x7 i
      = IntOp.shrsi .host (IntOp.addi (IntOp.muli (IntOp.shrsi .host (IntOp.addi (IntOp.addi (FloatOps.fptosi (F := Ideal) (φ := .f32) 32 (dot x2 x4 i))
          (val_main_v7 (F := Ideal) x6 (idx_main_v8 i))) 8#32) 4#32) (val_main_v69 (F := Ideal) x3 x5 x7 (idx_main_v8 i)))
          (val_main_v76 (F := Ideal) x3 x5 x7 (idx_main_v8 i))) (val_main_v62 (F := Ideal) x3 x5 x7 (idx_main_v79 (idx_main_v8 i))) := by
  rw [val_main_v81_apply, val_main_v78_apply, val_main_v71_apply, val_main_v68_apply, val_main_v66_apply, val_main_v9_apply, val_main_v6_apply, v5_eq,
    val_main_v8_apply, val_main_v70_apply, val_main_v77_apply, val_main_v80_apply, val_main_v79_apply, val_main_v65_apply, val_main_v67_apply,
    val_main_v64_apply, val_main_v63_apply, val_main_c_19_apply, val_main_c_20_apply, val_main_c_21_apply, val_main_c_22_apply, half4,
    show idx_main_v70 i = idx_main_v8 i from rfl, show idx_main_v77 i = idx_main_v8 i from rfl, show idx_main_v80 i = idx_main_v8 i from rfl]

/-- The requantised residual at one index. -/
theorem v136_eq (i : S6144x7168.Idx) :
    val_main_v136 (F := Ideal) x0 x1 x7 i
      = IntOp.shrsi .host (IntOp.addi (IntOp.muli (IntOp.shrsi .host (IntOp.addi ((val_main_v0 (F := Ideal) x0 i).signExtend 32) 0#32) 0#32)
          (val_main_v121 (F := Ideal) x1 x7 z0)) (val_main_v132 (F := Ideal) x1 x7 z0)) (val_main_v122 (F := Ideal) x1 x7 z0) := by
  rw [val_main_v136_apply, val_main_v134_apply, val_main_v130_apply, val_main_v128_apply, val_main_v126_apply, val_main_v84_apply,
    val_main_v125_apply, val_main_v124_apply, val_main_v123_apply, val_main_v127_apply, val_main_v129_apply, val_main_v133_apply, val_main_v135_apply,
    val_main_c_48_apply, val_main_c_49_apply, val_main_c_50_apply, val_main_c_51_apply, half0,
    show idx_main_v129 i = z0 from rfl, show idx_main_v133 i = z0 from rfl, show idx_main_v135 i = z0 from rfl]

/-- THE REFERENCE at one index. -/
theorem apply (i : S6144x7168.Idx) :
    val_main_v141 (F := Ideal) x0 x1 x2 x3 x4 x5 x6 x7 i
      = Core.rOut (IntOp.addi (FloatOps.fptosi (F := Ideal) (φ := .f32) 32 (dot x2 x4 i)) (val_main_v7 (F := Ideal) x6 (idx_main_v8 i)))
          ((val_main_v0 (F := Ideal) x0 i).signExtend 32) (val_main_v69 (F := Ideal) x3 x5 x7 (idx_main_v8 i)) (val_main_v76 (F := Ideal) x3 x5 x7 (idx_main_v8 i))
          (val_main_v62 (F := Ideal) x3 x5 x7 (idx_main_v79 (idx_main_v8 i))) (val_main_v121 (F := Ideal) x1 x7 z0) (val_main_v132 (F := Ideal) x1 x7 z0)
          (val_main_v122 (F := Ideal) x1 x7 z0) := by
  unfold Core.rOut
  rw [← v81_eq x2 x3 x4 x5 x6 x7 i, ← v136_eq x0 x1 x7 i, val_main_v141_apply, val_main_v140_apply, val_main_call12_v2_apply, val_main_v139_apply,
    val_main_call12_v4_apply, val_main_call12_v1_apply, val_main_call12_v3_apply, val_main_call12_v0_apply, val_main_c_56_apply, val_main_c_57_apply]

end Cert.Ref2Ideal.RValue

end
-- ==== Proof.Cmp2.lean ====
/- The second kernel's result array is the second reference's. -/
module

public import proofs.«01_k».proof.Proof.Host2
public import proofs.«01_k».proof.Proof.K2v
public import proofs.«01_k».proof.Proof.Ref2v

@[expose] public section

noncomputable section

namespace Cert.Ffn2Ideal.Cmp

open Cert.Ffn2Ideal Cert.Ffn2Ideal.Gen Cert.Ffn2Ideal.HostVals Cert.Ffn2Ideal.KValue Idealize.ShloMosaic Idealize.ShloMosaic.TcCoe
open Cert.Ref2Ideal.Read (idx_main_v8 idx_main_v79 val_main_v0 val_main_v7 val_main_v62 val_main_v69 val_main_v76 val_main_v121 val_main_v122 val_main_v132 val_main_v141)
open Cert.Ref2Ideal.RValue (z0)

/-! ## The stacked parameters, row by row -/

section Stack

variable (u0 u1 u2 u3 u4 u5 u6 u7 : (⟨S1x7168, .i32⟩ : BufTy).Contents (Elt Ideal)) (i : S6144x7168.Idx)

theorem off_axis (r : Fin 8) (b : Fin S1x7168.rank) (hb : b.cast (rfl : S1x7168.rank = S8x7168.rank) ≠ (0 : Fin S8x7168.rank)) :
    ((idx_main_v8 i : S1x7168.Idx) b).val = ((prm r i) (b.cast rfl)).val := by
  match b, hb with
  | ⟨0, _⟩, hb => exact absurd rfl hb
  | ⟨1, _⟩, _ => rfl

theorem stack_0 : kst_main_v73 (F := Ideal) u0 u1 u2 u3 u4 u5 u6 u7 (prm 0 i) = u0 (idx_main_v8 i) :=
  concatenate_apply_piece (t := S8x7168) 0 _ _ (prm 0 i) 0 (by simp) S1x7168 u0 rfl rfl 0 rfl (idx_main_v8 i) (off_axis i 0) rfl
theorem stack_1 : kst_main_v73 (F := Ideal) u0 u1 u2 u3 u4 u5 u6 u7 (prm 1 i) = u1 (idx_main_v8 i) :=
  concatenate_apply_piece (t := S8x7168) 0 _ _ (prm 1 i) 1 (by simp) S1x7168 u1 rfl rfl 1 rfl (idx_main_v8 i) (off_axis i 1) rfl
theorem stack_2 : kst_main_v73 (F := Ideal) u0 u1 u2 u3 u4 u5 u6 u7 (prm 2 i) = u2 (idx_main_v8 i) :=
  concatenate_apply_piece (t := S8x7168) 0 _ _ (prm 2 i) 2 (by simp) S1x7168 u2 rfl rfl 2 rfl (idx_main_v8 i) (off_axis i 2) rfl
theorem stack_3 : kst_main_v73 (F := Ideal) u0 u1 u2 u3 u4 u5 u6 u7 (prm 3 i) = u3 (idx_main_v8 i) :=
  concatenate_apply_piece (t := S8x7168) 0 _ _ (prm 3 i) 3 (by simp) S1x7168 u3 rfl rfl 3 rfl (idx_main_v8 i) (off_axis i 3) rfl

end Stack

/-- The one index of a one-element array. -/
def o1 : S1.Idx := fun a => match a with
  | ⟨0, _⟩ => ⟨0, Nat.one_pos⟩

theorem off_axis3 (k : Fin 3) (b : Fin S1.rank) (hb : b.cast (rfl : S1.rank = S3.rank) ≠ (0 : Fin S3.rank)) :
    (o1 b).val = ((s3 k) (b.cast rfl)).val := by
  match b, hb with
  | ⟨0, _⟩, hb => exact absurd rfl hb

theorem scal_0 (u0 u1 u2 : (⟨S1, .i32⟩ : BufTy).Contents (Elt Ideal)) : kst_main_v121 (F := Ideal) u0 u1 u2 (s3 0) = u0 o1 :=
  concatenate_apply_piece (t := S3) 0 _ _ (s3 0) 0 (by simp) S1 u0 rfl rfl 0 rfl o1 (off_axis3 0) rfl
theorem scal_1 (u0 u1 u2 : (⟨S1, .i32⟩ : BufTy).Contents (Elt Ideal)) : kst_main_v121 (F := Ideal) u0 u1 u2 (s3 1) = u1 o1 :=
  concatenate_apply_piece (t := S3) 0 _ _ (s3 1) 1 (by simp) S1 u1 rfl rfl 1 rfl o1 (off_axis3 1) rfl
theorem scal_2 (u0 u1 u2 : (⟨S1, .i32⟩ : BufTy).Contents (Elt Ideal)) : kst_main_v121 (F := Ideal) u0 u1 u2 (s3 2) = u2 o1 :=
  concatenate_apply_piece (t := S3) 0 _ _ (s3 2) 2 (by simp) S1 u2 rfl rfl 2 rfl o1 (off_axis3 2) rfl

/-- The kernel's guarded shift amount of a channel. -/
theorem v68_eq (x3 : (⟨S_, .f32⟩ : BufTy).Contents (Elt Ideal)) (x5 : (⟨S7168, .f32⟩ : BufTy).Contents (Elt Ideal)) (x7 : (⟨S_, .f32⟩ : BufTy).Contents (Elt Ideal)) (i : S6144x7168.Idx) :
    kv_main_v68 (F := Ideal) x3 x5 x7 (idx_main_v8 i) = Core.amount (val_main_v62 (F := Ideal) x3 x5 x7 (idx_main_v79 (idx_main_v8 i))) := by
  unfold kv_main_v68
  rw [broadcastInDim_apply ![1] bcast_S7168_S1x7168_1 _ (idx_main_v8 i) (idx_main_v79 (idx_main_v8 i)) (fun a => match a with | ⟨0, _⟩ => rfl)]
  unfold kv_main_v63 kv_main_v62 kv_main_v59 kv_main_v61
  generalize val_main_v62 (F := Ideal) x3 x5 x7 = y
  rfl

theorem v117_eq (x1 : (⟨S_, .f32⟩ : BufTy).Contents (Elt Ideal)) (x7 : (⟨S_, .f32⟩ : BufTy).Contents (Elt Ideal)) :
    kv_main_v117 (F := Ideal) x1 x7 z0 = Core.amount (val_main_v122 (F := Ideal) x1 x7 z0) := by
  unfold kv_main_v117 kv_main_v116 kv_main_v114 kv_main_v115
  generalize val_main_v122 (F := Ideal) x1 x7 = y
  rfl

theorem one_apply (x : IVec S_ 32) : broadcastInDim S1 ![] bcast_S_S1 x o1 = x z0 :=
  broadcastInDim_apply ![] bcast_S_S1 x o1 z0 (fun a => a.elim0)

/-! ## The result -/

variable (m : (ℓ : Loc nD τ sig) → Buf (Elt Ideal) ℓ)

/-- What argument `b` holds at launch. -/
abbrev A (c : Dev nD) (b : Ref sig .tc) := m (c, Proc.devRef .tc b)

theorem V_v0 (c : Dev nD) : V m c main_v0 = val_main_v0 (F := Ideal) (A m c main_arg0) := (V_eq m c main_v0).trans (W25_main_v0 _)
theorem V_arg2 (c : Dev nD) : V m c main_arg2 = A m c main_arg2 := V_main_arg2 m c
theorem V_arg4 (c : Dev nD) : V m c main_arg4 = A m c main_arg4 := V_main_arg4 m c
theorem V_v73 (c : Dev nD) : V m c main_v73 = kv_main_v73 (F := Ideal) (A m c main_arg3) (A m c main_arg5) (A m c main_arg6) (A m c main_arg7) :=
  (V_eq m c main_v73).trans (W25_main_v73 _)
theorem V_v121 (c : Dev nD) : V m c main_v121 = kv_main_v121 (F := Ideal) (A m c main_arg1) (A m c main_arg7) := (V_eq m c main_v121).trans (W25_main_v121 _)

/-- The accumulated product is the reference's. -/
theorem acc_eq (c : Dev nD) (i : S6144x7168.Idx) : KValue.acc m c i = Cert.Ref2Ideal.RValue.dot (A m c main_arg2) (A m c main_arg4) i := by
  unfold KValue.acc Cert.Ref2Ideal.RValue.dot
  rw [Finset.sum_range]
  refine Finset.sum_congr rfl fun k _ => ?_
  unfold term
  rw [dif_pos ⟨(i 0).isLt, k.isLt, (i 1).isLt⟩, V_arg2, V_arg4]
  rfl

/-- Rounding the product to an integer leaves it. -/
theorem round_eq (x2 : (⟨S6144x18432, .i8⟩ : BufTy).Contents (Elt Ideal)) (x4 : (⟨S18432x7168, .i8⟩ : BufTy).Contents (Elt Ideal)) (i : S6144x7168.Idx) :
    FloatOps.roundeven (F := Ideal) (φ := .f32) (Cert.Ref2Ideal.RValue.dot x2 x4 i) = Cert.Ref2Ideal.RValue.dot x2 x4 i := by
  unfold Cert.Ref2Ideal.RValue.dot
  rw [Core.sum_mul_coe]
  exact Core.roundHalfEven_int _

/-- THE RESULT ARRAY of the kernel is the reference's. -/
theorem G5_eq (c : Dev nD) :
    Value.G5 m c = val_main_v141 (F := Ideal) (A m c main_arg0) (A m c main_arg1) (A m c main_arg2) (A m c main_arg3) (A m c main_arg4) (A m c main_arg5)
      (A m c main_arg6) (A m c main_arg7) := by
  funext i
  rw [G5_apply, acc_eq, round_eq, V_v0, V_v73, V_v121, Cert.Ref2Ideal.RValue.apply]
  unfold kv_main_v73 kv_main_v121
  rw [stack_0, stack_1, stack_2, stack_3, scal_0, scal_1, scal_2, v68_eq]
  unfold kv_main_v118 kv_main_v119 kv_main_v120
  rw [one_apply, one_apply, one_apply, v117_eq]
  exact Core.kOut_eq ..

end Cert.Ffn2Ideal.Cmp

end
-- ==== Proof.lean ====
/-
  The proof of `Cert.Claim` (proof/Defs.lean). The frames of the kernels are the generated ones, the frames of the references come from
  their runs, and the two algebraic claims compare the result arrays: `G3_eq` (Proof/Cmp1.lean) for the first kernel and `G5_eq`
  (Proof/Cmp2.lean) for the second.
-/
module

public import proofs.«01_k».proof.Defs
public import proofs.«01_k».proof.Proof.Gen.Ffn1.Frame
public import proofs.«01_k».proof.Proof.Gen.Ffn2.Frame
public import proofs.«01_k».proof.Proof.Gen.Ffn1Ideal.Value
public import proofs.«01_k».proof.Proof.Gen.Ffn2Ideal.Value
public import proofs.«01_k».proof.Proof.Gen.Ref1Ideal.Run
public import proofs.«01_k».proof.Proof.Gen.Ref2Ideal.Run
public import proofs.«01_k».proof.Proof.Gen.Ref1Ideal.Read
public import proofs.«01_k».proof.Proof.Gen.Ref2Ideal.Read
public import proofs.«01_k».proof.Proof.Cmp1
public import proofs.«01_k».proof.Proof.Cmp2
public import Idealize.ShloMosaic.Lib.Quiescent

@[expose] public section

noncomputable section

namespace Cert.Proof

open Idealize.ShloMosaic Idealize.SL.Sem Idealize.ShloMosaic.StableHlo

/-- The precondition's one shape relation. -/
theorem preFacts : Cert.Pre_scales_nonnegative.Facts := ⟨Cert.Ref1Ideal.Gen.facts.bcast_S_S18432⟩

theorem ref1_frame (m : (ℓ : Loc Cert.Ref1Ideal.nD Cert.Ref1Ideal.τ Cert.Ref1Ideal.sig) → Buf (Elt Ideal) ℓ) (g : Dev Cert.Ref1Ideal.nD → PrngReg) :
    θ_run (Cert.Ref1Ideal.defs (F := Ideal)) (onTc (τ := Cert.Ref1Ideal.τ) (Cert.Ref1Ideal.main (F := Ideal))) ⟨m, fun _ => 0, g⟩ (fun r => (∀ c : Dev Cert.Ref1Ideal.nD,
      r.2.mem ((c.tc : Thread Cert.Ref1Ideal.nD Cert.Ref1Ideal.τ).loc Cert.Ref1Ideal.main_arg0) = m ((c.tc : Thread Cert.Ref1Ideal.nD Cert.Ref1Ideal.τ).loc Cert.Ref1Ideal.main_arg0)
      ∧ r.2.mem ((c.tc : Thread Cert.Ref1Ideal.nD Cert.Ref1Ideal.τ).loc Cert.Ref1Ideal.main_arg1) = m ((c.tc : Thread Cert.Ref1Ideal.nD Cert.Ref1Ideal.τ).loc Cert.Ref1Ideal.main_arg1)
      ∧ r.2.mem ((c.tc : Thread Cert.Ref1Ideal.nD Cert.Ref1Ideal.τ).loc Cert.Ref1Ideal.main_arg2) = m ((c.tc : Thread Cert.Ref1Ideal.nD Cert.Ref1Ideal.τ).loc Cert.Ref1Ideal.main_arg2)
      ∧ r.2.mem ((c.tc : Thread Cert.Ref1Ideal.nD Cert.Ref1Ideal.τ).loc Cert.Ref1Ideal.main_arg3) = m ((c.tc : Thread Cert.Ref1Ideal.nD Cert.Ref1Ideal.τ).loc Cert.Ref1Ideal.main_arg3)
      ∧ r.2.mem ((c.tc : Thread Cert.Ref1Ideal.nD Cert.Ref1Ideal.τ).loc Cert.Ref1Ideal.main_arg4) = m ((c.tc : Thread Cert.Ref1Ideal.nD Cert.Ref1Ideal.τ).loc Cert.Ref1Ideal.main_arg4)
      ∧ r.2.mem ((c.tc : Thread Cert.Ref1Ideal.nD Cert.Ref1Ideal.τ).loc Cert.Ref1Ideal.main_arg5) = m ((c.tc : Thread Cert.Ref1Ideal.nD Cert.Ref1Ideal.τ).loc Cert.Ref1Ideal.main_arg5))
      ∧ r.2.sem = fun _ => 0) :=
  (θ_run (Cert.Ref1Ideal.defs (F := Ideal)) _ _).mono (fun r h => ⟨fun c => (h c).2.2, sem_eq_zero_of_no_sems rfl r.2⟩) (Cert.Ref1Ideal.Value.run (F := Ideal) m g)

theorem ref2_frame (m : (ℓ : Loc Cert.Ref2Ideal.nD Cert.Ref2Ideal.τ Cert.Ref2Ideal.sig) → Buf (Elt Ideal) ℓ) (g : Dev Cert.Ref2Ideal.nD → PrngReg) :
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2)
      ∧ r.2.mem ((c.tc : Thread Cert.Ref2Ideal.nD Cert.Ref2Ideal.τ).loc Cert.Ref2Ideal.main_arg3) = m ((c.tc : Thread Cert.Ref2Ideal.nD Cert.Ref2Ideal.τ).loc Cert.Ref2Ideal.main_arg3)
      ∧ r.2.mem ((c.tc : Thread Cert.Ref2Ideal.nD Cert.Ref2Ideal.τ).loc Cert.Ref2Ideal.main_arg4) = m ((c.tc : Thread Cert.Ref2Ideal.nD Cert.Ref2Ideal.τ).loc Cert.Ref2Ideal.main_arg4)
      ∧ r.2.mem ((c.tc : Thread Cert.Ref2Ideal.nD Cert.Ref2Ideal.τ).loc Cert.Ref2Ideal.main_arg5) = m ((c.tc : Thread Cert.Ref2Ideal.nD Cert.Ref2Ideal.τ).loc Cert.Ref2Ideal.main_arg5)
      ∧ r.2.mem ((c.tc : Thread Cert.Ref2Ideal.nD Cert.Ref2Ideal.τ).loc Cert.Ref2Ideal.main_arg6) = m ((c.tc : Thread Cert.Ref2Ideal.nD Cert.Ref2Ideal.τ).loc Cert.Ref2Ideal.main_arg6)
      ∧ r.2.mem ((c.tc : Thread Cert.Ref2Ideal.nD Cert.Ref2Ideal.τ).loc Cert.Ref2Ideal.main_arg7) = m ((c.tc : Thread Cert.Ref2Ideal.nD Cert.Ref2Ideal.τ).loc Cert.Ref2Ideal.main_arg7))
      ∧ r.2.sem = fun _ => 0) :=
  (θ_run (Cert.Ref2Ideal.defs (F := Ideal)) _ _).mono (fun r h => ⟨fun c => (h c).2.2, sem_eq_zero_of_no_sems rfl r.2⟩) (Cert.Ref2Ideal.Value.run (F := Ideal) m g)

/-- The first layer: kernel and reference return the same codes and the same scale. -/
theorem algebraic1 : Cert.algebraic_Ffn1Ideal_Ref1Ideal_pre_scales_nonnegative (hFfn1Ideal := Cert.Ffn1Ideal.Gen.facts)
    (hRef1Ideal := Cert.Ref1Ideal.Gen.facts) (hPre_scales_nonnegative := preFacts) := by
  intro m g m' g' hpre hargs
  refine ⟨fun c => Cert.Ffn1Ideal.Value.G3 m c, fun c => m ((c.tc : Thread Cert.Ffn1Ideal.nD Cert.Ffn1Ideal.τ).loc Cert.Ffn1Ideal.main_arg5),
    (θ_run (Cert.Ffn1Ideal.defs (F := Ideal)) _ _).mono (fun r h c => ⟨(h c).1, (h c).2.2.2.2.2.2, (h c).2⟩) (Cert.Ffn1Ideal.Value.run (F := Ideal) m g), ?_⟩
  refine (θ_run (Cert.Ref1Ideal.defs (F := Ideal)) _ _).mono (fun r h c => ?_) (Cert.Ref1Ideal.Value.run (F := Ideal) m' g')
  obtain ⟨hv, _, h0⟩ := h c
  obtain ⟨a0, a1, a2, a3, a4, a5⟩ := hargs c
  refine ⟨hv.trans ((Cert.Ref1Ideal.Read.val_main_v263_eq _).trans ?_), h0.2.2.2.2.2.trans a5, h0⟩
  have hs := @Cert.Ffn1Ideal.Cmp.scale_nonneg preFacts _ _ _ _ _ _ (hpre c)
  refine Eq.trans ?_ (Cert.Ffn1Ideal.Cmp.G3_eq m c hs).symm
  rw [launchContents_devRef, launchContents_devRef, launchContents_devRef, launchContents_devRef, launchContents_devRef, launchContents_devRef,
    a0, a1, a2, a3, a4, a5]

/-- The second layer: kernel and reference return the same codes and the same scale. -/
theorem algebraic2 : Cert.algebraic_Ffn2Ideal_Ref2Ideal (hFfn2Ideal := Cert.Ffn2Ideal.Gen.facts) (hRef2Ideal := Cert.Ref2Ideal.Gen.facts) := by
  intro m g m' g' _ hargs
  refine ⟨fun c => Cert.Ffn2Ideal.Value.G5 m c, fun c => m ((c.tc : Thread Cert.Ffn2Ideal.nD Cert.Ffn2Ideal.τ).loc Cert.Ffn2Ideal.main_arg7),
    (θ_run (Cert.Ffn2Ideal.defs (F := Ideal)) _ _).mono (fun r h c => ⟨(h c).1, (h c).2.2.2.2.2.2.2.2, (h c).2⟩) (Cert.Ffn2Ideal.Value.run (F := Ideal) m g), ?_⟩
  refine (θ_run (Cert.Ref2Ideal.defs (F := Ideal)) _ _).mono (fun r h c => ?_) (Cert.Ref2Ideal.Value.run (F := Ideal) m' g')
  obtain ⟨hv, _, h0⟩ := h c
  obtain ⟨a0, a1, a2, a3, a4, a5, a6, a7⟩ := hargs c
  refine ⟨hv.trans ((Cert.Ref2Ideal.Read.val_main_v141_eq _).trans ?_), h0.2.2.2.2.2.2.2.trans a7, h0⟩
  refine Eq.trans ?_ (Cert.Ffn2Ideal.Cmp.G5_eq m c).symm
  rw [launchContents_devRef, launchContents_devRef, launchContents_devRef, launchContents_devRef, launchContents_devRef, launchContents_devRef,
    launchContents_devRef, launchContents_devRef, a0, a1, a2, a3, a4, a5, a6, a7]

theorem claim : Cert.Claim :=
  ⟨Cert.Ffn1.Gen.facts, Cert.Ffn1Ideal.Gen.facts, Cert.Ref1Ideal.Gen.facts, Cert.Ffn2.Gen.facts, Cert.Ffn2Ideal.Gen.facts, Cert.Ref2Ideal.Gen.facts, preFacts,
    fun m g _ => Cert.Ffn1.Gen.frame m g, fun m g _ => Cert.Ffn1Ideal.Gen.frame m g, fun m g _ => Cert.Ffn1Ideal.Gen.frame m g,
    fun m g _ => ref1_frame m g, fun m g _ => ref1_frame m g,
    fun m g _ => Cert.Ffn2.Gen.frame m g, fun m g _ => Cert.Ffn2Ideal.Gen.frame m g, fun m g _ => ref2_frame m g,
    trivial, algebraic1, trivial, algebraic2⟩

end Cert.Proof

end
